-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ProjRwkv (m : (ℓ : Loc Cert.ProjRwkv.nD Cert.ProjRwkv.τ Cert.ProjRwkv.sig) → Buf (Elt Bits) ℓ) : Prop :=
  True

def Pre_ProjRwkvIdeal (m : (ℓ : Loc Cert.ProjRwkvIdeal.nD Cert.ProjRwkvIdeal.τ Cert.ProjRwkvIdeal.sig) → Buf (Elt Ideal) ℓ) : Prop :=
  True

def Pre_ProjRwkvRefIdeal (m : (ℓ : Loc Cert.ProjRwkvRefIdeal.nD Cert.ProjRwkvRefIdeal.τ Cert.ProjRwkvRefIdeal.sig) → Buf (Elt Ideal) ℓ) : Prop :=
  True

def Pre_ProjNsa (m : (ℓ : Loc Cert.ProjNsa.nD Cert.ProjNsa.τ Cert.ProjNsa.sig) → Buf (Elt Bits) ℓ) : Prop :=
  True

def Pre_ProjNsaIdeal (m : (ℓ : Loc Cert.ProjNsaIdeal.nD Cert.ProjNsaIdeal.τ Cert.ProjNsaIdeal.sig) → Buf (Elt Ideal) ℓ) : Prop :=
  True

def Pre_ProjNsaRefIdeal (m : (ℓ : Loc Cert.ProjNsaRefIdeal.nD Cert.ProjNsaRefIdeal.τ Cert.ProjNsaRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_rows [hPre_finite_rows : Cert.Pre_finite_rows.Facts] (m : (ℓ : Loc Cert.MergeIdeal.nD Cert.MergeIdeal.τ Cert.MergeIdeal.sig) → Buf (Elt Ideal) ℓ) : Prop :=
  ∀ c : Dev Cert.MergeIdeal.nD,
    (Cert.Pre_finite_rows.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_rows [hPre_finite_rows : Cert.Pre_finite_rows.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_rows.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))) = (fun _ => 1#1)

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressIdeal_finite_compress [hPre_finite_compress : Cert.Pre_finite_compress.Facts] (m : (ℓ : Loc Cert.CompressIdeal.nD Cert.CompressIdeal.τ Cert.CompressIdeal.sig) → Buf (Elt Ideal) ℓ) : Prop :=
  ∀ c : Dev Cert.CompressIdeal.nD,
    (Cert.Pre_finite_compress.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7)) (m ((c.tc : Thread Cert.CompressIdeal.nD Cert.CompressIdeal.τ).loc Cert.CompressIdeal.main_arg8))).1 = (fun _ => 1#1)
    ∧ (Cert.Pre_finite_compress.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7)) (m ((c.tc : Thread Cert.CompressIdeal.nD Cert.CompressIdeal.τ).loc Cert.CompressIdeal.main_arg8))).2.1 = (fun _ => 1#1)
    ∧ (Cert.Pre_finite_compress.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7)) (m ((c.tc : Thread Cert.CompressIdeal.nD Cert.CompressIdeal.τ).loc Cert.CompressIdeal.main_arg8))).2.2.1 = (fun _ => 1#1)
    ∧ (Cert.Pre_finite_compress.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7)) (m ((c.tc : Thread Cert.CompressIdeal.nD Cert.CompressIdeal.τ).loc Cert.CompressIdeal.main_arg8))).2.2.2.1 = (fun _ => 1#1)
    ∧ (Cert.Pre_finite_compress.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7)) (m ((c.tc : Thread Cert.CompressIdeal.nD Cert.CompressIdeal.τ).loc Cert.CompressIdeal.main_arg8))).2.2.2.2.1 = (fun _ => 1#1)
    ∧ (Cert.Pre_finite_compress.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7)) (m ((c.tc : Thread Cert.CompressIdeal.nD Cert.CompressIdeal.τ).loc Cert.CompressIdeal.main_arg8))).2.2.2.2.2.1 = (fun _ => 1#1)
    ∧ (Cert.Pre_finite_compress.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7)) (m ((c.tc : Thread Cert.CompressIdeal.nD Cert.CompressIdeal.τ).loc Cert.CompressIdeal.main_arg8))).2.2.2.2.2.2.1 = (fun _ => 1#1)
    ∧ (Cert.Pre_finite_compress.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7)) (m ((c.tc : Thread Cert.CompressIdeal.nD Cert.CompressIdeal.τ).loc Cert.CompressIdeal.main_arg8))).2.2.2.2.2.2.2.1 = (fun _ => 1#1)
    ∧ (Cert.Pre_finite_compress.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7)) (m ((c.tc : Thread Cert.CompressIdeal.nD Cert.CompressIdeal.τ).loc Cert.CompressIdeal.main_arg8))).2.2.2.2.2.2.2.2 = (fun _ => 1#1)

def Pre_CompressRefIdeal (m : (ℓ : Loc Cert.CompressRefIdeal.nD Cert.CompressRefIdeal.τ Cert.CompressRefIdeal.sig) → Buf (Elt Ideal) ℓ) : Prop :=
  True

def Pre_CompressRefIdeal_finite_compress [hPre_finite_compress : Cert.Pre_finite_compress.Facts] (m : (ℓ : Loc Cert.CompressRefIdeal.nD Cert.CompressRefIdeal.τ Cert.CompressRefIdeal.sig) → Buf (Elt Ideal) ℓ) : Prop :=
  ∀ c : Dev Cert.CompressRefIdeal.nD,
    (Cert.Pre_finite_compress.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3)) (m ((c.tc : Thread Cert.CompressRefIdeal.nD Cert.CompressRefIdeal.τ).loc Cert.CompressRefIdeal.main_arg4)) (m ((c.tc : Thread Cert.CompressRefIdeal.nD Cert.CompressRefIdeal.τ).loc Cert.CompressRefIdeal.main_arg5)) (m ((c.tc : Thread Cert.CompressRefIdeal.nD Cert.CompressRefIdeal.τ).loc Cert.CompressRefIdeal.main_arg6)) (m ((c.tc : Thread Cert.CompressRefIdeal.nD Cert.CompressRefIdeal.τ).loc Cert.CompressRefIdeal.main_arg7)) (m ((c.tc : Thread Cert.CompressRefIdeal.nD Cert.CompressRefIdeal.τ).loc Cert.CompressRefIdeal.main_arg8))).1 = (fun _ => 1#1)
    ∧ (Cert.Pre_finite_compress.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3)) (m ((c.tc : Thread Cert.CompressRefIdeal.nD Cert.CompressRefIdeal.τ).loc Cert.CompressRefIdeal.main_arg4)) (m ((c.tc : Thread Cert.CompressRefIdeal.nD Cert.CompressRefIdeal.τ).loc Cert.CompressRefIdeal.main_arg5)) (m ((c.tc : Thread Cert.CompressRefIdeal.nD Cert.CompressRefIdeal.τ).loc Cert.CompressRefIdeal.main_arg6)) (m ((c.tc : Thread Cert.CompressRefIdeal.nD Cert.CompressRefIdeal.τ).loc Cert.CompressRefIdeal.main_arg7)) (m ((c.tc : Thread Cert.CompressRefIdeal.nD Cert.CompressRefIdeal.τ).loc Cert.CompressRefIdeal.main_arg8))).2.1 = (fun _ => 1#1)
    ∧ (Cert.Pre_finite_compress.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3)) (m ((c.tc : Thread Cert.CompressRefIdeal.nD Cert.CompressRefIdeal.τ).loc Cert.CompressRefIdeal.main_arg4)) (m ((c.tc : Thread Cert.CompressRefIdeal.nD Cert.CompressRefIdeal.τ).loc Cert.CompressRefIdeal.main_arg5)) (m ((c.tc : Thread Cert.CompressRefIdeal.nD Cert.CompressRefIdeal.τ).loc Cert.CompressRefIdeal.main_arg6)) (m ((c.tc : Thread Cert.CompressRefIdeal.nD Cert.CompressRefIdeal.τ).loc Cert.CompressRefIdeal.main_arg7)) (m ((c.tc : Thread Cert.CompressRefIdeal.nD Cert.CompressRefIdeal.τ).loc Cert.CompressRefIdeal.main_arg8))).2.2.1 = (fun _ => 1#1)
    ∧ (Cert.Pre_finite_compress.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3)) (m ((c.tc : Thread Cert.CompressRefIdeal.nD Cert.CompressRefIdeal.τ).loc Cert.CompressRefIdeal.main_arg4)) (m ((c.tc : Thread Cert.CompressRefIdeal.nD Cert.CompressRefIdeal.τ).loc Cert.CompressRefIdeal.main_arg5)) (m ((c.tc : Thread Cert.CompressRefIdeal.nD Cert.CompressRefIdeal.τ).loc Cert.CompressRefIdeal.main_arg6)) (m ((c.tc : Thread Cert.CompressRefIdeal.nD Cert.CompressRefIdeal.τ).loc Cert.CompressRefIdeal.main_arg7)) (m ((c.tc : Thread Cert.CompressRefIdeal.nD Cert.CompressRefIdeal.τ).loc Cert.CompressRefIdeal.main_arg8))).2.2.2.1 = (fun _ => 1#1)
    ∧ (Cert.Pre_finite_compress.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3)) (m ((c.tc : Thread Cert.CompressRefIdeal.nD Cert.CompressRefIdeal.τ).loc Cert.CompressRefIdeal.main_arg4)) (m ((c.tc : Thread Cert.CompressRefIdeal.nD Cert.CompressRefIdeal.τ).loc Cert.CompressRefIdeal.main_arg5)) (m ((c.tc : Thread Cert.CompressRefIdeal.nD Cert.CompressRefIdeal.τ).loc Cert.CompressRefIdeal.main_arg6)) (m ((c.tc : Thread Cert.CompressRefIdeal.nD Cert.CompressRefIdeal.τ).loc Cert.CompressRefIdeal.main_arg7)) (m ((c.tc : Thread Cert.CompressRefIdeal.nD Cert.CompressRefIdeal.τ).loc Cert.CompressRefIdeal.main_arg8))).2.2.2.2.1 = (fun _ => 1#1)
    ∧ (Cert.Pre_finite_compress.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3)) (m ((c.tc : Thread Cert.CompressRefIdeal.nD Cert.CompressRefIdeal.τ).loc Cert.CompressRefIdeal.main_arg4)) (m ((c.tc : Thread Cert.CompressRefIdeal.nD Cert.CompressRefIdeal.τ).loc Cert.CompressRefIdeal.main_arg5)) (m ((c.tc : Thread Cert.CompressRefIdeal.nD Cert.CompressRefIdeal.τ).loc Cert.CompressRefIdeal.main_arg6)) (m ((c.tc : Thread Cert.CompressRefIdeal.nD Cert.CompressRefIdeal.τ).loc Cert.CompressRefIdeal.main_arg7)) (m ((c.tc : Thread Cert.CompressRefIdeal.nD Cert.CompressRefIdeal.τ).loc Cert.CompressRefIdeal.main_arg8))).2.2.2.2.2.1 = (fun _ => 1#1)
    ∧ (Cert.Pre_finite_compress.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3)) (m ((c.tc : Thread Cert.CompressRefIdeal.nD Cert.CompressRefIdeal.τ).loc Cert.CompressRefIdeal.main_arg4)) (m ((c.tc : Thread Cert.CompressRefIdeal.nD Cert.CompressRefIdeal.τ).loc Cert.CompressRefIdeal.main_arg5)) (m ((c.tc : Thread Cert.CompressRefIdeal.nD Cert.CompressRefIdeal.τ).loc Cert.CompressRefIdeal.main_arg6)) (m ((c.tc : Thread Cert.CompressRefIdeal.nD Cert.CompressRefIdeal.τ).loc Cert.CompressRefIdeal.main_arg7)) (m ((c.tc : Thread Cert.CompressRefIdeal.nD Cert.CompressRefIdeal.τ).loc Cert.CompressRefIdeal.main_arg8))).2.2.2.2.2.2.1 = (fun _ => 1#1)
    ∧ (Cert.Pre_finite_compress.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3)) (m ((c.tc : Thread Cert.CompressRefIdeal.nD Cert.CompressRefIdeal.τ).loc Cert.CompressRefIdeal.main_arg4)) (m ((c.tc : Thread Cert.CompressRefIdeal.nD Cert.CompressRefIdeal.τ).loc Cert.CompressRefIdeal.main_arg5)) (m ((c.tc : Thread Cert.CompressRefIdeal.nD Cert.CompressRefIdeal.τ).loc Cert.CompressRefIdeal.main_arg6)) (m ((c.tc : Thread Cert.CompressRefIdeal.nD Cert.CompressRefIdeal.τ).loc Cert.CompressRefIdeal.main_arg7)) (m ((c.tc : Thread Cert.CompressRefIdeal.nD Cert.CompressRefIdeal.τ).loc Cert.CompressRefIdeal.main_arg8))).2.2.2.2.2.2.2.1 = (fun _ => 1#1)
    ∧ (Cert.Pre_finite_compress.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3)) (m ((c.tc : Thread Cert.CompressRefIdeal.nD Cert.CompressRefIdeal.τ).loc Cert.CompressRefIdeal.main_arg4)) (m ((c.tc : Thread Cert.CompressRefIdeal.nD Cert.CompressRefIdeal.τ).loc Cert.CompressRefIdeal.main_arg5)) (m ((c.tc : Thread Cert.CompressRefIdeal.nD Cert.CompressRefIdeal.τ).loc Cert.CompressRefIdeal.main_arg6)) (m ((c.tc : Thread Cert.CompressRefIdeal.nD Cert.CompressRefIdeal.τ).loc Cert.CompressRefIdeal.main_arg7)) (m ((c.tc : Thread Cert.CompressRefIdeal.nD Cert.CompressRefIdeal.τ).loc Cert.CompressRefIdeal.main_arg8))).2.2.2.2.2.2.2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_ProjRwkv [hProjRwkv : Cert.ProjRwkv.Facts] : Prop :=
  ∀ (m : (ℓ : Loc Cert.ProjRwkv.nD Cert.ProjRwkv.τ Cert.ProjRwkv.sig) → Buf (Elt Bits) ℓ) (g : Dev Cert.ProjRwkv.nD → PrngReg), Pre_ProjRwkv m →
    θ_run (Cert.ProjRwkv.defs (F := Bits)) (onTc (τ := Cert.ProjRwkv.τ) (Cert.ProjRwkv.main (F := Bits))) ⟨m, fun _ => 0, g⟩ (fun r => (∀ c : Dev Cert.ProjRwkv.nD,
      r.2.mem ((c.tc : Thread Cert.ProjRwkv.nD Cert.ProjRwkv.τ).loc Cert.ProjRwkv.main_arg0) = m ((c.tc : Thread Cert.ProjRwkv.nD Cert.ProjRwkv.τ).loc Cert.ProjRwkv.main_arg0)
      ∧ r.2.mem ((c.tc : Thread Cert.ProjRwkv.nD Cert.ProjRwkv.τ).loc Cert.ProjRwkv.main_arg1) = m ((c.tc : Thread Cert.ProjRwkv.nD Cert.ProjRwkv.τ).loc Cert.ProjRwkv.main_arg1)
      ∧ r.2.mem ((c.tc : Thread Cert.ProjRwkv.nD Cert.ProjRwkv.τ).loc Cert.ProjRwkv.main_arg2) = m ((c.tc : Thread Cert.ProjRwkv.nD Cert.ProjRwkv.τ).loc Cert.ProjRwkv.main_arg2))
      ∧ r.2.sem = fun _ => 0)

def quiescent_ProjRwkvIdeal [hProjRwkvIdeal : Cert.ProjRwkvIdeal.Facts] : Prop :=
  ∀ (m : (ℓ : Loc Cert.ProjRwkvIdeal.nD Cert.ProjRwkvIdeal.τ Cert.ProjRwkvIdeal.sig) → Buf (Elt Ideal) ℓ) (g : Dev Cert.ProjRwkvIdeal.nD → PrngReg), Pre_ProjRwkvIdeal m →
    θ_run (Cert.ProjRwkvIdeal.defs (F := Ideal)) (onTc (τ := Cert.ProjRwkvIdeal.τ) (Cert.ProjRwkvIdeal.main (F := Ideal))) ⟨m, fun _ => 0, g⟩ (fun r => (∀ c : Dev Cert.ProjRwkvIdeal.nD,
      r.2.mem ((c.tc : Thread Cert.ProjRwkvIdeal.nD Cert.ProjRwkvIdeal.τ).loc Cert.ProjRwkvIdeal.main_arg0) = m ((c.tc : Thread Cert.ProjRwkvIdeal.nD Cert.ProjRwkvIdeal.τ).loc Cert.ProjRwkvIdeal.main_arg0)
      ∧ r.2.mem ((c.tc : Thread Cert.ProjRwkvIdeal.nD Cert.ProjRwkvIdeal.τ).loc Cert.ProjRwkvIdeal.main_arg1) = m ((c.tc : Thread Cert.ProjRwkvIdeal.nD Cert.ProjRwkvIdeal.τ).loc Cert.ProjRwkvIdeal.main_arg1)
      ∧ r.2.mem ((c.tc : Thread Cert.ProjRwkvIdeal.nD Cert.ProjRwkvIdeal.τ).loc Cert.ProjRwkvIdeal.main_arg2) = m ((c.tc : Thread Cert.ProjRwkvIdeal.nD Cert.ProjRwkvIdeal.τ).loc Cert.ProjRwkvIdeal.main_arg2))
      ∧ r.2.sem = fun _ => 0)

def quiescent_ProjRwkvRefIdeal [hProjRwkvRefIdeal : Cert.ProjRwkvRefIdeal.Facts] : Prop :=
  ∀ (m : (ℓ : Loc Cert.ProjRwkvRefIdeal.nD Cert.ProjRwkvRefIdeal.τ Cert.ProjRwkvRefIdeal.sig) → Buf (Elt Ideal) ℓ) (g : Dev Cert.ProjRwkvRefIdeal.nD → PrngReg), Pre_ProjRwkvRefIdeal m →
    θ_run (Cert.ProjRwkvRefIdeal.defs (F := Ideal)) (onTc (τ := Cert.ProjRwkvRefIdeal.τ) (Cert.ProjRwkvRefIdeal.main (F := Ideal))) ⟨m, fun _ => 0, g⟩ (fun r => (∀ c : Dev Cert.ProjRwkvRefIdeal.nD,
      r.2.mem ((c.tc : Thread Cert.ProjRwkvRefIdeal.nD Cert.ProjRwkvRefIdeal.τ).loc Cert.ProjRwkvRefIdeal.main_arg0) = m ((c.tc : Thread Cert.ProjRwkvRefIdeal.nD Cert.ProjRwkvRefIdeal.τ).loc Cert.ProjRwkvRefIdeal.main_arg0)
      ∧ r.2.mem ((c.tc : Thread Cert.ProjRwkvRefIdeal.nD Cert.ProjRwkvRefIdeal.τ).loc Cert.ProjRwkvRefIdeal.main_arg1) = m ((c.tc : Thread Cert.ProjRwkvRefIdeal.nD Cert.ProjRwkvRefIdeal.τ).loc Cert.ProjRwkvRefIdeal.main_arg1)
      ∧ r.2.mem ((c.tc : Thread Cert.ProjRwkvRefIdeal.nD Cert.ProjRwkvRefIdeal.τ).loc Cert.ProjRwkvRefIdeal.main_arg2) = m ((c.tc : Thread Cert.ProjRwkvRefIdeal.nD Cert.ProjRwkvRefIdeal.τ).loc Cert.ProjRwkvRefIdeal.main_arg2))
      ∧ r.2.sem = fun _ => 0)

def quiescent_ProjNsa [hProjNsa : Cert.ProjNsa.Facts] : Prop :=
  ∀ (m : (ℓ : Loc Cert.ProjNsa.nD Cert.ProjNsa.τ Cert.ProjNsa.sig) → Buf (Elt Bits) ℓ) (g : Dev Cert.ProjNsa.nD → PrngReg), Pre_ProjNsa m →
    θ_run (Cert.ProjNsa.defs (F := Bits)) (onTc (τ := Cert.ProjNsa.τ) (Cert.ProjNsa.main (F := Bits))) ⟨m, fun _ => 0, g⟩ (fun r => (∀ c : Dev Cert.ProjNsa.nD,
      r.2.mem ((c.tc : Thread Cert.ProjNsa.nD Cert.ProjNsa.τ).loc Cert.ProjNsa.main_arg0) = m ((c.tc : Thread Cert.ProjNsa.nD Cert.ProjNsa.τ).loc Cert.ProjNsa.main_arg0)
      ∧ r.2.mem ((c.tc : Thread Cert.ProjNsa.nD Cert.ProjNsa.τ).loc Cert.ProjNsa.main_arg1) = m ((c.tc : Thread Cert.ProjNsa.nD Cert.ProjNsa.τ).loc Cert.ProjNsa.main_arg1)
      ∧ r.2.mem ((c.tc : Thread Cert.ProjNsa.nD Cert.ProjNsa.τ).loc Cert.ProjNsa.main_arg2) = m ((c.tc : Thread Cert.ProjNsa.nD Cert.ProjNsa.τ).loc Cert.ProjNsa.main_arg2))
      ∧ r.2.sem = fun _ => 0)

def quiescent_ProjNsaIdeal [hProjNsaIdeal : Cert.ProjNsaIdeal.Facts] : Prop :=
  ∀ (m : (ℓ : Loc Cert.ProjNsaIdeal.nD Cert.ProjNsaIdeal.τ Cert.ProjNsaIdeal.sig) → Buf (Elt Ideal) ℓ) (g : Dev Cert.ProjNsaIdeal.nD → PrngReg), Pre_ProjNsaIdeal m →
    θ_run (Cert.ProjNsaIdeal.defs (F := Ideal)) (onTc (τ := Cert.ProjNsaIdeal.τ) (Cert.ProjNsaIdeal.main (F := Ideal))) ⟨m, fun _ => 0, g⟩ (fun r => (∀ c : Dev Cert.ProjNsaIdeal.nD,
      r.2.mem ((c.tc : Thread Cert.ProjNsaIdeal.nD Cert.ProjNsaIdeal.τ).loc Cert.ProjNsaIdeal.main_arg0) = m ((c.tc : Thread Cert.ProjNsaIdeal.nD Cert.ProjNsaIdeal.τ).loc Cert.ProjNsaIdeal.main_arg0)
      ∧ r.2.mem ((c.tc : Thread Cert.ProjNsaIdeal.nD Cert.ProjNsaIdeal.τ).loc Cert.ProjNsaIdeal.main_arg1) = m ((c.tc : Thread Cert.ProjNsaIdeal.nD Cert.ProjNsaIdeal.τ).loc Cert.ProjNsaIdeal.main_arg1)
      ∧ r.2.mem ((c.tc : Thread Cert.ProjNsaIdeal.nD Cert.ProjNsaIdeal.τ).loc Cert.ProjNsaIdeal.main_arg2) = m ((c.tc : Thread Cert.ProjNsaIdeal.nD Cert.ProjNsaIdeal.τ).loc Cert.ProjNsaIdeal.main_arg2))
      ∧ r.2.sem = fun _ => 0)

def quiescent_ProjNsaRefIdeal [hProjNsaRefIdeal : Cert.ProjNsaRefIdeal.Facts] : Prop :=
  ∀ (m : (ℓ : Loc Cert.ProjNsaRefIdeal.nD Cert.ProjNsaRefIdeal.τ Cert.ProjNsaRefIdeal.sig) → Buf (Elt Ideal) ℓ) (g : Dev Cert.ProjNsaRefIdeal.nD → PrngReg), Pre_ProjNsaRefIdeal m →
    θ_run (Cert.ProjNsaRefIdeal.defs (F := Ideal)) (onTc (τ := Cert.ProjNsaRefIdeal.τ) (Cert.ProjNsaRefIdeal.main (F := Ideal))) ⟨m, fun _ => 0, g⟩ (fun r => (∀ c : Dev Cert.ProjNsaRefIdeal.nD,
      r.2.mem ((c.tc : Thread Cert.ProjNsaRefIdeal.nD Cert.ProjNsaRefIdeal.τ).loc Cert.ProjNsaRefIdeal.main_arg0) = m ((c.tc : Thread Cert.ProjNsaRefIdeal.nD Cert.ProjNsaRefIdeal.τ).loc Cert.ProjNsaRefIdeal.main_arg0)
      ∧ r.2.mem ((c.tc : Thread Cert.ProjNsaRefIdeal.nD Cert.ProjNsaRefIdeal.τ).loc Cert.ProjNsaRefIdeal.main_arg1) = m ((c.tc : Thread Cert.ProjNsaRefIdeal.nD Cert.ProjNsaRefIdeal.τ).loc Cert.ProjNsaRefIdeal.main_arg1)
      ∧ r.2.mem ((c.tc : Thread Cert.ProjNsaRefIdeal.nD Cert.ProjNsaRefIdeal.τ).loc Cert.ProjNsaRefIdeal.main_arg2) = m ((c.tc : Thread Cert.ProjNsaRefIdeal.nD Cert.ProjNsaRefIdeal.τ).loc Cert.ProjNsaRefIdeal.main_arg2))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1)
      ∧ r.2.mem ((c.tc : Thread Cert.ProjGate.nD Cert.ProjGate.τ).loc Cert.ProjGate.main_arg2) = m ((c.tc : Thread Cert.ProjGate.nD Cert.ProjGate.τ).loc Cert.ProjGate.main_arg2))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1)
      ∧ r.2.mem ((c.tc : Thread Cert.ProjGateIdeal.nD Cert.ProjGateIdeal.τ).loc Cert.ProjGateIdeal.main_arg2) = m ((c.tc : Thread Cert.ProjGateIdeal.nD Cert.ProjGateIdeal.τ).loc Cert.ProjGateIdeal.main_arg2))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1)
      ∧ r.2.mem ((c.tc : Thread Cert.ProjGateRefIdeal.nD Cert.ProjGateRefIdeal.τ).loc Cert.ProjGateRefIdeal.main_arg2) = m ((c.tc : Thread Cert.ProjGateRefIdeal.nD Cert.ProjGateRefIdeal.τ).loc Cert.ProjGateRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeIdeal_pre_finite_rows [hMergeIdeal : Cert.MergeIdeal.Facts] [hPre_finite_rows : Cert.Pre_finite_rows.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_rows m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_MergeRefIdeal_pre_finite_rows [hMergeRefIdeal : Cert.MergeRefIdeal.Facts] [hPre_finite_rows : Cert.Pre_finite_rows.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_rows m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7)
      ∧ r.2.mem ((c.tc : Thread Cert.Compress.nD Cert.Compress.τ).loc Cert.Compress.main_arg8) = m ((c.tc : Thread Cert.Compress.nD Cert.Compress.τ).loc Cert.Compress.main_arg8))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7)
      ∧ r.2.mem ((c.tc : Thread Cert.CompressIdeal.nD Cert.CompressIdeal.τ).loc Cert.CompressIdeal.main_arg8) = m ((c.tc : Thread Cert.CompressIdeal.nD Cert.CompressIdeal.τ).loc Cert.CompressIdeal.main_arg8))
      ∧ r.2.sem = fun _ => 0)

def quiescent_CompressIdeal_pre_finite_compress [hCompressIdeal : Cert.CompressIdeal.Facts] [hPre_finite_compress : Cert.Pre_finite_compress.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal_finite_compress m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7)
      ∧ r.2.mem ((c.tc : Thread Cert.CompressIdeal.nD Cert.CompressIdeal.τ).loc Cert.CompressIdeal.main_arg8) = m ((c.tc : Thread Cert.CompressIdeal.nD Cert.CompressIdeal.τ).loc Cert.CompressIdeal.main_arg8))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6)
      ∧ r.2.mem ((c.tc : Thread Cert.CompressRefIdeal.nD Cert.CompressRefIdeal.τ).loc Cert.CompressRefIdeal.main_arg7) = m ((c.tc : Thread Cert.CompressRefIdeal.nD Cert.CompressRefIdeal.τ).loc Cert.CompressRefIdeal.main_arg7)
      ∧ r.2.mem ((c.tc : Thread Cert.CompressRefIdeal.nD Cert.CompressRefIdeal.τ).loc Cert.CompressRefIdeal.main_arg8) = m ((c.tc : Thread Cert.CompressRefIdeal.nD Cert.CompressRefIdeal.τ).loc Cert.CompressRefIdeal.main_arg8))
      ∧ r.2.sem = fun _ => 0)

def quiescent_CompressRefIdeal_pre_finite_compress [hCompressRefIdeal : Cert.CompressRefIdeal.Facts] [hPre_finite_compress : Cert.Pre_finite_compress.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal_finite_compress m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6)
      ∧ r.2.mem ((c.tc : Thread Cert.CompressRefIdeal.nD Cert.CompressRefIdeal.τ).loc Cert.CompressRefIdeal.main_arg7) = m ((c.tc : Thread Cert.CompressRefIdeal.nD Cert.CompressRefIdeal.τ).loc Cert.CompressRefIdeal.main_arg7)
      ∧ r.2.mem ((c.tc : Thread Cert.CompressRefIdeal.nD Cert.CompressRefIdeal.τ).loc Cert.CompressRefIdeal.main_arg8) = m ((c.tc : Thread Cert.CompressRefIdeal.nD Cert.CompressRefIdeal.τ).loc Cert.CompressRefIdeal.main_arg8))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v35)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v35) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v220) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_ProjRwkv_ProjRwkvIdeal : Prop :=
  True

def algebraic_ProjRwkvIdeal_ProjRwkvRefIdeal [hProjRwkvIdeal : Cert.ProjRwkvIdeal.Facts] [hProjRwkvRefIdeal : Cert.ProjRwkvRefIdeal.Facts] : Prop :=
  ∀ (m : (ℓ : Loc Cert.ProjRwkvIdeal.nD Cert.ProjRwkvIdeal.τ Cert.ProjRwkvIdeal.sig) → Buf (Elt Ideal) ℓ) (g : Dev Cert.ProjRwkvIdeal.nD → PrngReg)
    (m' : (ℓ : Loc Cert.ProjRwkvRefIdeal.nD Cert.ProjRwkvRefIdeal.τ Cert.ProjRwkvRefIdeal.sig) → Buf (Elt Ideal) ℓ) (g' : Dev Cert.ProjRwkvRefIdeal.nD → PrngReg), Pre_ProjRwkvIdeal m →
    (∀ c : Dev Cert.ProjRwkvIdeal.nD,
      m' ((c.tc : Thread Cert.ProjRwkvRefIdeal.nD Cert.ProjRwkvRefIdeal.τ).loc Cert.ProjRwkvRefIdeal.main_arg0) = m ((c.tc : Thread Cert.ProjRwkvIdeal.nD Cert.ProjRwkvIdeal.τ).loc Cert.ProjRwkvIdeal.main_arg0)
      ∧ m' ((c.tc : Thread Cert.ProjRwkvRefIdeal.nD Cert.ProjRwkvRefIdeal.τ).loc Cert.ProjRwkvRefIdeal.main_arg1) = m ((c.tc : Thread Cert.ProjRwkvIdeal.nD Cert.ProjRwkvIdeal.τ).loc Cert.ProjRwkvIdeal.main_arg1)
      ∧ m' ((c.tc : Thread Cert.ProjRwkvRefIdeal.nD Cert.ProjRwkvRefIdeal.τ).loc Cert.ProjRwkvRefIdeal.main_arg2) = m ((c.tc : Thread Cert.ProjRwkvIdeal.nD Cert.ProjRwkvIdeal.τ).loc Cert.ProjRwkvIdeal.main_arg2)) →
    ∃ (v0 : (c : Dev Cert.ProjRwkvIdeal.nD) → Buf (Elt Ideal) ((c.tc : Thread Cert.ProjRwkvIdeal.nD Cert.ProjRwkvIdeal.τ).loc Cert.ProjRwkvIdeal.main_v4)),
      θ_run (Cert.ProjRwkvIdeal.defs (F := Ideal)) (onTc (τ := Cert.ProjRwkvIdeal.τ) (Cert.ProjRwkvIdeal.main (F := Ideal))) ⟨m, fun _ => 0, g⟩ (fun r => ∀ c : Dev Cert.ProjRwkvIdeal.nD,
          r.2.mem ((c.tc : Thread Cert.ProjRwkvIdeal.nD Cert.ProjRwkvIdeal.τ).loc Cert.ProjRwkvIdeal.main_v4) = v0 c
          ∧ r.2.mem ((c.tc : Thread Cert.ProjRwkvIdeal.nD Cert.ProjRwkvIdeal.τ).loc Cert.ProjRwkvIdeal.main_arg0) = m ((c.tc : Thread Cert.ProjRwkvIdeal.nD Cert.ProjRwkvIdeal.τ).loc Cert.ProjRwkvIdeal.main_arg0)
          ∧ r.2.mem ((c.tc : Thread Cert.ProjRwkvIdeal.nD Cert.ProjRwkvIdeal.τ).loc Cert.ProjRwkvIdeal.main_arg1) = m ((c.tc : Thread Cert.ProjRwkvIdeal.nD Cert.ProjRwkvIdeal.τ).loc Cert.ProjRwkvIdeal.main_arg1)
          ∧ r.2.mem ((c.tc : Thread Cert.ProjRwkvIdeal.nD Cert.ProjRwkvIdeal.τ).loc Cert.ProjRwkvIdeal.main_arg2) = m ((c.tc : Thread Cert.ProjRwkvIdeal.nD Cert.ProjRwkvIdeal.τ).loc Cert.ProjRwkvIdeal.main_arg2))
      ∧ θ_run (Cert.ProjRwkvRefIdeal.defs (F := Ideal)) (onTc (τ := Cert.ProjRwkvRefIdeal.τ) (Cert.ProjRwkvRefIdeal.main (F := Ideal))) ⟨m', fun _ => 0, g'⟩ (fun r => ∀ c : Dev Cert.ProjRwkvRefIdeal.nD,
          r.2.mem ((c.tc : Thread Cert.ProjRwkvRefIdeal.nD Cert.ProjRwkvRefIdeal.τ).loc Cert.ProjRwkvRefIdeal.main_v15) = v0 c
          ∧ r.2.mem ((c.tc : Thread Cert.ProjRwkvRefIdeal.nD Cert.ProjRwkvRefIdeal.τ).loc Cert.ProjRwkvRefIdeal.main_arg0) = m' ((c.tc : Thread Cert.ProjRwkvRefIdeal.nD Cert.ProjRwkvRefIdeal.τ).loc Cert.ProjRwkvRefIdeal.main_arg0)
          ∧ r.2.mem ((c.tc : Thread Cert.ProjRwkvRefIdeal.nD Cert.ProjRwkvRefIdeal.τ).loc Cert.ProjRwkvRefIdeal.main_arg1) = m' ((c.tc : Thread Cert.ProjRwkvRefIdeal.nD Cert.ProjRwkvRefIdeal.τ).loc Cert.ProjRwkvRefIdeal.main_arg1)
          ∧ r.2.mem ((c.tc : Thread Cert.ProjRwkvRefIdeal.nD Cert.ProjRwkvRefIdeal.τ).loc Cert.ProjRwkvRefIdeal.main_arg2) = m' ((c.tc : Thread Cert.ProjRwkvRefIdeal.nD Cert.ProjRwkvRefIdeal.τ).loc Cert.ProjRwkvRefIdeal.main_arg2))

def preserves_ProjNsa_ProjNsaIdeal : Prop :=
  True

def algebraic_ProjNsaIdeal_ProjNsaRefIdeal [hProjNsaIdeal : Cert.ProjNsaIdeal.Facts] [hProjNsaRefIdeal : Cert.ProjNsaRefIdeal.Facts] : Prop :=
  ∀ (m : (ℓ : Loc Cert.ProjNsaIdeal.nD Cert.ProjNsaIdeal.τ Cert.ProjNsaIdeal.sig) → Buf (Elt Ideal) ℓ) (g : Dev Cert.ProjNsaIdeal.nD → PrngReg)
    (m' : (ℓ : Loc Cert.ProjNsaRefIdeal.nD Cert.ProjNsaRefIdeal.τ Cert.ProjNsaRefIdeal.sig) → Buf (Elt Ideal) ℓ) (g' : Dev Cert.ProjNsaRefIdeal.nD → PrngReg), Pre_ProjNsaIdeal m →
    (∀ c : Dev Cert.ProjNsaIdeal.nD,
      m' ((c.tc : Thread Cert.ProjNsaRefIdeal.nD Cert.ProjNsaRefIdeal.τ).loc Cert.ProjNsaRefIdeal.main_arg0) = m ((c.tc : Thread Cert.ProjNsaIdeal.nD Cert.ProjNsaIdeal.τ).loc Cert.ProjNsaIdeal.main_arg0)
      ∧ m' ((c.tc : Thread Cert.ProjNsaRefIdeal.nD Cert.ProjNsaRefIdeal.τ).loc Cert.ProjNsaRefIdeal.main_arg1) = m ((c.tc : Thread Cert.ProjNsaIdeal.nD Cert.ProjNsaIdeal.τ).loc Cert.ProjNsaIdeal.main_arg1)
      ∧ m' ((c.tc : Thread Cert.ProjNsaRefIdeal.nD Cert.ProjNsaRefIdeal.τ).loc Cert.ProjNsaRefIdeal.main_arg2) = m ((c.tc : Thread Cert.ProjNsaIdeal.nD Cert.ProjNsaIdeal.τ).loc Cert.ProjNsaIdeal.main_arg2)) →
    ∃ (v0 : (c : Dev Cert.ProjNsaIdeal.nD) → Buf (Elt Ideal) ((c.tc : Thread Cert.ProjNsaIdeal.nD Cert.ProjNsaIdeal.τ).loc Cert.ProjNsaIdeal.main_v4)),
      θ_run (Cert.ProjNsaIdeal.defs (F := Ideal)) (onTc (τ := Cert.ProjNsaIdeal.τ) (Cert.ProjNsaIdeal.main (F := Ideal))) ⟨m, fun _ => 0, g⟩ (fun r => ∀ c : Dev Cert.ProjNsaIdeal.nD,
          r.2.mem ((c.tc : Thread Cert.ProjNsaIdeal.nD Cert.ProjNsaIdeal.τ).loc Cert.ProjNsaIdeal.main_v4) = v0 c
          ∧ r.2.mem ((c.tc : Thread Cert.ProjNsaIdeal.nD Cert.ProjNsaIdeal.τ).loc Cert.ProjNsaIdeal.main_arg0) = m ((c.tc : Thread Cert.ProjNsaIdeal.nD Cert.ProjNsaIdeal.τ).loc Cert.ProjNsaIdeal.main_arg0)
          ∧ r.2.mem ((c.tc : Thread Cert.ProjNsaIdeal.nD Cert.ProjNsaIdeal.τ).loc Cert.ProjNsaIdeal.main_arg1) = m ((c.tc : Thread Cert.ProjNsaIdeal.nD Cert.ProjNsaIdeal.τ).loc Cert.ProjNsaIdeal.main_arg1)
          ∧ r.2.mem ((c.tc : Thread Cert.ProjNsaIdeal.nD Cert.ProjNsaIdeal.τ).loc Cert.ProjNsaIdeal.main_arg2) = m ((c.tc : Thread Cert.ProjNsaIdeal.nD Cert.ProjNsaIdeal.τ).loc Cert.ProjNsaIdeal.main_arg2))
      ∧ θ_run (Cert.ProjNsaRefIdeal.defs (F := Ideal)) (onTc (τ := Cert.ProjNsaRefIdeal.τ) (Cert.ProjNsaRefIdeal.main (F := Ideal))) ⟨m', fun _ => 0, g'⟩ (fun r => ∀ c : Dev Cert.ProjNsaRefIdeal.nD,
          r.2.mem ((c.tc : Thread Cert.ProjNsaRefIdeal.nD Cert.ProjNsaRefIdeal.τ).loc Cert.ProjNsaRefIdeal.main_v15) = v0 c
          ∧ r.2.mem ((c.tc : Thread Cert.ProjNsaRefIdeal.nD Cert.ProjNsaRefIdeal.τ).loc Cert.ProjNsaRefIdeal.main_arg0) = m' ((c.tc : Thread Cert.ProjNsaRefIdeal.nD Cert.ProjNsaRefIdeal.τ).loc Cert.ProjNsaRefIdeal.main_arg0)
          ∧ r.2.mem ((c.tc : Thread Cert.ProjNsaRefIdeal.nD Cert.ProjNsaRefIdeal.τ).loc Cert.ProjNsaRefIdeal.main_arg1) = m' ((c.tc : Thread Cert.ProjNsaRefIdeal.nD Cert.ProjNsaRefIdeal.τ).loc Cert.ProjNsaRefIdeal.main_arg1)
          ∧ r.2.mem ((c.tc : Thread Cert.ProjNsaRefIdeal.nD Cert.ProjNsaRefIdeal.τ).loc Cert.ProjNsaRefIdeal.main_arg2) = m' ((c.tc : Thread Cert.ProjNsaRefIdeal.nD Cert.ProjNsaRefIdeal.τ).loc Cert.ProjNsaRefIdeal.main_arg2))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)
      ∧ m' ((c.tc : Thread Cert.ProjGateRefIdeal.nD Cert.ProjGateRefIdeal.τ).loc Cert.ProjGateRefIdeal.main_arg2) = m ((c.tc : Thread Cert.ProjGateIdeal.nD Cert.ProjGateIdeal.τ).loc Cert.ProjGateIdeal.main_arg2)) →
    ∃ (v0 : (c : Dev Cert.ProjGateIdeal.nD) → Buf (Elt Ideal) ((c.tc : Thread Cert.ProjGateIdeal.nD Cert.ProjGateIdeal.τ).loc Cert.ProjGateIdeal.main_v3)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v3) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1)
          ∧ r.2.mem ((c.tc : Thread Cert.ProjGateIdeal.nD Cert.ProjGateIdeal.τ).loc Cert.ProjGateIdeal.main_arg2) = m ((c.tc : Thread Cert.ProjGateIdeal.nD Cert.ProjGateIdeal.τ).loc Cert.ProjGateIdeal.main_arg2))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v14) = v0 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1)
          ∧ r.2.mem ((c.tc : Thread Cert.ProjGateRefIdeal.nD Cert.ProjGateRefIdeal.τ).loc Cert.ProjGateRefIdeal.main_arg2) = m' ((c.tc : Thread Cert.ProjGateRefIdeal.nD Cert.ProjGateRefIdeal.τ).loc Cert.ProjGateRefIdeal.main_arg2))

def preserves_Merge_MergeIdeal : Prop :=
  True

def algebraic_MergeIdeal_MergeRefIdeal_pre_finite_rows [hMergeIdeal : Cert.MergeIdeal.Facts] [hMergeRefIdeal : Cert.MergeRefIdeal.Facts] [hPre_finite_rows : Cert.Pre_finite_rows.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_rows m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v14)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Compress_CompressIdeal : Prop :=
  True

def algebraic_CompressIdeal_CompressRefIdeal_pre_finite_compress [hCompressIdeal : Cert.CompressIdeal.Facts] [hCompressRefIdeal : Cert.CompressRefIdeal.Facts] [hPre_finite_compress : Cert.Pre_finite_compress.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal_finite_compress m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)
      ∧ m' ((c.tc : Thread Cert.CompressRefIdeal.nD Cert.CompressRefIdeal.τ).loc Cert.CompressRefIdeal.main_arg7) = m ((c.tc : Thread Cert.CompressIdeal.nD Cert.CompressIdeal.τ).loc Cert.CompressIdeal.main_arg7)
      ∧ m' ((c.tc : Thread Cert.CompressRefIdeal.nD Cert.CompressRefIdeal.τ).loc Cert.CompressRefIdeal.main_arg8) = m ((c.tc : Thread Cert.CompressIdeal.nD Cert.CompressIdeal.τ).loc Cert.CompressIdeal.main_arg8)) →
    ∃ (v0 : (c : Dev Cert.CompressIdeal.nD) → Buf (Elt Ideal) ((c.tc : Thread Cert.CompressIdeal.nD Cert.CompressIdeal.τ).loc Cert.CompressIdeal.main_v63_0)) (v1 : (c : Dev Cert.CompressIdeal.nD) → Buf (Elt Ideal) ((c.tc : Thread Cert.CompressIdeal.nD Cert.CompressIdeal.τ).loc Cert.CompressIdeal.main_v63_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v63_0) = v0 c
          ∧ r.2.mem ((c.tc : Thread Cert.CompressIdeal.nD Cert.CompressIdeal.τ).loc Cert.CompressIdeal.main_v63_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7)
          ∧ r.2.mem ((c.tc : Thread Cert.CompressIdeal.nD Cert.CompressIdeal.τ).loc Cert.CompressIdeal.main_arg8) = m ((c.tc : Thread Cert.CompressIdeal.nD Cert.CompressIdeal.τ).loc Cert.CompressIdeal.main_arg8))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v96) = v0 c
          ∧ r.2.mem ((c.tc : Thread Cert.CompressRefIdeal.nD Cert.CompressRefIdeal.τ).loc Cert.CompressRefIdeal.main_v97) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6)
          ∧ r.2.mem ((c.tc : Thread Cert.CompressRefIdeal.nD Cert.CompressRefIdeal.τ).loc Cert.CompressRefIdeal.main_arg7) = m' ((c.tc : Thread Cert.CompressRefIdeal.nD Cert.CompressRefIdeal.τ).loc Cert.CompressRefIdeal.main_arg7)
          ∧ r.2.mem ((c.tc : Thread Cert.CompressRefIdeal.nD Cert.CompressRefIdeal.τ).loc Cert.CompressRefIdeal.main_arg8) = m' ((c.tc : Thread Cert.CompressRefIdeal.nD Cert.CompressRefIdeal.τ).loc Cert.CompressRefIdeal.main_arg8))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hProjRwkv : Cert.ProjRwkv.Facts) (hProjRwkvIdeal : Cert.ProjRwkvIdeal.Facts) (hProjRwkvRefIdeal : Cert.ProjRwkvRefIdeal.Facts) (hProjNsa : Cert.ProjNsa.Facts) (hProjNsaIdeal : Cert.ProjNsaIdeal.Facts) (hProjNsaRefIdeal : Cert.ProjNsaRefIdeal.Facts) (hProjGate : Cert.ProjGate.Facts) (hProjGateIdeal : Cert.ProjGateIdeal.Facts) (hProjGateRefIdeal : Cert.ProjGateRefIdeal.Facts) (hMerge : Cert.Merge.Facts) (hMergeIdeal : Cert.MergeIdeal.Facts) (hMergeRefIdeal : Cert.MergeRefIdeal.Facts) (hCompress : Cert.Compress.Facts) (hCompressIdeal : Cert.CompressIdeal.Facts) (hCompressRefIdeal : Cert.CompressRefIdeal.Facts) (hPre_finite_scores : Cert.Pre_finite_scores.Facts) (hPre_finite_rows : Cert.Pre_finite_rows.Facts) (hPre_finite_compress : Cert.Pre_finite_compress.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_ProjRwkv (hProjRwkv := hProjRwkv)
    ∧ quiescent_ProjRwkvIdeal (hProjRwkvIdeal := hProjRwkvIdeal)
    ∧ quiescent_ProjRwkvRefIdeal (hProjRwkvRefIdeal := hProjRwkvRefIdeal)
    ∧ quiescent_ProjNsa (hProjNsa := hProjNsa)
    ∧ quiescent_ProjNsaIdeal (hProjNsaIdeal := hProjNsaIdeal)
    ∧ quiescent_ProjNsaRefIdeal (hProjNsaRefIdeal := hProjNsaRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_Merge (hMerge := hMerge)
    ∧ quiescent_MergeIdeal (hMergeIdeal := hMergeIdeal)
    ∧ quiescent_MergeIdeal_pre_finite_rows (hMergeIdeal := hMergeIdeal) (hPre_finite_rows := hPre_finite_rows)
    ∧ quiescent_MergeRefIdeal (hMergeRefIdeal := hMergeRefIdeal)
    ∧ quiescent_MergeRefIdeal_pre_finite_rows (hMergeRefIdeal := hMergeRefIdeal) (hPre_finite_rows := hPre_finite_rows)
    ∧ quiescent_Compress (hCompress := hCompress)
    ∧ quiescent_CompressIdeal (hCompressIdeal := hCompressIdeal)
    ∧ quiescent_CompressIdeal_pre_finite_compress (hCompressIdeal := hCompressIdeal) (hPre_finite_compress := hPre_finite_compress)
    ∧ quiescent_CompressRefIdeal (hCompressRefIdeal := hCompressRefIdeal)
    ∧ quiescent_CompressRefIdeal_pre_finite_compress (hCompressRefIdeal := hCompressRefIdeal) (hPre_finite_compress := hPre_finite_compress)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_ProjRwkv_ProjRwkvIdeal
    ∧ algebraic_ProjRwkvIdeal_ProjRwkvRefIdeal (hProjRwkvIdeal := hProjRwkvIdeal) (hProjRwkvRefIdeal := hProjRwkvRefIdeal)
    ∧ preserves_ProjNsa_ProjNsaIdeal
    ∧ algebraic_ProjNsaIdeal_ProjNsaRefIdeal (hProjNsaIdeal := hProjNsaIdeal) (hProjNsaRefIdeal := hProjNsaRefIdeal)
    ∧ preserves_ProjGate_ProjGateIdeal
    ∧ algebraic_ProjGateIdeal_ProjGateRefIdeal (hProjGateIdeal := hProjGateIdeal) (hProjGateRefIdeal := hProjGateRefIdeal)
    ∧ preserves_Merge_MergeIdeal
    ∧ algebraic_MergeIdeal_MergeRefIdeal_pre_finite_rows (hMergeIdeal := hMergeIdeal) (hMergeRefIdeal := hMergeRefIdeal) (hPre_finite_rows := hPre_finite_rows)
    ∧ preserves_Compress_CompressIdeal
    ∧ algebraic_CompressIdeal_CompressRefIdeal_pre_finite_compress (hCompressIdeal := hCompressIdeal) (hCompressRefIdeal := hCompressRefIdeal) (hPre_finite_compress := hPre_finite_compress)
-- ==== Pre_finite_compress.lean ====
abbrev S16384x256 : Shape := ⟨2, ![16384, 256]⟩
abbrev S32x64 : Shape := ⟨2, ![32, 64]⟩
abbrev S2048x256 : Shape := ⟨2, ![2048, 256]⟩
abbrev S256x64 : Shape := ⟨2, ![256, 64]⟩
abbrev S3x64 : Shape := ⟨2, ![3, 64]⟩
abbrev S1x64 : Shape := ⟨2, ![1, 64]⟩
abbrev S64 : Shape := ⟨1, ![64]⟩
abbrev S_ : Shape := ⟨0, ![]⟩

class Facts : Prop where
  slices_S3x64_S1x64_0_0 : S3x64.Slices ![0, 0] S1x64
  shapeCasts_S1x64_S64 : S1x64.ShapeCasts S64
  bcast_S_S16384x256 : S_.BroadcastsInDim S16384x256 (![] : Fin 0 → Fin S16384x256.rank)
  bcast_S_S32x64 : S_.BroadcastsInDim S32x64 (![] : Fin 0 → Fin S32x64.rank)
  bcast_S_S2048x256 : S_.BroadcastsInDim S2048x256 (![] : Fin 0 → Fin S2048x256.rank)
  bcast_S_S256x64 : S_.BroadcastsInDim S256x64 (![] : Fin 0 → Fin S256x64.rank)
  bcast_S_S64 : S_.BroadcastsInDim S64 (![] : Fin 0 → Fin S64.rank)

variable [Facts]

def fn_part1 {F : FTy → Type} [FloatOps F] (main_arg6 : FVec F S2048x256 .f32) (main_arg7 : FVec F S256x64 .f32) (main_v1 : FVec F S64 .f32) (main_v4 : IVec S16384x256 1) (main_v7 : IVec S16384x256 1) (main_v10 : IVec S32x64 1) (main_v13 : IVec S32x64 1) (main_v16 : IVec S2048x256 1) (main_v17 : FVec F S256x64 .f32) (main_cst_4 : FVec F S_ .f32) : IVec S16384x256 1 × IVec S16384x256 1 × IVec S32x64 1 × IVec S32x64 1 × IVec S2048x256 1 × IVec S256x64 1 × IVec S2048x256 1 × IVec S256x64 1 × IVec S64 1 :=
  let main_v18 : FVec F S256x64 .f32 := broadcastInDim S256x64 ![] bcast_S_S256x64 main_cst_4
  let main_v19 : IVec S256x64 1 := cmpf .olt main_v17 main_v18
  let main_v20 : FVec F S2048x256 .f32 := Host.absf main_arg6
  let main_cst_5 : FVec F S_ .f32 := constant S_ .f32 0x7F800000#32
  let main_v21 : FVec F S2048x256 .f32 := broadcastInDim S2048x256 ![] bcast_S_S2048x256 main_cst_5
  let main_v22 : IVec S2048x256 1 := cmpf .olt main_v20 main_v21
  let main_v23 : FVec F S256x64 .f32 := Host.absf main_arg7
  let main_cst_6 : FVec F S_ .f32 := constant S_ .f32 0x7F800000#32
  let main_v24 : FVec F S256x64 .f32 := broadcastInDim S256x64 ![] bcast_S_S256x64 main_cst_6
  let main_v25 : IVec S256x64 1 := cmpf .olt main_v23 main_v24
  let main_v26 : FVec F S64 .f32 := Host.absf main_v1
  let main_cst_7 : FVec F S_ .f32 := constant S_ .f32 0x7F800000#32
  let main_v27 : FVec F S64 .f32 := broadcastInDim S64 ![] bcast_S_S64 main_cst_7
  let main_v28 : IVec S64 1 := cmpf .olt main_v26 main_v27
  (main_v4, main_v7, main_v10, main_v13, main_v16, main_v19, main_v22, main_v25, main_v28)

def fn {F : FTy → Type} [FloatOps F] (main_arg0 : FVec F S16384x256 .f32) (main_arg1 : FVec F S16384x256 .f32) (main_arg2 : FVec F S32x64 .f32) (main_arg3 : FVec F S32x64 .f32) (main_arg4 : FVec F S2048x256 .f32) (main_arg5 : FVec F S256x64 .f32) (main_arg6 : FVec F S2048x256 .f32) (main_arg7 : FVec F S256x64 .f32) (main_arg8 : FVec F S3x64 .f32) : IVec S16384x256 1 × IVec S16384x256 1 × IVec S32x64 1 × IVec S32x64 1 × IVec S2048x256 1 × IVec S256x64 1 × IVec S2048x256 1 × IVec S256x64 1 × IVec S64 1 :=
  let main_v0 : FVec F S1x64 .f32 := (extractStridedSlice S1x64 ![0, 0] · slices_S3x64_S1x64_0_0) main_arg8
  let main_v1 : FVec F S64 .f32 := shapeCast S64 main_v0 shapeCasts_S1x64_S64
  let main_v2 : FVec F S16384x256 .f32 := Host.absf main_arg0
  let main_cst : FVec F S_ .f32 := constant S_ .f32 0x7F800000#32
  let main_v3 : FVec F S16384x256 .f32 := broadcastInDim S16384x256 ![] bcast_S_S16384x256 main_cst
  let main_v4 : IVec S16384x256 1 := cmpf .olt main_v2 main_v3
  let main_v5 : FVec F S16384x256 .f32 := Host.absf main_arg1
  let main_cst_0 : FVec F S_ .f32 := constant S_ .f32 0x7F800000#32
  let main_v6 : FVec F S16384x256 .f32 := broadcastInDim S16384x256 ![] bcast_S_S16384x256 main_cst_0
  let main_v7 : IVec S16384x256 1 := cmpf .olt main_v5 main_v6
  let main_v8 : FVec F S32x64 .f32 := Host.absf main_arg2
  let main_cst_1 : FVec F S_ .f32 := constant S_ .f32 0x7F800000#32
  let main_v9 : FVec F S32x64 .f32 := broadcastInDim S32x64 ![] bcast_S_S32x64 main_cst_1
  let main_v10 : IVec S32x64 1 := cmpf .olt main_v8 main_v9
  let main_v11 : FVec F S32x64 .f32 := Host.absf main_arg3
  let main_cst_2 : FVec F S_ .f32 := constant S_ .f32 0x7F800000#32
  let main_v12 : FVec F S32x64 .f32 := broadcastInDim S32x64 ![] bcast_S_S32x64 main_cst_2
  let main_v13 : IVec S32x64 1 := cmpf .olt main_v11 main_v12
  let main_v14 : FVec F S2048x256 .f32 := Host.absf main_arg4
  let main_cst_3 : FVec F S_ .f32 := constant S_ .f32 0x7F800000#32
  let main_v15 : FVec F S2048x256 .f32 := broadcastInDim S2048x256 ![] bcast_S_S2048x256 main_cst_3
  let main_v16 : IVec S2048x256 1 := cmpf .olt main_v14 main_v15
  let main_v17 : FVec F S256x64 .f32 := Host.absf main_arg5
  let main_cst_4 : FVec F S_ .f32 := constant S_ .f32 0x7F800000#32
  fn_part1 (F := F) main_arg6 main_arg7 main_v1 main_v4 main_v7 main_v10 main_v13 main_v16 main_v17 main_cst_4
-- ==== Pre_finite_rows.lean ====
abbrev S16384x2048 : Shape := ⟨2, ![16384, 2048]⟩
abbrev S16384x1024 : Shape := ⟨2, ![16384, 1024]⟩
abbrev S16384x4096 : Shape := ⟨2, ![16384, 4096]⟩
abbrev S16x64 : Shape := ⟨2, ![16, 64]⟩
abbrev S1024x2048 : Shape := ⟨2, ![1024, 2048]⟩
abbrev S2048x2048 : Shape := ⟨2, ![2048, 2048]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x2048 .f32) (main_arg1 : FVec F S16384x1024 .f32) (main_arg2 : FVec F S16384x1024 .f32) (main_arg3 : FVec F S16384x1024 .f32) (main_arg4 : FVec F S16384x1024 .f32) (main_arg5 : FVec F S16384x4096 .f32) (main_arg6 : FVec F S16x64 .f32) (main_arg7 : FVec F S16x64 .f32) (main_arg8 : FVec F S1024x2048 .f32) (main_arg9 : FVec F S1024x2048 .f32) (main_arg10 : FVec F S2048x2048 .f32) : IVec S16384x1024 1 :=
  let main_v0 : FVec F S16384x1024 .f32 := Host.absf main_arg1
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  main_v2
-- ==== Pre_finite_scores.lean ====
abbrev S16384x1024 : Shape := ⟨2, ![16384, 1024]⟩
abbrev S8x4x128x64 : Shape := ⟨4, ![8, 4, 128, 64]⟩
abbrev S8x4x2048x64 : Shape := ⟨4, ![8, 4, 2048, 64]⟩
abbrev S16384x128 : Shape := ⟨2, ![16384, 128]⟩
abbrev S_ : Shape := ⟨0, ![]⟩

class Facts : Prop where
  bcast_S_S16384x1024 : S_.BroadcastsInDim S16384x1024 (![] : Fin 0 → Fin S16384x1024.rank)
  bcast_S_S8x4x128x64 : S_.BroadcastsInDim S8x4x128x64 (![] : Fin 0 → Fin S8x4x128x64.rank)
  bitsLt_bf16_f32 : FTy.bits .bf16 < FTy.bits .f32
  bcast_S_S8x4x2048x64 : S_.BroadcastsInDim S8x4x2048x64 (![] : Fin 0 → Fin S8x4x2048x64.rank)

variable [Facts]

def fn {F : FTy → Type} [FloatOps F] (main_arg0 : FVec F S16384x1024 .f32) (main_arg1 : FVec F S8x4x128x64 .f32) (main_arg2 : FVec F S8x4x128x64 .f32) (main_arg3 : FVec F S8x4x2048x64 .bf16) (main_arg4 : FVec F S8x4x2048x64 .bf16) (main_arg5 : FVec F S8x4x2048x64 .bf16) (main_arg6 : FVec F S8x4x2048x64 .bf16) (main_arg7 : FVec F S16384x128 .f32) : IVec S16384x1024 1 × IVec S8x4x128x64 1 × IVec S8x4x2048x64 1 × IVec S8x4x2048x64 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S8x4x128x64 .f32 := Host.absf main_arg1
  let main_cst_0 : FVec F S_ .f32 := constant S_ .f32 0x7F800000#32
  let main_v4 : FVec F S8x4x128x64 .f32 := broadcastInDim S8x4x128x64 ![] bcast_S_S8x4x128x64 main_cst_0
  let main_v5 : IVec S8x4x128x64 1 := cmpf .olt main_v3 main_v4
  let main_v6 : FVec F S8x4x2048x64 .f32 := (extf .f32 · bitsLt_bf16_f32) main_arg3
  let main_v7 : FVec F S8x4x2048x64 .f32 := Host.absf main_v6
  let main_cst_1 : FVec F S_ .f32 := constant S_ .f32 0x7F800000#32
  let main_v8 : FVec F S8x4x2048x64 .f32 := broadcastInDim S8x4x2048x64 ![] bcast_S_S8x4x2048x64 main_cst_1
  let main_v9 : IVec S8x4x2048x64 1 := cmpf .olt main_v7 main_v8
  let main_v10 : FVec F S8x4x2048x64 .f32 := (extf .f32 · bitsLt_bf16_f32) main_arg5
  let main_v11 : FVec F S8x4x2048x64 .f32 := Host.absf main_v10
  let main_cst_2 : FVec F S_ .f32 := constant S_ .f32 0x7F800000#32
  let main_v12 : FVec F S8x4x2048x64 .f32 := broadcastInDim S8x4x2048x64 ![] bcast_S_S8x4x2048x64 main_cst_2
  let main_v13 : IVec S8x4x2048x64 1 := cmpf .olt main_v11 main_v12
  (main_v2, main_v5, main_v9, main_v13)
-- ==== Attn.lean ====
abbrev S16384x1024 : Shape := ⟨2, ![16384, 1024]⟩
abbrev S8x4x128x64 : Shape := ⟨4, ![8, 4, 128, 64]⟩
abbrev S8x4x2048x64 : Shape := ⟨4, ![8, 4, 2048, 64]⟩
abbrev S16384x128 : Shape := ⟨2, ![16384, 128]⟩
abbrev S128 : Shape := ⟨1, ![128]⟩
abbrev S128x1 : Shape := ⟨2, ![128, 1]⟩
abbrev S_ : Shape := ⟨0, ![]⟩
abbrev S32 : Shape := ⟨1, ![32]⟩
abbrev S1x32 : Shape := ⟨2, ![1, 32]⟩
abbrev S128x32 : Shape := ⟨2, ![128, 32]⟩
abbrev S32x1 : Shape := ⟨2, ![32, 1]⟩
abbrev S2048 : Shape := ⟨1, ![2048]⟩
abbrev S1x2048 : Shape := ⟨2, ![1, 2048]⟩
abbrev S32x2048 : Shape := ⟨2, ![32, 2048]⟩
abbrev S128x256 : Shape := ⟨2, ![128, 256]⟩
abbrev S1x1x128x64 : Shape := ⟨4, ![1, 1, 128, 64]⟩
abbrev S1x1x2048x64 : Shape := ⟨4, ![1, 1, 2048, 64]⟩
abbrev S128x128 : Shape := ⟨2, ![128, 128]⟩
abbrev S128x64 : Shape := ⟨2, ![128, 64]⟩
abbrev S128x2048 : Shape := ⟨2, ![128, 2048]⟩
abbrev S2048x64 : Shape := ⟨2, ![2048, 64]⟩
abbrev S1x1x640x64 : Shape := ⟨4, ![1, 1, 640, 64]⟩
abbrev S640x64 : Shape := ⟨2, ![640, 64]⟩
abbrev S128x640 : Shape := ⟨2, ![128, 640]⟩

abbrev nBuf : Space → Nat
  | .hbm => 51
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S8x4x128x64, .f32⟩
  | .hbm, ⟨2, _⟩ => ⟨S8x4x128x64, .f32⟩
  | .hbm, ⟨3, _⟩ => ⟨S8x4x2048x64, .bf16⟩
  | .hbm, ⟨4, _⟩ => ⟨S8x4x2048x64, .bf16⟩
  | .hbm, ⟨5, _⟩ => ⟨S8x4x2048x64, .bf16⟩
  | .hbm, ⟨6, _⟩ => ⟨S8x4x2048x64, .bf16⟩
  | .hbm, ⟨7, _⟩ => ⟨S16384x128, .f32⟩
  | .hbm, ⟨8, _⟩ => ⟨S128, .i32⟩
  | .hbm, ⟨9, _⟩ => ⟨S128x1, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S32, .i32⟩
  | .hbm, ⟨14, _⟩ => ⟨S1x32, .i32⟩
  | .hbm, ⟨15, _⟩ => ⟨S_, .i32⟩
  | .hbm, ⟨16, _⟩ => ⟨S1x32, .i32⟩
  | .hbm, ⟨17, _⟩ => ⟨S1x32, .i32⟩
  | .hbm, ⟨18, _⟩ => ⟨S_, .i32⟩
  | .hbm, ⟨19, _⟩ => ⟨S128x1, .i32⟩
  | .hbm, ⟨20, _⟩ => ⟨S128x1, .i32⟩
  | .hbm, ⟨21, _⟩ => ⟨S_, .i32⟩
  | .hbm, ⟨22, _⟩ => ⟨S1x32, .i32⟩
  | .hbm, ⟨23, _⟩ => ⟨S1x32, .i32⟩
  | .hbm, ⟨24, _⟩ => ⟨S128x32, .i32⟩
  | .hbm, ⟨25, _⟩ => ⟨S128x32, .i32⟩
  | .hbm, ⟨26, _⟩ => ⟨S128x32, .i32⟩
  | .hbm, ⟨27, _⟩ => ⟨S128x32, .i32⟩
  | .hbm, ⟨28, _⟩ => ⟨S128x32, .i32⟩
  | .hbm, ⟨29, _⟩ => ⟨S128x32, .i32⟩
  | .hbm, ⟨30, _⟩ => ⟨S128x32, .i32⟩
  | .hbm, ⟨31, _⟩ => ⟨S_, .i32⟩
  | .hbm, ⟨32, _⟩ => ⟨S128x32, .i32⟩
  | .hbm, ⟨33, _⟩ => ⟨S128x32, .i32⟩
  | .hbm, ⟨34, _⟩ => ⟨S128x32, .f32⟩
  | .hbm, ⟨35, _⟩ => ⟨S_, .f32⟩
  | .hbm, ⟨36, _⟩ => ⟨S128x32, .f32⟩
  | .hbm, ⟨37, _⟩ => ⟨S128x32, .f32⟩
  | .hbm, ⟨38, _⟩ => ⟨S128x32, .bf16⟩
  | .hbm, ⟨39, _⟩ => ⟨S32, .i32⟩
  | .hbm, ⟨40, _⟩ => ⟨S32x1, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S1x2048, .i32⟩
  | .hbm, ⟨46, _⟩ => ⟨S32x2048, .i32⟩
  | .hbm, ⟨47, _⟩ => ⟨S32x2048, .i32⟩
  | .hbm, ⟨48, _⟩ => ⟨S32x2048, .i1⟩
  | .hbm, ⟨49, _⟩ => ⟨S32x2048, .bf16⟩
  | .hbm, ⟨50, _⟩ => ⟨S16384x1024, .f32⟩
  | .local _ .vmem, ⟨0, _⟩ => ⟨S128x256, .f32⟩
  | .local _ .vmem, ⟨1, _⟩ => ⟨S128x256, .f32⟩
  | .local _ .vmem, ⟨2, _⟩ => ⟨S1x1x128x64, .f32⟩
  | .local _ .vmem, ⟨3, _⟩ => ⟨S1x1x128x64, .f32⟩
  | .local _ .vmem, ⟨4, _⟩ => ⟨S1x1x128x64, .f32⟩
  | .local _ .vmem, ⟨5, _⟩ => ⟨S1x1x128x64, .f32⟩
  | .local _ .vmem, ⟨6, _⟩ => ⟨S1x1x2048x64, .bf16⟩
  | .local _ .vmem, ⟨7, _⟩ => ⟨S1x1x2048x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S128x128, .f32⟩
  | .local _ .vmem, ⟨15, _⟩ => ⟨S128x128, .f32⟩
  | .local _ .vmem, ⟨16, _⟩ => ⟨S128x32, .bf16⟩
  | .local _ .vmem, ⟨17, _⟩ => ⟨S32x2048, .bf16⟩
  | .local _ .vmem, ⟨18, _⟩ => ⟨S128x256, .f32⟩
  | .local _ .vmem, ⟨19, _⟩ => ⟨S128x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![8, 4, 16], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  let c512_i32 : BitVec 32 := 512#32
  let v575 : BitVec 32 := Scalar.subi v0 c512_i32
  let c0_i32_80 : BitVec 32 := 0#32
  let v576 : BitVec 32 := Scalar.maxsi v575 c0_i32_80
  v576
def k0_off1 (i : grid0.Coords) : Fin 4 → Nat :=
  let c0_81 : Index := 0#32
  let c0_82 : Index := 0#32
  let arg2 : BitVec 32 := BitVec.ofNat 32 (i 2).val
  let c128_i32 : BitVec 32 := 128#32
  let v0 : BitVec 32 := Scalar.muli arg2 c128_i32
  let c512_i32 : BitVec 32 := 512#32
  let v575 : BitVec 32 := Scalar.subi v0 c512_i32
  let c0_i32_80 : BitVec 32 := 0#32
  let v576 : BitVec 32 := Scalar.maxsi v575 c0_i32_80
  let v577 : BitVec 32 := v576
  let v578 : Index := Scalar.indexCast v577
  let c0_83 : Index := 0#32
  ![0, 0, v578.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 1 → Memref sig .tc .vmem S128x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S32x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S16384x1024 : Shape := ⟨2, ![16384, 1024]⟩
abbrev S8x4x128x64 : Shape := ⟨4, ![8, 4, 128, 64]⟩
abbrev S8x4x2048x64 : Shape := ⟨4, ![8, 4, 2048, 64]⟩
abbrev S16384x128 : Shape := ⟨2, ![16384, 128]⟩
abbrev S8x2048x4x4x64 : Shape := ⟨5, ![8, 2048, 4, 4, 64]⟩
abbrev S8x4x127x64 : Shape := ⟨4, ![8, 4, 127, 64]⟩
abbrev S2048 : Shape := ⟨1, ![2048]⟩
abbrev S127 : Shape := ⟨1, ![127]⟩
abbrev S_ : Shape := ⟨0, ![]⟩
abbrev S8x4x127x2048x4 : Shape := ⟨5, ![8, 4, 127, 2048, 4]⟩
abbrev S8x4x4x2048x127 : Shape := ⟨5, ![8, 4, 4, 2048, 127]⟩
abbrev S1x127 : Shape := ⟨2, ![1, 127]⟩
abbrev S2048x1 : Shape := ⟨2, ![2048, 1]⟩
abbrev S2048x127 : Shape := ⟨2, ![2048, 127]⟩
abbrev S8x4x4x2048 : Shape := ⟨4, ![8, 4, 4, 2048]⟩
abbrev S8x4x4x2048x1 : Shape := ⟨5, ![8, 4, 4, 2048, 1]⟩
abbrev S8x4x64x4x2048 : Shape := ⟨5, ![8, 4, 64, 4, 2048]⟩
abbrev S127x1 : Shape := ⟨2, ![127, 1]⟩
abbrev S32 : Shape := ⟨1, ![32]⟩
abbrev S1x32 : Shape := ⟨2, ![1, 32]⟩
abbrev S127x32 : Shape := ⟨2, ![127, 32]⟩
abbrev S8x4x2048x127 : Shape := ⟨4, ![8, 4, 2048, 127]⟩
abbrev S8x4x2048x32 : Shape := ⟨4, ![8, 4, 2048, 32]⟩
abbrev S2048x32 : Shape := ⟨2, ![2048, 32]⟩
abbrev S8x4x2048x16 : Shape := ⟨4, ![8, 4, 2048, 16]⟩
abbrev S8x4x32x64x64 : Shape := ⟨5, ![8, 4, 32, 64, 64]⟩
abbrev S8 : Shape := ⟨1, ![8]⟩
abbrev S8x1x1x1 : Shape := ⟨4, ![8, 1, 1, 1]⟩
abbrev S4 : Shape := ⟨1, ![4]⟩
abbrev S1x4x1x1 : Shape := ⟨4, ![1, 4, 1, 1]⟩
abbrev S8x4x2048x16x1 : Shape := ⟨5, ![8, 4, 2048, 16, 1]⟩
abbrev S8x4x2048x16x3 : Shape := ⟨5, ![8, 4, 2048, 16, 3]⟩
abbrev S8x4x2048x16x64x64 : Shape := ⟨6, ![8, 4, 2048, 16, 64, 64]⟩
abbrev S8x4x2048x1024x64 : Shape := ⟨5, ![8, 4, 2048, 1024, 64]⟩
abbrev S64 : Shape := ⟨1, ![64]⟩
abbrev S1x1x1x1x64 : Shape := ⟨5, ![1, 1, 1, 1, 64]⟩
abbrev S8x4x2048x16x64 : Shape := ⟨5, ![8, 4, 2048, 16, 64]⟩
abbrev S8x4x2048x1024 : Shape := ⟨4, ![8, 4, 2048, 1024]⟩
abbrev S8x4x2048x1024x4 : Shape := ⟨5, ![8, 4, 2048, 1024, 4]⟩
abbrev S8x4x4x2048x1024 : Shape := ⟨5, ![8, 4, 4, 2048, 1024]⟩
abbrev S1x1x2048x1 : Shape := ⟨4, ![1, 1, 2048, 1]⟩
abbrev S8x4x1x2048x1024 : Shape := ⟨5, ![8, 4, 1, 2048, 1024]⟩
abbrev S8x4x2048x2048x4 : Shape := ⟨5, ![8, 4, 2048, 2048, 4]⟩
abbrev S8x4x4x2048x2048 : Shape := ⟨5, ![8, 4, 4, 2048, 2048]⟩
abbrev S1x2048 : Shape := ⟨2, ![1, 2048]⟩
abbrev S2048x2048 : Shape := ⟨2, ![2048, 2048]⟩
abbrev S16384x48 : Shape := ⟨2, ![16384, 48]⟩
abbrev S8x2048x4x4x3 : Shape := ⟨5, ![8, 2048, 4, 4, 3]⟩
abbrev S8x2048x4x4x1 : Shape := ⟨5, ![8, 2048, 4, 4, 1]⟩

abbrev nBuf : Space → Nat
  | .hbm => 310
  | .vmem => 0
  | .smem => 0
  | _ => 0

abbrev hbmTy0_0 (i : Nat) : BufTy := match i % 128 with
  | 0 => ⟨S16384x1024, .f32⟩
  | 1 => ⟨S8x4x128x64, .f32⟩
  | 2 => ⟨S8x4x128x64, .f32⟩
  | 3 => ⟨S8x4x2048x64, .bf16⟩
  | 4 => ⟨S8x4x2048x64, .bf16⟩
  | 5 => ⟨S8x4x2048x64, .bf16⟩
  | 6 => ⟨S8x4x2048x64, .bf16⟩
  | 7 => ⟨S16384x128, .f32⟩
  | 8 => ⟨S8x2048x4x4x64, .f32⟩
  | 9 => ⟨S8x4x127x64, .f32⟩
  | 10 => ⟨S8x4x127x64, .f32⟩
  | 11 => ⟨S8x4x2048x64, .f32⟩
  | 12 => ⟨S8x4x2048x64, .f32⟩
  | 13 => ⟨S8x4x2048x64, .f32⟩
  | 14 => ⟨S8x4x2048x64, .f32⟩
  | 15 => ⟨S2048, .i32⟩
  | 16 => ⟨S127, .i32⟩
  | 17 => ⟨S_, .i32⟩
  | 18 => ⟨S127, .i32⟩
  | 19 => ⟨S127, .i32⟩
  | 20 => ⟨S_, .i32⟩
  | 21 => ⟨S127, .i32⟩
  | 22 => ⟨S127, .i32⟩
  | 23 => ⟨S8x4x127x2048x4, .f32⟩
  | 24 => ⟨S8x4x4x2048x127, .f32⟩
  | 25 => ⟨S1x127, .i32⟩
  | 26 => ⟨S2048x1, .i32⟩
  | 27 => ⟨S2048x127, .i32⟩
  | 28 => ⟨S2048x127, .i32⟩
  | 29 => ⟨S2048x127, .i1⟩
  | 30 => ⟨S_, .f32⟩
  | 31 => ⟨S_, .f32⟩
  | 32 => ⟨S8x4x4x2048x127, .i1⟩
  | 33 => ⟨S8x4x4x2048x127, .f32⟩
  | 34 => ⟨S8x4x4x2048x127, .f32⟩
  | 35 => ⟨S_, .f32⟩
  | 36 => ⟨S8x4x4x2048, .f32⟩
  | 37 => ⟨S8x4x4x2048x1, .f32⟩
  | 38 => ⟨S8x4x4x2048x1, .f32⟩
  | 39 => ⟨S_, .f32⟩
  | 40 => ⟨S8x4x4x2048x1, .f32⟩
  | 41 => ⟨S8x4x4x2048x1, .i1⟩
  | 42 => ⟨S_, .f32⟩
  | 43 => ⟨S_, .f32⟩
  | 44 => ⟨S8x4x4x2048x1, .f32⟩
  | 45 => ⟨S8x4x4x2048x1, .f32⟩
  | 46 => ⟨S8x4x4x2048x127, .f32⟩
  | 47 => ⟨S8x4x4x2048x127, .f32⟩
  | 48 => ⟨S8x4x4x2048x127, .f32⟩
  | 49 => ⟨S_, .f32⟩
  | 50 => ⟨S_, .f32⟩
  | 51 => ⟨S8x4x4x2048x127, .i1⟩
  | 52 => ⟨S8x4x4x2048x127, .f32⟩
  | 53 => ⟨S8x4x4x2048x127, .f32⟩
  | 54 => ⟨S_, .f32⟩
  | 55 => ⟨S8x4x4x2048, .f32⟩
  | 56 => ⟨S8x4x4x2048x1, .f32⟩
  | 57 => ⟨S_, .f32⟩
  | 58 => ⟨S8x4x4x2048x1, .f32⟩
  | 59 => ⟨S8x4x4x2048x1, .f32⟩
  | 60 => ⟨S8x4x4x2048x127, .f32⟩
  | 61 => ⟨S8x4x4x2048x127, .f32⟩
  | 62 => ⟨S8x4x64x4x2048, .f32⟩
  | 63 => ⟨S8x2048x4x4x64, .f32⟩
  | 64 => ⟨S127, .i32⟩
  | 65 => ⟨S127x1, .i32⟩
  | 66 => ⟨S_, .i32⟩
  | 67 => ⟨S127x1, .i32⟩
  | 68 => ⟨S127x1, .i32⟩
  | 69 => ⟨S32, .i32⟩
  | 70 => ⟨S1x32, .i32⟩
  | 71 => ⟨S_, .i32⟩
  | 72 => ⟨S1x32, .i32⟩
  | 73 => ⟨S1x32, .i32⟩
  | 74 => ⟨S_, .i32⟩
  | 75 => ⟨S127x1, .i32⟩
  | 76 => ⟨S127x1, .i32⟩
  | 77 => ⟨S_, .i32⟩
  | 78 => ⟨S1x32, .i32⟩
  | 79 => ⟨S1x32, .i32⟩
  | 80 => ⟨S127x32, .i32⟩
  | 81 => ⟨S127x32, .i32⟩
  | 82 => ⟨S127x32, .i32⟩
  | 83 => ⟨S127x32, .i32⟩
  | 84 => ⟨S127x32, .i32⟩
  | 85 => ⟨S127x32, .i32⟩
  | 86 => ⟨S127x32, .i32⟩
  | 87 => ⟨S_, .i32⟩
  | 88 => ⟨S127x32, .i32⟩
  | 89 => ⟨S127x32, .i32⟩
  | 90 => ⟨S127x32, .f32⟩
  | 91 => ⟨S_, .f32⟩
  | 92 => ⟨S127x32, .f32⟩
  | 93 => ⟨S127x32, .f32⟩
  | 94 => ⟨S_, .f32⟩
  | 95 => ⟨S8x4x2048x127, .f32⟩
  | 96 => ⟨S8x4x2048x32, .f32⟩
  | 97 => ⟨S32, .i32⟩
  | 98 => ⟨S1x32, .i32⟩
  | 99 => ⟨S_, .i32⟩
  | 100 => ⟨S2048, .i32⟩
  | 101 => ⟨S2048, .i32⟩
  | 102 => ⟨S2048x1, .i32⟩
  | 103 => ⟨S_, .i32⟩
  | 104 => ⟨S1x32, .i32⟩
  | 105 => ⟨S1x32, .i1⟩
  | 106 => ⟨S2048x32, .i32⟩
  | 107 => ⟨S2048x32, .i32⟩
  | 108 => ⟨S2048x32, .i1⟩
  | 109 => ⟨S2048x32, .i1⟩
  | 110 => ⟨S2048x32, .i1⟩
  | 111 => ⟨S_, .i32⟩
  | 112 => ⟨S2048x1, .i32⟩
  | 113 => ⟨S2048x1, .i32⟩
  | 114 => ⟨S2048x32, .i32⟩
  | 115 => ⟨S2048x32, .i32⟩
  | 116 => ⟨S2048x32, .i1⟩
  | 117 => ⟨S2048x32, .i1⟩
  | 118 => ⟨S2048x32, .i32⟩
  | 119 => ⟨S2048x32, .i32⟩
  | 120 => ⟨S2048x32, .i1⟩
  | 121 => ⟨S_, .f32⟩
  | 122 => ⟨S_, .f32⟩
  | 123 => ⟨S8x4x2048x32, .i1⟩
  | 124 => ⟨S8x4x2048x32, .f32⟩
  | 125 => ⟨S8x4x2048x32, .f32⟩
  | 126 => ⟨S_, .f32⟩
  | 127 => ⟨S_, .f32⟩
  | _ => ⟨S16384x1024, .f32⟩

abbrev hbmTy0_1 (i : Nat) : BufTy := match i % 128 with
  | 0 => ⟨S8x4x2048x32, .i1⟩
  | 1 => ⟨S8x4x2048x32, .f32⟩
  | 2 => ⟨S8x4x2048x32, .f32⟩
  | 3 => ⟨S8x4x2048x16, .f32⟩
  | 4 => ⟨S8x4x2048x16, .i32⟩
  | 5 => ⟨S8x4x32x64x64, .f32⟩
  | 6 => ⟨S8x4x32x64x64, .f32⟩
  | 7 => ⟨S8, .i32⟩
  | 8 => ⟨S8x1x1x1, .i32⟩
  | 9 => ⟨S4, .i32⟩
  | 10 => ⟨S1x4x1x1, .i32⟩
  | 11 => ⟨S_, .i32⟩
  | 12 => ⟨S8x1x1x1, .i32⟩
  | 13 => ⟨S8x1x1x1, .i1⟩
  | 14 => ⟨S_, .i32⟩
  | 15 => ⟨S8x1x1x1, .i32⟩
  | 16 => ⟨S8x1x1x1, .i32⟩
  | 17 => ⟨S8x1x1x1, .i32⟩
  | 18 => ⟨S_, .i32⟩
  | 19 => ⟨S1x4x1x1, .i32⟩
  | 20 => ⟨S1x4x1x1, .i1⟩
  | 21 => ⟨S_, .i32⟩
  | 22 => ⟨S1x4x1x1, .i32⟩
  | 23 => ⟨S1x4x1x1, .i32⟩
  | 24 => ⟨S1x4x1x1, .i32⟩
  | 25 => ⟨S_, .i32⟩
  | 26 => ⟨S8x4x2048x16, .i32⟩
  | 27 => ⟨S8x4x2048x16, .i1⟩
  | 28 => ⟨S_, .i32⟩
  | 29 => ⟨S8x4x2048x16, .i32⟩
  | 30 => ⟨S8x4x2048x16, .i32⟩
  | 31 => ⟨S8x4x2048x16, .i32⟩
  | 32 => ⟨S8x4x2048x16, .i32⟩
  | 33 => ⟨S8x4x2048x16, .i32⟩
  | 34 => ⟨S8x4x2048x16x1, .i32⟩
  | 35 => ⟨S8x4x2048x16x1, .i32⟩
  | 36 => ⟨S8x4x2048x16x1, .i32⟩
  | 37 => ⟨S8x4x2048x16x3, .i32⟩
  | 38 => ⟨S8x4x2048x16x64x64, .f32⟩
  | 39 => ⟨S8x4x2048x1024x64, .f32⟩
  | 40 => ⟨S_, .i32⟩
  | 41 => ⟨S8x1x1x1, .i32⟩
  | 42 => ⟨S8x1x1x1, .i1⟩
  | 43 => ⟨S_, .i32⟩
  | 44 => ⟨S8x1x1x1, .i32⟩
  | 45 => ⟨S8x1x1x1, .i32⟩
  | 46 => ⟨S8x1x1x1, .i32⟩
  | 47 => ⟨S_, .i32⟩
  | 48 => ⟨S1x4x1x1, .i32⟩
  | 49 => ⟨S1x4x1x1, .i1⟩
  | 50 => ⟨S_, .i32⟩
  | 51 => ⟨S1x4x1x1, .i32⟩
  | 52 => ⟨S1x4x1x1, .i32⟩
  | 53 => ⟨S1x4x1x1, .i32⟩
  | 54 => ⟨S_, .i32⟩
  | 55 => ⟨S8x4x2048x16, .i32⟩
  | 56 => ⟨S8x4x2048x16, .i1⟩
  | 57 => ⟨S_, .i32⟩
  | 58 => ⟨S8x4x2048x16, .i32⟩
  | 59 => ⟨S8x4x2048x16, .i32⟩
  | 60 => ⟨S8x4x2048x16, .i32⟩
  | 61 => ⟨S8x4x2048x16, .i32⟩
  | 62 => ⟨S8x4x2048x16, .i32⟩
  | 63 => ⟨S8x4x2048x16x1, .i32⟩
  | 64 => ⟨S8x4x2048x16x1, .i32⟩
  | 65 => ⟨S8x4x2048x16x1, .i32⟩
  | 66 => ⟨S8x4x2048x16x3, .i32⟩
  | 67 => ⟨S8x4x2048x16x64x64, .f32⟩
  | 68 => ⟨S8x4x2048x1024x64, .f32⟩
  | 69 => ⟨S8x4x2048x16x1, .i32⟩
  | 70 => ⟨S_, .i32⟩
  | 71 => ⟨S8x4x2048x16x1, .i32⟩
  | 72 => ⟨S8x4x2048x16x1, .i32⟩
  | 73 => ⟨S64, .i32⟩
  | 74 => ⟨S1x1x1x1x64, .i32⟩
  | 75 => ⟨S8x4x2048x16x64, .i32⟩
  | 76 => ⟨S8x4x2048x16x64, .i32⟩
  | 77 => ⟨S8x4x2048x16x64, .i32⟩
  | 78 => ⟨S8x4x2048x1024, .i32⟩
  | 79 => ⟨S8x4x2048x1024x4, .f32⟩
  | 80 => ⟨S8x4x4x2048x1024, .f32⟩
  | 81 => ⟨S1x1x2048x1, .i32⟩
  | 82 => ⟨S8x4x2048x1024, .i32⟩
  | 83 => ⟨S8x4x2048x1024, .i1⟩
  | 84 => ⟨S8x4x1x2048x1024, .i1⟩
  | 85 => ⟨S_, .f32⟩
  | 86 => ⟨S_, .f32⟩
  | 87 => ⟨S8x4x4x2048x1024, .i1⟩
  | 88 => ⟨S8x4x4x2048x1024, .f32⟩
  | 89 => ⟨S8x4x4x2048x1024, .f32⟩
  | 90 => ⟨S_, .f32⟩
  | 91 => ⟨S8x4x4x2048, .f32⟩
  | 92 => ⟨S8x4x4x2048x1, .f32⟩
  | 93 => ⟨S8x4x4x2048x1, .f32⟩
  | 94 => ⟨S_, .f32⟩
  | 95 => ⟨S8x4x4x2048x1, .f32⟩
  | 96 => ⟨S8x4x4x2048x1, .i1⟩
  | 97 => ⟨S_, .f32⟩
  | 98 => ⟨S_, .f32⟩
  | 99 => ⟨S8x4x4x2048x1, .f32⟩
  | 100 => ⟨S8x4x4x2048x1, .f32⟩
  | 101 => ⟨S8x4x4x2048x1024, .f32⟩
  | 102 => ⟨S8x4x4x2048x1024, .f32⟩
  | 103 => ⟨S8x4x4x2048x1024, .f32⟩
  | 104 => ⟨S_, .f32⟩
  | 105 => ⟨S_, .f32⟩
  | 106 => ⟨S8x4x4x2048x1024, .i1⟩
  | 107 => ⟨S8x4x4x2048x1024, .f32⟩
  | 108 => ⟨S8x4x4x2048x1024, .f32⟩
  | 109 => ⟨S_, .f32⟩
  | 110 => ⟨S8x4x4x2048, .f32⟩
  | 111 => ⟨S8x4x4x2048x1, .f32⟩
  | 112 => ⟨S_, .f32⟩
  | 113 => ⟨S8x4x4x2048x1, .f32⟩
  | 114 => ⟨S8x4x4x2048x1, .f32⟩
  | 115 => ⟨S8x4x4x2048x1024, .f32⟩
  | 116 => ⟨S8x4x4x2048x1024, .f32⟩
  | 117 => ⟨S8x2048x4x4x64, .f32⟩
  | 118 => ⟨S8x4x2048x2048x4, .f32⟩
  | 119 => ⟨S8x4x4x2048x2048, .f32⟩
  | 120 => ⟨S1x2048, .i32⟩
  | 121 => ⟨S2048x1, .i32⟩
  | 122 => ⟨S2048x2048, .i32⟩
  | 123 => ⟨S2048x2048, .i32⟩
  | 124 => ⟨S2048x2048, .i1⟩
  | 125 => ⟨S1x2048, .i32⟩
  | 126 => ⟨S2048x1, .i32⟩
  | 127 => ⟨S_, .i32⟩
  | _ => ⟨S16384x1024, .f32⟩

abbrev hbmTy0_2 (i : Nat) : BufTy := match i % 128 with
  | 0 => ⟨S2048x1, .i32⟩
  | 1 => ⟨S2048x1, .i32⟩
  | 2 => ⟨S2048x2048, .i32⟩
  | 3 => ⟨S2048x2048, .i32⟩
  | 4 => ⟨S2048x2048, .i1⟩
  | 5 => ⟨S2048x2048, .i1⟩
  | 6 => ⟨S_, .f32⟩
  | 7 => ⟨S_, .f32⟩
  | 8 => ⟨S8x4x4x2048x2048, .i1⟩
  | 9 => ⟨S8x4x4x2048x2048, .f32⟩
  | 10 => ⟨S8x4x4x2048x2048, .f32⟩
  | 11 => ⟨S_, .f32⟩
  | 12 => ⟨S8x4x4x2048, .f32⟩
  | 13 => ⟨S8x4x4x2048x1, .f32⟩
  | 14 => ⟨S8x4x4x2048x1, .f32⟩
  | 15 => ⟨S_, .f32⟩
  | 16 => ⟨S8x4x4x2048x1, .f32⟩
  | 17 => ⟨S8x4x4x2048x1, .i1⟩
  | 18 => ⟨S_, .f32⟩
  | 19 => ⟨S_, .f32⟩
  | 20 => ⟨S8x4x4x2048x1, .f32⟩
  | 21 => ⟨S8x4x4x2048x1, .f32⟩
  | 22 => ⟨S8x4x4x2048x2048, .f32⟩
  | 23 => ⟨S8x4x4x2048x2048, .f32⟩
  | 24 => ⟨S8x4x4x2048x2048, .f32⟩
  | 25 => ⟨S_, .f32⟩
  | 26 => ⟨S_, .f32⟩
  | 27 => ⟨S8x4x4x2048x2048, .i1⟩
  | 28 => ⟨S8x4x4x2048x2048, .f32⟩
  | 29 => ⟨S8x4x4x2048x2048, .f32⟩
  | 30 => ⟨S_, .f32⟩
  | 31 => ⟨S8x4x4x2048, .f32⟩
  | 32 => ⟨S8x4x4x2048x1, .f32⟩
  | 33 => ⟨S_, .f32⟩
  | 34 => ⟨S8x4x4x2048x1, .f32⟩
  | 35 => ⟨S8x4x4x2048x1, .f32⟩
  | 36 => ⟨S8x4x4x2048x2048, .f32⟩
  | 37 => ⟨S8x4x4x2048x2048, .f32⟩
  | 38 => ⟨S8x4x64x4x2048, .f32⟩
  | 39 => ⟨S8x2048x4x4x64, .f32⟩
  | 40 => ⟨S16384x48, .f32⟩
  | 41 => ⟨S8x2048x4x4x3, .f32⟩
  | 42 => ⟨S8x2048x4x4x1, .f32⟩
  | 43 => ⟨S8x2048x4x4x64, .f32⟩
  | 44 => ⟨S8x2048x4x4x64, .f32⟩
  | 45 => ⟨S8x2048x4x4x1, .f32⟩
  | 46 => ⟨S8x2048x4x4x64, .f32⟩
  | 47 => ⟨S8x2048x4x4x64, .f32⟩
  | 48 => ⟨S8x2048x4x4x64, .f32⟩
  | 49 => ⟨S8x2048x4x4x1, .f32⟩
  | 50 => ⟨S8x2048x4x4x64, .f32⟩
  | 51 => ⟨S8x2048x4x4x64, .f32⟩
  | 52 => ⟨S8x2048x4x4x64, .f32⟩
  | 53 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_17 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_v86 : Ref sig .tc := ⟨.hbm, 125, rfl⟩
abbrev main_cst_18 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_v87 : Ref sig .tc := ⟨.hbm, 130, rfl⟩
abbrev main_values : Ref sig .tc := ⟨.hbm, 131, rfl⟩
abbrev main_indices : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_19 : Ref sig .tc := ⟨.hbm, 139, rfl⟩
abbrev main_v94 : Ref sig .tc := ⟨.hbm, 140, rfl⟩
abbrev main_v95 : Ref sig .tc := ⟨.hbm, 141, rfl⟩
abbrev main_c_20 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_c_21 : Ref sig .tc := ⟨.hbm, 146, rfl⟩
abbrev main_v99 : Ref sig .tc := ⟨.hbm, 147, rfl⟩
abbrev main_v100 : Ref sig .tc := ⟨.hbm, 148, rfl⟩
abbrev main_c_22 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_c_23 : Ref sig .tc := ⟨.hbm, 153, rfl⟩
abbrev main_v104 : Ref sig .tc := ⟨.hbm, 154, rfl⟩
abbrev main_v105 : Ref sig .tc := ⟨.hbm, 155, rfl⟩
abbrev main_c_24 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_c_25 : Ref sig .tc := ⟨.hbm, 168, rfl⟩
abbrev main_v117 : Ref sig .tc := ⟨.hbm, 169, rfl⟩
abbrev main_v118 : Ref sig .tc := ⟨.hbm, 170, rfl⟩
abbrev main_c_26 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_c_27 : Ref sig .tc := ⟨.hbm, 175, rfl⟩
abbrev main_v122 : Ref sig .tc := ⟨.hbm, 176, rfl⟩
abbrev main_v123 : Ref sig .tc := ⟨.hbm, 177, rfl⟩
abbrev main_c_28 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_c_29 : Ref sig .tc := ⟨.hbm, 182, rfl⟩
abbrev main_v127 : Ref sig .tc := ⟨.hbm, 183, rfl⟩
abbrev main_v128 : Ref sig .tc := ⟨.hbm, 184, rfl⟩
abbrev main_c_30 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_c_31 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_32 : Ref sig .tc := ⟨.hbm, 213, rfl⟩
abbrev main_call5_v0 : Ref sig .tc := ⟨.hbm, 214, rfl⟩
abbrev main_call5_v1 : Ref sig .tc := ⟨.hbm, 215, rfl⟩
abbrev main_call5_v2 : Ref sig .tc := ⟨.hbm, 216, rfl⟩
abbrev main_v155 : Ref sig .tc := ⟨.hbm, 217, rfl⟩
abbrev main_cst_33 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_cst_34 : Ref sig .tc := ⟨.hbm, 222, rfl⟩
abbrev main_v159 : Ref sig .tc := ⟨.hbm, 223, rfl⟩
abbrev main_v160 : Ref sig .tc := ⟨.hbm, 224, rfl⟩
abbrev main_cst_35 : Ref sig .tc := ⟨.hbm, 225, rfl⟩
abbrev main_call6_v0 : Ref sig .tc := ⟨.hbm, 226, rfl⟩
abbrev main_call6_v1 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_cst_36 : Ref sig .tc := ⟨.hbm, 232, rfl⟩
abbrev main_call7_v0 : Ref sig .tc := ⟨.hbm, 233, rfl⟩
abbrev main_call7_v1 : Ref sig .tc := ⟨.hbm, 234, rfl⟩
abbrev main_call7_v2 : Ref sig .tc := ⟨.hbm, 235, rfl⟩
abbrev main_v165 : Ref sig .tc := ⟨.hbm, 236, rfl⟩
abbrev main_cst_37 : Ref sig .tc := ⟨.hbm, 237, rfl⟩
abbrev main_v166 : Ref sig .tc := ⟨.hbm, 238, rfl⟩
abbrev main_v167 : Ref sig .tc := ⟨.hbm, 239, rfl⟩
abbrev main_cst_38 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_c_39 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_cst_40 : Ref sig .tc := ⟨.hbm, 262, rfl⟩
abbrev main_call8_v0 : Ref sig .tc := ⟨.hbm, 263, rfl⟩
abbrev main_call8_v1 : Ref sig .tc := ⟨.hbm, 264, rfl⟩
abbrev main_call8_v2 : Ref sig .tc := ⟨.hbm, 265, rfl⟩
abbrev main_v188 : Ref sig .tc := ⟨.hbm, 266, rfl⟩
abbrev main_cst_41 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_cst_42 : Ref sig .tc := ⟨.hbm, 271, rfl⟩
abbrev main_v192 : Ref sig .tc := ⟨.hbm, 272, rfl⟩
abbrev main_v193 : Ref sig .tc := ⟨.hbm, 273, rfl⟩
abbrev main_cst_43 : Ref sig .tc := ⟨.hbm, 274, rfl⟩
abbrev main_call9_v0 : Ref sig .tc := ⟨.hbm, 275, rfl⟩
abbrev main_call9_v1 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_cst_44 : Ref sig .tc := ⟨.hbm, 281, rfl⟩
abbrev main_call10_v0 : Ref sig .tc := ⟨.hbm, 282, rfl⟩
abbrev main_call10_v1 : Ref sig .tc := ⟨.hbm, 283, rfl⟩
abbrev main_call10_v2 : Ref sig .tc := ⟨.hbm, 284, rfl⟩
abbrev main_v198 : Ref sig .tc := ⟨.hbm, 285, rfl⟩
abbrev main_cst_45 : Ref sig .tc := ⟨.hbm, 286, rfl⟩
abbrev main_v199 : Ref sig .tc := ⟨.hbm, 287, rfl⟩
abbrev main_v200 : Ref sig .tc := ⟨.hbm, 288, rfl⟩
abbrev main_cst_46 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== ProjRwkv.lean ====
abbrev S16384x2048 : Shape := ⟨2, ![16384, 2048]⟩
abbrev S2048 : Shape := ⟨1, ![2048]⟩
abbrev S2048x10064 : Shape := ⟨2, ![2048, 10064]⟩
abbrev S1x2048 : Shape := ⟨2, ![1, 2048]⟩
abbrev S2048x3360 : Shape := ⟨2, ![2048, 3360]⟩
abbrev S_ : Shape := ⟨0, ![]⟩
abbrev S2048x3456 : Shape := ⟨2, ![2048, 3456]⟩
abbrev S16384x3456 : Shape := ⟨2, ![16384, 3456]⟩
abbrev S256x2048 : Shape := ⟨2, ![256, 2048]⟩
abbrev S256x3456 : Shape := ⟨2, ![256, 3456]⟩
abbrev S256 : Shape := ⟨1, ![256]⟩
abbrev S256x1 : Shape := ⟨2, ![256, 1]⟩

abbrev nBuf : Space → Nat
  | .hbm => 10
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x10064, .f32⟩
  | .hbm, ⟨3, _⟩ => ⟨S1x2048, .f32⟩
  | .hbm, ⟨4, _⟩ => ⟨S2048x3360, .f32⟩
  | .hbm, ⟨5, _⟩ => ⟨S_, .i32⟩
  | .hbm, ⟨6, _⟩ => ⟨S_, .f32⟩
  | .hbm, ⟨7, _⟩ => ⟨S2048x3456, .f32⟩
  | .hbm, ⟨8, _⟩ => ⟨S2048x3456, .bf16⟩
  | .hbm, ⟨9, _⟩ => ⟨S16384x3456, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3456, .bf16⟩
  | .local _ .vmem, ⟨4, _⟩ => ⟨S256x3456, .f32⟩
  | .local _ .vmem, ⟨5, _⟩ => ⟨S256x3456, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRwkvRefIdeal.lean ====
abbrev S16384x2048 : Shape := ⟨2, ![16384, 2048]⟩
abbrev S2048 : Shape := ⟨1, ![2048]⟩
abbrev S2048x10064 : Shape := ⟨2, ![2048, 10064]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x3360 : Shape := ⟨2, ![2048, 3360]⟩
abbrev S16384x3360 : Shape := ⟨2, ![16384, 3360]⟩
abbrev S16384x3456 : Shape := ⟨2, ![16384, 3456]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x10064, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x3360, .f32⟩
  | .hbm, ⟨20, _⟩ => ⟨S16384x3360, .f32⟩
  | .hbm, ⟨21, _⟩ => ⟨S_, .i32⟩
  | .hbm, ⟨22, _⟩ => ⟨S_, .f32⟩
  | .hbm, ⟨23, _⟩ => ⟨S16384x3456, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== ProjNsa.lean ====
abbrev S16384x2048 : Shape := ⟨2, ![16384, 2048]⟩
abbrev S2048 : Shape := ⟨1, ![2048]⟩
abbrev S2048x10064 : Shape := ⟨2, ![2048, 10064]⟩
abbrev S1x2048 : Shape := ⟨2, ![1, 2048]⟩
abbrev S2048x2608 : Shape := ⟨2, ![2048, 2608]⟩
abbrev S_ : Shape := ⟨0, ![]⟩
abbrev S2048x2688 : Shape := ⟨2, ![2048, 2688]⟩
abbrev S16384x2688 : Shape := ⟨2, ![16384, 2688]⟩
abbrev S256x2048 : Shape := ⟨2, ![256, 2048]⟩
abbrev S256x2688 : Shape := ⟨2, ![256, 2688]⟩
abbrev S256 : Shape := ⟨1, ![256]⟩
abbrev S256x1 : Shape := ⟨2, ![256, 1]⟩

abbrev nBuf : Space → Nat
  | .hbm => 10
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x10064, .f32⟩
  | .hbm, ⟨3, _⟩ => ⟨S1x2048, .f32⟩
  | .hbm, ⟨4, _⟩ => ⟨S2048x2608, .f32⟩
  | .hbm, ⟨5, _⟩ => ⟨S_, .i32⟩
  | .hbm, ⟨6, _⟩ => ⟨S_, .f32⟩
  | .hbm, ⟨7, _⟩ => ⟨S2048x2688, .f32⟩
  | .hbm, ⟨8, _⟩ => ⟨S2048x2688, .bf16⟩
  | .hbm, ⟨9, _⟩ => ⟨S16384x2688, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2688, .bf16⟩
  | .local _ .vmem, ⟨4, _⟩ => ⟨S256x2688, .f32⟩
  | .local _ .vmem, ⟨5, _⟩ => ⟨S256x2688, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjNsaRefIdeal.lean ====
abbrev S16384x2048 : Shape := ⟨2, ![16384, 2048]⟩
abbrev S2048 : Shape := ⟨1, ![2048]⟩
abbrev S2048x10064 : Shape := ⟨2, ![2048, 10064]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x2608 : Shape := ⟨2, ![2048, 2608]⟩
abbrev S16384x2608 : Shape := ⟨2, ![16384, 2608]⟩
abbrev S16384x2688 : Shape := ⟨2, ![16384, 2688]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x10064, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x2608, .f32⟩
  | .hbm, ⟨20, _⟩ => ⟨S16384x2608, .f32⟩
  | .hbm, ⟨21, _⟩ => ⟨S_, .i32⟩
  | .hbm, ⟨22, _⟩ => ⟨S_, .f32⟩
  | .hbm, ⟨23, _⟩ => ⟨S16384x2688, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== ProjGate.lean ====
abbrev S16384x2048 : Shape := ⟨2, ![16384, 2048]⟩
abbrev S2048 : Shape := ⟨1, ![2048]⟩
abbrev S2048x10064 : Shape := ⟨2, ![2048, 10064]⟩
abbrev S1x2048 : Shape := ⟨2, ![1, 2048]⟩
abbrev S2048x4096 : Shape := ⟨2, ![2048, 4096]⟩
abbrev S16384x4096 : Shape := ⟨2, ![16384, 4096]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x10064, .f32⟩
  | .hbm, ⟨3, _⟩ => ⟨S1x2048, .f32⟩
  | .hbm, ⟨4, _⟩ => ⟨S2048x4096, .f32⟩
  | .hbm, ⟨5, _⟩ => ⟨S2048x4096, .bf16⟩
  | .hbm, ⟨6, _⟩ => ⟨S16384x4096, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4096, .bf16⟩
  | .local _ .vmem, ⟨4, _⟩ => ⟨S256x4096, .f32⟩
  | .local _ .vmem, ⟨5, _⟩ => ⟨S256x4096, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjGateRefIdeal.lean ====
abbrev S16384x2048 : Shape := ⟨2, ![16384, 2048]⟩
abbrev S2048 : Shape := ⟨1, ![2048]⟩
abbrev S2048x10064 : Shape := ⟨2, ![2048, 10064]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x4096 : Shape := ⟨2, ![2048, 4096]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x10064, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x4096, .f32⟩
  | .hbm, ⟨20, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Merge.lean ====
abbrev S16384x2048 : Shape := ⟨2, ![16384, 2048]⟩
abbrev S16384x1024 : Shape := ⟨2, ![16384, 1024]⟩
abbrev S16384x4096 : Shape := ⟨2, ![16384, 4096]⟩
abbrev S16x64 : Shape := ⟨2, ![16, 64]⟩
abbrev S1024x2048 : Shape := ⟨2, ![1024, 2048]⟩
abbrev S2048x2048 : Shape := ⟨2, ![2048, 2048]⟩
abbrev S1x1024 : Shape := ⟨2, ![1, 1024]⟩
abbrev S1024 : Shape := ⟨1, ![1024]⟩
abbrev S_ : Shape := ⟨0, ![]⟩
abbrev S1024x1 : Shape := ⟨2, ![1024, 1]⟩
abbrev S1024x1024 : Shape := ⟨2, ![1024, 1024]⟩
abbrev S256x2048 : Shape := ⟨2, ![256, 2048]⟩
abbrev S256x1024 : Shape := ⟨2, ![256, 1024]⟩
abbrev S256x4096 : Shape := ⟨2, ![256, 4096]⟩

abbrev nBuf : Space → Nat
  | .hbm => 27
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x4096, .f32⟩
  | .hbm, ⟨6, _⟩ => ⟨S16x64, .f32⟩
  | .hbm, ⟨7, _⟩ => ⟨S16x64, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S1x1024, .f32⟩
  | .hbm, ⟨12, _⟩ => ⟨S1x1024, .f32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1x1024, .i32⟩
  | .hbm, ⟨19, _⟩ => ⟨S1024x1024, .i32⟩
  | .hbm, ⟨20, _⟩ => ⟨S1024x1024, .i32⟩
  | .hbm, ⟨21, _⟩ => ⟨S1024x1024, .i1⟩
  | .hbm, ⟨22, _⟩ => ⟨S1024x1024, .bf16⟩
  | .hbm, ⟨23, _⟩ => ⟨S1024x2048, .bf16⟩
  | .hbm, ⟨24, _⟩ => ⟨S1024x2048, .bf16⟩
  | .hbm, ⟨25, _⟩ => ⟨S2048x2048, .bf16⟩
  | .hbm, ⟨26, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x4096, .f32⟩
  | .local _ .vmem, ⟨11, _⟩ => ⟨S256x4096, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S256x2048, .f32⟩
  | .local _ .vmem, ⟨19, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S16384x2048 : Shape := ⟨2, ![16384, 2048]⟩
abbrev S16384x1024 : Shape := ⟨2, ![16384, 1024]⟩
abbrev S16384x4096 : Shape := ⟨2, ![16384, 4096]⟩
abbrev S16x64 : Shape := ⟨2, ![16, 64]⟩
abbrev S1024x2048 : Shape := ⟨2, ![1024, 2048]⟩
abbrev S2048x2048 : Shape := ⟨2, ![2048, 2048]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S1x16x64 : Shape := ⟨3, ![1, 16, 64]⟩

abbrev nBuf : Space → Nat
  | .hbm => 70
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x4096, .f32⟩
  | .hbm, ⟨6, _⟩ => ⟨S16x64, .f32⟩
  | .hbm, ⟨7, _⟩ => ⟨S16x64, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S16384x16x64, .f32⟩
  | .hbm, ⟨12, _⟩ => ⟨S_, .f32⟩
  | .hbm, ⟨13, _⟩ => ⟨S16384x16, .f32⟩
  | .hbm, ⟨14, _⟩ => ⟨S16384x16x1, .f32⟩
  | .hbm, ⟨15, _⟩ => ⟨S_, .f32⟩
  | .hbm, ⟨16, _⟩ => ⟨S16384x16x1, .f32⟩
  | .hbm, ⟨17, _⟩ => ⟨S16384x16x1, .f32⟩
  | .hbm, ⟨18, _⟩ => ⟨S16384x16x64, .f32⟩
  | .hbm, ⟨19, _⟩ => ⟨S16384x16x64, .f32⟩
  | .hbm, ⟨20, _⟩ => ⟨S16384x16x64, .f32⟩
  | .hbm, ⟨21, _⟩ => ⟨S_, .f32⟩
  | .hbm, ⟨22, _⟩ => ⟨S16384x16, .f32⟩
  | .hbm, ⟨23, _⟩ => ⟨S16384x16x1, .f32⟩
  | .hbm, ⟨24, _⟩ => ⟨S_, .f32⟩
  | .hbm, ⟨25, _⟩ => ⟨S16384x16x1, .f32⟩
  | .hbm, ⟨26, _⟩ => ⟨S16384x16x1, .f32⟩
  | .hbm, ⟨27, _⟩ => ⟨S16384x16x64, .f32⟩
  | .hbm, ⟨28, _⟩ => ⟨S16384x16x64, .f32⟩
  | .hbm, ⟨29, _⟩ => ⟨S_, .f32⟩
  | .hbm, ⟨30, _⟩ => ⟨S16384x16x1, .f32⟩
  | .hbm, ⟨31, _⟩ => ⟨S16384x16x1, .f32⟩
  | .hbm, ⟨32, _⟩ => ⟨S16384x16x1, .f32⟩
  | .hbm, ⟨33, _⟩ => ⟨S16384x16x64, .f32⟩
  | .hbm, ⟨34, _⟩ => ⟨S16384x16x64, .f32⟩
  | .hbm, ⟨35, _⟩ => ⟨S1x16x64, .f32⟩
  | .hbm, ⟨36, _⟩ => ⟨S16384x16x64, .f32⟩
  | .hbm, ⟨37, _⟩ => ⟨S16384x16x64, .f32⟩
  | .hbm, ⟨38, _⟩ => ⟨S1x16x64, .f32⟩
  | .hbm, ⟨39, _⟩ => ⟨S16384x16x64, .f32⟩
  | .hbm, ⟨40, _⟩ => ⟨S16384x16x64, .f32⟩
  | .hbm, ⟨41, _⟩ => ⟨S16384x16x64, .f32⟩
  | .hbm, ⟨42, _⟩ => ⟨S16384x16x64, .f32⟩
  | .hbm, ⟨43, _⟩ => ⟨S16384x1024, .f32⟩
  | .hbm, ⟨44, _⟩ => ⟨S16384x1024, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S_, .f32⟩
  | .hbm, ⟨60, _⟩ => ⟨S16384x2048, .f32⟩
  | .hbm, ⟨61, _⟩ => ⟨S16384x2048, .f32⟩
  | .hbm, ⟨62, _⟩ => ⟨S_, .f32⟩
  | .hbm, ⟨63, _⟩ => ⟨S16384x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Compress.lean ====
abbrev S16384x256 : Shape := ⟨2, ![16384, 256]⟩
abbrev S32x64 : Shape := ⟨2, ![32, 64]⟩
abbrev S2048x256 : Shape := ⟨2, ![2048, 256]⟩
abbrev S256x64 : Shape := ⟨2, ![256, 64]⟩
abbrev S3x64 : Shape := ⟨2, ![3, 64]⟩
abbrev S128 : Shape := ⟨1, ![128]⟩
abbrev S_ : Shape := ⟨0, ![]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S128x48 : Shape := ⟨2, ![128, 48]⟩
abbrev S128x64 : Shape := ⟨2, ![128, 64]⟩
abbrev S8x128x16x4x64 : Shape := ⟨5, ![8, 128, 16, 4, 64]⟩
abbrev S8x4x128x16x64 : Shape := ⟨5, ![8, 4, 128, 16, 64]⟩
abbrev S8x4x128x1024 : Shape := ⟨4, ![8, 4, 128, 1024]⟩
abbrev S1x2048 : Shape := ⟨2, ![1, 2048]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x4x128x64 : Shape := ⟨4, ![8, 4, 128, 64]⟩
abbrev S1x1x128x1024 : Shape := ⟨4, ![1, 1, 128, 1024]⟩
abbrev S1x1x128x64 : Shape := ⟨4, ![1, 1, 128, 64]⟩
abbrev S128x1024 : Shape := ⟨2, ![128, 1024]⟩
abbrev S1024x256 : Shape := ⟨2, ![1024, 256]⟩
abbrev S128x256 : Shape := ⟨2, ![128, 256]⟩
abbrev S8x2048 : Shape := ⟨2, ![8, 2048]⟩
abbrev S8x256 : Shape := ⟨2, ![8, 256]⟩
abbrev S1x256 : Shape := ⟨2, ![1, 256]⟩

abbrev nBuf : Space → Nat
  | .hbm => 92
  | .vmem => 18
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S3x64, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S128, .f32⟩
  | .hbm, ⟨28, _⟩ => ⟨S128x1, .f32⟩
  | .hbm, ⟨29, _⟩ => ⟨S1x8, .f32⟩
  | .hbm, ⟨30, _⟩ => ⟨S128x8, .f32⟩
  | .hbm, ⟨31, _⟩ => ⟨S128x8, .f32⟩
  | .hbm, ⟨32, _⟩ => ⟨S128x8, .f32⟩
  | .hbm, ⟨33, _⟩ => ⟨S128x8, .f32⟩
  | .hbm, ⟨34, _⟩ => ⟨S128x8, .f32⟩
  | .hbm, ⟨35, _⟩ => ⟨S_, .f32⟩
  | .hbm, ⟨36, _⟩ => ⟨S128x48, .f32⟩
  | .hbm, ⟨37, _⟩ => ⟨S_, .f32⟩
  | .hbm, ⟨38, _⟩ => ⟨S128x8, .f32⟩
  | .hbm, ⟨39, _⟩ => ⟨S_, .f32⟩
  | .hbm, ⟨40, _⟩ => ⟨S128x48, .f32⟩
  | .hbm, ⟨41, _⟩ => ⟨S128x48, .f32⟩
  | .hbm, ⟨42, _⟩ => ⟨S128x64, .f32⟩
  | .hbm, ⟨43, _⟩ => ⟨S128x8, .f32⟩
  | .hbm, ⟨44, _⟩ => ⟨S128x64, .f32⟩
  | .hbm, ⟨45, _⟩ => ⟨S128x64, .f32⟩
  | .hbm, ⟨46, _⟩ => ⟨S8x128x16x4x64, .f32⟩
  | .hbm, ⟨47, _⟩ => ⟨S8x4x128x16x64, .f32⟩
  | .hbm, ⟨48, _⟩ => ⟨S8x4x128x1024, .f32⟩
  | .hbm, ⟨49, _⟩ => ⟨S8x128x16x4x64, .f32⟩
  | .hbm, ⟨50, _⟩ => ⟨S8x4x128x16x64, .f32⟩
  | .hbm, ⟨51, _⟩ => ⟨S8x4x128x1024, .f32⟩
  | .hbm, ⟨52, _⟩ => ⟨S1x2048, .f32⟩
  | .hbm, ⟨53, _⟩ => ⟨S1x2048, .f32⟩
  | .hbm, ⟨54, _⟩ => ⟨S128x64, .f32⟩
  | .hbm, ⟨55, _⟩ => ⟨S64, .i32⟩
  | .hbm, ⟨56, _⟩ => ⟨S64x1, .i32⟩
  | .hbm, ⟨57, _⟩ => ⟨S64, .i32⟩
  | .hbm, ⟨58, _⟩ => ⟨S1x64, .i32⟩
  | .hbm, ⟨59, _⟩ => ⟨S_, .i32⟩
  | .hbm, ⟨60, _⟩ => ⟨S1x64, .i32⟩
  | .hbm, ⟨61, _⟩ => ⟨S1x64, .i1⟩
  | .hbm, ⟨62, _⟩ => ⟨S_, .i32⟩
  | .hbm, ⟨63, _⟩ => ⟨S1x64, .i32⟩
  | .hbm, ⟨64, _⟩ => ⟨S1x64, .i32⟩
  | .hbm, ⟨65, _⟩ => ⟨S64x64, .i32⟩
  | .hbm, ⟨66, _⟩ => ⟨S64x64, .i32⟩
  | .hbm, ⟨67, _⟩ => ⟨S64x64, .i1⟩
  | .hbm, ⟨68, _⟩ => ⟨S64x64, .i1⟩
  | .hbm, ⟨69, _⟩ => ⟨S64x64, .i1⟩
  | .hbm, ⟨70, _⟩ => ⟨S_, .i32⟩
  | .hbm, ⟨71, _⟩ => ⟨S64x1, .i32⟩
  | .hbm, ⟨72, _⟩ => ⟨S64x1, .i1⟩
  | .hbm, ⟨73, _⟩ => ⟨S_, .i32⟩
  | .hbm, ⟨74, _⟩ => ⟨S64x1, .i32⟩
  | .hbm, ⟨75, _⟩ => ⟨S64x1, .i32⟩
  | .hbm, ⟨76, _⟩ => ⟨S64x64, .i32⟩
  | .hbm, ⟨77, _⟩ => ⟨S64x64, .i32⟩
  | .hbm, ⟨78, _⟩ => ⟨S64x64, .i1⟩
  | .hbm, ⟨79, _⟩ => ⟨S64x64, .i1⟩
  | .hbm, ⟨80, _⟩ => ⟨S64x64, .i1⟩
  | .hbm, ⟨81, _⟩ => ⟨S_, .f32⟩
  | .hbm, ⟨82, _⟩ => ⟨S_, .f32⟩
  | .hbm, ⟨83, _⟩ => ⟨S64x64, .f32⟩
  | .hbm, ⟨84, _⟩ => ⟨S64x64, .f32⟩
  | .hbm, ⟨85, _⟩ => ⟨S64x64, .f32⟩
  | .hbm, ⟨86, _⟩ => ⟨S_, .f32⟩
  | .hbm, ⟨87, _⟩ => ⟨S64x64, .f32⟩
  | .hbm, ⟨88, _⟩ => ⟨S64x64, .f32⟩
  | .hbm, ⟨89, _⟩ => ⟨S64x64, .bf16⟩
  | .hbm, ⟨90, _⟩ => ⟨S8x4x128x64, .f32⟩
  | .hbm, ⟨91, _⟩ => ⟨S8x4x128x64, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x2048, .f32⟩
  | .local _ .vmem, ⟨5, _⟩ => ⟨S1x2048, .f32⟩
  | .local _ .vmem, ⟨6, _⟩ => ⟨S2048x256, .f32⟩
  | .local _ .vmem, ⟨7, _⟩ => ⟨S256x64, .f32⟩
  | .local _ .vmem, ⟨8, _⟩ => ⟨S2048x256, .f32⟩
  | .local _ .vmem, ⟨9, _⟩ => ⟨S256x64, .f32⟩
  | .local _ .vmem, ⟨10, _⟩ => ⟨S3x64, .f32⟩
  | .local _ .vmem, ⟨11, _⟩ => ⟨S128x64, .f32⟩
  | .local _ .vmem, ⟨12, _⟩ => ⟨S128x64, .f32⟩
  | .local _ .vmem, ⟨13, _⟩ => ⟨S64x64, .bf16⟩
  | .local _ .vmem, ⟨14, _⟩ => ⟨S1x1x128x64, .f32⟩
  | .local _ .vmem, ⟨15, _⟩ => ⟨S1x1x128x64, .f32⟩
  | .local _ .vmem, ⟨16, _⟩ => ⟨S1x1x128x64, .f32⟩
  | .local _ .vmem, ⟨17, _⟩ => ⟨S1x1x128x64, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_cst_11 : Ref sig .tc := ⟨.hbm, 82, rfl⟩
abbrev main_call0_v0 : Ref sig .tc := ⟨.hbm, 83, rfl⟩
abbrev main_call0_v1 : Ref sig .tc := ⟨.hbm, 84, rfl⟩
abbrev main_v60 : Ref sig .tc := ⟨.hbm, 85, rfl⟩
abbrev main_cst_12 : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_v63_0 : Ref sig .tc := ⟨.hbm, 90, rfl⟩
abbrev main_v63_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== CompressRefIdeal.lean ====
abbrev S16384x256 : Shape := ⟨2, ![16384, 256]⟩
abbrev S32x64 : Shape := ⟨2, ![32, 64]⟩
abbrev S2048x256 : Shape := ⟨2, ![2048, 256]⟩
abbrev S256x64 : Shape := ⟨2, ![256, 64]⟩
abbrev S3x64 : Shape := ⟨2, ![3, 64]⟩
abbrev S128 : Shape := ⟨1, ![128]⟩
abbrev S_ : Shape := ⟨0, ![]⟩
abbrev S8x128x16x4x64 : Shape := ⟨5, ![8, 128, 16, 4, 64]⟩
abbrev S8x127x16x4x64 : Shape := ⟨5, ![8, 127, 16, 4, 64]⟩
abbrev S8x1x16x4x64 : Shape := ⟨5, ![8, 1, 16, 4, 64]⟩
abbrev S8x128x32x4x64 : Shape := ⟨5, ![8, 128, 32, 4, 64]⟩
abbrev S1x1x32x1x64 : Shape := ⟨5, ![1, 1, 32, 1, 64]⟩
abbrev S8x128x4x32x64 : Shape := ⟨5, ![8, 128, 4, 32, 64]⟩
abbrev S8x128x4x2048 : Shape := ⟨4, ![8, 128, 4, 2048]⟩
abbrev S8x128x4x256 : Shape := ⟨4, ![8, 128, 4, 256]⟩
abbrev S8x128x4x64 : Shape := ⟨4, ![8, 128, 4, 64]⟩
abbrev S1x64 : Shape := ⟨2, ![1, 64]⟩
abbrev S64 : Shape := ⟨1, ![64]⟩
abbrev S8x128x4 : Shape := ⟨3, ![8, 128, 4]⟩
abbrev S8x128x4x1 : Shape := ⟨4, ![8, 128, 4, 1]⟩
abbrev S1x1x1x64 : Shape := ⟨4, ![1, 1, 1, 64]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S1x128x1x8 : Shape := ⟨4, ![1, 128, 1, 8]⟩
abbrev S8x128x4x8 : Shape := ⟨4, ![8, 128, 4, 8]⟩
abbrev S8x128x4x48 : Shape := ⟨4, ![8, 128, 4, 48]⟩
abbrev S8x4x128x64 : Shape := ⟨4, ![8, 4, 128, 64]⟩

abbrev nBuf : Space → Nat
  | .hbm => 126
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S3x64, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S8x128x16x4x64, .f32⟩
  | .hbm, ⟨17, _⟩ => ⟨S8x127x16x4x64, .f32⟩
  | .hbm, ⟨18, _⟩ => ⟨S8x1x16x4x64, .f32⟩
  | .hbm, ⟨19, _⟩ => ⟨S8x128x16x4x64, .f32⟩
  | .hbm, ⟨20, _⟩ => ⟨S8x128x32x4x64, .f32⟩
  | .hbm, ⟨21, _⟩ => ⟨S1x1x32x1x64, .f32⟩
  | .hbm, ⟨22, _⟩ => ⟨S8x128x32x4x64, .f32⟩
  | .hbm, ⟨23, _⟩ => ⟨S8x128x32x4x64, .f32⟩
  | .hbm, ⟨24, _⟩ => ⟨S8x128x4x32x64, .f32⟩
  | .hbm, ⟨25, _⟩ => ⟨S8x128x4x2048, .f32⟩
  | .hbm, ⟨26, _⟩ => ⟨S8x128x4x256, .f32⟩
  | .hbm, ⟨27, _⟩ => ⟨S8x128x4x256, .f32⟩
  | .hbm, ⟨28, _⟩ => ⟨S8x128x4x256, .f32⟩
  | .hbm, ⟨29, _⟩ => ⟨S_, .f32⟩
  | .hbm, ⟨30, _⟩ => ⟨S8x128x4x256, .f32⟩
  | .hbm, ⟨31, _⟩ => ⟨S8x128x4x256, .f32⟩
  | .hbm, ⟨32, _⟩ => ⟨S8x128x4x256, .f32⟩
  | .hbm, ⟨33, _⟩ => ⟨S_, .f32⟩
  | .hbm, ⟨34, _⟩ => ⟨S8x128x4x256, .f32⟩
  | .hbm, ⟨35, _⟩ => ⟨S8x128x4x256, .f32⟩
  | .hbm, ⟨36, _⟩ => ⟨S8x128x4x256, .f32⟩
  | .hbm, ⟨37, _⟩ => ⟨S_, .f32⟩
  | .hbm, ⟨38, _⟩ => ⟨S8x128x4x256, .f32⟩
  | .hbm, ⟨39, _⟩ => ⟨S8x128x4x256, .f32⟩
  | .hbm, ⟨40, _⟩ => ⟨S_, .f32⟩
  | .hbm, ⟨41, _⟩ => ⟨S8x128x4x256, .f32⟩
  | .hbm, ⟨42, _⟩ => ⟨S8x128x4x256, .f32⟩
  | .hbm, ⟨43, _⟩ => ⟨S8x128x4x256, .f32⟩
  | .hbm, ⟨44, _⟩ => ⟨S8x128x4x64, .f32⟩
  | .hbm, ⟨45, _⟩ => ⟨S1x64, .f32⟩
  | .hbm, ⟨46, _⟩ => ⟨S64, .f32⟩
  | .hbm, ⟨47, _⟩ => ⟨S8x128x4x64, .f32⟩
  | .hbm, ⟨48, _⟩ => ⟨S_, .f32⟩
  | .hbm, ⟨49, _⟩ => ⟨S8x128x4, .f32⟩
  | .hbm, ⟨50, _⟩ => ⟨S8x128x4x1, .f32⟩
  | .hbm, ⟨51, _⟩ => ⟨S_, .f32⟩
  | .hbm, ⟨52, _⟩ => ⟨S8x128x4x1, .f32⟩
  | .hbm, ⟨53, _⟩ => ⟨S8x128x4x1, .f32⟩
  | .hbm, ⟨54, _⟩ => ⟨S_, .f32⟩
  | .hbm, ⟨55, _⟩ => ⟨S8x128x4x1, .f32⟩
  | .hbm, ⟨56, _⟩ => ⟨S8x128x4x1, .f32⟩
  | .hbm, ⟨57, _⟩ => ⟨S8x128x4x1, .f32⟩
  | .hbm, ⟨58, _⟩ => ⟨S8x128x4x64, .f32⟩
  | .hbm, ⟨59, _⟩ => ⟨S8x128x4x64, .f32⟩
  | .hbm, ⟨60, _⟩ => ⟨S1x1x1x64, .f32⟩
  | .hbm, ⟨61, _⟩ => ⟨S8x128x4x64, .f32⟩
  | .hbm, ⟨62, _⟩ => ⟨S8x128x4x64, .f32⟩
  | .hbm, ⟨63, _⟩ => ⟨S8, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S128, .f32⟩
  | .hbm, ⟨72, _⟩ => ⟨S128x1, .f32⟩
  | .hbm, ⟨73, _⟩ => ⟨S1x8, .f32⟩
  | .hbm, ⟨74, _⟩ => ⟨S128x8, .f32⟩
  | .hbm, ⟨75, _⟩ => ⟨S128x8, .f32⟩
  | .hbm, ⟨76, _⟩ => ⟨S128x8, .f32⟩
  | .hbm, ⟨77, _⟩ => ⟨S128x8, .f32⟩
  | .hbm, ⟨78, _⟩ => ⟨S1x128x1x8, .f32⟩
  | .hbm, ⟨79, _⟩ => ⟨S128x8, .f32⟩
  | .hbm, ⟨80, _⟩ => ⟨S1x128x1x8, .f32⟩
  | .hbm, ⟨81, _⟩ => ⟨S8x128x4x8, .f32⟩
  | .hbm, ⟨82, _⟩ => ⟨S8x128x4x8, .f32⟩
  | .hbm, ⟨83, _⟩ => ⟨S8x128x4x8, .f32⟩
  | .hbm, ⟨84, _⟩ => ⟨S8x128x4x8, .f32⟩
  | .hbm, ⟨85, _⟩ => ⟨S8x128x4x8, .f32⟩
  | .hbm, ⟨86, _⟩ => ⟨S8x128x4x8, .f32⟩
  | .hbm, ⟨87, _⟩ => ⟨S8x128x4x8, .f32⟩
  | .hbm, ⟨88, _⟩ => ⟨S8x128x4x8, .f32⟩
  | .hbm, ⟨89, _⟩ => ⟨S8x128x4x8, .f32⟩
  | .hbm, ⟨90, _⟩ => ⟨S8x128x4x8, .f32⟩
  | .hbm, ⟨91, _⟩ => ⟨S8x128x4x8, .f32⟩
  | .hbm, ⟨92, _⟩ => ⟨S8x128x4x8, .f32⟩
  | .hbm, ⟨93, _⟩ => ⟨S8x128x4x48, .f32⟩
  | .hbm, ⟨94, _⟩ => ⟨S8x128x4x64, .f32⟩
  | .hbm, ⟨95, _⟩ => ⟨S8x128x16x4x64, .f32⟩
  | .hbm, ⟨96, _⟩ => ⟨S8x127x16x4x64, .f32⟩
  | .hbm, ⟨97, _⟩ => ⟨S8x1x16x4x64, .f32⟩
  | .hbm, ⟨98, _⟩ => ⟨S8x128x16x4x64, .f32⟩
  | .hbm, ⟨99, _⟩ => ⟨S8x128x32x4x64, .f32⟩
  | .hbm, ⟨100, _⟩ => ⟨S1x1x32x1x64, .f32⟩
  | .hbm, ⟨101, _⟩ => ⟨S8x128x32x4x64, .f32⟩
  | .hbm, ⟨102, _⟩ => ⟨S8x128x32x4x64, .f32⟩
  | .hbm, ⟨103, _⟩ => ⟨S8x128x4x32x64, .f32⟩
  | .hbm, ⟨104, _⟩ => ⟨S8x128x4x2048, .f32⟩
  | .hbm, ⟨105, _⟩ => ⟨S8x128x4x256, .f32⟩
  | .hbm, ⟨106, _⟩ => ⟨S8x128x4x256, .f32⟩
  | .hbm, ⟨107, _⟩ => ⟨S8x128x4x256, .f32⟩
  | .hbm, ⟨108, _⟩ => ⟨S_, .f32⟩
  | .hbm, ⟨109, _⟩ => ⟨S8x128x4x256, .f32⟩
  | .hbm, ⟨110, _⟩ => ⟨S8x128x4x256, .f32⟩
  | .hbm, ⟨111, _⟩ => ⟨S8x128x4x256, .f32⟩
  | .hbm, ⟨112, _⟩ => ⟨S_, .f32⟩
  | .hbm, ⟨113, _⟩ => ⟨S8x128x4x256, .f32⟩
  | .hbm, ⟨114, _⟩ => ⟨S8x128x4x256, .f32⟩
  | .hbm, ⟨115, _⟩ => ⟨S8x128x4x256, .f32⟩
  | .hbm, ⟨116, _⟩ => ⟨S_, .f32⟩
  | .hbm, ⟨117, _⟩ => ⟨S8x128x4x256, .f32⟩
  | .hbm, ⟨118, _⟩ => ⟨S8x128x4x256, .f32⟩
  | .hbm, ⟨119, _⟩ => ⟨S_, .f32⟩
  | .hbm, ⟨120, _⟩ => ⟨S8x128x4x256, .f32⟩
  | .hbm, ⟨121, _⟩ => ⟨S8x128x4x256, .f32⟩
  | .hbm, ⟨122, _⟩ => ⟨S8x128x4x256, .f32⟩
  | .hbm, ⟨123, _⟩ => ⟨S8x128x4x64, .f32⟩
  | .hbm, ⟨124, _⟩ => ⟨S8x4x128x64, .f32⟩
  | .hbm, ⟨125, _⟩ => ⟨S8x4x128x64, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_v0 : Ref sig .tc := ⟨.hbm, 17, rfl⟩
abbrev main_call0_v1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_v0 : Ref sig .tc := ⟨.hbm, 96, rfl⟩
abbrev main_call1_v1 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_9 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_10 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_11 : Ref sig .tc := ⟨.hbm, 116, rfl⟩
abbrev main_v90 : Ref sig .tc := ⟨.hbm, 117, rfl⟩
abbrev main_v91 : Ref sig .tc := ⟨.hbm, 118, rfl⟩
abbrev main_cst_12 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩

abbrev nD : Nat := 1
abbrev τ : Topo := Topo.v7x

variable {F : FTy → Type} [FloatOps F]
-- ==== Proof.AttnSpec.lean ====
/-
  Masked softmax attention over the extended reals: the weights, when they are real, and when two spellings over different index
  sets agree.
-/
module

public import Idealize.ShloMosaic.Lib.Pointwise
public import Idealize.ShloMosaic.Lib.Tactic

@[expose] public section

noncomputable section

open Idealize.ShloMosaic
open scoped BigOperators

namespace Attn

variable {ι κ : Type} [Fintype ι] [Fintype κ]

/-- The literal of negative infinity. -/
theorem bits_ninf : Ideal.ofBits .f32 0xFF800000#32 = ⊥ := by
  simp [Ideal.ofBits, Ideal.ieee]

/-- The least denominator of a softmax, about 1e-30. -/
def floor : EReal := Ideal.ofBits .f32 0x0DA24260#32

theorem floor_real : ∃ v : ℝ, floor = (v : EReal) ∧ 0 < v := by
  unfold floor
  simp [Ideal.ofBits, Ideal.ieee]
  exact ⟨10633824 * (2 ^ 123)⁻¹, by rw [EReal.coe_mul], by positivity⟩

/-- A score where the mask allows it, negative infinity elsewhere. -/
def shown (mask : ι → BitVec 1) (s : ι → EReal) (i : ι) : EReal := Scalar.select (mask i) (s i) ⊥

/-- The largest score shown. -/
def peak (mask : ι → BitVec 1) (s : ι → EReal) : EReal := Finset.fold max ⊥ (fun i => shown mask s i) Finset.univ

/-- The unnormalised weight under a given shift. -/
def wtAt (mask : ι → BitVec 1) (s : ι → EReal) (m : EReal) (i : ι) : EReal := Scalar.select (mask i) (Ideal.exp (shown mask s i - m)) 0

/-- The weight under a given shift. -/
def softAt (mask : ι → BitVec 1) (s : ι → EReal) (m : EReal) (i : ι) : EReal :=
  Ideal.div (wtAt mask s m i) (max (∑ j, wtAt mask s m j) floor)

/-- The softmax's weight. -/
def soft (mask : ι → BitVec 1) (s : ι → EReal) (i : ι) : EReal := softAt mask s (peak mask s) i

/-- The values mixed by the weights. -/
def mix (mask : ι → BitVec 1) (s v : ι → EReal) : EReal := ∑ i, soft mask s i * v i

theorem select_one {α : Type} {m : BitVec 1} (h : m = 1#1) (a b : α) : Scalar.select m a b = a := by
  subst h; rfl

theorem select_zero {α : Type} {m : BitVec 1} (h : m ≠ 1#1) (a b : α) : Scalar.select m a b = b := by
  have h0 : m = 0#1 := by revert h; revert m; decide
  subst h0; rfl

theorem shown_le_peak (mask : ι → BitVec 1) (s : ι → EReal) (i : ι) : shown mask s i ≤ peak mask s :=
  Finset.le_sup (f := fun i => shown mask s i) (Finset.mem_univ i)

theorem peak_le (mask : ι → BitVec 1) (s : ι → EReal) (a : EReal) (h : ∀ i, shown mask s i ≤ a) : peak mask s ≤ a :=
  Finset.sup_le (f := fun i => shown mask s i) fun i _ => h i

/-- With real scores under the mask and one of them shown, the peak is real. -/
theorem peak_real (mask : ι → BitVec 1) (s : ι → EReal) (hs : ∀ i, mask i = 1#1 → ∃ v : ℝ, s i = (v : EReal)) (i : ι) (hi : mask i = 1#1) :
    ∃ v : ℝ, peak mask s = (v : EReal) := by
  have hlt : peak mask s < ⊤ := by
    refine (Finset.sup_lt_iff (f := fun i => shown mask s i) bot_lt_top).2 fun j _ => ?_
    unfold shown
    by_cases hj : mask j = 1#1
    · rw [select_one hj]; obtain ⟨v, hv⟩ := hs j hj; rw [hv]; exact EReal.coe_lt_top v
    · rw [select_zero hj]; exact bot_lt_top
  have hgt : ⊥ < peak mask s := by
    refine lt_of_lt_of_le ?_ (shown_le_peak mask s i)
    unfold shown; rw [select_one hi]; obtain ⟨v, hv⟩ := hs i hi; rw [hv]; exact EReal.bot_lt_coe v
  exact ⟨(peak mask s).toReal, (EReal.coe_toReal hlt.ne hgt.ne').symm⟩

/-- The weights are real and not negative when the shown scores are real. -/
theorem wt_real (mask : ι → BitVec 1) (s : ι → EReal) (hs : ∀ i, mask i = 1#1 → ∃ v : ℝ, s i = (v : EReal)) (i : ι) :
    ∃ v : ℝ, wtAt mask s (peak mask s) i = (v : EReal) ∧ 0 ≤ v := by
  unfold wtAt
  by_cases hi : mask i = 1#1
  · obtain ⟨p, hp⟩ := peak_real mask s hs i hi
    obtain ⟨v, hv⟩ := hs i hi
    refine ⟨Real.exp (v - p), ?_, (Real.exp_pos _).le⟩
    rw [select_one hi, shown, select_one hi, hv, hp, ← EReal.coe_sub]
    rfl
  · exact ⟨0, by rw [select_zero hi]; rfl, le_refl _⟩

theorem soft_real (mask : ι → BitVec 1) (s : ι → EReal) (hs : ∀ i, mask i = 1#1 → ∃ v : ℝ, s i = (v : EReal)) (i : ι) :
    ∃ v : ℝ, soft mask s i = (v : EReal) := by
  choose w hw hw0 using wt_real mask s hs
  obtain ⟨f, hf, hf0⟩ := floor_real
  unfold soft softAt
  simp only [hw, hf]
  have hsum : (∑ j, ((w j : ℝ) : EReal)) = ((∑ j, w j : ℝ) : EReal) := (map_sum (⟨⟨Real.toEReal, rfl⟩, EReal.coe_add⟩ : ℝ →+ EReal) w Finset.univ).symm
  rw [hsum, ← EReal.coe_strictMono.monotone.map_max]
  have hne : ((max (∑ j, w j) f : ℝ) : EReal) ≠ 0 := by
    rw [Ne, EReal.coe_eq_zero]; exact (lt_of_lt_of_le hf0 (le_max_right _ _)).ne'
  unfold Ideal.div
  rw [if_neg hne, ← EReal.coe_inv, ← EReal.coe_mul]
  exact ⟨_, rfl⟩

/-- A guard that swaps the peak only where it is not real does not change the weights. -/
theorem wtAt_guard (mask : ι → BitVec 1) (s : ι → EReal) (hs : ∀ i, mask i = 1#1 → ∃ v : ℝ, s i = (v : EReal)) (m : EReal)
    (hm : ∀ v : ℝ, peak mask s = (v : EReal) → m = (v : EReal)) (i : ι) : wtAt mask s m i = wtAt mask s (peak mask s) i := by
  unfold wtAt
  by_cases hi : mask i = 1#1
  · obtain ⟨p, hp⟩ := peak_real mask s hs i hi
    rw [hm p hp, hp]
  · rw [select_zero hi, select_zero hi]

theorem softAt_guard (mask : ι → BitVec 1) (s : ι → EReal) (hs : ∀ i, mask i = 1#1 → ∃ v : ℝ, s i = (v : EReal)) (m : EReal)
    (hm : ∀ v : ℝ, peak mask s = (v : EReal) → m = (v : EReal)) (i : ι) : softAt mask s m i = soft mask s i := by
  unfold soft softAt
  simp only [wtAt_guard mask s hs m hm]

/-- Attention over an index set that leaves out only masked entries is the same, weight by weight and in the mix. -/
structure Covers (f : ι → κ) (mask : κ → BitVec 1) (s : κ → EReal) (mask' : ι → BitVec 1) (s' : ι → EReal) : Prop where
  inj : Function.Injective f
  hit : ∀ k, mask k = 1#1 → ∃ i, f i = k
  same : ∀ i, mask' i = mask (f i)
  score : ∀ i, mask (f i) = 1#1 → s' i = s (f i)

variable {f : ι → κ} {mask : κ → BitVec 1} {s : κ → EReal} {mask' : ι → BitVec 1} {s' : ι → EReal}

theorem Covers.shown_eq (h : Covers f mask s mask' s') (i : ι) : shown mask' s' i = shown mask s (f i) := by
  unfold shown
  rw [h.same i]
  by_cases hi : mask (f i) = 1#1
  · rw [select_one hi, select_one hi, h.score i hi]
  · rw [select_zero hi, select_zero hi]

theorem Covers.peak_eq (h : Covers f mask s mask' s') : peak mask' s' = peak mask s := by
  refine le_antisymm (peak_le _ _ _ fun i => ?_) (peak_le _ _ _ fun k => ?_)
  · rw [h.shown_eq]; exact shown_le_peak _ _ _
  · by_cases hk : mask k = 1#1
    · obtain ⟨i, rfl⟩ := h.hit k hk
      rw [← h.shown_eq]; exact shown_le_peak _ _ _
    · unfold shown; rw [select_zero hk]; exact bot_le

theorem Covers.wt_eq (h : Covers f mask s mask' s') (m : EReal) (i : ι) : wtAt mask' s' m i = wtAt mask s m (f i) := by
  unfold wtAt; rw [h.shown_eq, h.same]

theorem wtAt_off (mask : κ → BitVec 1) (s : κ → EReal) (m : EReal) (k : κ) (hk : mask k ≠ 1#1) : wtAt mask s m k = 0 := select_zero hk _ _

theorem Covers.soft_eq (h : Covers f mask s mask' s') (i : ι) : soft mask' s' i = soft mask s (f i) := by
  unfold soft softAt
  rw [h.peak_eq, h.wt_eq, Fintype.sum_of_injective f h.inj (fun i => wtAt mask' s' (peak mask s) i) (fun k => wtAt mask s (peak mask s) k)
    (fun k hk => wtAt_off _ _ _ _ fun hm => hk (h.hit k hm)) (fun i => h.wt_eq _ i)]

theorem soft_off (mask : κ → BitVec 1) (s : κ → EReal) (k : κ) (hk : mask k ≠ 1#1) : soft mask s k = 0 := by
  obtain ⟨fl, hf, hf0⟩ := floor_real
  have hne : max (∑ j, wtAt mask s (peak mask s) j) floor ≠ 0 := by
    refine (lt_of_lt_of_le ?_ (le_max_right _ _)).ne'
    rw [hf]; exact_mod_cast hf0
  unfold soft softAt Ideal.div
  rw [wtAt_off _ _ _ _ hk, if_neg hne, zero_mul]

theorem Covers.mix_eq (h : Covers f mask s mask' s') (v : κ → EReal) (v' : ι → EReal) (hv : ∀ i, mask (f i) = 1#1 → v' i = v (f i)) :
    mix mask' s' v' = mix mask s v := by
  unfold mix
  refine Fintype.sum_of_injective f h.inj _ _ (fun k hk => ?_) fun i => ?_
  · rw [soft_off _ _ _ fun hm => hk (h.hit k hm), zero_mul]
  · rw [h.soft_eq]
    by_cases hi : mask (f i) = 1#1
    · rw [hv i hi]
    · rw [soft_off _ _ _ hi, zero_mul, zero_mul]

end Attn

end
-- ==== Proof.AttnPick.lean ====
/-
  Picking the largest of thirty-two values: an element's rank is the number of elements ahead of it, and a stable descending sort puts
  the element of rank `p` at place `p`.
-/
module

public import Idealize.ShloMosaic.Lib.Pointwise
public import Idealize.ShloMosaic.Lib.Tactic
public import Idealize.ShloMosaic.Lib.SortFacts
public import Mathlib.Data.BitVec

@[expose] public section

noncomputable section

open Idealize.ShloMosaic
open scoped BigOperators Classical

namespace Attn

variable {n : ℕ}

/-- `m` comes before `k` in a stable descending order. -/
def Ahead (v : Fin n → EReal) (m k : Fin n) : Prop := v k < v m ∨ (v m = v k ∧ m < k)

/-- How many elements come before `k`. -/
def rank (v : Fin n → EReal) (k : Fin n) : ℕ := (Finset.univ.filter fun m => Ahead v m k).card

theorem ahead_irrefl (v : Fin n → EReal) (k : Fin n) : ¬ Ahead v k k := by
  rintro (h | ⟨_, h⟩) <;> exact lt_irrefl _ h

theorem ahead_asymm (v : Fin n → EReal) (m k : Fin n) (h : Ahead v m k) : ¬ Ahead v k m := by
  rcases h with h | ⟨h, h'⟩
  · rintro (g | ⟨g, _⟩)
    · exact lt_asymm h g
    · exact h.ne g
  · rintro (g | ⟨_, g⟩)
    · exact g.ne h
    · exact lt_asymm h' g

/-- The sort's comparison: larger values first. -/
def gtB (v : Fin n → EReal) (m k : Fin n) : Bool := decide (v k < v m)

theorem pairwise_insert (v : Fin n → EReal) (a : Fin n) (l : List (Fin n)) (hl : l.Pairwise (Ahead v)) (ha : ∀ b ∈ l, a < b) :
    (insertBefore (gtB v) a l).Pairwise (Ahead v) := by
  induction l with
  | nil => exact List.pairwise_singleton _ _
  | cons b l ih =>
    have hb := List.pairwise_cons.1 hl
    unfold insertBefore
    by_cases hba : v a < v b
    · rw [if_pos (by simpa [gtB] using hba)]
      refine List.pairwise_cons.2 ⟨fun c hc => ?_, ih hb.2 fun c hc => ha c (List.mem_cons_of_mem _ hc)⟩
      rcases List.mem_cons.1 ((perm_insertBefore _ a l).mem_iff.1 hc) with rfl | hc
      · exact Or.inl hba
      · exact hb.1 c hc
    · rw [if_neg (by simpa [gtB] using hba)]
      refine List.pairwise_cons.2 ⟨fun c hc => ?_, hl⟩
      have hac := ha c hc
      have hle : v c ≤ v a := by
        rcases List.mem_cons.1 hc with rfl | hc
        · exact not_lt.1 hba
        · rcases hb.1 c hc with h | ⟨h, _⟩
          · exact h.le.trans (not_lt.1 hba)
          · exact h ▸ not_lt.1 hba
      rcases hle.lt_or_eq with h | h
      · exact Or.inl h
      · exact Or.inr ⟨h.symm, hac⟩

theorem pairwise_sort (v : Fin n → EReal) (l : List (Fin n)) (hl : l.Pairwise (· < ·)) : (stableSort (gtB v) l).Pairwise (Ahead v) := by
  induction l with
  | nil => exact List.Pairwise.nil
  | cons a l ih =>
    have h := List.pairwise_cons.1 hl
    unfold stableSort
    exact pairwise_insert v a _ (ih h.2) fun b hb => h.1 b ((perm_stableSort _ l).mem_iff.1 hb)

/-- An earlier place of the sort holds an element ahead of a later place's. -/
theorem sorted_ahead (v : Fin n → EReal) (p q : Fin n) (h : p < q) : Ahead v (sortedFrom (gtB v) p) (sortedFrom (gtB v) q) := by
  have hp := List.pairwise_iff_get.1 (pairwise_sort v (List.finRange n) (List.pairwise_lt_finRange n))
  unfold sortedFrom sortPositions
  exact hp _ _ h

/-- The element at place `q` has rank `q`. -/
theorem rank_sorted (v : Fin n → EReal) (q : Fin n) : rank v (sortedFrom (gtB v) q) = q.val := by
  have hbij : Function.Bijective (sortedFrom (gtB v)) := ⟨sortedFrom_injective _, sortedFrom_surjective _⟩
  have hiff : ∀ p, Ahead v (sortedFrom (gtB v) p) (sortedFrom (gtB v) q) ↔ p < q := by
    intro p
    refine ⟨fun h => ?_, sorted_ahead v p q⟩
    by_contra hn
    rcases (not_lt.1 hn).lt_or_eq with hlt | heq
    · exact ahead_asymm v _ _ h (sorted_ahead v q p hlt)
    · exact ahead_irrefl v _ (heq ▸ h)
  unfold rank
  have hmap : (Finset.univ.filter fun m => Ahead v m (sortedFrom (gtB v) q)) = (Finset.Iio q).map ⟨_, hbij.1⟩ := by
    ext m
    obtain ⟨p, rfl⟩ := hbij.2 m
    simp [hiff, hbij.1.eq_iff]
  rw [hmap, Finset.card_map, Fin.card_Iio]

/-- One term of the count, as a word. -/
def aheadWord (v : Fin n → EReal) (m k : Fin n) : BitVec 32 := if Ahead v m k then 1#32 else 0#32

theorem sum_aheadWord (v : Fin n → EReal) (k : Fin n) : (∑ m, aheadWord v m k) = BitVec.ofNat 32 (rank v k) := by
  have h : ∀ m, aheadWord v m k = if Ahead v m k then (1 : BitVec 32) else 0 := fun m => rfl
  simp only [h, Finset.sum_boole]
  rfl

theorem rank_le (v : Fin n → EReal) (k : Fin n) : rank v k ≤ n := by
  unfold rank
  exact (Finset.card_le_univ _).trans (by simp)

end Attn

end
-- ==== Proof.AttnWords.lean ====
/-
  The integer words of the attention's masks and positions, read as natural numbers.
-/
module

public import proofs.«01_k».proof.Proof.AttnPick

@[expose] public section

set_option maxRecDepth 16384

noncomputable section

open Idealize.ShloMosaic
open scoped BigOperators Classical

namespace Attn

theorem w_add (a b : ℕ) : IntOp.addi (BitVec.ofNat 32 a) (BitVec.ofNat 32 b) = BitVec.ofNat 32 (a + b) := (BitVec.ofNat_add ..).symm

theorem w_mul (a b : ℕ) : IntOp.muli (BitVec.ofNat 32 a) (BitVec.ofNat 32 b) = BitVec.ofNat 32 (a * b) := (BitVec.ofNat_mul ..).symm

theorem w_smul (a b : ℕ) : Scalar.muli (BitVec.ofNat 32 a) (BitVec.ofNat 32 b) = BitVec.ofNat 32 (a * b) := (BitVec.ofNat_mul ..).symm

/-- A number below 2^31 is its word's signed value. -/
theorem w_toInt (a : ℕ) (h : a < 2147483648) : (BitVec.ofNat 32 a).toInt = a := by
  rw [BitVec.toInt_eq_toNat_cond]
  simp only [BitVec.toNat_ofNat]
  omega

theorem w_sle (a b : ℕ) (ha : a < 2147483648) (hb : b < 2147483648) :
    IntOp.cmpi .sle (BitVec.ofNat 32 a) (BitVec.ofNat 32 b) = BitVec.ofBool (decide (a ≤ b)) := by
  show BitVec.ofBool (BitVec.sle _ _) = _
  congr 1
  rw [BitVec.sle, w_toInt a ha, w_toInt b hb]
  simp

theorem w_slt (a b : ℕ) (ha : a < 2147483648) (hb : b < 2147483648) :
    IntOp.cmpi .slt (BitVec.ofNat 32 a) (BitVec.ofNat 32 b) = BitVec.ofBool (decide (a < b)) := by
  show BitVec.ofBool (BitVec.slt _ _) = _
  congr 1
  rw [BitVec.slt, w_toInt a ha, w_toInt b hb]
  simp

theorem w_sgt (a b : ℕ) (ha : a < 2147483648) (hb : b < 2147483648) :
    IntOp.cmpi .sgt (BitVec.ofNat 32 a) (BitVec.ofNat 32 b) = BitVec.ofBool (decide (b < a)) := w_slt b a hb ha

theorem w_eq (a b : ℕ) (ha : a < 4294967296) (hb : b < 4294967296) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  refine ⟨fun h => ?_, fun h => h ▸ rfl⟩
  have := congrArg BitVec.toNat h
  simp only [BitVec.toNat_ofNat] at this
  omega

/-- "Later than 512 before": the difference may be negative. -/
theorem w_window (a b : ℕ) (ha : a < 1073741824) (hb : b < 1073741824) :
    IntOp.cmpi .sgt (BitVec.ofNat 32 a) (IntOp.subi (BitVec.ofNat 32 b) 512#32) = BitVec.ofBool (decide (b < a + 512)) := by
  show BitVec.ofBool (BitVec.slt _ _) = _
  congr 1
  have h : (IntOp.subi (BitVec.ofNat 32 b) 512#32).toInt = (b : ℤ) - 512 := by
    show (BitVec.ofNat 32 b - 512#32).toInt = _
    rw [BitVec.toInt_eq_toNat_cond]
    simp only [BitVec.toNat_sub, BitVec.toNat_ofNat]
    omega
  rw [BitVec.slt, w_toInt a (by omega), h]
  simp only [decide_eq_decide]
  omega

theorem and_bits (p q : Prop) [Decidable p] [Decidable q] :
    IntOp.andi (BitVec.ofBool (decide p)) (BitVec.ofBool (decide q)) = BitVec.ofBool (decide (p ∧ q)) := by
  by_cases p <;> by_cases q <;> simp [*] <;> rfl

theorem or_bits (p q : Prop) [Decidable p] [Decidable q] :
    IntOp.ori (BitVec.ofBool (decide p)) (BitVec.ofBool (decide q)) = BitVec.ofBool (decide (p ∨ q)) := by
  by_cases p <;> by_cases q <;> simp [*] <;> rfl

theorem select_bit {α : Type} (p : Prop) [Decidable p] (a b : α) : Scalar.select (BitVec.ofBool (decide p)) a b = if p then a else b := by
  by_cases p <;> simp [*] <;> rfl

theorem bit_one (p : Prop) [Decidable p] : BitVec.ofBool (decide p) = 1#1 ↔ p := by
  by_cases p <;> simp [*]

/-- The kernel's floored quotient by 64, its sign corrections included. -/
def floorDiv (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (1#32) (Scalar.extui (Scalar.cmpi .slt 64#32 0#32))))
      (IntOp.cmpi .ne (IntOp.remsi ArithUnit.vector w 64#32) 0#32))
    (IntOp.subi (IntOp.divsi ArithUnit.vector w 64#32) 1#32)
    (IntOp.divsi ArithUnit.vector w 64#32)

theorem floorDiv_eq : ∀ t : Fin 2048, floorDiv (BitVec.ofNat 32 t.val) = BitVec.ofNat 32 (t.val / 64) := by
  decide +kernel

/-- Whether block `n` is always taken by a query in block `cur`. -/
def Forced (n cur : ℕ) : Prop := n = 0 ∨ n = cur ∨ n + 1 = cur

instance (n cur : ℕ) : Decidable (Forced n cur) := inferInstanceAs (Decidable (_ ∨ _))

theorem forced_eq : ∀ n cur : Fin 32,
    IntOp.ori (IntOp.ori (IntOp.cmpi .eq (BitVec.ofNat 32 n.val) 0#32) (IntOp.cmpi .eq (BitVec.ofNat 32 n.val) (BitVec.ofNat 32 cur.val)))
      (IntOp.cmpi .eq (BitVec.ofNat 32 n.val) (IntOp.subi (BitVec.ofNat 32 cur.val) 1#32))
    = BitVec.ofBool (decide (Forced n.val cur.val)) := by
  decide +kernel

/-- The window's first key. -/
theorem start_eq : ∀ i : Fin 16, Scalar.maxsi (Scalar.subi (BitVec.ofNat 32 (i.val * 128)) 512#32) 0#32 = BitVec.ofNat 32 (i.val * 128 - 512) := by
  decide +kernel

/-- One comparison of the rank's count. -/
theorem ahead_word (v : Fin 32 → EReal) (m n : Fin 32) :
    BitVec.setWidth 32 (IntOp.ori (BitVec.ofBool (decide (v n < v m))) (IntOp.andi (BitVec.ofBool (decide (v m = v n)))
      (IntOp.cmpi .sgt (BitVec.ofNat 32 n.val) (BitVec.ofNat 32 m.val)))) = aheadWord v m n := by
  rw [w_sgt _ _ (by omega) (by omega), and_bits, or_bits]
  unfold aheadWord Ahead
  by_cases h : v n < v m ∨ v m = v n ∧ m < n
  · rw [if_pos h, decide_eq_true (by simpa using h)]; rfl
  · rw [if_neg h, decide_eq_false (by simpa using h)]; rfl

end Attn

end
-- ==== Proof.AttnModel.lean ====
/-
  Native sparse attention for one query: its three branches and their gated sum, as equations over the extended reals.
-/
module

public import proofs.«01_k».proof.Proof.AttnSpec
public import proofs.«01_k».proof.Proof.AttnWords

@[expose] public section

noncomputable section

open Idealize.ShloMosaic
open scoped BigOperators Classical

namespace Attn

/-- The score of a query against a key. -/
def dot (a b : Fin 64 → EReal) : EReal := ∑ x, a x * b x

theorem dot_real (a b : Fin 64 → EReal) (ha : ∀ x, ∃ v : ℝ, a x = (v : EReal)) (hb : ∀ x, ∃ v : ℝ, b x = (v : EReal)) : ∃ v : ℝ, dot a b = (v : EReal) := by
  choose u hu using ha
  choose w hw using hb
  refine ⟨∑ x, u x * w x, ?_⟩
  unfold dot
  simp only [hu, hw, ← EReal.coe_mul]
  exact (map_sum (⟨⟨Real.toEReal, rfl⟩, EReal.coe_add⟩ : ℝ →+ EReal) (fun x => u x * w x) Finset.univ).symm

/-- The compressed keys a query at `t` sees: those whose last token is not later. -/
def cmask (t : ℕ) (c : Fin 128) : BitVec 1 := BitVec.ofBool (decide (c.val * 16 + 31 ≤ t))

/-- The keys of the sliding window. -/
def wmask (t : ℕ) (k : Fin 2048) : BitVec 1 := BitVec.ofBool (decide (k.val ≤ t ∧ t < k.val + 512))

/-- How far compressed block `c` overlaps selection block `n`, as a share of a compressed block. -/
def overlap (c n : ℕ) : EReal :=
  Ideal.div (FloatOps.sitofp (F := Ideal) (φ := .f32)
    (IntOp.maxsi
      (IntOp.subi
        (IntOp.minsi (BitVec.ofNat 32 (c * 16 + 32)) (BitVec.ofNat 32 (n * 64 + 64)))
        (IntOp.maxsi (BitVec.ofNat 32 (c * 16)) (BitVec.ofNat 32 (n * 64)))) 0#32)) (Ideal.ofBits .f32 0x42000000#32)

section
variable (q : Fin 4 → Fin 64 → EReal) (kc vc : Fin 128 → Fin 64 → EReal) (ks vs kw vw : Fin 2048 → Fin 64 → EReal)
  (gate : Fin 4 → Fin 3 → EReal) (t : ℕ)

/-- The compressed branch's weights. -/
def pcmp (g : Fin 4) (c : Fin 128) : EReal := soft (cmask t) (fun c => dot (q g) (kc c)) c

/-- A selection block's importance. -/
def imp (n : Fin 32) : EReal := ∑ c : Fin 128, (∑ g, pcmp q kc t g c) * overlap c.val n.val

/-- A selection block's place value: the forced blocks first, the later blocks last. -/
def score (n : Fin 32) : EReal := if Forced n.val (t / 64) then ⊤ else if t / 64 < n.val then ⊥ else imp q kc t n

/-- The keys of the sixteen blocks taken, up to the query. -/
def smask (k : Fin 2048) : BitVec 1 :=
  BitVec.ofBool (decide (rank (score q kc t) ⟨k.val / 64, by omega⟩ < 16 ∧ k.val ≤ t))

/-- The three branches, gated and added. -/
def out (g : Fin 4) (d : Fin 64) : EReal :=
  gate g 0 * mix (cmask t) (fun c => dot (q g) (kc c)) (fun c => vc c d)
    + gate g 1 * mix (smask q kc t) (fun k => dot (q g) (ks k)) (fun k => vs k d)
    + gate g 2 * mix (wmask t) (fun k => dot (q g) (kw k)) (fun k => vw k d)

end

end Attn

end
-- ==== Proof.AttnBody.lean ====
/-
  The attention kernel's body on abstract blocks: scores, softmax, mix, importance, rank, masks and gates at an index.
-/
module

public import proofs.«01_k».proof.Proof.Gen.AttnIdeal.Value
public import proofs.«01_k».proof.Proof.AttnModel
public import Idealize.ShloMosaic.Lib.Pipeline.ValueKit
public import Idealize.ShloMosaic.Lib.Claim

@[expose] public section

set_option maxRecDepth 16384

noncomputable section

open Idealize.ShloMosaic Idealize.ShloMosaic.TcCoe
open scoped BigOperators

namespace Cert.AttnIdeal.Body

open Cert.AttnIdeal Cert.AttnIdeal.Gen

/-- A real value less itself is zero. -/
theorem sub_self_real (x : EReal) (h : ∃ v : ℝ, x = (v : EReal)) : x - x = 0 := by
  obtain ⟨v, rfl⟩ := h
  rw [← EReal.coe_sub, _root_.sub_self]; rfl

theorem mask_bot : (Named.named (F := Ideal) κ "mask" 0xF149F2CA#32 : Ideal .f32) = (⊥ : EReal) := by
  rfl

/-! ## Scores, weights and the mix -/

theorem scores_apply (q k : FVec Ideal S128x64 .f32) (M : IVec S128x128 1) (hq : ∀ r x, ∃ v : ℝ, @Eq EReal (q (ix2 r x)) (v : EReal))
    (hk : ∀ c x, ∃ v : ℝ, @Eq EReal (k (ix2 c x)) (v : EReal)) (r c : Fin 128) :
    k0_pay20 (F := Ideal) q k M (ix2 r c)
      = Attn.shown (fun c => M (ix2 r c)) (fun c => Attn.dot (fun x => q (ix2 r x)) (fun x => k (ix2 c x))) c := by
  have hq0 : ∀ x, @Eq EReal (q (ix2 r x) - q (ix2 r x)) 0 := fun x => sub_self_real _ (hq r x)
  have hk0 : ∀ x, @Eq EReal (k (ix2 c x) - k (ix2 c x)) 0 := fun x => sub_self_real _ (hk c x)
  unfold Attn.shown Attn.dot
  pointwise [k0_pay20]
  simp only [hq0, hk0, mul_zero, zero_mul, Finset.sum_const_zero, add_zero, mask_bot]

theorem weights_apply (M : IVec S128x128 1) (s : FVec Ideal S128x128 .f32) (r : Fin 128) (sc : Fin 128 → EReal)
    (hs : ∀ c, @Eq EReal (s (ix2 r c)) (Attn.shown (fun c => M (ix2 r c)) sc c)) (c : Fin 128) :
    k0_pay21 (F := Ideal) M s (ix2 r c) = Attn.soft (fun c => M (ix2 r c)) sc c := by
  unfold Attn.soft Attn.softAt Attn.wtAt Attn.peak Attn.floor
  pointwise [k0_pay21]
  simp only [hs, Attn.bits_ninf]

theorem cmp_apply (M : IVec S128x128 1) (q k : FVec Ideal S128x64 .f32) (v : FVec Ideal S128x64 .bf16)
    (hq : ∀ r x, ∃ v : ℝ, @Eq EReal (q (ix2 r x)) (v : EReal)) (hk : ∀ c x, ∃ v : ℝ, @Eq EReal (k (ix2 c x)) (v : EReal)) (r : Fin 128) (d : Fin 64) :
    k0_pay22 (F := Ideal) v M (k0_pay20 (F := Ideal) q k M) (ix2 r d)
      = Attn.mix (fun c => M (ix2 r c)) (fun c => Attn.dot (fun x => q (ix2 r x)) (fun x => k (ix2 c x))) (fun c => v (ix2 c d)) := by
  have hw := weights_apply M _ r _ (scores_apply q k M hq hk r)
  unfold Attn.mix
  simp only [← hw]
  pointwise [k0_pay22]

theorem slc_apply (M : IVec S128x2048 1) (q : FVec Ideal S128x64 .f32) (k v : FVec Ideal S2048x64 .bf16) (r : Fin 128) (d : Fin 64) :
    k0_pay86 (F := Ideal) q M k v (ix2 r d)
      = Attn.mix (fun c => M (ix2 r c)) (fun c => Attn.dot (fun x => q (ix2 r x)) (fun x => k (ix2 c x))) (fun c => v (ix2 c d)) := by
  unfold Attn.mix Attn.soft Attn.softAt Attn.wtAt Attn.peak Attn.shown Attn.dot Attn.floor
  pointwise [k0_pay86, k0_pay85]
  simp only [mask_bot, Attn.bits_ninf]

theorem win_apply (T : BitVec 32) (q : FVec Ideal S128x64 .f32) (k v : FVec Ideal S640x64 .bf16) (r : Fin 128) (d : Fin 64) :
    k0_pay60 (F := Ideal) q k v (k0_pay53 T) (k0_pay54 T) (k0_pay55 T) k0_pay56 (ix2 r d)
      = Attn.mix (fun c => k0_pay57 (k0_pay53 T) (k0_pay54 T) (k0_pay55 T) k0_pay56 (ix2 r c))
          (fun c => Attn.dot (fun x => q (ix2 r x)) (fun x => k (ix2 c x))) (fun c => v (ix2 c d)) := by
  generalize k0_pay53 T = a; generalize k0_pay54 T = b; generalize k0_pay55 T = c; generalize k0_pay56 = e
  unfold Attn.mix Attn.soft Attn.softAt Attn.wtAt Attn.peak Attn.shown Attn.dot Attn.floor
  pointwise [k0_pay60, k0_pay58]
  simp only [mask_bot, Attn.bits_ninf]

/-! ## Masks -/

theorem cmask_apply (i : grid0.Coords) (r c : Fin 128) : k0_pay8 i (ix2 r c) = Attn.cmask ((i 2).val * 128 + r.val) c := by
  have h : (i 2).val < 16 := (i 2).isLt
  unfold Attn.cmask
  pointwise [k0_pay8]
  rw [Attn.w_smul, Attn.w_mul, Attn.w_add, Attn.w_add, Attn.w_sle _ _ (by omega) (by omega)]

theorem wmask_apply (i : Fin 16) (r : Fin 128) (c : Fin 640) :
    k0_pay57 (k0_pay53 (BitVec.ofNat 32 (i.val * 128))) (k0_pay54 (BitVec.ofNat 32 (i.val * 128))) (k0_pay55 (BitVec.ofNat 32 (i.val * 128))) k0_pay56 (ix2 r c)
      = BitVec.ofBool (decide (i.val * 128 - 512 + c.val ≤ i.val * 128 + r.val ∧ i.val * 128 + r.val < i.val * 128 - 512 + c.val + 512)) := by
  have h : i.val < 16 := i.isLt
  pointwise [k0_pay57, k0_pay53, k0_pay54, k0_pay55, k0_pay56]
  rw [Attn.start_eq i, Attn.w_add, Attn.w_add, Attn.w_sle _ _ (by omega) (by omega), Attn.w_window _ _ (by omega) (by omega), Attn.and_bits]

/-! ## The blocks' importance and rank -/

theorem imp_apply (M : IVec S128x128 1) (p s : FVec Ideal S128x128 .f32) (ov : FVec Ideal S128x32 .bf16) (r : Fin 128) (P : Fin 128 → EReal)
    (hp : ∀ c, @Eq EReal (p (ix2 r c) + k0_pay21 (F := Ideal) M s (ix2 r c)) (P c)) (hP : ∀ c, ∃ v : ℝ, P c = (v : EReal)) (n : Fin 32) :
    k0_pay23 (F := Ideal) M p s ov (ix2 r n) = ∑ c, P c * ov (ix2 c n) := by
  have h0 : ∀ c, P c - P c = 0 := fun c => sub_self_real _ (hP c)
  pointwise [k0_pay23]
  simp only [hp, h0, zero_mul, Finset.sum_const_zero, add_zero]
  have h00 : (0 : EReal) - 0 = 0 := by simp
  simp only [h00, zero_mul, Finset.sum_const_zero, add_zero]

/-- The block numbers. -/
abbrev BLK : IVec S128x32 32 := iota .tc S128x32 32 [1] iota_S128x32_d1_w32

theorem score_apply (i : Fin 16) (v : FVec Ideal S128x32 .f32) (r : Fin 128) (n : Fin 32) :
    k0_pay27 (F := Ideal) v BLK (k0_pay24 (BitVec.ofNat 32 (i.val * 128))) 64#32 (k0_pay25 (BitVec.ofNat 32 (i.val * 128))) (k0_pay26 (BitVec.ofNat 32 (i.val * 128)))
        1#32 0#32 (ix2 r n)
      = if Attn.Forced n.val ((i.val * 128 + r.val) / 64) then (⊤ : EReal) else if (i.val * 128 + r.val) / 64 < n.val then (⊥ : EReal) else v (ix2 r n) := by
  have h : i.val < 16 := i.isLt
  have hf := Attn.floorDiv_eq ⟨i.val * 128 + r.val, by omega⟩
  unfold Attn.floorDiv at hf
  have hF := Attn.forced_eq n ⟨(i.val * 128 + r.val) / 64, by omega⟩
  have htop : Ideal.ofBits .f32 0x7F800000#32 = ⊤ := by simp [Ideal.ofBits, Ideal.ieee]
  pointwise [k0_pay27, k0_pay24, k0_pay25, k0_pay26]
  rw [Attn.w_add, hf, hF, Attn.w_sgt _ _ (by omega) (by omega), Attn.select_bit, Attn.select_bit, htop, Attn.bits_ninf]

section rank
variable (S : FVec Ideal S128x32 .f32) (r : Fin 128) (n : Fin 32)

/-- One comparison word of row `r`. -/
abbrev aw (m : Fin 32) : BitVec 32 := Attn.aheadWord (fun n => S (ix2 r n)) m n

theorem rank31 (R : IVec S128x32 32) (a : FVec Ideal S128x1 .f32) (b : FVec Ideal S128x32 .f32) (ha : a (ix2 r 0) = S (ix2 r 2)) (hb : b (ix2 r n) = S (ix2 r 2)) :
    k0_pay31 (F := Ideal) BLK S R a b (ix2 r n)
      = R (ix2 r n) + aw S r n 2 + aw S r n 3 + aw S r n 4 + aw S r n 5 + aw S r n 6 := by
  simp only [aw, ← Attn.ahead_word]
  pointwise [k0_pay31]
  rw [ha, hb]
  rfl

theorem rank34 (R : IVec S128x32 32) (a : FVec Ideal S128x1 .f32) (b : FVec Ideal S128x32 .f32) (ha : a (ix2 r 0) = S (ix2 r 7)) (hb : b (ix2 r n) = S (ix2 r 7)) :
    k0_pay34 (F := Ideal) BLK S R a b (ix2 r n)
      = R (ix2 r n) + aw S r n 7 + aw S r n 8 + aw S r n 9 + aw S r n 10 + aw S r n 11 := by
  simp only [aw, ← Attn.ahead_word]
  pointwise [k0_pay34]
  rw [ha, hb]
  rfl

theorem rank37 (R : IVec S128x32 32) (a : FVec Ideal S128x1 .f32) (b : FVec Ideal S128x32 .f32) (ha : a (ix2 r 0) = S (ix2 r 12)) (hb : b (ix2 r n) = S (ix2 r 12)) :
    k0_pay37 (F := Ideal) BLK S R a b (ix2 r n)
      = R (ix2 r n) + aw S r n 12 + aw S r n 13 + aw S r n 14 + aw S r n 15 + aw S r n 16 := by
  simp only [aw, ← Attn.ahead_word]
  pointwise [k0_pay37]
  rw [ha, hb]
  rfl

theorem rank40 (R : IVec S128x32 32) (a : FVec Ideal S128x1 .f32) (b : FVec Ideal S128x32 .f32) (ha : a (ix2 r 0) = S (ix2 r 17)) (hb : b (ix2 r n) = S (ix2 r 17)) :
    k0_pay40 (F := Ideal) BLK S R a b (ix2 r n)
      = R (ix2 r n) + aw S r n 17 + aw S r n 18 + aw S r n 19 + aw S r n 20 + aw S r n 21 := by
  simp only [aw, ← Attn.ahead_word]
  pointwise [k0_pay40]
  rw [ha, hb]
  rfl

theorem rank43 (R : IVec S128x32 32) (a : FVec Ideal S128x1 .f32) (b : FVec Ideal S128x32 .f32) (ha : a (ix2 r 0) = S (ix2 r 22)) (hb : b (ix2 r n) = S (ix2 r 22)) :
    k0_pay43 (F := Ideal) BLK S R a b (ix2 r n)
      = R (ix2 r n) + aw S r n 22 + aw S r n 23 + aw S r n 24 + aw S r n 25 + aw S r n 26 := by
  simp only [aw, ← Attn.ahead_word]
  pointwise [k0_pay43]
  rw [ha, hb]
  rfl

theorem rank46 (R : IVec S128x32 32) (a : FVec Ideal S128x1 .f32) (b : FVec Ideal S128x32 .f32) (ha : a (ix2 r 0) = S (ix2 r 27)) (hb : b (ix2 r n) = S (ix2 r 27)) :
    k0_pay46 (F := Ideal) BLK S R a b (ix2 r n)
      = R (ix2 r n) + aw S r n 27 + aw S r n 28 + aw S r n 29 + aw S r n 30 + aw S r n 31 := by
  simp only [aw, ← Attn.ahead_word]
  pointwise [k0_pay46]
  rw [ha, hb]
  rfl

/-- The rank of every block, counted by the kernel's comparisons. -/
def ranks (v : FVec Ideal S128x32 .f32) (T : BitVec 32) : IVec S128x32 32 :=
  let S := k0_pay27 (F := Ideal) v BLK (k0_pay24 T) 64#32 (k0_pay25 T) (k0_pay26 T) 1#32 0#32
  let R28 := k0_pay28 (F := Ideal) v BLK (k0_pay24 T) 64#32 (k0_pay25 T) (k0_pay26 T) 1#32 0#32
  let R31 := k0_pay31 (F := Ideal) BLK S R28 (k0_pay29 (F := Ideal) v BLK (k0_pay24 T) 64#32 (k0_pay25 T) (k0_pay26 T) 1#32 0#32)
    (k0_pay30 (F := Ideal) v BLK (k0_pay24 T) 64#32 (k0_pay25 T) (k0_pay26 T) 1#32 0#32)
  let R34 := k0_pay34 (F := Ideal) BLK S R31 (k0_pay32 S) (k0_pay33 S)
  let R37 := k0_pay37 (F := Ideal) BLK S R34 (k0_pay35 S) (k0_pay36 S)
  let R40 := k0_pay40 (F := Ideal) BLK S R37 (k0_pay38 S) (k0_pay39 S)
  let R43 := k0_pay43 (F := Ideal) BLK S R40 (k0_pay41 S) (k0_pay42 S)
  k0_pay46 (F := Ideal) BLK S R43 (k0_pay44 S) (k0_pay45 S)

theorem ranks_apply (v : FVec Ideal S128x32 .f32) (T : BitVec 32) (sc : Fin 32 → EReal)
    (hS : ∀ n, @Eq EReal (k0_pay27 (F := Ideal) v BLK (k0_pay24 T) 64#32 (k0_pay25 T) (k0_pay26 T) 1#32 0#32 (ix2 r n)) (sc n)) :
    ranks v T (ix2 r n) = BitVec.ofNat 32 (Attn.rank sc n) := by
  have hsc : (fun n => k0_pay27 (F := Ideal) v BLK (k0_pay24 T) 64#32 (k0_pay25 T) (k0_pay26 T) 1#32 0#32 (ix2 r n)) = sc := funext hS
  have h28 : k0_pay28 (F := Ideal) v BLK (k0_pay24 T) 64#32 (k0_pay25 T) (k0_pay26 T) 1#32 0#32 (ix2 r n)
      = Attn.aheadWord sc 0 n + Attn.aheadWord sc 1 n := by
    rw [← hsc, ← Attn.ahead_word, ← Attn.ahead_word]
    pointwise [k0_pay28]
    exact congrArg (· + _) (BitVec.zero_add _)
  have h29 : k0_pay29 (F := Ideal) v BLK (k0_pay24 T) 64#32 (k0_pay25 T) (k0_pay26 T) 1#32 0#32 (ix2 r 0)
      = k0_pay27 (F := Ideal) v BLK (k0_pay24 T) 64#32 (k0_pay25 T) (k0_pay26 T) 1#32 0#32 (ix2 r 2) := by
    pointwise [k0_pay29]
  have h30 : k0_pay30 (F := Ideal) v BLK (k0_pay24 T) 64#32 (k0_pay25 T) (k0_pay26 T) 1#32 0#32 (ix2 r n)
      = k0_pay27 (F := Ideal) v BLK (k0_pay24 T) 64#32 (k0_pay25 T) (k0_pay26 T) 1#32 0#32 (ix2 r 2) := by
    pointwise [k0_pay30, k0_pay29]
  unfold ranks
  generalize k0_pay27 (F := Ideal) v BLK (k0_pay24 T) 64#32 (k0_pay25 T) (k0_pay26 T) 1#32 0#32 = S at *
  have h32 : k0_pay32 S (ix2 r 0) = S (ix2 r 7) := by pointwise [k0_pay32]
  have h33 : k0_pay33 S (ix2 r n) = S (ix2 r 7) := by pointwise [k0_pay33, k0_pay32]
  have h35 : k0_pay35 S (ix2 r 0) = S (ix2 r 12) := by pointwise [k0_pay35]
  have h36 : k0_pay36 S (ix2 r n) = S (ix2 r 12) := by pointwise [k0_pay36, k0_pay35]
  have h38 : k0_pay38 S (ix2 r 0) = S (ix2 r 17) := by pointwise [k0_pay38]
  have h39 : k0_pay39 S (ix2 r n) = S (ix2 r 17) := by pointwise [k0_pay39, k0_pay38]
  have h41 : k0_pay41 S (ix2 r 0) = S (ix2 r 22) := by pointwise [k0_pay41]
  have h42 : k0_pay42 S (ix2 r n) = S (ix2 r 22) := by pointwise [k0_pay42, k0_pay41]
  have h44 : k0_pay44 S (ix2 r 0) = S (ix2 r 27) := by pointwise [k0_pay44]
  have h45 : k0_pay45 S (ix2 r n) = S (ix2 r 27) := by pointwise [k0_pay45, k0_pay44]
  rw [rank46 S r n _ _ _ h44 h45, rank43 S r n _ _ _ h41 h42, rank40 S r n _ _ _ h38 h39, rank37 S r n _ _ _ h35 h36, rank34 S r n _ _ _ h32 h33,
    rank31 S r n _ _ _ h29 h30, h28, ← Attn.sum_aheadWord]
  simp only [aw, hsc]
  simp only [Fin.sum_univ_castSucc, Finset.univ_eq_empty, Finset.sum_empty, zero_add]
  rfl

end rank

/-- The selection's mask: a key's block is among the sixteen taken, and the key is not later than the query. -/
theorem smask_apply (i : Fin 16) (R : IVec S128x32 32) (ex : FVec Ideal S32x2048 .bf16) (r : Fin 128) (sc : Fin 32 → EReal)
    (hR : ∀ n, R (ix2 r n) = BitVec.ofNat 32 (Attn.rank sc n)) (hex : ∀ n k, @Eq EReal (ex (ix2 n k)) (if n.val = k.val / 64 then 1 else 0)) (k : Fin 2048) :
    k0_pay48 (F := Ideal) (BitVec.ofNat 32 (i.val * 128)) R k0_pay47 ex (ix2 r k)
      = BitVec.ofBool (decide (Attn.rank sc ⟨k.val / 64, by omega⟩ < 16 ∧ k.val ≤ i.val * 128 + r.val)) := by
  have h : i.val < 16 := i.isLt
  have hb : ∀ n : Fin 32, Attn.rank sc n ≤ 32 := Attn.rank_le sc
  have hhalf : Ideal.ofBits .f32 0x3F000000#32 = ((2⁻¹ : ℝ) : EReal) := by
    simp [Ideal.ofBits, Ideal.ieee]
    rw [← EReal.coe_mul]; norm_num
  pointwise [k0_pay48, k0_pay47]
  simp only [hR, hex]
  have hs : (∑ x : Fin 32, Scalar.select (IntOp.cmpi .slt (BitVec.ofNat 32 (Attn.rank sc x)) 16#32) (if x.val = k.val / 64 then (1 : EReal) else 0) 0)
      = if Attn.rank sc ⟨k.val / 64, by omega⟩ < 16 then 1 else 0 := by
    rw [Finset.sum_eq_single (⟨k.val / 64, by omega⟩ : Fin 32)]
    · rw [Attn.w_slt _ _ (by have := hb ⟨k.val / 64, by omega⟩; omega) (by omega), Attn.select_bit, if_pos rfl]
    · intro x _ hx
      rw [if_neg fun hv => hx (Fin.ext hv)]
      unfold Scalar.select
      split <;> rfl
    · intro hn; exact absurd (Finset.mem_univ _) hn
  rw [hs, Attn.w_add, Attn.w_sle _ _ (by omega) (by omega), Attn.and_bits, hhalf]
  congr 2
  by_cases hr : Attn.rank sc ⟨k.val / 64, by omega⟩ < 16
  · have : ((2⁻¹ : ℝ) : EReal) < 1 := by rw [← EReal.coe_one, EReal.coe_lt_coe_iff]; norm_num
    simp [hr, this]
  · have : ¬ ((2⁻¹ : ℝ) : EReal) < 0 := by rw [← EReal.coe_zero, EReal.coe_lt_coe_iff]; norm_num
    simp [hr, this]

/-! ## The gates -/

/-- A column of the gates, picked by the head. -/
theorem pick (H : Fin 4) (f : Fin 4 → EReal) :
    Scalar.select (Scalar.cmpi .eq (BitVec.ofNat 32 H.val) 3#32) (f 3)
      (Scalar.select (Scalar.cmpi .eq (BitVec.ofNat 32 H.val) 2#32) (f 2)
        (Scalar.select (Scalar.cmpi .eq (BitVec.ofNat 32 H.val) 1#32) (f 1)
          (Scalar.select (Scalar.cmpi .eq (BitVec.ofNat 32 H.val) 0#32) (f 0) 0))) = f H := by
  fin_cases H <;> rfl

/-- The gate of branch `b` for query group `g` of head `H`, in row `r` of the gates' block. -/
def gate (x7 : FVec Ideal S128x128 .f32) (H : Fin 4) (r : Fin 128) (g : Fin 4) (b : Fin 3) : EReal :=
  x7 (ix2 r ⟨H.val * 12 + g.val * 3 + b.val, by omega⟩)

variable (H : Fin 4) (x7 : FVec Ideal S128x128 .f32) (r : Fin 128) (d : Fin 64)

theorem gates0 (a b c : FVec Ideal S128x64 .f32) :
    k0_pay63 (F := Ideal) (BitVec.ofNat 32 H.val) x7 a b c k0_pay61 (k0_pay62 (BitVec.ofNat 32 H.val) x7) (ix2 r d)
      = gate x7 H r 0 0 * a (ix2 r d) + gate x7 H r 0 1 * b (ix2 r d) + gate x7 H r 0 2 * c (ix2 r d) := by
  rw [← pick H fun H => gate x7 H r 0 0, ← pick H fun H => gate x7 H r 0 1, ← pick H fun H => gate x7 H r 0 2]
  pointwise [k0_pay63, k0_pay61, k0_pay62]
  rfl

theorem gates1 (a b c : FVec Ideal S128x64 .f32) :
    k0_pay74 (F := Ideal) (BitVec.ofNat 32 H.val) x7 a b c (k0_pay70 (BitVec.ofNat 32 H.val) x7) (k0_pay71 (BitVec.ofNat 32 H.val) x7)
        (k0_pay72 (BitVec.ofNat 32 H.val) x7) (Scalar.cmpi .eq (BitVec.ofNat 32 H.val) 1#32) (k0_pay73 x7) (ix2 r d)
      = gate x7 H r 1 0 * a (ix2 r d) + gate x7 H r 1 1 * b (ix2 r d) + gate x7 H r 1 2 * c (ix2 r d) := by
  rw [← pick H fun H => gate x7 H r 1 0, ← pick H fun H => gate x7 H r 1 1, ← pick H fun H => gate x7 H r 1 2]
  pointwise [k0_pay74, k0_pay70, k0_pay71, k0_pay72, k0_pay73, k0_pay69]
  rfl

theorem gates2 (a b c : FVec Ideal S128x64 .f32) :
    k0_pay84 (F := Ideal) (BitVec.ofNat 32 H.val) x7 a b c (k0_pay81 (BitVec.ofNat 32 H.val) x7) (k0_pay82 (BitVec.ofNat 32 H.val) x7)
        (k0_pay83 (BitVec.ofNat 32 H.val) x7) (Scalar.cmpi .eq (BitVec.ofNat 32 H.val) 2#32) (ix2 r d)
      = gate x7 H r 2 0 * a (ix2 r d) + gate x7 H r 2 1 * b (ix2 r d) + gate x7 H r 2 2 * c (ix2 r d) := by
  rw [← pick H fun H => gate x7 H r 2 0, ← pick H fun H => gate x7 H r 2 1, ← pick H fun H => gate x7 H r 2 2]
  pointwise [k0_pay84, k0_pay81, k0_pay82, k0_pay83, k0_pay80]
  rfl

/-- The four groups side by side, the last one gated here. -/
theorem last_apply (a b c o0 o1 o2 : FVec Ideal S128x64 .f32) (g : Fin 4) (col : ℕ) (hl : col < 256) (hcol : col = g.val * 64 + d.val) :
    k0_pay1 (F := Ideal) (BitVec.ofNat 32 H.val) x7 a o0 o1 o2 b c (k0_pay91 (BitVec.ofNat 32 H.val) x7) (k0_pay92 (BitVec.ofNat 32 H.val) x7)
        (k0_pay93 (BitVec.ofNat 32 H.val) x7) 3#32 (ix2 r ⟨col, hl⟩)
      = match g with
        | 0 => o0 (ix2 r d)
        | 1 => o1 (ix2 r d)
        | 2 => o2 (ix2 r d)
        | 3 => gate x7 H r 3 0 * a (ix2 r d) + gate x7 H r 3 1 * b (ix2 r d) + gate x7 H r 3 2 * c (ix2 r d) := by
  rw [← pick H fun H => gate x7 H r 3 0, ← pick H fun H => gate x7 H r 3 1, ← pick H fun H => gate x7 H r 3 2]
  pointwise [k0_pay1, k0_pay91, k0_pay92, k0_pay93, k0_pay90]
  have hd : d.val < 64 := d.isLt
  have e : ∀ (f : FVec Ideal S128x64 .f32) (n : Nat) (h : n < 64), n = d.val → f (ix2 r ⟨n, h⟩) = f (ix2 r d) := by
    intro f n h hn; subst hn; rfl
  fin_cases g
  · have hc : col = 0 * 64 + d.val := hcol
    rw [dif_pos (by omega)]
    exact e _ _ _ (by omega)
  · have hc : col = 1 * 64 + d.val := hcol
    rw [dif_neg (by omega), dif_pos (by omega)]
    exact e _ _ _ (by omega)
  · have hc : col = 2 * 64 + d.val := hcol
    rw [dif_neg (by omega), dif_neg (by omega), dif_pos (by omega)]
    exact e _ _ _ (by omega)
  · have hc : col = 3 * 64 + d.val := hcol
    rw [dif_neg (by omega), dif_neg (by omega), dif_neg (by omega), e a (col - 64 - 64 - 64) _ (by omega), e b (col - 64 - 64 - 64) _ (by omega),
      e c (col - 64 - 64 - 64) _ (by omega)]
    rfl

end Cert.AttnIdeal.Body

end
-- ==== Proof.AttnOut.lean ====
/-
  The attention kernel's body as a whole: what one grid point leaves in its output block, of its blocks.
-/
module

public import proofs.«01_k».proof.Proof.AttnBody

@[expose] public section

set_option maxRecDepth 16384

noncomputable section

open Idealize.ShloMosaic Idealize.ShloMosaic.TcCoe
open scoped BigOperators

namespace Cert.AttnIdeal.Body

open Cert.AttnIdeal Cert.AttnIdeal.Gen

variable (i : grid0.Coords) (x0 : FVec Ideal S128x256 .f32) (x1 x2 : FVec Ideal S1x1x128x64 .f32) (x3 x4 x5 x6 : FVec Ideal S1x1x2048x64 .bf16)
  (x7 : FVec Ideal S128x128 .f32) (x8 : FVec Ideal S128x32 .bf16) (x9 : FVec Ideal S32x2048 .bf16)

/-- The head's word and the first row's. -/
abbrev Hw : BitVec 32 := BitVec.ofNat 32 (i 1).val
abbrev Tw : BitVec 32 := Scalar.muli (BitVec.ofNat 32 (i 2).val) 128#32

/-- The queries of a group. -/
def Q : Fin 4 → FVec Ideal S128x64 .f32
  | 0 => k0_pay2 x0
  | 1 => k0_pay3 x0
  | 2 => k0_pay4 x0
  | 3 => k0_pay5 x0

/-- The compressed branch of a group. -/
def cmp (q : FVec Ideal S128x64 .f32) : FVec Ideal S128x64 .f32 :=
  k0_pay22 (k0_pay7 x2) (k0_pay8 i) (k0_pay20 q (k0_pay6 x1) (k0_pay8 i))

/-- The compressed weights of three groups, added. -/
def psum3 : FVec Ideal S128x128 .f32 :=
  k0_pay18 (k0_pay4 x0) (k0_pay6 x1) (k0_pay8 i) (k0_pay14 (k0_pay3 x0) (k0_pay6 x1) (k0_pay8 i) k0_pay9 (k0_pay10 i x0 x1))

/-- The importance of the selection blocks. -/
def impv : FVec Ideal S128x32 .f32 :=
  k0_pay23 (k0_pay8 i) (psum3 i x0 x1) (k0_pay20 (k0_pay5 x0) (k0_pay6 x1) (k0_pay8 i)) x8

/-- The selection's mask. -/
def sm : IVec S128x2048 1 := k0_pay48 (F := Ideal) (Tw i) (ranks (impv i x0 x1 x8) (Tw i)) k0_pay47 x9

/-- The window's keys. -/
def cut (x : FVec Ideal S1x1x2048x64 .bf16) : FVec Ideal S1x1x640x64 .bf16 :=
  View.ld (Val := Elt Ideal) (e' := .bf16) x (Rect.unit (k0_off1 i) ![1, 1, 640, 64] (k0_off1_inb i))

/-- The window branch of a group. -/
def win (q : FVec Ideal S128x64 .f32) : FVec Ideal S128x64 .f32 :=
  k0_pay60 q (k0_pay51 (cut i x5)) (k0_pay52 (cut i x6)) (k0_pay53 (Tw i)) (k0_pay54 (Tw i)) (k0_pay55 (Tw i)) k0_pay56

/-- The selected branch of a group. -/
def slc (q : FVec Ideal S128x64 .f32) : FVec Ideal S128x64 .f32 := k0_pay86 q (sm i x0 x1 x8 x9) (k0_pay49 x3) (k0_pay50 x4)

/-- The body's output, its branches named. -/
def whole : FVec Ideal S128x256 .f32 :=
  k0_pay1 (Hw i) x7 (cmp i x1 x2 (Q x0 3))
    (k0_pay63 (Hw i) x7 (cmp i x1 x2 (Q x0 0)) (slc i x0 x1 x3 x4 x8 x9 (Q x0 0)) (win i x5 x6 (Q x0 0)) k0_pay61 (k0_pay62 (Hw i) x7))
    (k0_pay74 (Hw i) x7 (cmp i x1 x2 (Q x0 1)) (slc i x0 x1 x3 x4 x8 x9 (Q x0 1)) (win i x5 x6 (Q x0 1))
      (k0_pay70 (Hw i) x7) (k0_pay71 (Hw i) x7) (k0_pay72 (Hw i) x7) (Scalar.cmpi .eq (Hw i) 1#32) (k0_pay73 x7))
    (k0_pay84 (Hw i) x7 (cmp i x1 x2 (Q x0 2)) (slc i x0 x1 x3 x4 x8 x9 (Q x0 2)) (win i x5 x6 (Q x0 2))
      (k0_pay81 (Hw i) x7) (k0_pay82 (Hw i) x7) (k0_pay83 (Hw i) x7) (Scalar.cmpi .eq (Hw i) 2#32))
    (slc i x0 x1 x3 x4 x8 x9 (Q x0 3)) (win i x5 x6 (Q x0 3))
    (k0_pay91 (Hw i) x7) (k0_pay92 (Hw i) x7) (k0_pay93 (Hw i) x7) 3#32

theorem out_whole (c : Dev nD) (arg3 : Memref sig .tc .vmem S128x256 .f32) (harg3 : arg3.IsWhole) (arg4 : Memref sig .tc .vmem S1x1x128x64 .f32) (harg4 : arg4.IsWhole)
    (arg5 : Memref sig .tc .vmem S1x1x128x64 .f32) (harg5 : arg5.IsWhole) (arg6 : Memref sig .tc .vmem S1x1x2048x64 .bf16) (harg6 : arg6.IsWhole)
    (arg7 : Memref sig .tc .vmem S1x1x2048x64 .bf16) (harg7 : arg7.IsWhole) (arg8 : Memref sig .tc .vmem S1x1x2048x64 .bf16) (harg8 : arg8.IsWhole)
    (arg9 : Memref sig .tc .vmem S1x1x2048x64 .bf16) (harg9 : arg9.IsWhole) (arg10 : Memref sig .tc .vmem S128x128 .f32) (harg10 : arg10.IsWhole)
    (arg11 : Memref sig .tc .vmem S128x32 .bf16) (harg11 : arg11.IsWhole) (arg12 : Memref sig .tc .vmem S32x2048 .bf16) (harg12 : arg12.IsWhole)
    (arg13 : Memref sig .tc .vmem S128x256 .f32) (harg13 : arg13.IsWhole) :
    out0_A_10 (F := Ideal) c i arg3 harg3 arg4 harg4 arg5 harg5 arg6 harg6 arg7 harg7 arg8 harg8 arg9 harg9 arg10 harg10 arg11 harg11 arg12 harg12 arg13 harg13
      x0 x1 x2 x3 x4 x5 x6 x7 x8 x9 = whole i x0 x1 x2 x3 x4 x5 x6 x7 x8 x9 := by
  frame_out
  rfl

/-! ## The pieces at an index -/

theorem tw_eq : Tw i = BitVec.ofNat 32 ((i 2).val * 128) := Attn.w_smul _ _

theorem Q_apply (g : Fin 4) (r : Fin 128) (x : Fin 64) : Q x0 g (ix2 r x) = x0 (ix2 r ⟨g.val * 64 + x.val, by omega⟩) := by
  have h0 : k0_pay2 x0 (ix2 r x) = x0 (ix2 r ⟨0 * 64 + x.val, by omega⟩) := by
    simp only [zero_mul, zero_add]
    pointwise [k0_pay2]
  have h1 : k0_pay3 x0 (ix2 r x) = x0 (ix2 r ⟨1 * 64 + x.val, by omega⟩) := by
    pointwise [k0_pay3]
  have h2 : k0_pay4 x0 (ix2 r x) = x0 (ix2 r ⟨2 * 64 + x.val, by omega⟩) := by
    pointwise [k0_pay4]
  have h3 : k0_pay5 x0 (ix2 r x) = x0 (ix2 r ⟨3 * 64 + x.val, by omega⟩) := by
    pointwise [k0_pay5]
  fin_cases g
  · exact h0
  · exact h1
  · exact h2
  · exact h3

theorem kc_apply (c : Fin 128) (x : Fin 64) : k0_pay6 x1 (ix2 c x) = x1 (ix4 0 0 c x) := by pointwise [k0_pay6]
theorem vc_apply (c : Fin 128) (x : Fin 64) : @Eq EReal (k0_pay7 (F := Ideal) x2 (ix2 c x)) (x2 (ix4 0 0 c x)) := by pointwise [k0_pay7]
theorem ks_apply (c : Fin 2048) (x : Fin 64) : k0_pay49 x3 (ix2 c x) = x3 (ix4 0 0 c x) := by pointwise [k0_pay49]
theorem vs_apply (c : Fin 2048) (x : Fin 64) : k0_pay50 x4 (ix2 c x) = x4 (ix4 0 0 c x) := by pointwise [k0_pay50]

theorem cut_apply (x : FVec Ideal S1x1x2048x64 .bf16) (k : Fin 640) (d : Fin 64) :
    cut i x (ix4 0 0 k d) = x (ix4 0 0 ⟨(i 2).val * 128 - 512 + k.val, by have : (i 2).val < 16 := (i 2).isLt; omega⟩ d) := by
  have h : (i 2).val < 16 := (i 2).isLt
  have e : k0_off1 i 2 = (i 2).val * 128 - 512 := by
    have := (by decide +kernel : ∀ n : Fin 16, (Scalar.indexCast (Scalar.maxsi (Scalar.subi (Scalar.muli (BitVec.ofNat 32 n.val) 128#32) 512#32) 0#32) : Index).toNat = n.val * 128 - 512) ⟨(i 2).val, h⟩
    exact this
  exact View.ld_unit_apply_of (Val := Elt Ideal) (e := .bf16) x _ _ _ _ _ fun a => by
    match a with
    | ⟨0, _⟩ => rfl
    | ⟨1, _⟩ => rfl
    | ⟨2, _⟩ => exact congrArg (· + k.val) e.symm
    | ⟨3, _⟩ => exact (Nat.zero_add _).symm

theorem kw_apply (k : Fin 640) (d : Fin 64) :
    k0_pay51 (cut i x5) (ix2 k d) = x5 (ix4 0 0 ⟨(i 2).val * 128 - 512 + k.val, by have : (i 2).val < 16 := (i 2).isLt; omega⟩ d) := by
  refine Eq.trans ?_ (cut_apply i x5 k d)
  generalize cut i x5 = w
  pointwise [k0_pay51]

theorem vw_apply (k : Fin 640) (d : Fin 64) :
    k0_pay52 (cut i x6) (ix2 k d) = x6 (ix4 0 0 ⟨(i 2).val * 128 - 512 + k.val, by have : (i 2).val < 16 := (i 2).isLt; omega⟩ d) := by
  refine Eq.trans ?_ (cut_apply i x6 k d)
  generalize cut i x6 = w
  pointwise [k0_pay52]

/-! ## The branches -/

/-- What a group's queries are, row by row, and the keys and values of the blocks. -/
abbrev qr (r : Fin 128) : Fin 4 → Fin 64 → EReal := fun g x => x0 (ix2 r ⟨g.val * 64 + x.val, by omega⟩)

variable (hq : ∀ r k, ∃ v : ℝ, @Eq EReal (x0 (ix2 r k)) (v : EReal)) (hk : ∀ c d, ∃ v : ℝ, @Eq EReal (x1 (ix4 0 0 c d)) (v : EReal))

include hq in
theorem Q_real (g : Fin 4) (r : Fin 128) (x : Fin 64) : ∃ v : ℝ, @Eq EReal (Q x0 g (ix2 r x)) (v : EReal) := by
  rw [Q_apply]; exact hq _ _

include hk in
theorem kc_real (c : Fin 128) (x : Fin 64) : ∃ v : ℝ, @Eq EReal (k0_pay6 (F := Ideal) x1 (ix2 c x)) (v : EReal) := by
  rw [kc_apply]; exact hk _ _

/-- The query's place in its sequence. -/
abbrev tok (r : Fin 128) : ℕ := (i 2).val * 128 + r.val

include hq hk in
theorem cmp_at (g : Fin 4) (r : Fin 128) (d : Fin 64) :
    cmp i x1 x2 (Q x0 g) (ix2 r d)
      = Attn.mix (Attn.cmask (tok i r)) (fun c => Attn.dot (qr x0 r g) (fun x => x1 (ix4 0 0 c x))) (fun c => x2 (ix4 0 0 c d)) := by
  refine (cmp_apply _ _ _ _ (Q_real x0 hq g) (kc_real x1 hk) r d).trans ?_
  congr 1
  · funext c; exact cmask_apply i r c
  · funext c; congr 1
    · funext x; exact Q_apply x0 g r x
    · funext x; exact kc_apply x1 c x
  · funext c; exact vc_apply x2 c d

include hq hk in
theorem soft_at (g : Fin 4) (r c : Fin 128) :
    k0_pay21 (F := Ideal) (k0_pay8 i) (k0_pay20 (Q x0 g) (k0_pay6 x1) (k0_pay8 i)) (ix2 r c)
      = Attn.pcmp (qr x0 r) (fun c x => x1 (ix4 0 0 c x)) (tok i r) g c := by
  refine (weights_apply _ _ r _ (scores_apply _ _ _ (Q_real x0 hq g) (kc_real x1 hk) r) c).trans ?_
  unfold Attn.pcmp
  congr 1
  · funext c; exact cmask_apply i r c
  · funext c; congr 1
    · funext x; exact Q_apply x0 g r x
    · funext x; exact kc_apply x1 c x

theorem psum3_apply (r c : Fin 128) :
    psum3 i x0 x1 (ix2 r c) = k0_pay21 (F := Ideal) (k0_pay8 i) (k0_pay20 (Q x0 0) (k0_pay6 x1) (k0_pay8 i)) (ix2 r c)
      + k0_pay21 (F := Ideal) (k0_pay8 i) (k0_pay20 (Q x0 1) (k0_pay6 x1) (k0_pay8 i)) (ix2 r c)
      + k0_pay21 (F := Ideal) (k0_pay8 i) (k0_pay20 (Q x0 2) (k0_pay6 x1) (k0_pay8 i)) (ix2 r c) := by
  have hz : Ideal.ofBits .f32 0x00000000#32 = 0 := by simp [Ideal.ofBits, Ideal.ieee]
  refine (show psum3 i x0 x1 (ix2 r c) = Ideal.ofBits .f32 0x00000000#32 + k0_pay21 (F := Ideal) (k0_pay8 i) (k0_pay20 (Q x0 0) (k0_pay6 x1) (k0_pay8 i)) (ix2 r c)
      + k0_pay21 (F := Ideal) (k0_pay8 i) (k0_pay20 (Q x0 1) (k0_pay6 x1) (k0_pay8 i)) (ix2 r c)
      + k0_pay21 (F := Ideal) (k0_pay8 i) (k0_pay20 (Q x0 2) (k0_pay6 x1) (k0_pay8 i)) (ix2 r c) from rfl).trans ?_
  rw [hz, zero_add]

include hq hk in
theorem imp_at (hov : ∀ (c : Fin 128) (n : Fin 32), @Eq EReal (x8 (ix2 c n)) (Attn.overlap c.val n.val)) (r : Fin 128) (n : Fin 32) :
    @Eq EReal (impv i x0 x1 x8 (ix2 r n)) (Attn.imp (qr x0 r) (fun c x => x1 (ix4 0 0 c x)) (tok i r) n) := by
  have hP : ∀ g c, ∃ v : ℝ, Attn.pcmp (qr x0 r) (fun c x => x1 (ix4 0 0 c x)) (tok i r) g c = (v : EReal) := fun g c =>
    Attn.soft_real _ _ (fun c _ => Attn.dot_real _ _ (fun x => hq _ _) (fun x => hk _ _)) c
  refine (imp_apply _ _ _ _ r (fun c => ∑ g, Attn.pcmp (qr x0 r) (fun c x => x1 (ix4 0 0 c x)) (tok i r) g c) (fun c => ?_) (fun c => ?_) n).trans ?_
  · rw [psum3_apply, soft_at i x0 x1 hq hk, soft_at i x0 x1 hq hk, soft_at i x0 x1 hq hk, Fin.sum_univ_four]
    exact congrArg _ (soft_at i x0 x1 hq hk 3 r c)
  · choose p hp using hP
    refine ⟨∑ g, p g c, ?_⟩
    simp only [hp]
    exact (map_sum (⟨⟨Real.toEReal, rfl⟩, EReal.coe_add⟩ : ℝ →+ EReal) (fun g => p g c) Finset.univ).symm
  · unfold Attn.imp
    simp only [hov]

include hq hk in
theorem slc_at (hov : ∀ (c : Fin 128) (n : Fin 32), @Eq EReal (x8 (ix2 c n)) (Attn.overlap c.val n.val))
    (hex : ∀ n k, @Eq EReal (x9 (ix2 n k)) (if n.val = k.val / 64 then 1 else 0)) (g : Fin 4) (r : Fin 128) (d : Fin 64) :
    slc i x0 x1 x3 x4 x8 x9 (Q x0 g) (ix2 r d)
      = Attn.mix (Attn.smask (qr x0 r) (fun c x => x1 (ix4 0 0 c x)) (tok i r)) (fun k => Attn.dot (qr x0 r g) (fun x => x3 (ix4 0 0 k x))) (fun k => x4 (ix4 0 0 k d)) := by
  refine (slc_apply _ _ _ _ r d).trans ?_
  congr 1
  · funext k
    have hS := fun n => (score_apply (i 2) (impv i x0 x1 x8) r n).trans
      (show _ = Attn.score (qr x0 r) (fun c x => x1 (ix4 0 0 c x)) (tok i r) n by unfold Attn.score; rw [imp_at i x0 x1 x8 hq hk hov])
    have hR := fun n => ranks_apply r n (impv i x0 x1 x8) _ _ hS
    unfold sm Attn.smask
    rw [tw_eq]
    exact smask_apply (i 2) _ x9 r _ hR hex k
  · funext k; congr 1
    · funext x; exact Q_apply x0 g r x
    · funext x; exact ks_apply x3 k x
  · funext k; exact vs_apply x4 k d

/-- The window's 640 keys carry every key its mask shows. -/
theorem win_at (g : Fin 4) (r : Fin 128) (d : Fin 64) :
    win i x5 x6 (Q x0 g) (ix2 r d)
      = Attn.mix (Attn.wmask (tok i r)) (fun k => Attn.dot (qr x0 r g) (fun x => x5 (ix4 0 0 k x))) (fun k => x6 (ix4 0 0 k d)) := by
  have h : (i 2).val < 16 := (i 2).isLt
  refine (win_apply _ _ _ _ r d).trans ?_
  refine Attn.Covers.mix_eq (f := fun k : Fin 640 => (⟨(i 2).val * 128 - 512 + k.val, by omega⟩ : Fin 2048)) ⟨?_, ?_, ?_, ?_⟩ _ _ ?_
  · intro a b hab
    have := congrArg Fin.val hab
    exact Fin.ext (by dsimp only at this; omega)
  · intro k hkk
    have hb := (Attn.bit_one _).1 hkk
    have hr : r.val < 128 := r.isLt
    unfold tok at hb
    have hn : ∀ b : ℕ, k.val ≤ b * 128 + r.val ∧ b * 128 + r.val < k.val + 512 → k.val - (b * 128 - 512) < 640 := by intro b hb; omega
    refine ⟨⟨k.val - ((i 2).val * 128 - 512), hn _ hb⟩, Fin.ext ?_⟩
    dsimp only; omega
  · intro k
    rw [tw_eq]
    exact wmask_apply (i 2) r k
  · intro k _
    congr 1
    · funext x; exact Q_apply x0 g r x
    · funext x; exact kw_apply i x5 k x
  · intro k _
    exact vw_apply i x6 k d

include hq hk in
/-- The body's output at row `r`, group `g`, column `d`. -/
theorem whole_apply (hov : ∀ (c : Fin 128) (n : Fin 32), @Eq EReal (x8 (ix2 c n)) (Attn.overlap c.val n.val))
    (hex : ∀ n k, @Eq EReal (x9 (ix2 n k)) (if n.val = k.val / 64 then 1 else 0)) (g : Fin 4) (r : Fin 128) (d : Fin 64) :
    whole i x0 x1 x2 x3 x4 x5 x6 x7 x8 x9 (ix2 r ⟨g.val * 64 + d.val, by omega⟩)
      = Attn.out (qr x0 r) (fun c x => x1 (ix4 0 0 c x)) (fun c x => x2 (ix4 0 0 c x)) (fun c x => x3 (ix4 0 0 c x)) (fun c x => x4 (ix4 0 0 c x))
          (fun c x => x5 (ix4 0 0 c x)) (fun c x => x6 (ix4 0 0 c x)) (gate x7 (i 1) r) (tok i r) g d := by
  unfold Attn.out
  simp only [← cmp_at i x0 x1 x2 hq hk, ← slc_at i x0 x1 x3 x4 x8 x9 hq hk hov hex, ← win_at i x0 x5 x6]
  refine (last_apply (i 1) x7 r d _ _ _ _ _ _ g _ _ rfl).trans ?_
  fin_cases g
  · exact gates0 (i 1) x7 r d _ _ _
  · exact gates1 (i 1) x7 r d _ _ _
  · exact gates2 (i 1) x7 r d _ _ _
  · rfl

end Cert.AttnIdeal.Body

end
-- ==== Proof.AttnArray.lean ====
/-
  The attention kernel: its blocks, and the array it leaves where queries and compressed keys are finite.
-/
module

public import proofs.«01_k».proof.Proof.AttnOut

@[expose] public section

set_option maxRecDepth 16384

noncomputable section

open Idealize.ShloMosaic Idealize.ShloMosaic.TcCoe
open scoped BigOperators

namespace Attn

/-- The attention's array: batch, position, head, group and lane of an index. -/
def arr (q : (Shape.mk 2 ![16384, 1024]).Idx → EReal) (kc vc : (Shape.mk 4 ![8, 4, 128, 64]).Idx → EReal) (ks vs kw vw : (Shape.mk 4 ![8, 4, 2048, 64]).Idx → EReal)
    (gates : (Shape.mk 2 ![16384, 128]).Idx → EReal) (b : Fin 8) (h : Fin 4) (s : Fin 2048) (g : Fin 4) (d : Fin 64) : EReal :=
  out (fun g x => q (ix2 ⟨b.val * 2048 + s.val, by omega⟩ ⟨h.val * 256 + g.val * 64 + x.val, by omega⟩))
    (fun c x => kc (ix4 b h c x)) (fun c x => vc (ix4 b h c x)) (fun c x => ks (ix4 b h c x)) (fun c x => vs (ix4 b h c x))
    (fun c x => kw (ix4 b h c x)) (fun c x => vw (ix4 b h c x))
    (fun g br => gates (ix2 ⟨b.val * 2048 + s.val, by omega⟩ ⟨h.val * 12 + g.val * 3 + br.val, by omega⟩)) s.val g d

end Attn

namespace Cert.AttnIdeal.Array

open Cert.AttnIdeal Cert.AttnIdeal.Gen

variable (m : (ℓ : Loc nD τ sig) → Buf (Elt Ideal) ℓ)

theorem coords_eq : ∀ t : Fin grid0.N, ((grid0.coords t) 0).val = t.val / 64 ∧ ((grid0.coords t) 1).val = t.val / 16 % 4 ∧ ((grid0.coords t) 2).val = t.val % 16 := by
  decide +kernel

theorem row_eq : ∀ t : Fin grid0.N, win0_0.index t = ![t.val / 64 * 16 + t.val % 16, t.val / 16 % 4] ∧ win0_7.index t = ![t.val / 64 * 16 + t.val % 16, 0]
    ∧ win0_10.index t = ![t.val / 64 * 16 + t.val % 16, t.val / 16 % 4] ∧ win0_8.index t = ![0, 0] ∧ win0_9.index t = ![0, 0] := by
  decide +kernel

theorem head_eq : ∀ t : Fin grid0.N, win0_1.index t = ![t.val / 64, t.val / 16 % 4, 0, 0] ∧ win0_2.index t = ![t.val / 64, t.val / 16 % 4, 0, 0]
    ∧ win0_3.index t = ![t.val / 64, t.val / 16 % 4, 0, 0] ∧ win0_4.index t = ![t.val / 64, t.val / 16 % 4, 0, 0]
    ∧ win0_5.index t = ![t.val / 64, t.val / 16 % 4, 0, 0] ∧ win0_6.index t = ![t.val / 64, t.val / 16 % 4, 0, 0] := by
  decide +kernel

abbrev Q (c : Dev nD) : FVec Ideal S16384x1024 .f32 := m ((c : Thread nD τ).loc main_arg0)
abbrev KC (c : Dev nD) : FVec Ideal S8x4x128x64 .f32 := m ((c : Thread nD τ).loc main_arg1)
abbrev VC (c : Dev nD) : FVec Ideal S8x4x128x64 .f32 := m ((c : Thread nD τ).loc main_arg2)
abbrev KS (c : Dev nD) : FVec Ideal S8x4x2048x64 .bf16 := m ((c : Thread nD τ).loc main_arg3)
abbrev VS (c : Dev nD) : FVec Ideal S8x4x2048x64 .bf16 := m ((c : Thread nD τ).loc main_arg4)
abbrev KW (c : Dev nD) : FVec Ideal S8x4x2048x64 .bf16 := m ((c : Thread nD τ).loc main_arg5)
abbrev VW (c : Dev nD) : FVec Ideal S8x4x2048x64 .bf16 := m ((c : Thread nD τ).loc main_arg6)
abbrev GT (c : Dev nD) : FVec Ideal S16384x128 .f32 := m ((c : Thread nD τ).loc main_arg7)

variable (c : Dev nD) (t : Fin cfg0.N)

theorem pt_lt : t.val < 512 := lt_of_lt_of_eq t.isLt N_0

/-- The batch, the head and the token of a point's row. -/
def bat : Fin 8 := ⟨t.val / 64, by have := pt_lt t; omega⟩
def hd : Fin 4 := ⟨t.val / 16 % 4, by omega⟩
def pos (r : Fin 128) : Fin 2048 := ⟨t.val % 16 * 128 + r.val, by omega⟩

theorem q_blk (r : Fin 128) (k : Fin 256) :
    iblk m c 0 t (ix2 r k) = Q m c (ix2 ⟨(bat t).val * 2048 + (pos t r).val, by omega⟩ ⟨(hd t).val * 256 + k.val, by omega⟩) := by
  have h := row_eq t
  unfold bat pos hd
  blk_ext [iblk, V_main_arg0, h.1]

theorem kc_blk (k : Fin 128) (x : Fin 64) : iblk m c 1 t (ix4 0 0 k x) = KC m c (ix4 (bat t) (hd t) k x) := by
  have h := head_eq t
  unfold bat hd
  blk_ext [iblk, V_main_arg1, h.1]

theorem vc_blk (k : Fin 128) (x : Fin 64) : iblk m c 2 t (ix4 0 0 k x) = VC m c (ix4 (bat t) (hd t) k x) := by
  have h := head_eq t
  unfold bat hd
  blk_ext [iblk, V_main_arg2, h.2.1]

theorem ks_blk (k : Fin 2048) (x : Fin 64) : iblk m c 3 t (ix4 0 0 k x) = KS m c (ix4 (bat t) (hd t) k x) := by
  have h := head_eq t
  unfold bat hd
  blk_ext [iblk, V_main_arg3, h.2.2.1]

theorem vs_blk (k : Fin 2048) (x : Fin 64) : iblk m c 4 t (ix4 0 0 k x) = VS m c (ix4 (bat t) (hd t) k x) := by
  have h := head_eq t
  unfold bat hd
  blk_ext [iblk, V_main_arg4, h.2.2.2.1]

theorem kw_blk (k : Fin 2048) (x : Fin 64) : iblk m c 5 t (ix4 0 0 k x) = KW m c (ix4 (bat t) (hd t) k x) := by
  have h := head_eq t
  unfold bat hd
  blk_ext [iblk, V_main_arg5, h.2.2.2.2.1]

theorem vw_blk (k : Fin 2048) (x : Fin 64) : iblk m c 6 t (ix4 0 0 k x) = VW m c (ix4 (bat t) (hd t) k x) := by
  have h := head_eq t
  unfold bat hd
  blk_ext [iblk, V_main_arg6, h.2.2.2.2.2]

theorem gt_blk (r : Fin 128) (k : Fin 128) : iblk m c 7 t (ix2 r k) = GT m c (ix2 ⟨(bat t).val * 2048 + (pos t r).val, by omega⟩ k) := by
  have h := row_eq t
  unfold bat pos
  blk_ext [iblk, V_main_arg7, h.2.1]

/-- The host's overlap table. -/
abbrev ovt : FVec Ideal S128x32 .bf16 :=
  let s : IVec S128x1 32 := muli (broadcastInDim S128x1 ![0] bcast_S128_S128x1_0 (iotaInDim S128 32 0)) (broadcastInDim S128x1 ![] bcast_S_S128x1 (constantI S_ 32 16#32))
  let b : IVec S1x32 32 := muli (broadcastInDim S1x32 ![1] bcast_S32_S1x32_1 (iotaInDim S32 32 0)) (broadcastInDim S1x32 ![] bcast_S_S1x32 (constantI S_ 32 64#32))
  truncf .bf16 (Host.divf (sitofp .f32 (maxsi (subi
    (minsi (broadcastInDim S128x32 ![0, 1] bcast_S128x1_S128x32_0_1 (addi s (broadcastInDim S128x1 ![] bcast_S_S128x1 (constantI S_ 32 32#32))))
      (broadcastInDim S128x32 ![0, 1] bcast_S1x32_S128x32_0_1 (addi b (broadcastInDim S1x32 ![] bcast_S_S1x32 (constantI S_ 32 64#32)))))
    (maxsi (broadcastInDim S128x32 ![0, 1] bcast_S128x1_S128x32_0_1 s) (broadcastInDim S128x32 ![0, 1] bcast_S1x32_S128x32_0_1 b)))
    (broadcastInDim S128x32 ![] bcast_S_S128x32 (constantI S_ 32 0#32))))
    (broadcastInDim S128x32 ![] bcast_S_S128x32 (constant S_ .f32 0x42000000#32))) bitsLt_bf16_f32

theorem ovt_apply (k : Fin 128) (n : Fin 32) : @Eq EReal (ovt (ix2 k n)) (Attn.overlap k.val n.val) := by
  unfold Attn.overlap
  rw [← Attn.w_add, ← Attn.w_mul, ← Attn.w_add (n.val * 64), ← Attn.w_mul]
  rfl

set_option maxHeartbeats 4000000 in
theorem ov_blk (k : Fin 128) (n : Fin 32) : @Eq EReal (iblk m c 8 t (ix2 k n)) (Attn.overlap k.val n.val) := by
  have h := row_eq t
  refine (show @Eq EReal (iblk m c 8 t (ix2 k n)) (ovt (ix2 k n)) from by blk_ext! [iblk, V, h.2.2.2.1]).trans (ovt_apply k n)

/-- The host's block table. -/
abbrev ext : FVec Ideal S32x2048 .bf16 :=
  uitofp .bf16 (cmpi .eq (broadcastInDim S32x2048 ![0, 1] bcast_S32x1_S32x2048_0_1 (broadcastInDim S32x1 ![0] bcast_S32_S32x1_0 (iotaInDim S32 32 0)))
    (broadcastInDim S32x2048 ![0, 1] bcast_S1x2048_S32x2048_0_1 (broadcastInDim S1x2048 ![1] bcast_S2048_S1x2048_1
      (Host.divsi (iotaInDim S2048 32 0) (broadcastInDim S2048 ![] bcast_S_S2048 (constantI S_ 32 64#32))))))

/-- Division of a key's number by 64. -/
theorem key_eq : ∀ k : Fin 2048, IntOp.divsi ArithUnit.host (BitVec.ofNat 32 k.val) 64#32 = BitVec.ofNat 32 (k.val / 64) := by
  decide +kernel

theorem ext_apply (n : Fin 32) (k : Fin 2048) : @Eq EReal (ext (ix2 n k)) (if n.val = k.val / 64 then 1 else 0) := by
  refine (show @Eq EReal (ext (ix2 n k)) ((FloatOps.uitofp .bf16 (IntOp.cmpi CmpIPredicate.eq (BitVec.ofNat 32 n.val) (IntOp.divsi ArithUnit.host (BitVec.ofNat 32 k.val) 64#32)) : Ideal .bf16)) from rfl).trans ?_
  rw [key_eq, Attn.w_eq _ _ (by omega) (by omega)]
  by_cases h : n.val = k.val / 64
  · rw [if_pos h]; simp [h, FloatOps.uitofp]
  · rw [if_neg h]; simp [h, FloatOps.uitofp]

theorem ex_blk (n : Fin 32) (k : Fin 2048) : @Eq EReal (iblk m c 9 t (ix2 n k)) (if n.val = k.val / 64 then 1 else 0) := by
  have h := row_eq t
  refine (show @Eq EReal (iblk m c 9 t (ix2 n k)) (ext (ix2 n k)) from by blk_ext! [iblk, V, h.2.2.2.2]).trans (ext_apply n k)

end Cert.AttnIdeal.Array

end
-- ==== Proof.AttnFinal.lean ====
/-
  The attention kernel's output array, index by index.
-/
module

public import proofs.«01_k».proof.Proof.AttnArray

@[expose] public section

set_option maxRecDepth 16384

noncomputable section

open Idealize.ShloMosaic Idealize.ShloMosaic.TcCoe
open scoped BigOperators

namespace Attn

theorem out_congr {q q' : Fin 4 → Fin 64 → EReal} {kc kc' vc vc' : Fin 128 → Fin 64 → EReal} {ks ks' vs vs' kw kw' vw vw' : Fin 2048 → Fin 64 → EReal}
    {gate gate' : Fin 4 → Fin 3 → EReal} {t t' : ℕ} (h0 : ∀ g x, q g x = q' g x) (h1 : ∀ g x, kc g x = kc' g x) (h2 : ∀ g x, vc g x = vc' g x)
    (h3 : ∀ g x, ks g x = ks' g x) (h4 : ∀ g x, vs g x = vs' g x) (h5 : ∀ g x, kw g x = kw' g x) (h6 : ∀ g x, vw g x = vw' g x)
    (h7 : ∀ g x, gate g x = gate' g x) (ht : t = t') (g : Fin 4) (d : Fin 64) : out q kc vc ks vs kw vw gate t g d = out q' kc' vc' ks' vs' kw' vw' gate' t' g d := by
  obtain rfl : q = q' := funext fun g => funext fun x => h0 g x
  obtain rfl : kc = kc' := funext fun g => funext fun x => h1 g x
  obtain rfl : vc = vc' := funext fun g => funext fun x => h2 g x
  obtain rfl : ks = ks' := funext fun g => funext fun x => h3 g x
  obtain rfl : vs = vs' := funext fun g => funext fun x => h4 g x
  obtain rfl : kw = kw' := funext fun g => funext fun x => h5 g x
  obtain rfl : vw = vw' := funext fun g => funext fun x => h6 g x
  obtain rfl : gate = gate' := funext fun g => funext fun x => h7 g x
  rw [ht]

end Attn

namespace Cert.AttnIdeal.Array

open Cert.AttnIdeal Cert.AttnIdeal.Gen

variable (m : (ℓ : Loc nD τ sig) → Buf (Elt Ideal) ℓ) (c : Dev nD) (t : Fin cfg0.N)

theorem out_row (hq : ∀ r k, ∃ v : ℝ, @Eq EReal (Q m c (ix2 r k)) (v : EReal)) (hk : ∀ b h k x, ∃ v : ℝ, @Eq EReal (KC m c (ix4 b h k x)) (v : EReal))
    (r : Fin 128) (g : Fin 4) (d : Fin 64) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) (ms0_10 t) (hs0_10 t)
        (iblk m c 0 t) (iblk m c 1 t) (iblk m c 2 t) (iblk m c 3 t) (iblk m c 4 t) (iblk m c 5 t) (iblk m c 6 t) (iblk m c 7 t) (iblk m c 8 t) (iblk m c 9 t)
        (ix2 r ⟨g.val * 64 + d.val, by omega⟩)
      = Attn.arr (Q m c) (KC m c) (VC m c) (KS m c) (VS m c) (KW m c) (VW m c) (GT m c) (bat t) (hd t) (pos t r) g d := by
  have hc := coords_eq t
  rw [Body.out_whole]
  refine (Body.whole_apply (grid0.coords t) _ _ _ _ _ _ _ _ _ _ ?_ ?_ (ov_blk m c t) (ex_blk m c t) g r d).trans ?_
  · intro r k
    obtain ⟨v, hv⟩ := hq ⟨(bat t).val * 2048 + (pos t r).val, by omega⟩ ⟨(hd t).val * 256 + k.val, by omega⟩
    exact ⟨v, (q_blk m c t r k).trans hv⟩
  · intro k x
    obtain ⟨v, hv⟩ := hk (bat t) (hd t) k x
    exact ⟨v, (kc_blk m c t k x).trans hv⟩
  · refine Attn.out_congr (fun g x => ?_) (kc_blk m c t) (vc_blk m c t) (ks_blk m c t) (vs_blk m c t) (kw_blk m c t) (vw_blk m c t) (fun g b => ?_) ?_ g d
    · refine (q_blk m c t r _).trans (congrArg (Q m c) (congrArg (ix2 _) (Fin.ext ?_)))
      dsimp only; omega
    · refine (gt_blk m c t r _).trans (congrArg (GT m c) (congrArg (ix2 _) (Fin.ext ?_)))
      show ((grid0.coords t) 1).val * 12 + g.val * 3 + b.val = (hd t).val * 12 + g.val * 3 + b.val
      rw [hc.2.1]; rfl
    · show ((grid0.coords t) 2).val * 128 + r.val = (pos t r).val
      rw [hc.2.2]; rfl

/-- The output array after the run. -/
theorem array (hq : ∀ r k, ∃ v : ℝ, @Eq EReal (Q m c (ix2 r k)) (v : EReal)) (hk : ∀ b h k x, ∃ v : ℝ, @Eq EReal (KC m c (ix4 b h k x)) (v : EReal)) :
    (dats m 0 c).arrAt 10 cfg0.N
      = fun i : S16384x1024.Idx => Attn.arr (Q m c) (KC m c) (VC m c) (KS m c) (VS m c) (KW m c) (VW m c) (GT m c)
          ⟨(i 0).val / 2048, by have : (i 0).val < 16384 := (i 0).isLt; omega⟩ ⟨(i 1).val / 256, by have : (i 1).val < 1024 := (i 1).isLt; omega⟩
          ⟨(i 0).val % 2048, by omega⟩ ⟨(i 1).val / 64 % 4, by omega⟩ ⟨(i 1).val % 64, by omega⟩ := by
  refine (dats m 0 c).arrAt_eq_of_covers 10 _ (by decide +kernel) fun t hc y => ?_
  have hi := (row_eq t).2.2.1
  blk_simp
  rw [after0_10]
  unfold outsAt0
  idx_vars y
  have h0 : win0_10.index t 0 = t.val / 64 * 16 + t.val % 16 := congrFun hi 0
  have h1 : win0_10.index t 1 = t.val / 16 % 4 := congrFun hi 1
  have hy0 : y0.val < 128 := y0.isLt
  have hy : y1 = ⟨(⟨y1.val / 64, by omega⟩ : Fin 4).val * 64 + (⟨y1.val % 64, by omega⟩ : Fin 64).val, by dsimp only; omega⟩ := Fin.ext (by dsimp only; omega)
  refine (congrArg _ (congrArg (ix2 y0) hy)).trans ((out_row m c t hq hk y0 _ _).trans ?_)
  congr 1 <;> apply Fin.ext <;> simp only [bat, hd, pos, h0, h1] <;> omega

end Cert.AttnIdeal.Array

end
-- ==== Proof.Finite.lean ====
/-
  What the precondition `|x| < inf` says of an extended real.
-/
module

public import Idealize.ShloMosaic.Lib.Pointwise
public import Idealize.ShloMosaic.Lib.Tactic

@[expose] public section

noncomputable section

open Idealize.ShloMosaic

/-- The literal of positive infinity. -/
theorem Finite.bits_inf : Ideal.ofBits .f32 0x7F800000#32 = ⊤ := by
  simp [Ideal.ofBits, Ideal.ieee]

/-- A value whose absolute value is below infinity is a real number. -/
theorem Finite.real (x : EReal) (h : max x (-x) < ⊤) : ∃ v : ℝ, x = (v : EReal) := by
  induction x with
  | bot => simp at h
  | top => simp at h
  | coe v => exact ⟨v, rfl⟩

/-- The comparison's bit, read. -/
theorem Finite.of_bit (x : EReal) (h : (FloatOps.cmpf (F := Ideal) (φ := .f32) .olt (max x (-x) : EReal) (Ideal.ofBits .f32 0x7F800000#32 : EReal) : BitVec 1) = 1#1) :
    max x (-x) < ⊤ := by
  rw [Finite.bits_inf] at h
  by_contra hn
  simp [FloatOps.cmpf, Ideal.cmp, hn] at h

end
-- ==== Proof.AttnRefFns.lean ====
/-
  The reference's attention stage by stage: scores, masks, block importance, the blocks taken, their keys and values, and the gated sum,
  each read at an index.
-/
module

public import proofs.«01_k».proof.Proof.Gen.AttnRefIdeal
public import proofs.«01_k».proof.Proof.AttnModel
public import proofs.«01_k».proof.Proof.Finite
public import Idealize.ShloMosaic.Lib.SortFacts
public import Idealize.ShloMosaic.Lib.Pipeline.ValueKit
public import Idealize.ShloMosaic.Lib.Claim

@[expose] public section

set_option maxRecDepth 16384

noncomputable section

open Idealize.ShloMosaic Idealize.ShloMosaic.TcCoe
open scoped BigOperators

namespace Cert.AttnRefIdeal.Fn

open Cert.AttnRefIdeal Cert.AttnRefIdeal.Gen

/-- Three index components joined along the last axis. -/
def join (u v w : IVec S8x4x2048x16x1 32) : IVec S8x4x2048x16x3 32 :=
  concatenate S8x4x2048x16x3 4 [⟨S8x4x2048x16x1, u⟩, ⟨S8x4x2048x16x1, v⟩, ⟨S8x4x2048x16x1, w⟩]
    concatenates_S8x4x2048x16x1_S8x4x2048x16x1_S8x4x2048x16x1_S8x4x2048x16x3_d4

/-- The positions. -/
def pos : IVec S2048 32 := iotaInDim S2048 32 0

theorem pos_apply (t : Fin 2048) : pos (ix1 t) = BitVec.ofNat 32 t.val := by
  pointwise [pos]

/-- The queries by batch, position, head and query head. -/
def q5 (q : FVec Ideal S16384x1024 .f32) : FVec Ideal S8x2048x4x4x64 .f32 :=
  shapeCast _ q shapeCasts_S16384x1024_S8x2048x4x4x64

theorem q5_apply (q : FVec Ideal S16384x1024 .f32) (b : Fin 8) (s : Fin 2048) (h g : Fin 4) (x : Fin 64) :
    q5 q (ix5 b s h g x) = q (ix2 ⟨b.val * 2048 + s.val, by omega⟩ ⟨h.val * 256 + g.val * 64 + x.val, by omega⟩) := by
  pointwise [q5]

/-- The compressed keys without the padding row. -/
def cut (k : FVec Ideal S8x4x128x64 .f32) : FVec Ideal S8x4x127x64 .f32 :=
  extractStridedSlice S8x4x127x64 ![0, 0, 0, 0] k slices_S8x4x128x64_S8x4x127x64_0_0_0_0

theorem cut_apply (k : FVec Ideal S8x4x128x64 .f32) (b : Fin 8) (h : Fin 4) (c : Fin 127) (x : Fin 64) :
    cut k (ix4 b h c x) = k (ix4 b h c.castSucc x) := by
  pointwise [cut]
  rfl

/-- Keys read as floats. -/
def wide (k : FVec Ideal S8x4x2048x64 .bf16) : FVec Ideal S8x4x2048x64 .f32 :=
  extf .f32 k bitsLt_bf16_f32

theorem wide_apply (k : FVec Ideal S8x4x2048x64 .bf16) (b : Fin 8) (h : Fin 4) (c : Fin 2048) (x : Fin 64) :
    @Eq EReal (wide k (ix4 b h c x)) (k (ix4 b h c x)) := by
  pointwise [wide]

/-- The compressed keys a position sees. -/
def seen127 : IVec S2048x127 1 :=
  cmpi .sle (broadcastInDim S2048x127 ![0, 1] bcast_S1x127_S2048x127_0_1 (broadcastInDim S1x127 ![1] bcast_S127_S1x127_1 (addi (muli (iotaInDim S127 32 0) (broadcastInDim S127 ![] bcast_S_S127 (constantI S_ 32 16#32))) (broadcastInDim S127 ![] bcast_S_S127 (constantI S_ 32 31#32))))) (broadcastInDim S2048x127 ![0, 1] bcast_S2048x1_S2048x127_0_1 (broadcastInDim S2048x1 ![0] bcast_S2048_S2048x1_0 pos))

theorem seen127_apply (t : Fin 2048) (c : Fin 127) : seen127 (ix2 t c) = Attn.cmask t.val c.castSucc := by
  pointwise [seen127, pos]
  rw [Attn.w_mul, Attn.w_add, Attn.w_sle _ _ (by omega) (by omega)]
  rfl

/-- Scores against the compressed keys. -/
def scores127 (k : FVec Ideal S8x4x127x64 .f32) (q : FVec Ideal S8x2048x4x4x64 .f32) : FVec Ideal S8x4x4x2048x127 .f32 :=
  transpose S8x4x4x2048x127 [0, 1, 4, 3, 2] (Host.dotGeneral dot_S8x4x127x64_S8x2048x4x4x64_S8x4x127x2048x4_3_4_2_13_01_02 none k q) transposes_S8x4x127x2048x4_S8x4x4x2048x127_0_1_4_3_2

theorem scores127_apply (k : FVec Ideal S8x4x127x64 .f32) (q : FVec Ideal S8x2048x4x4x64 .f32) (b : Fin 8) (h g : Fin 4) (s : Fin 2048) (c : Fin 127) :
    scores127 k q (ix5 b h g s c) = ∑ x : Fin 64, k (ix4 b h c x) * q (ix5 b s h g x) := by
  pointwise [scores127]

/-- The compressed values mixed. -/
def mix127 (v : FVec Ideal S8x4x127x64 .f32) (p : FVec Ideal S8x4x4x2048x127 .f32) : FVec Ideal S8x2048x4x4x64 .f32 :=
  transpose S8x2048x4x4x64 [0, 4, 1, 3, 2] (Host.dotGeneral dot_S8x4x127x64_S8x4x4x2048x127_S8x4x64x4x2048_2_4_3_23_01_01 none v p) transposes_S8x4x64x4x2048_S8x2048x4x4x64_0_4_1_3_2

theorem mix127_apply (v : FVec Ideal S8x4x127x64 .f32) (p : FVec Ideal S8x4x4x2048x127 .f32) (b : Fin 8) (h g : Fin 4) (s : Fin 2048) (d : Fin 64) :
    mix127 v p (ix5 b s h g d) = ∑ c : Fin 127, v (ix4 b h c d) * p (ix5 b h g s c) := by
  pointwise [mix127]

/-- Each compressed block's first token. -/
def left : IVec S127x1 32 :=
  muli (broadcastInDim S127x1 ![0] bcast_S127_S127x1_0 (iotaInDim S127 32 0)) (broadcastInDim S127x1 ![] bcast_S_S127x1 (constantI S_ 32 16#32))

/-- Each selection block's first token. -/
def start : IVec S1x32 32 :=
  muli (broadcastInDim S1x32 ![1] bcast_S32_S1x32_1 (iotaInDim S32 32 0)) (broadcastInDim S1x32 ![] bcast_S_S1x32 (constantI S_ 32 64#32))

theorem left_apply (c : Fin 127) (z : Fin 1) : left (ix2 c z) = BitVec.ofNat 32 (c.val * 16) := by
  pointwise [left]
  exact Attn.w_mul _ _

theorem start_apply (z : Fin 1) (n : Fin 32) : start (ix2 z n) = BitVec.ofNat 32 (n.val * 64) := by
  pointwise [start]
  exact Attn.w_mul _ _

/-- The overlap of compressed and selection blocks. -/
def ovl : FVec Ideal S127x32 .f32 :=
  Host.divf (sitofp .f32 (maxsi (subi (minsi (broadcastInDim S127x32 ![0, 1] bcast_S127x1_S127x32_0_1 (addi left (broadcastInDim S127x1 ![] bcast_S_S127x1 (constantI S_ 32 32#32)))) (broadcastInDim S127x32 ![0, 1] bcast_S1x32_S127x32_0_1 (addi start (broadcastInDim S1x32 ![] bcast_S_S1x32 (constantI S_ 32 64#32))))) (maxsi (broadcastInDim S127x32 ![0, 1] bcast_S127x1_S127x32_0_1 left) (broadcastInDim S127x32 ![0, 1] bcast_S1x32_S127x32_0_1 start))) (broadcastInDim S127x32 ![] bcast_S_S127x32 (constantI S_ 32 0#32)))) (broadcastInDim S127x32 ![] bcast_S_S127x32 (constant S_ .f32 0x42000000#32))

theorem ovl_apply (c : Fin 127) (n : Fin 32) : ovl (ix2 c n) = Attn.overlap c.val n.val := by
  unfold Attn.overlap
  pointwise [ovl]
  rw [left_apply, start_apply, Attn.w_add, Attn.w_add]

/-- A selection block's importance. -/
def blockImp (p : FVec Ideal S8x4x4x2048x127 .f32) (o : FVec Ideal S127x32 .f32) : FVec Ideal S8x4x2048x32 .f32 :=
  Host.dotGeneral dot_S8x4x2048x127_S127x32_S8x4x2048x32_3_0_012_1_n_n none (Host.reduceAdd p (constant S_ .f32 0x00000000#32) reducesTo_S8x4x4x2048x127_S8x4x2048x127_d2 h_S_) o

theorem blockImp_apply (p : FVec Ideal S8x4x4x2048x127 .f32) (o : FVec Ideal S127x32 .f32) (b : Fin 8) (h : Fin 4) (s : Fin 2048) (n : Fin 32) :
    blockImp p o (ix4 b h s n) = ∑ c : Fin 127, (∑ g : Fin 4, p (ix5 b h g s c)) * o (ix2 c n) := by
  pointwise [blockImp]

/-- The blocks always taken. -/
def always : IVec S2048x32 1 :=
  ori (ori (broadcastInDim S2048x32 ![0, 1] bcast_S1x32_S2048x32_0_1 (cmpi .eq (broadcastInDim S1x32 ![1] bcast_S32_S1x32_1 (iotaInDim S32 32 0)) (broadcastInDim S1x32 ![] bcast_S_S1x32 (constantI S_ 32 0#32)))) (cmpi .eq (broadcastInDim S2048x32 ![0, 1] bcast_S1x32_S2048x32_0_1 (broadcastInDim S1x32 ![1] bcast_S32_S1x32_1 (iotaInDim S32 32 0))) (broadcastInDim S2048x32 ![0, 1] bcast_S2048x1_S2048x32_0_1 (broadcastInDim S2048x1 ![0] bcast_S2048_S2048x1_0 (Host.divsi pos (broadcastInDim S2048 ![] bcast_S_S2048 (constantI S_ 32 64#32))))))) (cmpi .eq (broadcastInDim S2048x32 ![0, 1] bcast_S1x32_S2048x32_0_1 (broadcastInDim S1x32 ![1] bcast_S32_S1x32_1 (iotaInDim S32 32 0))) (broadcastInDim S2048x32 ![0, 1] bcast_S2048x1_S2048x32_0_1 (subi (broadcastInDim S2048x1 ![0] bcast_S2048_S2048x1_0 (Host.divsi pos (broadcastInDim S2048 ![] bcast_S_S2048 (constantI S_ 32 64#32)))) (broadcastInDim S2048x1 ![] bcast_S_S2048x1 (constantI S_ 32 1#32)))))

/-- A position's block. -/
theorem div_pos : ∀ t : Fin 2048, IntOp.divsi ArithUnit.host (BitVec.ofNat 32 t.val) 64#32 = BitVec.ofNat 32 (t.val / 64) := by
  decide +kernel

theorem always_apply (t : Fin 2048) (n : Fin 32) : always (ix2 t n) = BitVec.ofBool (decide (Attn.Forced n.val (t.val / 64))) := by
  pointwise [always, pos]
  rw [div_pos]
  exact Attn.forced_eq n ⟨t.val / 64, by omega⟩

/-- The blocks after the position. -/
def later : IVec S2048x32 1 :=
  cmpi .sgt (broadcastInDim S2048x32 ![0, 1] bcast_S1x32_S2048x32_0_1 (broadcastInDim S1x32 ![1] bcast_S32_S1x32_1 (iotaInDim S32 32 0))) (broadcastInDim S2048x32 ![0, 1] bcast_S2048x1_S2048x32_0_1 (broadcastInDim S2048x1 ![0] bcast_S2048_S2048x1_0 (Host.divsi pos (broadcastInDim S2048 ![] bcast_S_S2048 (constantI S_ 32 64#32)))))

theorem later_apply (t : Fin 2048) (n : Fin 32) : later (ix2 t n) = BitVec.ofBool (decide (t.val / 64 < n.val)) := by
  pointwise [later, pos]
  rw [div_pos, Attn.w_sgt _ _ (by omega) (by omega)]

/-- The value the blocks are picked by. -/
def place (i : FVec Ideal S8x4x2048x32 .f32) : FVec Ideal S8x4x2048x32 .f32 :=
  select (broadcastInDim S8x4x2048x32 ![2, 3] bcast_S2048x32_S8x4x2048x32_2_3 always) (broadcastInDim S8x4x2048x32 ![] bcast_S_S8x4x2048x32 (constant S_ .f32 0x7F800000#32)) (select (broadcastInDim S8x4x2048x32 ![2, 3] bcast_S2048x32_S8x4x2048x32_2_3 later) (broadcastInDim S8x4x2048x32 ![] bcast_S_S8x4x2048x32 (constant S_ .f32 0xFF800000#32)) i)

theorem place_apply (i : FVec Ideal S8x4x2048x32 .f32) (b : Fin 8) (h : Fin 4) (t : Fin 2048) (n : Fin 32) :
    place i (ix4 b h t n) = if Attn.Forced n.val (t.val / 64) then (⊤ : EReal) else if t.val / 64 < n.val then ⊥ else i (ix4 b h t n) := by
  pointwise [place]
  rw [always_apply, later_apply, Attn.select_bit, Attn.select_bit, Attn.bits_ninf, Finite.bits_inf]

/-- The sixteen blocks picked. -/
def picked (x : FVec Ideal S8x4x2048x32 .f32) : IVec S8x4x2048x16 32 :=
  (Host.topK S8x4x2048x16 3 (FloatOps.cmpfTotal .gt) x sliceFits_S8x4x2048x32_S8x4x2048x16).2

theorem sortBy_at {ι α : Type} (cmp : ι → ι → BitVec 1) (rows : S8x4x2048x32.Idx → ι) (y : S8x4x2048x32.Idx → α) (j : S8x4x2048x32.Idx) :
    Host.sortBy S8x4x2048x32 3 cmp rows y j = y (j.along 3 (sortedFrom (fun k k' => cmp (rows (j.along 3 k)) (rows (j.along 3 k')) == 1#1) (j 3))) :=
  dif_pos (show 3 < S8x4x2048x32.rank by decide)

theorem picked_apply (x : FVec Ideal S8x4x2048x32 .f32) (b : Fin 8) (h : Fin 4) (t : Fin 2048) (j : Fin 16) :
    picked x (ix4 b h t j) = BitVec.ofNat 32 (sortedFrom (Attn.gtB fun n => x (ix4 b h t n)) ⟨j.val, by omega⟩).val := by
  unfold picked Host.topK
  dsimp only
  rw [Host.sort2_eq_sortBy]
  unfold extractStridedSlice
  have hy : ∀ f : S8x4x2048x32.Idx → BitVec 32, ∀ p, f (fun a => ⟨0 + (ix4 b h t j (Fin.cast p a)).val, by fin_cases a <;> simp <;> omega⟩) = f (ix4 b h t ⟨j.val, by omega⟩) := by
    intro f p
    refine congrArg f (funext fun a => Fin.ext ?_)
    fin_cases a <;> exact Nat.zero_add _
  refine (hy _ _).trans ?_
  have hal : ∀ k : Fin (S8x4x2048x32.size 3), (ix4 b h t ⟨j.val, by omega⟩ : S8x4x2048x32.Idx).along 3 k = ix4 b h t k := fun k => by
    funext a; fin_cases a <;> rfl
  dsimp only
  rw [sortBy_at]
  have hb : (fun k k' : Fin 32 => FloatOps.cmpfTotal (F := Ideal) (φ := .f32) .gt (x (ix4 b h t k)) (x (ix4 b h t k')) == 1#1) = Attn.gtB fun n => x (ix4 b h t n) := by
    funext k k'
    unfold Attn.gtB
    show (Ideal.cmp .ogt (x (ix4 b h t k)) (x (ix4 b h t k')) == 1#1) = _
    unfold Ideal.cmp
    by_cases hlt : (x (ix4 b h t k') : EReal) < x (ix4 b h t k)
    · simp [hlt]
    · simp [hlt]
  simp only [hal]
  rw [dif_pos (show 3 < 4 by decide)]
  exact congrArg (fun f : Fin 32 → Fin 32 → Bool => BitVec.ofNat 32 (sortedFrom f (⟨j.val, by omega⟩ : Fin 32)).val) hb

/-- Keys by block. -/
def blocks (k : FVec Ideal S8x4x2048x64 .f32) : FVec Ideal S8x4x32x64x64 .f32 :=
  shapeCast _ k shapeCasts_S8x4x2048x64_S8x4x32x64x64

theorem blocks_apply (k : FVec Ideal S8x4x2048x64 .f32) (b : Fin 8) (h : Fin 4) (n : Fin 32) (o x : Fin 64) :
    blocks k (ix5 b h n o x) = k (ix4 b h ⟨n.val * 64 + o.val, by omega⟩ x) := by
  pointwise [blocks]

/-- The batch component of a block address. -/
def batchOf : IVec S8x1x1x1 32 :=
  select (cmpi .slt (broadcastInDim S8x1x1x1 ![0] bcast_S8_S8x1x1x1_0 (iotaInDim S8 32 0)) (broadcastInDim S8x1x1x1 ![] bcast_S_S8x1x1x1 (constantI S_ 32 0#32))) (addi (broadcastInDim S8x1x1x1 ![0] bcast_S8_S8x1x1x1_0 (iotaInDim S8 32 0)) (broadcastInDim S8x1x1x1 ![] bcast_S_S8x1x1x1 (constantI S_ 32 8#32))) (broadcastInDim S8x1x1x1 ![0] bcast_S8_S8x1x1x1_0 (iotaInDim S8 32 0))

/-- The head component of a block address. -/
def headOf : IVec S1x4x1x1 32 :=
  select (cmpi .slt (broadcastInDim S1x4x1x1 ![1] bcast_S4_S1x4x1x1_1 (iotaInDim S4 32 0)) (broadcastInDim S1x4x1x1 ![] bcast_S_S1x4x1x1 (constantI S_ 32 0#32))) (addi (broadcastInDim S1x4x1x1 ![1] bcast_S4_S1x4x1x1_1 (iotaInDim S4 32 0)) (broadcastInDim S1x4x1x1 ![] bcast_S_S1x4x1x1 (constantI S_ 32 4#32))) (broadcastInDim S1x4x1x1 ![1] bcast_S4_S1x4x1x1_1 (iotaInDim S4 32 0))

/-- An index that is not negative is kept. -/
theorem nonneg_kept (n : ℕ) (h : n < 2147483648) (w : BitVec 32) :
    Scalar.select (IntOp.cmpi .slt (BitVec.ofNat 32 n) 0#32) w (BitVec.ofNat 32 n) = BitVec.ofNat 32 n := by
  rw [Attn.w_slt _ _ h (by omega), Attn.select_bit, if_neg (Nat.not_lt_zero n)]

theorem batchOf_apply (b : Fin 8) (y z w : Fin 1) : batchOf (ix4 b y z w) = BitVec.ofNat 32 b.val := by
  pointwise [batchOf]
  exact nonneg_kept _ (by omega) _

theorem headOf_apply (h : Fin 4) (y z w : Fin 1) : headOf (ix4 y h z w) = BitVec.ofNat 32 h.val := by
  pointwise [headOf]
  exact nonneg_kept _ (by omega) _

/-- The picked blocks' addresses. -/
def addr (i : IVec S8x4x2048x16 32) : IVec S8x4x2048x16x3 32 :=
  join (broadcastInDim S8x4x2048x16x1 ![0, 1, 2, 3] bcast_S8x4x2048x16_S8x4x2048x16x1_0_1_2_3 (broadcastInDim S8x4x2048x16 ![0, 1, 2, 3] bcast_S8x1x1x1_S8x4x2048x16_0_1_2_3 batchOf)) (broadcastInDim S8x4x2048x16x1 ![0, 1, 2, 3] bcast_S8x4x2048x16_S8x4x2048x16x1_0_1_2_3 (broadcastInDim S8x4x2048x16 ![0, 1, 2, 3] bcast_S1x4x1x1_S8x4x2048x16_0_1_2_3 headOf)) (broadcastInDim S8x4x2048x16x1 ![0, 1, 2, 3] bcast_S8x4x2048x16_S8x4x2048x16x1_0_1_2_3 (select (cmpi .slt i (broadcastInDim S8x4x2048x16 ![] bcast_S_S8x4x2048x16 (constantI S_ 32 0#32))) (addi i (broadcastInDim S8x4x2048x16 ![] bcast_S_S8x4x2048x16 (constantI S_ 32 32#32))) i))

theorem addr_apply (i : IVec S8x4x2048x16 32) (b : Fin 8) (h : Fin 4) (t : Fin 2048) (j : Fin 16) (n : Fin 32) (hn : i (ix4 b h t j) = BitVec.ofNat 32 n.val) :
    addr i (ix5 b h t j 0) = BitVec.ofNat 32 b.val ∧ addr i (ix5 b h t j 1) = BitVec.ofNat 32 h.val ∧ addr i (ix5 b h t j 2) = BitVec.ofNat 32 n.val := by
  refine ⟨?_, ?_, ?_⟩
  · pointwise [addr, join]
    exact batchOf_apply b 0 0 0
  · pointwise [addr, join]
    exact headOf_apply h 0 0 0
  · pointwise [addr, join]
    rw [hn]
    exact nonneg_kept _ (by omega) _

/-- The picked blocks' keys in a row. -/
def taken (k : FVec Ideal S8x4x32x64x64 .f32) (a : IVec S8x4x2048x16x3 32) : FVec Ideal S8x4x2048x1024x64 .f32 :=
  shapeCast _ (Host.gather gather_S8x4x32x64x64_S8x4x2048x16x3_S8x4x2048x16x64x64_45_012_n_n_012_4_1116464 k a) shapeCasts_S8x4x2048x16x64x64_S8x4x2048x1024x64

theorem taken_apply (k : FVec Ideal S8x4x32x64x64 .f32) (i : IVec S8x4x2048x16 32) (b : Fin 8) (h : Fin 4) (t : Fin 2048) (c : Fin 1024) (x : Fin 64) (n : Fin 32)
    (hn : i (ix4 b h t ⟨c.val / 64, by omega⟩) = BitVec.ofNat 32 n.val) :
    taken k (addr i) (ix5 b h t c x) = k (ix5 b h n ⟨c.val % 64, by omega⟩ x) := by
  obtain ⟨h0, h1, h2⟩ := addr_apply i b h t ⟨c.val / 64, by omega⟩ n hn
  generalize addr i = a at *
  pointwise [taken]
  refine congrArg k (funext fun y => Fin.ext ?_)
  have hb : (BitVec.ofNat 32 b.val).toInt.toNat = b.val := by rw [Attn.w_toInt _ (by omega)]; rfl
  have hh : (BitVec.ofNat 32 h.val).toInt.toNat = h.val := by rw [Attn.w_toInt _ (by omega)]; rfl
  have hm : (BitVec.ofNat 32 n.val).toInt.toNat = n.val := by rw [Attn.w_toInt _ (by omega)]; rfl
  have key : ∀ (z : S8x4x2048x16x3.Idx) (r : Fin 3) (m v : ℕ), z = ix5 b h t ⟨c.val / 64, by omega⟩ r →
      (a (ix5 b h t ⟨c.val / 64, by omega⟩ r)).toInt.toNat = v → v ≤ m → min (a z).toInt.toNat m + 0 + 0 = v := by
    rintro _ r m v rfl hv hm
    rw [hv]; omega
  fin_cases y
  · exact key _ 0 7 b.val (funext fun z => by fin_cases z <;> rfl) (by rw [h0, hb]) (by omega)
  · exact key _ 1 3 h.val (funext fun z => by fin_cases z <;> rfl) (by rw [h1, hh]) (by omega)
  · exact key _ 2 31 n.val (funext fun z => by fin_cases z <;> rfl) (by rw [h2, hm]) (by omega)
  · show 0 + 0 + c.val % 64 = c.val % 64
    omega
  · show 0 + 0 + x.val = x.val
    omega

/-- The picked keys' positions. -/
def keyPos (i : IVec S8x4x2048x16 32) : IVec S8x4x2048x1024 32 :=
  shapeCast _ (addi (broadcastInDim S8x4x2048x16x64 ![0, 1, 2, 3, 4] bcast_S8x4x2048x16x1_S8x4x2048x16x64_0_1_2_3_4 (muli (broadcastInDim S8x4x2048x16x1 ![0, 1, 2, 3] bcast_S8x4x2048x16_S8x4x2048x16x1_0_1_2_3 i) (broadcastInDim S8x4x2048x16x1 ![] bcast_S_S8x4x2048x16x1 (constantI S_ 32 64#32)))) (broadcastInDim S8x4x2048x16x64 ![0, 1, 2, 3, 4] bcast_S1x1x1x1x64_S8x4x2048x16x64_0_1_2_3_4 (broadcastInDim S1x1x1x1x64 ![4] bcast_S64_S1x1x1x1x64_4 (iotaInDim S64 32 0)))) shapeCasts_S8x4x2048x16x64_S8x4x2048x1024

theorem keyPos_apply (i : IVec S8x4x2048x16 32) (b : Fin 8) (h : Fin 4) (t : Fin 2048) (c : Fin 1024) :
    keyPos i (ix4 b h t c) = IntOp.addi (IntOp.muli (i (ix4 b h t ⟨c.val / 64, by omega⟩)) 64#32) (BitVec.ofNat 32 (c.val % 64)) := by
  pointwise [keyPos]

/-- Scores against the picked keys. -/
def scores1024 (k : FVec Ideal S8x4x2048x1024x64 .f32) (q : FVec Ideal S8x2048x4x4x64 .f32) : FVec Ideal S8x4x4x2048x1024 .f32 :=
  transpose S8x4x4x2048x1024 [0, 1, 4, 2, 3] (Host.dotGeneral dot_S8x4x2048x1024x64_S8x2048x4x4x64_S8x4x2048x1024x4_4_4_3_3_012_021 none k q) transposes_S8x4x2048x1024x4_S8x4x4x2048x1024_0_1_4_2_3

theorem scores1024_apply (k : FVec Ideal S8x4x2048x1024x64 .f32) (q : FVec Ideal S8x2048x4x4x64 .f32) (b : Fin 8) (h g : Fin 4) (s : Fin 2048) (c : Fin 1024) :
    scores1024 k q (ix5 b h g s c) = ∑ x : Fin 64, k (ix5 b h s c x) * q (ix5 b s h g x) := by
  pointwise [scores1024]

/-- The picked keys a position sees. -/
def seen1024 (kp : IVec S8x4x2048x1024 32) : IVec S8x4x1x2048x1024 1 :=
  broadcastInDim S8x4x1x2048x1024 ![0, 1, 3, 4] bcast_S8x4x2048x1024_S8x4x1x2048x1024_0_1_3_4 (cmpi .sle kp (broadcastInDim S8x4x2048x1024 ![0, 1, 2, 3] bcast_S1x1x2048x1_S8x4x2048x1024_0_1_2_3 (broadcastInDim S1x1x2048x1 ![2] bcast_S2048_S1x1x2048x1_2 pos)))

theorem seen1024_apply (kp : IVec S8x4x2048x1024 32) (b : Fin 8) (h : Fin 4) (t : Fin 2048) (c : Fin 1024) :
    seen1024 kp (ix5 b h 0 t c) = IntOp.cmpi .sle (kp (ix4 b h t c)) (BitVec.ofNat 32 t.val) := by
  pointwise [seen1024, pos]

/-- The picked values mixed. -/
def mix1024 (p : FVec Ideal S8x4x4x2048x1024 .f32) (v : FVec Ideal S8x4x2048x1024x64 .f32) : FVec Ideal S8x2048x4x4x64 .f32 :=
  Host.dotGeneral dot_S8x4x4x2048x1024_S8x4x2048x1024x64_S8x2048x4x4x64_4_3_2_4_031_021 none p v

theorem mix1024_apply (p : FVec Ideal S8x4x4x2048x1024 .f32) (v : FVec Ideal S8x4x2048x1024x64 .f32) (b : Fin 8) (h g : Fin 4) (s : Fin 2048) (d : Fin 64) :
    mix1024 p v (ix5 b s h g d) = ∑ c : Fin 1024, p (ix5 b h g s c) * v (ix5 b h s c d) := by
  pointwise [mix1024]

/-- Scores against all keys. -/
def scores2048 (k : FVec Ideal S8x4x2048x64 .f32) (q : FVec Ideal S8x2048x4x4x64 .f32) : FVec Ideal S8x4x4x2048x2048 .f32 :=
  transpose S8x4x4x2048x2048 [0, 1, 4, 3, 2] (Host.dotGeneral dot_S8x4x2048x64_S8x2048x4x4x64_S8x4x2048x2048x4_3_4_2_13_01_02 none k q) transposes_S8x4x2048x2048x4_S8x4x4x2048x2048_0_1_4_3_2

theorem scores2048_apply (k : FVec Ideal S8x4x2048x64 .f32) (q : FVec Ideal S8x2048x4x4x64 .f32) (b : Fin 8) (h g : Fin 4) (s c : Fin 2048) :
    scores2048 k q (ix5 b h g s c) = ∑ x : Fin 64, k (ix4 b h c x) * q (ix5 b s h g x) := by
  pointwise [scores2048]

/-- The window's keys. -/
def seen2048 : IVec S2048x2048 1 :=
  andi (cmpi .sle (broadcastInDim S2048x2048 ![0, 1] bcast_S1x2048_S2048x2048_0_1 (broadcastInDim S1x2048 ![1] bcast_S2048_S1x2048_1 pos)) (broadcastInDim S2048x2048 ![0, 1] bcast_S2048x1_S2048x2048_0_1 (broadcastInDim S2048x1 ![0] bcast_S2048_S2048x1_0 pos))) (cmpi .sgt (broadcastInDim S2048x2048 ![0, 1] bcast_S1x2048_S2048x2048_0_1 (broadcastInDim S1x2048 ![1] bcast_S2048_S1x2048_1 pos)) (broadcastInDim S2048x2048 ![0, 1] bcast_S2048x1_S2048x2048_0_1 (subi (broadcastInDim S2048x1 ![0] bcast_S2048_S2048x1_0 pos) (broadcastInDim S2048x1 ![] bcast_S_S2048x1 (constantI S_ 32 512#32)))))

theorem seen2048_apply (t k : Fin 2048) : seen2048 (ix2 t k) = Attn.wmask t.val k := by
  pointwise [seen2048, pos]
  rw [Attn.w_sle _ _ (by omega) (by omega), Attn.w_window _ _ (by omega) (by omega), Attn.and_bits]
  rfl

/-- The values mixed. -/
def mix2048 (v : FVec Ideal S8x4x2048x64 .f32) (p : FVec Ideal S8x4x4x2048x2048 .f32) : FVec Ideal S8x2048x4x4x64 .f32 :=
  transpose S8x2048x4x4x64 [0, 4, 1, 3, 2] (Host.dotGeneral dot_S8x4x2048x64_S8x4x4x2048x2048_S8x4x64x4x2048_2_4_3_23_01_01 none v p) transposes_S8x4x64x4x2048_S8x2048x4x4x64_0_4_1_3_2

theorem mix2048_apply (v : FVec Ideal S8x4x2048x64 .f32) (p : FVec Ideal S8x4x4x2048x2048 .f32) (b : Fin 8) (h g : Fin 4) (s : Fin 2048) (d : Fin 64) :
    mix2048 v p (ix5 b s h g d) = ∑ c : Fin 2048, v (ix4 b h c d) * p (ix5 b h g s c) := by
  pointwise [mix2048]

/-- The gates by batch, position, head, query head and branch. -/
def gates (g : FVec Ideal S16384x128 .f32) : FVec Ideal S8x2048x4x4x3 .f32 :=
  shapeCast _ (extractStridedSlice S16384x48 ![0, 0] g slices_S16384x128_S16384x48_0_0) shapeCasts_S16384x48_S8x2048x4x4x3

theorem gates_apply (g : FVec Ideal S16384x128 .f32) (b : Fin 8) (s : Fin 2048) (h e : Fin 4) (r : Fin 3) :
    gates g (ix5 b s h e r) = g (ix2 ⟨b.val * 2048 + s.val, by omega⟩ ⟨h.val * 12 + e.val * 3 + r.val, by omega⟩) := by
  pointwise [gates]

/-- The three branches, gated and added. -/
def gated (g : FVec Ideal S8x2048x4x4x3 .f32) (u : FVec Ideal S8x2048x4x4x64 .f32) (v : FVec Ideal S8x2048x4x4x64 .f32) (w : FVec Ideal S8x2048x4x4x64 .f32) : FVec Ideal S8x2048x4x4x64 .f32 :=
  addf (addf (mulf (broadcastInDim S8x2048x4x4x64 ![0, 1, 2, 3, 4] bcast_S8x2048x4x4x1_S8x2048x4x4x64_0_1_2_3_4 (extractStridedSlice S8x2048x4x4x1 ![0, 0, 0, 0, 0] g slices_S8x2048x4x4x3_S8x2048x4x4x1_0_0_0_0_0)) u) (mulf (broadcastInDim S8x2048x4x4x64 ![0, 1, 2, 3, 4] bcast_S8x2048x4x4x1_S8x2048x4x4x64_0_1_2_3_4 (extractStridedSlice S8x2048x4x4x1 ![0, 0, 0, 0, 1] g slices_S8x2048x4x4x3_S8x2048x4x4x1_0_0_0_0_1)) v)) (mulf (broadcastInDim S8x2048x4x4x64 ![0, 1, 2, 3, 4] bcast_S8x2048x4x4x1_S8x2048x4x4x64_0_1_2_3_4 (extractStridedSlice S8x2048x4x4x1 ![0, 0, 0, 0, 2] g slices_S8x2048x4x4x3_S8x2048x4x4x1_0_0_0_0_2)) w)

theorem gated_apply (g : FVec Ideal S8x2048x4x4x3 .f32) (u v w : FVec Ideal S8x2048x4x4x64 .f32) (b : Fin 8) (s : Fin 2048) (h e : Fin 4) (d : Fin 64) :
    gated g u v w (ix5 b s h e d) = (g (ix5 b s h e 0) * u (ix5 b s h e d) + g (ix5 b s h e 1) * v (ix5 b s h e d) + g (ix5 b s h e 2) * w (ix5 b s h e d) : EReal) := by
  pointwise [gated]

/-- The result by row. -/
def rows (x : FVec Ideal S8x2048x4x4x64 .f32) : FVec Ideal S16384x1024 .f32 :=
  shapeCast _ x shapeCasts_S8x2048x4x4x64_S16384x1024

theorem rows_apply (x : FVec Ideal S8x2048x4x4x64 .f32) (r : Fin 16384) (k : Fin 1024) :
    rows x (ix2 r k) = x (ix5 ⟨r.val / 2048, by omega⟩ ⟨r.val % 2048, by omega⟩ ⟨k.val / 256, by omega⟩ ⟨k.val / 64 % 4, by omega⟩ ⟨k.val % 64, by omega⟩) := by
  pointwise [rows]

end Cert.AttnRefIdeal.Fn

end
-- ==== Proof.AttnRefOps.lean ====
/-
  The attention reference as a list of operations cut into stages, and its run: every weakly fair execution ends with each buffer at
  what the list leaves there.
-/
module

public import proofs.«01_k».proof.Proof.AttnRefFns
public import Idealize.ShloMosaic.Lib.StableHlo.Run
public import Idealize.ShloMosaic.Lib.Pipeline.Frame

@[expose] public section

set_option maxRecDepth 8192
set_option Elab.async false

noncomputable section

namespace Cert.AttnRefIdeal.Line

open Cert.AttnRefIdeal Cert.AttnRefIdeal.Gen Idealize.ShloMosaic Idealize.ShloMosaic.TcCoe Idealize.SL.Sem Idealize.ShloMosaic.StableHlo

variable {F : FTy → Type} [FloatOps F]

abbrev segA : List (HloOp τ sig (Elt F)) :=
  [ reshape main_arg0 main_v0 (rfl : (.f32 : EltTy) = .f32) shapeCasts_S16384x1024_S8x2048x4x4x64,
    unary main_arg1 main_v1 ((extractStridedSlice S8x4x127x64 ![0, 0, 0, 0] · slices_S8x4x128x64_S8x4x127x64_0_0_0_0) : (⟨S8x4x128x64, .f32⟩ : BufTy).Contents (Elt F) → (⟨S8x4x127x64, .f32⟩ : BufTy).Contents (Elt F)),
    unary main_arg2 main_v2 ((extractStridedSlice S8x4x127x64 ![0, 0, 0, 0] · slices_S8x4x128x64_S8x4x127x64_0_0_0_0) : (⟨S8x4x128x64, .f32⟩ : BufTy).Contents (Elt F) → (⟨S8x4x127x64, .f32⟩ : BufTy).Contents (Elt F)),
    unary main_arg3 main_v3 ((extf .f32 · bitsLt_bf16_f32) : (⟨S8x4x2048x64, .bf16⟩ : BufTy).Contents (Elt F) → (⟨S8x4x2048x64, .f32⟩ : BufTy).Contents (Elt F)),
    unary main_arg4 main_v4 ((extf .f32 · bitsLt_bf16_f32) : (⟨S8x4x2048x64, .bf16⟩ : BufTy).Contents (Elt F) → (⟨S8x4x2048x64, .f32⟩ : BufTy).Contents (Elt F)),
    unary main_arg5 main_v5 ((extf .f32 · bitsLt_bf16_f32) : (⟨S8x4x2048x64, .bf16⟩ : BufTy).Contents (Elt F) → (⟨S8x4x2048x64, .f32⟩ : BufTy).Contents (Elt F)),
    unary main_arg6 main_v6 ((extf .f32 · bitsLt_bf16_f32) : (⟨S8x4x2048x64, .bf16⟩ : BufTy).Contents (Elt F) → (⟨S8x4x2048x64, .f32⟩ : BufTy).Contents (Elt F)),
    nullary main_v7 (iotaInDim S2048 32 0),
    nullary main_v8 (iotaInDim S127 32 0),
    nullary main_c (constantI S_ 32 16#32),
    unary main_c main_v9 (broadcastInDim S127 ![] bcast_S_S127 : (⟨S_, .i32⟩ : BufTy).Contents (Elt F) → (⟨S127, .i32⟩ : BufTy).Contents (Elt F)),
    binary main_v8 main_v9 main_v10 (muli : (⟨S127, .i32⟩ : BufTy).Contents (Elt F) → (⟨S127, .i32⟩ : BufTy).Contents (Elt F) → (⟨S127, .i32⟩ : BufTy).Contents (Elt F)),
    nullary main_c_0 (constantI S_ 32 31#32),
    unary main_c_0 main_v11 (broadcastInDim S127 ![] bcast_S_S127 : (⟨S_, .i32⟩ : BufTy).Contents (Elt F) → (⟨S127, .i32⟩ : BufTy).Contents (Elt F)),
    binary main_v10 main_v11 main_v12 (addi : (⟨S127, .i32⟩ : BufTy).Contents (Elt F) → (⟨S127, .i32⟩ : BufTy).Contents (Elt F) → (⟨S127, .i32⟩ : BufTy).Contents (Elt F)),
    binary main_v1 main_v0 main_v13 ((fun l r => Host.dotGeneral dot_S8x4x127x64_S8x2048x4x4x64_S8x4x127x2048x4_3_4_2_13_01_02 none l r) : (⟨S8x4x127x64, .f32⟩ : BufTy).Contents (Elt F) → (⟨S8x2048x4x4x64, .f32⟩ : BufTy).Contents (Elt F) → (⟨S8x4x127x2048x4, .f32⟩ : BufTy).Contents (Elt F)),
    unary main_v13 main_v14 ((transpose S8x4x4x2048x127 [0, 1, 4, 3, 2] · transposes_S8x4x127x2048x4_S8x4x4x2048x127_0_1_4_3_2) : (⟨S8x4x127x2048x4, .f32⟩ : BufTy).Contents (Elt F) → (⟨S8x4x4x2048x127, .f32⟩ : BufTy).Contents (Elt F)),
    unary main_v12 main_v15 (broadcastInDim S1x127 ![1] bcast_S127_S1x127_1 : (⟨S127, .i32⟩ : BufTy).Contents (Elt F) → (⟨S1x127, .i32⟩ : BufTy).Contents (Elt F)),
    unary main_v7 main_v16 (broadcastInDim S2048x1 ![0] bcast_S2048_S2048x1_0 : (⟨S2048, .i32⟩ : BufTy).Contents (Elt F) → (⟨S2048x1, .i32⟩ : BufTy).Contents (Elt F)),
    unary main_v15 main_v17 (broadcastInDim S2048x127 ![0, 1] bcast_S1x127_S2048x127_0_1 : (⟨S1x127, .i32⟩ : BufTy).Contents (Elt F) → (⟨S2048x127, .i32⟩ : BufTy).Contents (Elt F)),
    unary main_v16 main_v18 (broadcastInDim S2048x127 ![0, 1] bcast_S2048x1_S2048x127_0_1 : (⟨S2048x1, .i32⟩ : BufTy).Contents (Elt F) → (⟨S2048x127, .i32⟩ : BufTy).Contents (Elt F)),
    binary main_v17 main_v18 main_v19 (cmpi .sle : (⟨S2048x127, .i32⟩ : BufTy).Contents (Elt F) → (⟨S2048x127, .i32⟩ : BufTy).Contents (Elt F) → (⟨S2048x127, .i1⟩ : BufTy).Contents (Elt F)),
    nullary main_cst (constant S_ .f32 0xFF800000#32),
    TRef.unary (TRef.of (T := ⟨S_, .f32⟩) main_cst) (TRef.of (T := ⟨S_, .f32⟩) main_call0_v0) id,
    TRef.unary (TRef.of (T := ⟨S2048x127, .i1⟩) main_v19) (TRef.of (T := ⟨S8x4x4x2048x127, .i1⟩) main_call0_v1) (broadcastInDim S8x4x4x2048x127 ![3, 4] bcast_S2048x127_S8x4x4x2048x127_3_4),
    TRef.unary (TRef.of (T := ⟨S_, .f32⟩) main_call0_v0) (TRef.of (T := ⟨S8x4x4x2048x127, .f32⟩) main_call0_v2) (broadcastInDim S8x4x4x2048x127 ![] bcast_S_S8x4x4x2048x127),
    TRef.ternary (TRef.of (T := ⟨S8x4x4x2048x127, .i1⟩) main_call0_v1) (TRef.of (T := ⟨S8x4x4x2048x127, .f32⟩) main_v14) (TRef.of (T := ⟨S8x4x4x2048x127, .f32⟩) main_call0_v2) (TRef.of (T := ⟨S8x4x4x2048x127, .f32⟩) main_v20) select ]

abbrev segB : List (HloOp τ sig (Elt F)) :=
  [ nullary main_cst_1 (constant S_ .f32 0xFF800000#32),
    binary main_v20 main_cst_1 main_v21 ((fun x v => Host.reduce FloatOps.maximumf x v reducesTo_S8x4x4x2048x127_S8x4x4x2048_d4 h_S_) : (⟨S8x4x4x2048x127, .f32⟩ : BufTy).Contents (Elt F) → (⟨S_, .f32⟩ : BufTy).Contents (Elt F) → (⟨S8x4x4x2048, .f32⟩ : BufTy).Contents (Elt F)),
    unary main_v21 main_v22 (broadcastInDim S8x4x4x2048x1 ![0, 1, 2, 3] bcast_S8x4x4x2048_S8x4x4x2048x1_0_1_2_3 : (⟨S8x4x4x2048, .f32⟩ : BufTy).Contents (Elt F) → (⟨S8x4x4x2048x1, .f32⟩ : BufTy).Contents (Elt F)),
    unary main_v22 main_v23 (Host.absf : (⟨S8x4x4x2048x1, .f32⟩ : BufTy).Contents (Elt F) → (⟨S8x4x4x2048x1, .f32⟩ : BufTy).Contents (Elt F)),
    nullary main_cst_2 (constant S_ .f32 0x7F800000#32),
    unary main_cst_2 main_v24 (broadcastInDim S8x4x4x2048x1 ![] bcast_S_S8x4x4x2048x1 : (⟨S_, .f32⟩ : BufTy).Contents (Elt F) → (⟨S8x4x4x2048x1, .f32⟩ : BufTy).Contents (Elt F)),
    binary main_v23 main_v24 main_v25 (cmpf .olt : (⟨S8x4x4x2048x1, .f32⟩ : BufTy).Contents (Elt F) → (⟨S8x4x4x2048x1, .f32⟩ : BufTy).Contents (Elt F) → (⟨S8x4x4x2048x1, .i1⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S8x4x4x2048x1, .f32⟩) main_call1_v1) (broadcastInDim S8x4x4x2048x1 ![] bcast_S_S8x4x4x2048x1),
    TRef.ternary (TRef.of (T := ⟨S8x4x4x2048x1, .i1⟩) main_v25) (TRef.of (T := ⟨S8x4x4x2048x1, .f32⟩) main_v22) (TRef.of (T := ⟨S8x4x4x2048x1, .f32⟩) main_call1_v1) (TRef.of (T := ⟨S8x4x4x2048x1, .f32⟩) main_v26) select,
    unary main_v26 main_v27 (broadcastInDim S8x4x4x2048x127 ![0, 1, 2, 3, 4] bcast_S8x4x4x2048x1_S8x4x4x2048x127_0_1_2_3_4 : (⟨S8x4x4x2048x1, .f32⟩ : BufTy).Contents (Elt F) → (⟨S8x4x4x2048x127, .f32⟩ : BufTy).Contents (Elt F)),
    binary main_v20 main_v27 main_v28 (subf : (⟨S8x4x4x2048x127, .f32⟩ : BufTy).Contents (Elt F) → (⟨S8x4x4x2048x127, .f32⟩ : BufTy).Contents (Elt F) → (⟨S8x4x4x2048x127, .f32⟩ : BufTy).Contents (Elt F)),
    unary main_v28 main_v29 (Host.exp : (⟨S8x4x4x2048x127, .f32⟩ : BufTy).Contents (Elt F) → (⟨S8x4x4x2048x127, .f32⟩ : BufTy).Contents (Elt F)),
    nullary main_cst_4 (constant S_ .f32 0x00000000#32),
    TRef.unary (TRef.of (T := ⟨S_, .f32⟩) main_cst_4) (TRef.of (T := ⟨S_, .f32⟩) main_call2_v0) id,
    TRef.unary (TRef.of (T := ⟨S2048x127, .i1⟩) main_v19) (TRef.of (T := ⟨S8x4x4x2048x127, .i1⟩) main_call2_v1) (broadcastInDim S8x4x4x2048x127 ![3, 4] bcast_S2048x127_S8x4x4x2048x127_3_4),
    TRef.unary (TRef.of (T := ⟨S_, .f32⟩) main_call2_v0) (TRef.of (T := ⟨S8x4x4x2048x127, .f32⟩) main_call2_v2) (broadcastInDim S8x4x4x2048x127 ![] bcast_S_S8x4x4x2048x127),
    TRef.ternary (TRef.of (T := ⟨S8x4x4x2048x127, .i1⟩) main_call2_v1) (TRef.of (T := ⟨S8x4x4x2048x127, .f32⟩) main_v29) (TRef.of (T := ⟨S8x4x4x2048x127, .f32⟩) main_call2_v2) (TRef.of (T := ⟨S8x4x4x2048x127, .f32⟩) main_v30) select,
    nullary main_cst_5 (constant S_ .f32 0x00000000#32),
    binary main_v30 main_cst_5 main_v31 ((fun x v => Host.reduceAdd x v reducesTo_S8x4x4x2048x127_S8x4x4x2048_d4 h_S_) : (⟨S8x4x4x2048x127, .f32⟩ : BufTy).Contents (Elt F) → (⟨S_, .f32⟩ : BufTy).Contents (Elt F) → (⟨S8x4x4x2048, .f32⟩ : BufTy).Contents (Elt F)),
    unary main_v31 main_v32 (broadcastInDim S8x4x4x2048x1 ![0, 1, 2, 3] bcast_S8x4x4x2048_S8x4x4x2048x1_0_1_2_3 : (⟨S8x4x4x2048, .f32⟩ : BufTy).Contents (Elt F) → (⟨S8x4x4x2048x1, .f32⟩ : BufTy).Contents (Elt F)),
    nullary main_cst_6 (constant S_ .f32 0x0DA24260#32),
    unary main_cst_6 main_v33 (broadcastInDim S8x4x4x2048x1 ![] bcast_S_S8x4x4x2048x1 : (⟨S_, .f32⟩ : BufTy).Contents (Elt F) → (⟨S8x4x4x2048x1, .f32⟩ : BufTy).Contents (Elt F)),
    binary main_v32 main_v33 main_v34 (maximumf : (⟨S8x4x4x2048x1, .f32⟩ : BufTy).Contents (Elt F) → (⟨S8x4x4x2048x1, .f32⟩ : BufTy).Contents (Elt F) → (⟨S8x4x4x2048x1, .f32⟩ : BufTy).Contents (Elt F)),
    unary main_v34 main_v35 (broadcastInDim S8x4x4x2048x127 ![0, 1, 2, 3, 4] bcast_S8x4x4x2048x1_S8x4x4x2048x127_0_1_2_3_4 : (⟨S8x4x4x2048x1, .f32⟩ : BufTy).Contents (Elt F) → (⟨S8x4x4x2048x127, .f32⟩ : BufTy).Contents (Elt F)),
    binary main_v30 main_v35 main_v36 (Host.divf : (⟨S8x4x4x2048x127, .f32⟩ : BufTy).Contents (Elt F) → (⟨S8x4x4x2048x127, .f32⟩ : BufTy).Contents (Elt F) → (⟨S8x4x4x2048x127, .f32⟩ : BufTy).Contents (Elt F)) ]

abbrev segC : List (HloOp τ sig (Elt F)) :=
  [ binary main_v2 main_v36 main_v37 ((fun l r => Host.dotGeneral dot_S8x4x127x64_S8x4x4x2048x127_S8x4x64x4x2048_2_4_3_23_01_01 none l r) : (⟨S8x4x127x64, .f32⟩ : BufTy).Contents (Elt F) → (⟨S8x4x4x2048x127, .f32⟩ : BufTy).Contents (Elt F) → (⟨S8x4x64x4x2048, .f32⟩ : BufTy).Contents (Elt F)),
    unary main_v37 main_v38 ((transpose S8x2048x4x4x64 [0, 4, 1, 3, 2] · transposes_S8x4x64x4x2048_S8x2048x4x4x64_0_4_1_3_2) : (⟨S8x4x64x4x2048, .f32⟩ : BufTy).Contents (Elt F) → (⟨S8x2048x4x4x64, .f32⟩ : BufTy).Contents (Elt F)) ]

abbrev segD : List (HloOp τ sig (Elt F)) :=
  [ nullary main_v39 (iotaInDim S127 32 0),
    unary main_v39 main_v40 (broadcastInDim S127x1 ![0] bcast_S127_S127x1_0 : (⟨S127, .i32⟩ : BufTy).Contents (Elt F) → (⟨S127x1, .i32⟩ : BufTy).Contents (Elt F)),
    nullary main_c_7 (constantI S_ 32 16#32),
    unary main_c_7 main_v41 (broadcastInDim S127x1 ![] bcast_S_S127x1 : (⟨S_, .i32⟩ : BufTy).Contents (Elt F) → (⟨S127x1, .i32⟩ : BufTy).Contents (Elt F)),
    binary main_v40 main_v41 main_v42 (muli : (⟨S127x1, .i32⟩ : BufTy).Contents (Elt F) → (⟨S127x1, .i32⟩ : BufTy).Contents (Elt F) → (⟨S127x1, .i32⟩ : BufTy).Contents (Elt F)),
    nullary main_v43 (iotaInDim S32 32 0),
    unary main_v43 main_v44 (broadcastInDim S1x32 ![1] bcast_S32_S1x32_1 : (⟨S32, .i32⟩ : BufTy).Contents (Elt F) → (⟨S1x32, .i32⟩ : BufTy).Contents (Elt F)),
    nullary main_c_8 (constantI S_ 32 64#32),
    unary main_c_8 main_v45 (broadcastInDim S1x32 ![] bcast_S_S1x32 : (⟨S_, .i32⟩ : BufTy).Contents (Elt F) → (⟨S1x32, .i32⟩ : BufTy).Contents (Elt F)),
    binary main_v44 main_v45 main_v46 (muli : (⟨S1x32, .i32⟩ : BufTy).Contents (Elt F) → (⟨S1x32, .i32⟩ : BufTy).Contents (Elt F) → (⟨S1x32, .i32⟩ : BufTy).Contents (Elt F)),
    nullary main_c_9 (constantI S_ 32 32#32),
    unary main_c_9 main_v47 (broadcastInDim S127x1 ![] bcast_S_S127x1 : (⟨S_, .i32⟩ : BufTy).Contents (Elt F) → (⟨S127x1, .i32⟩ : BufTy).Contents (Elt F)) ]

abbrev segE : List (HloOp τ sig (Elt F)) :=
  [ binary main_v42 main_v47 main_v48 (addi : (⟨S127x1, .i32⟩ : BufTy).Contents (Elt F) → (⟨S127x1, .i32⟩ : BufTy).Contents (Elt F) → (⟨S127x1, .i32⟩ : BufTy).Contents (Elt F)),
    nullary main_c_10 (constantI S_ 32 64#32),
    unary main_c_10 main_v49 (broadcastInDim S1x32 ![] bcast_S_S1x32 : (⟨S_, .i32⟩ : BufTy).Contents (Elt F) → (⟨S1x32, .i32⟩ : BufTy).Contents (Elt F)),
    binary main_v46 main_v49 main_v50 (addi : (⟨S1x32, .i32⟩ : BufTy).Contents (Elt F) → (⟨S1x32, .i32⟩ : BufTy).Contents (Elt F) → (⟨S1x32, .i32⟩ : BufTy).Contents (Elt F)),
    unary main_v48 main_v51 (broadcastInDim S127x32 ![0, 1] bcast_S127x1_S127x32_0_1 : (⟨S127x1, .i32⟩ : BufTy).Contents (Elt F) → (⟨S127x32, .i32⟩ : BufTy).Contents (Elt F)),
    unary main_v50 main_v52 (broadcastInDim S127x32 ![0, 1] bcast_S1x32_S127x32_0_1 : (⟨S1x32, .i32⟩ : BufTy).Contents (Elt F) → (⟨S127x32, .i32⟩ : BufTy).Contents (Elt F)),
    binary main_v51 main_v52 main_v53 (minsi : (⟨S127x32, .i32⟩ : BufTy).Contents (Elt F) → (⟨S127x32, .i32⟩ : BufTy).Contents (Elt F) → (⟨S127x32, .i32⟩ : BufTy).Contents (Elt F)),
    unary main_v42 main_v54 (broadcastInDim S127x32 ![0, 1] bcast_S127x1_S127x32_0_1 : (⟨S127x1, .i32⟩ : BufTy).Contents (Elt F) → (⟨S127x32, .i32⟩ : BufTy).Contents (Elt F)),
    unary main_v46 main_v55 (broadcastInDim S127x32 ![0, 1] bcast_S1x32_S127x32_0_1 : (⟨S1x32, .i32⟩ : BufTy).Contents (Elt F) → (⟨S127x32, .i32⟩ : BufTy).Contents (Elt F)),
    binary main_v54 main_v55 main_v56 (maxsi : (⟨S127x32, .i32⟩ : BufTy).Contents (Elt F) → (⟨S127x32, .i32⟩ : BufTy).Contents (Elt F) → (⟨S127x32, .i32⟩ : BufTy).Contents (Elt F)),
    binary main_v53 main_v56 main_v57 (subi : (⟨S127x32, .i32⟩ : BufTy).Contents (Elt F) → (⟨S127x32, .i32⟩ : BufTy).Contents (Elt F) → (⟨S127x32, .i32⟩ : BufTy).Contents (Elt F)),
    nullary main_c_11 (constantI S_ 32 0#32),
    unary main_c_11 main_v58 (broadcastInDim S127x32 ![] bcast_S_S127x32 : (⟨S_, .i32⟩ : BufTy).Contents (Elt F) → (⟨S127x32, .i32⟩ : BufTy).Contents (Elt F)),
    binary main_v57 main_v58 main_v59 (maxsi : (⟨S127x32, .i32⟩ : BufTy).Contents (Elt F) → (⟨S127x32, .i32⟩ : BufTy).Contents (Elt F) → (⟨S127x32, .i32⟩ : BufTy).Contents (Elt F)),
    unary main_v59 main_v60 (sitofp .f32 : (⟨S127x32, .i32⟩ : BufTy).Contents (Elt F) → (⟨S127x32, .f32⟩ : BufTy).Contents (Elt F)),
    nullary main_cst_12 (constant S_ .f32 0x42000000#32),
    unary main_cst_12 main_v61 (broadcastInDim S127x32 ![] bcast_S_S127x32 : (⟨S_, .f32⟩ : BufTy).Contents (Elt F) → (⟨S127x32, .f32⟩ : BufTy).Contents (Elt F)),
    binary main_v60 main_v61 main_v62 (Host.divf : (⟨S127x32, .f32⟩ : BufTy).Contents (Elt F) → (⟨S127x32, .f32⟩ : BufTy).Contents (Elt F) → (⟨S127x32, .f32⟩ : BufTy).Contents (Elt F)),
    nullary main_cst_13 (constant S_ .f32 0x00000000#32),
    binary main_v36 main_cst_13 main_v63 ((fun x v => Host.reduceAdd x v reducesTo_S8x4x4x2048x127_S8x4x2048x127_d2 h_S_) : (⟨S8x4x4x2048x127, .f32⟩ : BufTy).Contents (Elt F) → (⟨S_, .f32⟩ : BufTy).Contents (Elt F) → (⟨S8x4x2048x127, .f32⟩ : BufTy).Contents (Elt F)),
    binary main_v63 main_v62 main_v64 ((fun l r => Host.dotGeneral dot_S8x4x2048x127_S127x32_S8x4x2048x32_3_0_012_1_n_n none l r) : (⟨S8x4x2048x127, .f32⟩ : BufTy).Contents (Elt F) → (⟨S127x32, .f32⟩ : BufTy).Contents (Elt F) → (⟨S8x4x2048x32, .f32⟩ : BufTy).Contents (Elt F)) ]

abbrev segF : List (HloOp τ sig (Elt F)) :=
  [ nullary main_v65 (iotaInDim S32 32 0),
    unary main_v65 main_v66 (broadcastInDim S1x32 ![1] bcast_S32_S1x32_1 : (⟨S32, .i32⟩ : BufTy).Contents (Elt F) → (⟨S1x32, .i32⟩ : BufTy).Contents (Elt F)),
    nullary main_c_14 (constantI S_ 32 64#32),
    unary main_c_14 main_v67 (broadcastInDim S2048 ![] bcast_S_S2048 : (⟨S_, .i32⟩ : BufTy).Contents (Elt F) → (⟨S2048, .i32⟩ : BufTy).Contents (Elt F)),
    binary main_v7 main_v67 main_v68 (Host.divsi : (⟨S2048, .i32⟩ : BufTy).Contents (Elt F) → (⟨S2048, .i32⟩ : BufTy).Contents (Elt F) → (⟨S2048, .i32⟩ : BufTy).Contents (Elt F)),
    unary main_v68 main_v69 (broadcastInDim S2048x1 ![0] bcast_S2048_S2048x1_0 : (⟨S2048, .i32⟩ : BufTy).Contents (Elt F) → (⟨S2048x1, .i32⟩ : BufTy).Contents (Elt F)),
    nullary main_c_15 (constantI S_ 32 0#32),
    unary main_c_15 main_v70 (broadcastInDim S1x32 ![] bcast_S_S1x32 : (⟨S_, .i32⟩ : BufTy).Contents (Elt F) → (⟨S1x32, .i32⟩ : BufTy).Contents (Elt F)),
    binary main_v66 main_v70 main_v71 (cmpi .eq : (⟨S1x32, .i32⟩ : BufTy).Contents (Elt F) → (⟨S1x32, .i32⟩ : BufTy).Contents (Elt F) → (⟨S1x32, .i1⟩ : BufTy).Contents (Elt F)),
    unary main_v66 main_v72 (broadcastInDim S2048x32 ![0, 1] bcast_S1x32_S2048x32_0_1 : (⟨S1x32, .i32⟩ : BufTy).Contents (Elt F) → (⟨S2048x32, .i32⟩ : BufTy).Contents (Elt F)),
    unary main_v69 main_v73 (broadcastInDim S2048x32 ![0, 1] bcast_S2048x1_S2048x32_0_1 : (⟨S2048x1, .i32⟩ : BufTy).Contents (Elt F) → (⟨S2048x32, .i32⟩ : BufTy).Contents (Elt F)),
    binary main_v72 main_v73 main_v74 (cmpi .eq : (⟨S2048x32, .i32⟩ : BufTy).Contents (Elt F) → (⟨S2048x32, .i32⟩ : BufTy).Contents (Elt F) → (⟨S2048x32, .i1⟩ : BufTy).Contents (Elt F)),
    unary main_v71 main_v75 (broadcastInDim S2048x32 ![0, 1] bcast_S1x32_S2048x32_0_1 : (⟨S1x32, .i1⟩ : BufTy).Contents (Elt F) → (⟨S2048x32, .i1⟩ : BufTy).Contents (Elt F)),
    binary main_v75 main_v74 main_v76 (ori : (⟨S2048x32, .i1⟩ : BufTy).Contents (Elt F) → (⟨S2048x32, .i1⟩ : BufTy).Contents (Elt F) → (⟨S2048x32, .i1⟩ : BufTy).Contents (Elt F)),
    nullary main_c_16 (constantI S_ 32 1#32),
    unary main_c_16 main_v77 (broadcastInDim S2048x1 ![] bcast_S_S2048x1 : (⟨S_, .i32⟩ : BufTy).Contents (Elt F) → (⟨S2048x1, .i32⟩ : BufTy).Contents (Elt F)),
    binary main_v69 main_v77 main_v78 (subi : (⟨S2048x1, .i32⟩ : BufTy).Contents (Elt F) → (⟨S2048x1, .i32⟩ : BufTy).Contents (Elt F) → (⟨S2048x1, .i32⟩ : BufTy).Contents (Elt F)),
    unary main_v66 main_v79 (broadcastInDim S2048x32 ![0, 1] bcast_S1x32_S2048x32_0_1 : (⟨S1x32, .i32⟩ : BufTy).Contents (Elt F) → (⟨S2048x32, .i32⟩ : BufTy).Contents (Elt F)),
    unary main_v78 main_v80 (broadcastInDim S2048x32 ![0, 1] bcast_S2048x1_S2048x32_0_1 : (⟨S2048x1, .i32⟩ : BufTy).Contents (Elt F) → (⟨S2048x32, .i32⟩ : BufTy).Contents (Elt F)),
    binary main_v79 main_v80 main_v81 (cmpi .eq : (⟨S2048x32, .i32⟩ : BufTy).Contents (Elt F) → (⟨S2048x32, .i32⟩ : BufTy).Contents (Elt F) → (⟨S2048x32, .i1⟩ : BufTy).Contents (Elt F)),
    binary main_v76 main_v81 main_v82 (ori : (⟨S2048x32, .i1⟩ : BufTy).Contents (Elt F) → (⟨S2048x32, .i1⟩ : BufTy).Contents (Elt F) → (⟨S2048x32, .i1⟩ : BufTy).Contents (Elt F)),
    unary main_v66 main_v83 (broadcastInDim S2048x32 ![0, 1] bcast_S1x32_S2048x32_0_1 : (⟨S1x32, .i32⟩ : BufTy).Contents (Elt F) → (⟨S2048x32, .i32⟩ : BufTy).Contents (Elt F)),
    unary main_v69 main_v84 (broadcastInDim S2048x32 ![0, 1] bcast_S2048x1_S2048x32_0_1 : (⟨S2048x1, .i32⟩ : BufTy).Contents (Elt F) → (⟨S2048x32, .i32⟩ : BufTy).Contents (Elt F)),
    binary main_v83 main_v84 main_v85 (cmpi .sgt : (⟨S2048x32, .i32⟩ : BufTy).Contents (Elt F) → (⟨S2048x32, .i32⟩ : BufTy).Contents (Elt F) → (⟨S2048x32, .i1⟩ : BufTy).Contents (Elt F)),
    nullary main_cst_17 (constant S_ .f32 0xFF800000#32),
    TRef.unary (TRef.of (T := ⟨S_, .f32⟩) main_cst_17) (TRef.of (T := ⟨S_, .f32⟩) main_call3_v0) id,
    TRef.unary (TRef.of (T := ⟨S2048x32, .i1⟩) main_v85) (TRef.of (T := ⟨S8x4x2048x32, .i1⟩) main_call3_v1) (broadcastInDim S8x4x2048x32 ![2, 3] bcast_S2048x32_S8x4x2048x32_2_3),
    TRef.unary (TRef.of (T := ⟨S_, .f32⟩) main_call3_v0) (TRef.of (T := ⟨S8x4x2048x32, .f32⟩) main_call3_v2) (broadcastInDim S8x4x2048x32 ![] bcast_S_S8x4x2048x32),
    TRef.ternary (TRef.of (T := ⟨S8x4x2048x32, .i1⟩) main_call3_v1) (TRef.of (T := ⟨S8x4x2048x32, .f32⟩) main_call3_v2) (TRef.of (T := ⟨S8x4x2048x32, .f32⟩) main_v64) (TRef.of (T := ⟨S8x4x2048x32, .f32⟩) main_v86) select,
    nullary main_cst_18 (constant S_ .f32 0x7F800000#32),
    TRef.unary (TRef.of (T := ⟨S_, .f32⟩) main_cst_18) (TRef.of (T := ⟨S_, .f32⟩) main_call4_v0) id,
    TRef.unary (TRef.of (T := ⟨S2048x32, .i1⟩) main_v82) (TRef.of (T := ⟨S8x4x2048x32, .i1⟩) main_call4_v1) (broadcastInDim S8x4x2048x32 ![2, 3] bcast_S2048x32_S8x4x2048x32_2_3),
    TRef.unary (TRef.of (T := ⟨S_, .f32⟩) main_call4_v0) (TRef.of (T := ⟨S8x4x2048x32, .f32⟩) main_call4_v2) (broadcastInDim S8x4x2048x32 ![] bcast_S_S8x4x2048x32),
    TRef.ternary (TRef.of (T := ⟨S8x4x2048x32, .i1⟩) main_call4_v1) (TRef.of (T := ⟨S8x4x2048x32, .f32⟩) main_call4_v2) (TRef.of (T := ⟨S8x4x2048x32, .f32⟩) main_v86) (TRef.of (T := ⟨S8x4x2048x32, .f32⟩) main_v87) select ]

abbrev segG : List (HloOp τ sig (Elt F)) :=
  [ unary main_v87 main_values ((fun x => (Host.topK S8x4x2048x16 3 (FloatOps.cmpfTotal .gt) x sliceFits_S8x4x2048x32_S8x4x2048x16).1) : (⟨S8x4x2048x32, .f32⟩ : BufTy).Contents (Elt F) → (⟨S8x4x2048x16, .f32⟩ : BufTy).Contents (Elt F)),
    unary main_v87 main_indices ((fun x => (Host.topK S8x4x2048x16 3 (FloatOps.cmpfTotal .gt) x sliceFits_S8x4x2048x32_S8x4x2048x16).2) : (⟨S8x4x2048x32, .f32⟩ : BufTy).Contents (Elt F) → (⟨S8x4x2048x16, .i32⟩ : BufTy).Contents (Elt F)) ]

abbrev segH : List (HloOp τ sig (Elt F)) :=
  [ reshape main_v3 main_v88 (rfl : (.f32 : EltTy) = .f32) shapeCasts_S8x4x2048x64_S8x4x32x64x64,
    reshape main_v4 main_v89 (rfl : (.f32 : EltTy) = .f32) shapeCasts_S8x4x2048x64_S8x4x32x64x64,
    nullary main_v90 (iotaInDim S8 32 0),
    unary main_v90 main_v91 (broadcastInDim S8x1x1x1 ![0] bcast_S8_S8x1x1x1_0 : (⟨S8, .i32⟩ : BufTy).Contents (Elt F) → (⟨S8x1x1x1, .i32⟩ : BufTy).Contents (Elt F)),
    nullary main_v92 (iotaInDim S4 32 0),
    unary main_v92 main_v93 (broadcastInDim S1x4x1x1 ![1] bcast_S4_S1x4x1x1_1 : (⟨S4, .i32⟩ : BufTy).Contents (Elt F) → (⟨S1x4x1x1, .i32⟩ : BufTy).Contents (Elt F)),
    nullary main_c_19 (constantI S_ 32 0#32),
    unary main_c_19 main_v94 (broadcastInDim S8x1x1x1 ![] bcast_S_S8x1x1x1 : (⟨S_, .i32⟩ : BufTy).Contents (Elt F) → (⟨S8x1x1x1, .i32⟩ : BufTy).Contents (Elt F)),
    binary main_v91 main_v94 main_v95 (cmpi .slt : (⟨S8x1x1x1, .i32⟩ : BufTy).Contents (Elt F) → (⟨S8x1x1x1, .i32⟩ : BufTy).Contents (Elt F) → (⟨S8x1x1x1, .i1⟩ : BufTy).Contents (Elt F)) ]

abbrev segX : List (HloOp τ sig (Elt F)) :=
  [ nullary main_c_20 (constantI S_ 32 8#32),
    unary main_c_20 main_v96 (broadcastInDim S8x1x1x1 ![] bcast_S_S8x1x1x1 : (⟨S_, .i32⟩ : BufTy).Contents (Elt F) → (⟨S8x1x1x1, .i32⟩ : BufTy).Contents (Elt F)),
    binary main_v91 main_v96 main_v97 (addi : (⟨S8x1x1x1, .i32⟩ : BufTy).Contents (Elt F) → (⟨S8x1x1x1, .i32⟩ : BufTy).Contents (Elt F) → (⟨S8x1x1x1, .i32⟩ : BufTy).Contents (Elt F)),
    ternary main_v95 main_v97 main_v91 main_v98 (select : (⟨S8x1x1x1, .i1⟩ : BufTy).Contents (Elt F) → (⟨S8x1x1x1, .i32⟩ : BufTy).Contents (Elt F) → (⟨S8x1x1x1, .i32⟩ : BufTy).Contents (Elt F) → (⟨S8x1x1x1, .i32⟩ : BufTy).Contents (Elt F)),
    nullary main_c_21 (constantI S_ 32 0#32),
    unary main_c_21 main_v99 (broadcastInDim S1x4x1x1 ![] bcast_S_S1x4x1x1 : (⟨S_, .i32⟩ : BufTy).Contents (Elt F) → (⟨S1x4x1x1, .i32⟩ : BufTy).Contents (Elt F)),
    binary main_v93 main_v99 main_v100 (cmpi .slt : (⟨S1x4x1x1, .i32⟩ : BufTy).Contents (Elt F) → (⟨S1x4x1x1, .i32⟩ : BufTy).Contents (Elt F) → (⟨S1x4x1x1, .i1⟩ : BufTy).Contents (Elt F)),
    nullary main_c_22 (constantI S_ 32 4#32),
    unary main_c_22 main_v101 (broadcastInDim S1x4x1x1 ![] bcast_S_S1x4x1x1 : (⟨S_, .i32⟩ : BufTy).Contents (Elt F) → (⟨S1x4x1x1, .i32⟩ : BufTy).Contents (Elt F)),
    binary main_v93 main_v101 main_v102 (addi : (⟨S1x4x1x1, .i32⟩ : BufTy).Contents (Elt F) → (⟨S1x4x1x1, .i32⟩ : BufTy).Contents (Elt F) → (⟨S1x4x1x1, .i32⟩ : BufTy).Contents (Elt F)),
    ternary main_v100 main_v102 main_v93 main_v103 (select : (⟨S1x4x1x1, .i1⟩ : BufTy).Contents (Elt F) → (⟨S1x4x1x1, .i32⟩ : BufTy).Contents (Elt F) → (⟨S1x4x1x1, .i32⟩ : BufTy).Contents (Elt F) → (⟨S1x4x1x1, .i32⟩ : BufTy).Contents (Elt F)),
    nullary main_c_23 (constantI S_ 32 0#32),
    unary main_c_23 main_v104 (broadcastInDim S8x4x2048x16 ![] bcast_S_S8x4x2048x16 : (⟨S_, .i32⟩ : BufTy).Contents (Elt F) → (⟨S8x4x2048x16, .i32⟩ : BufTy).Contents (Elt F)),
    binary main_indices main_v104 main_v105 (cmpi .slt : (⟨S8x4x2048x16, .i32⟩ : BufTy).Contents (Elt F) → (⟨S8x4x2048x16, .i32⟩ : BufTy).Contents (Elt F) → (⟨S8x4x2048x16, .i1⟩ : BufTy).Contents (Elt F)),
    nullary main_c_24 (constantI S_ 32 32#32),
    unary main_c_24 main_v106 (broadcastInDim S8x4x2048x16 ![] bcast_S_S8x4x2048x16 : (⟨S_, .i32⟩ : BufTy).Contents (Elt F) → (⟨S8x4x2048x16, .i32⟩ : BufTy).Contents (Elt F)),
    binary main_indices main_v106 main_v107 (addi : (⟨S8x4x2048x16, .i32⟩ : BufTy).Contents (Elt F) → (⟨S8x4x2048x16, .i32⟩ : BufTy).Contents (Elt F) → (⟨S8x4x2048x16, .i32⟩ : BufTy).Contents (Elt F)),
    ternary main_v105 main_v107 main_indices main_v108 (select : (⟨S8x4x2048x16, .i1⟩ : BufTy).Contents (Elt F) → (⟨S8x4x2048x16, .i32⟩ : BufTy).Contents (Elt F) → (⟨S8x4x2048x16, .i32⟩ : BufTy).Contents (Elt F) → (⟨S8x4x2048x16, .i32⟩ : BufTy).Contents (Elt F)),
    unary main_v98 main_v109 (broadcastInDim S8x4x2048x16 ![0, 1, 2, 3] bcast_S8x1x1x1_S8x4x2048x16_0_1_2_3 : (⟨S8x1x1x1, .i32⟩ : BufTy).Contents (Elt F) → (⟨S8x4x2048x16, .i32⟩ : BufTy).Contents (Elt F)),
    unary main_v103 main_v110 (broadcastInDim S8x4x2048x16 ![0, 1, 2, 3] bcast_S1x4x1x1_S8x4x2048x16_0_1_2_3 : (⟨S1x4x1x1, .i32⟩ : BufTy).Contents (Elt F) → (⟨S8x4x2048x16, .i32⟩ : BufTy).Contents (Elt F)),
    unary main_v109 main_v111 (broadcastInDim S8x4x2048x16x1 ![0, 1, 2, 3] bcast_S8x4x2048x16_S8x4x2048x16x1_0_1_2_3 : (⟨S8x4x2048x16, .i32⟩ : BufTy).Contents (Elt F) → (⟨S8x4x2048x16x1, .i32⟩ : BufTy).Contents (Elt F)),
    unary main_v110 main_v112 (broadcastInDim S8x4x2048x16x1 ![0, 1, 2, 3] bcast_S8x4x2048x16_S8x4x2048x16x1_0_1_2_3 : (⟨S8x4x2048x16, .i32⟩ : BufTy).Contents (Elt F) → (⟨S8x4x2048x16x1, .i32⟩ : BufTy).Contents (Elt F)),
    unary main_v108 main_v113 (broadcastInDim S8x4x2048x16x1 ![0, 1, 2, 3] bcast_S8x4x2048x16_S8x4x2048x16x1_0_1_2_3 : (⟨S8x4x2048x16, .i32⟩ : BufTy).Contents (Elt F) → (⟨S8x4x2048x16x1, .i32⟩ : BufTy).Contents (Elt F)) ]

/-- The addresses joined for keys. -/
def joinI : HloOp τ sig (Elt F) := nary ![main_v111, main_v112, main_v113] main_v114 (fun u => (concatenate S8x4x2048x16x3 4 [⟨S8x4x2048x16x1, (u 0 : (⟨S8x4x2048x16x1, .i32⟩ : BufTy).Contents (Elt F))⟩, ⟨S8x4x2048x16x1, (u 1 : (⟨S8x4x2048x16x1, .i32⟩ : BufTy).Contents (Elt F))⟩, ⟨S8x4x2048x16x1, (u 2 : (⟨S8x4x2048x16x1, .i32⟩ : BufTy).Contents (Elt F))⟩] concatenates_S8x4x2048x16x1_S8x4x2048x16x1_S8x4x2048x16x1_S8x4x2048x16x3_d4 : (⟨S8x4x2048x16x3, .i32⟩ : BufTy).Contents (Elt F)))

theorem joinI_eq : (joinI : HloOp τ sig (Elt F)) = nary ![main_v111, main_v112, main_v113] main_v114 (fun u => Fn.join (u 0) (u 1) (u 2)) := rfl

abbrev segI : List (HloOp τ sig (Elt F)) :=
  [ joinI,
    binary main_v88 main_v114 main_v115 ((fun x i => Host.gather gather_S8x4x32x64x64_S8x4x2048x16x3_S8x4x2048x16x64x64_45_012_n_n_012_4_1116464 x i) : (⟨S8x4x32x64x64, .f32⟩ : BufTy).Contents (Elt F) → (⟨S8x4x2048x16x3, .i32⟩ : BufTy).Contents (Elt F) → (⟨S8x4x2048x16x64x64, .f32⟩ : BufTy).Contents (Elt F)),
    reshape main_v115 main_v116 (rfl : (.f32 : EltTy) = .f32) shapeCasts_S8x4x2048x16x64x64_S8x4x2048x1024x64 ]

abbrev segY : List (HloOp τ sig (Elt F)) :=
  [ nullary main_c_25 (constantI S_ 32 0#32),
    unary main_c_25 main_v117 (broadcastInDim S8x1x1x1 ![] bcast_S_S8x1x1x1 : (⟨S_, .i32⟩ : BufTy).Contents (Elt F) → (⟨S8x1x1x1, .i32⟩ : BufTy).Contents (Elt F)),
    binary main_v91 main_v117 main_v118 (cmpi .slt : (⟨S8x1x1x1, .i32⟩ : BufTy).Contents (Elt F) → (⟨S8x1x1x1, .i32⟩ : BufTy).Contents (Elt F) → (⟨S8x1x1x1, .i1⟩ : BufTy).Contents (Elt F)),
    nullary main_c_26 (constantI S_ 32 8#32),
    unary main_c_26 main_v119 (broadcastInDim S8x1x1x1 ![] bcast_S_S8x1x1x1 : (⟨S_, .i32⟩ : BufTy).Contents (Elt F) → (⟨S8x1x1x1, .i32⟩ : BufTy).Contents (Elt F)),
    binary main_v91 main_v119 main_v120 (addi : (⟨S8x1x1x1, .i32⟩ : BufTy).Contents (Elt F) → (⟨S8x1x1x1, .i32⟩ : BufTy).Contents (Elt F) → (⟨S8x1x1x1, .i32⟩ : BufTy).Contents (Elt F)),
    ternary main_v118 main_v120 main_v91 main_v121 (select : (⟨S8x1x1x1, .i1⟩ : BufTy).Contents (Elt F) → (⟨S8x1x1x1, .i32⟩ : BufTy).Contents (Elt F) → (⟨S8x1x1x1, .i32⟩ : BufTy).Contents (Elt F) → (⟨S8x1x1x1, .i32⟩ : BufTy).Contents (Elt F)),
    nullary main_c_27 (constantI S_ 32 0#32),
    unary main_c_27 main_v122 (broadcastInDim S1x4x1x1 ![] bcast_S_S1x4x1x1 : (⟨S_, .i32⟩ : BufTy).Contents (Elt F) → (⟨S1x4x1x1, .i32⟩ : BufTy).Contents (Elt F)),
    binary main_v93 main_v122 main_v123 (cmpi .slt : (⟨S1x4x1x1, .i32⟩ : BufTy).Contents (Elt F) → (⟨S1x4x1x1, .i32⟩ : BufTy).Contents (Elt F) → (⟨S1x4x1x1, .i1⟩ : BufTy).Contents (Elt F)),
    nullary main_c_28 (constantI S_ 32 4#32),
    unary main_c_28 main_v124 (broadcastInDim S1x4x1x1 ![] bcast_S_S1x4x1x1 : (⟨S_, .i32⟩ : BufTy).Contents (Elt F) → (⟨S1x4x1x1, .i32⟩ : BufTy).Contents (Elt F)),
    binary main_v93 main_v124 main_v125 (addi : (⟨S1x4x1x1, .i32⟩ : BufTy).Contents (Elt F) → (⟨S1x4x1x1, .i32⟩ : BufTy).Contents (Elt F) → (⟨S1x4x1x1, .i32⟩ : BufTy).Contents (Elt F)),
    ternary main_v123 main_v125 main_v93 main_v126 (select : (⟨S1x4x1x1, .i1⟩ : BufTy).Contents (Elt F) → (⟨S1x4x1x1, .i32⟩ : BufTy).Contents (Elt F) → (⟨S1x4x1x1, .i32⟩ : BufTy).Contents (Elt F) → (⟨S1x4x1x1, .i32⟩ : BufTy).Contents (Elt F)),
    nullary main_c_29 (constantI S_ 32 0#32),
    unary main_c_29 main_v127 (broadcastInDim S8x4x2048x16 ![] bcast_S_S8x4x2048x16 : (⟨S_, .i32⟩ : BufTy).Contents (Elt F) → (⟨S8x4x2048x16, .i32⟩ : BufTy).Contents (Elt F)),
    binary main_indices main_v127 main_v128 (cmpi .slt : (⟨S8x4x2048x16, .i32⟩ : BufTy).Contents (Elt F) → (⟨S8x4x2048x16, .i32⟩ : BufTy).Contents (Elt F) → (⟨S8x4x2048x16, .i1⟩ : BufTy).Contents (Elt F)),
    nullary main_c_30 (constantI S_ 32 32#32),
    unary main_c_30 main_v129 (broadcastInDim S8x4x2048x16 ![] bcast_S_S8x4x2048x16 : (⟨S_, .i32⟩ : BufTy).Contents (Elt F) → (⟨S8x4x2048x16, .i32⟩ : BufTy).Contents (Elt F)),
    binary main_indices main_v129 main_v130 (addi : (⟨S8x4x2048x16, .i32⟩ : BufTy).Contents (Elt F) → (⟨S8x4x2048x16, .i32⟩ : BufTy).Contents (Elt F) → (⟨S8x4x2048x16, .i32⟩ : BufTy).Contents (Elt F)),
    ternary main_v128 main_v130 main_indices main_v131 (select : (⟨S8x4x2048x16, .i1⟩ : BufTy).Contents (Elt F) → (⟨S8x4x2048x16, .i32⟩ : BufTy).Contents (Elt F) → (⟨S8x4x2048x16, .i32⟩ : BufTy).Contents (Elt F) → (⟨S8x4x2048x16, .i32⟩ : BufTy).Contents (Elt F)),
    unary main_v121 main_v132 (broadcastInDim S8x4x2048x16 ![0, 1, 2, 3] bcast_S8x1x1x1_S8x4x2048x16_0_1_2_3 : (⟨S8x1x1x1, .i32⟩ : BufTy).Contents (Elt F) → (⟨S8x4x2048x16, .i32⟩ : BufTy).Contents (Elt F)),
    unary main_v126 main_v133 (broadcastInDim S8x4x2048x16 ![0, 1, 2, 3] bcast_S1x4x1x1_S8x4x2048x16_0_1_2_3 : (⟨S1x4x1x1, .i32⟩ : BufTy).Contents (Elt F) → (⟨S8x4x2048x16, .i32⟩ : BufTy).Contents (Elt F)),
    unary main_v132 main_v134 (broadcastInDim S8x4x2048x16x1 ![0, 1, 2, 3] bcast_S8x4x2048x16_S8x4x2048x16x1_0_1_2_3 : (⟨S8x4x2048x16, .i32⟩ : BufTy).Contents (Elt F) → (⟨S8x4x2048x16x1, .i32⟩ : BufTy).Contents (Elt F)),
    unary main_v133 main_v135 (broadcastInDim S8x4x2048x16x1 ![0, 1, 2, 3] bcast_S8x4x2048x16_S8x4x2048x16x1_0_1_2_3 : (⟨S8x4x2048x16, .i32⟩ : BufTy).Contents (Elt F) → (⟨S8x4x2048x16x1, .i32⟩ : BufTy).Contents (Elt F)),
    unary main_v131 main_v136 (broadcastInDim S8x4x2048x16x1 ![0, 1, 2, 3] bcast_S8x4x2048x16_S8x4x2048x16x1_0_1_2_3 : (⟨S8x4x2048x16, .i32⟩ : BufTy).Contents (Elt F) → (⟨S8x4x2048x16x1, .i32⟩ : BufTy).Contents (Elt F)) ]

/-- The addresses joined for values. -/
def joinJ : HloOp τ sig (Elt F) := nary ![main_v134, main_v135, main_v136] main_v137 (fun u => (concatenate S8x4x2048x16x3 4 [⟨S8x4x2048x16x1, (u 0 : (⟨S8x4x2048x16x1, .i32⟩ : BufTy).Contents (Elt F))⟩, ⟨S8x4x2048x16x1, (u 1 : (⟨S8x4x2048x16x1, .i32⟩ : BufTy).Contents (Elt F))⟩, ⟨S8x4x2048x16x1, (u 2 : (⟨S8x4x2048x16x1, .i32⟩ : BufTy).Contents (Elt F))⟩] concatenates_S8x4x2048x16x1_S8x4x2048x16x1_S8x4x2048x16x1_S8x4x2048x16x3_d4 : (⟨S8x4x2048x16x3, .i32⟩ : BufTy).Contents (Elt F)))

theorem joinJ_eq : (joinJ : HloOp τ sig (Elt F)) = nary ![main_v134, main_v135, main_v136] main_v137 (fun u => Fn.join (u 0) (u 1) (u 2)) := rfl

abbrev segJ : List (HloOp τ sig (Elt F)) :=
  [ joinJ,
    binary main_v89 main_v137 main_v138 ((fun x i => Host.gather gather_S8x4x32x64x64_S8x4x2048x16x3_S8x4x2048x16x64x64_45_012_n_n_012_4_1116464 x i) : (⟨S8x4x32x64x64, .f32⟩ : BufTy).Contents (Elt F) → (⟨S8x4x2048x16x3, .i32⟩ : BufTy).Contents (Elt F) → (⟨S8x4x2048x16x64x64, .f32⟩ : BufTy).Contents (Elt F)),
    reshape main_v138 main_v139 (rfl : (.f32 : EltTy) = .f32) shapeCasts_S8x4x2048x16x64x64_S8x4x2048x1024x64 ]

abbrev segK : List (HloOp τ sig (Elt F)) :=
  [ unary main_indices main_v140 (broadcastInDim S8x4x2048x16x1 ![0, 1, 2, 3] bcast_S8x4x2048x16_S8x4x2048x16x1_0_1_2_3 : (⟨S8x4x2048x16, .i32⟩ : BufTy).Contents (Elt F) → (⟨S8x4x2048x16x1, .i32⟩ : BufTy).Contents (Elt F)),
    nullary main_c_31 (constantI S_ 32 64#32),
    unary main_c_31 main_v141 (broadcastInDim S8x4x2048x16x1 ![] bcast_S_S8x4x2048x16x1 : (⟨S_, .i32⟩ : BufTy).Contents (Elt F) → (⟨S8x4x2048x16x1, .i32⟩ : BufTy).Contents (Elt F)),
    binary main_v140 main_v141 main_v142 (muli : (⟨S8x4x2048x16x1, .i32⟩ : BufTy).Contents (Elt F) → (⟨S8x4x2048x16x1, .i32⟩ : BufTy).Contents (Elt F) → (⟨S8x4x2048x16x1, .i32⟩ : BufTy).Contents (Elt F)),
    nullary main_v143 (iotaInDim S64 32 0) ]

abbrev segL : List (HloOp τ sig (Elt F)) :=
  [ unary main_v143 main_v144 (broadcastInDim S1x1x1x1x64 ![4] bcast_S64_S1x1x1x1x64_4 : (⟨S64, .i32⟩ : BufTy).Contents (Elt F) → (⟨S1x1x1x1x64, .i32⟩ : BufTy).Contents (Elt F)),
    unary main_v142 main_v145 (broadcastInDim S8x4x2048x16x64 ![0, 1, 2, 3, 4] bcast_S8x4x2048x16x1_S8x4x2048x16x64_0_1_2_3_4 : (⟨S8x4x2048x16x1, .i32⟩ : BufTy).Contents (Elt F) → (⟨S8x4x2048x16x64, .i32⟩ : BufTy).Contents (Elt F)),
    unary main_v144 main_v146 (broadcastInDim S8x4x2048x16x64 ![0, 1, 2, 3, 4] bcast_S1x1x1x1x64_S8x4x2048x16x64_0_1_2_3_4 : (⟨S1x1x1x1x64, .i32⟩ : BufTy).Contents (Elt F) → (⟨S8x4x2048x16x64, .i32⟩ : BufTy).Contents (Elt F)),
    binary main_v145 main_v146 main_v147 (addi : (⟨S8x4x2048x16x64, .i32⟩ : BufTy).Contents (Elt F) → (⟨S8x4x2048x16x64, .i32⟩ : BufTy).Contents (Elt F) → (⟨S8x4x2048x16x64, .i32⟩ : BufTy).Contents (Elt F)),
    reshape main_v147 main_v148 (rfl : (.i32 : EltTy) = .i32) shapeCasts_S8x4x2048x16x64_S8x4x2048x1024,
    binary main_v116 main_v0 main_v149 ((fun l r => Host.dotGeneral dot_S8x4x2048x1024x64_S8x2048x4x4x64_S8x4x2048x1024x4_4_4_3_3_012_021 none l r) : (⟨S8x4x2048x1024x64, .f32⟩ : BufTy).Contents (Elt F) → (⟨S8x2048x4x4x64, .f32⟩ : BufTy).Contents (Elt F) → (⟨S8x4x2048x1024x4, .f32⟩ : BufTy).Contents (Elt F)),
    unary main_v149 main_v150 ((transpose S8x4x4x2048x1024 [0, 1, 4, 2, 3] · transposes_S8x4x2048x1024x4_S8x4x4x2048x1024_0_1_4_2_3) : (⟨S8x4x2048x1024x4, .f32⟩ : BufTy).Contents (Elt F) → (⟨S8x4x4x2048x1024, .f32⟩ : BufTy).Contents (Elt F)),
    unary main_v7 main_v151 (broadcastInDim S1x1x2048x1 ![2] bcast_S2048_S1x1x2048x1_2 : (⟨S2048, .i32⟩ : BufTy).Contents (Elt F) → (⟨S1x1x2048x1, .i32⟩ : BufTy).Contents (Elt F)),
    unary main_v151 main_v152 (broadcastInDim S8x4x2048x1024 ![0, 1, 2, 3] bcast_S1x1x2048x1_S8x4x2048x1024_0_1_2_3 : (⟨S1x1x2048x1, .i32⟩ : BufTy).Contents (Elt F) → (⟨S8x4x2048x1024, .i32⟩ : BufTy).Contents (Elt F)),
    binary main_v148 main_v152 main_v153 (cmpi .sle : (⟨S8x4x2048x1024, .i32⟩ : BufTy).Contents (Elt F) → (⟨S8x4x2048x1024, .i32⟩ : BufTy).Contents (Elt F) → (⟨S8x4x2048x1024, .i1⟩ : BufTy).Contents (Elt F)),
    unary main_v153 main_v154 (broadcastInDim S8x4x1x2048x1024 ![0, 1, 3, 4] bcast_S8x4x2048x1024_S8x4x1x2048x1024_0_1_3_4 : (⟨S8x4x2048x1024, .i1⟩ : BufTy).Contents (Elt F) → (⟨S8x4x1x2048x1024, .i1⟩ : BufTy).Contents (Elt F)),
    nullary main_cst_32 (constant S_ .f32 0xFF800000#32),
    TRef.unary (TRef.of (T := ⟨S_, .f32⟩) main_cst_32) (TRef.of (T := ⟨S_, .f32⟩) main_call5_v0) id,
    TRef.unary (TRef.of (T := ⟨S8x4x1x2048x1024, .i1⟩) main_v154) (TRef.of (T := ⟨S8x4x4x2048x1024, .i1⟩) main_call5_v1) (broadcastInDim S8x4x4x2048x1024 ![0, 1, 2, 3, 4] bcast_S8x4x1x2048x1024_S8x4x4x2048x1024_0_1_2_3_4),
    TRef.unary (TRef.of (T := ⟨S_, .f32⟩) main_call5_v0) (TRef.of (T := ⟨S8x4x4x2048x1024, .f32⟩) main_call5_v2) (broadcastInDim S8x4x4x2048x1024 ![] bcast_S_S8x4x4x2048x1024),
    TRef.ternary (TRef.of (T := ⟨S8x4x4x2048x1024, .i1⟩) main_call5_v1) (TRef.of (T := ⟨S8x4x4x2048x1024, .f32⟩) main_v150) (TRef.of (T := ⟨S8x4x4x2048x1024, .f32⟩) main_call5_v2) (TRef.of (T := ⟨S8x4x4x2048x1024, .f32⟩) main_v155) select ]

abbrev segM : List (HloOp τ sig (Elt F)) :=
  [ nullary main_cst_33 (constant S_ .f32 0xFF800000#32),
    binary main_v155 main_cst_33 main_v156 ((fun x v => Host.reduce FloatOps.maximumf x v reducesTo_S8x4x4x2048x1024_S8x4x4x2048_d4 h_S_) : (⟨S8x4x4x2048x1024, .f32⟩ : BufTy).Contents (Elt F) → (⟨S_, .f32⟩ : BufTy).Contents (Elt F) → (⟨S8x4x4x2048, .f32⟩ : BufTy).Contents (Elt F)),
    unary main_v156 main_v157 (broadcastInDim S8x4x4x2048x1 ![0, 1, 2, 3] bcast_S8x4x4x2048_S8x4x4x2048x1_0_1_2_3 : (⟨S8x4x4x2048, .f32⟩ : BufTy).Contents (Elt F) → (⟨S8x4x4x2048x1, .f32⟩ : BufTy).Contents (Elt F)),
    unary main_v157 main_v158 (Host.absf : (⟨S8x4x4x2048x1, .f32⟩ : BufTy).Contents (Elt F) → (⟨S8x4x4x2048x1, .f32⟩ : BufTy).Contents (Elt F)),
    nullary main_cst_34 (constant S_ .f32 0x7F800000#32),
    unary main_cst_34 main_v159 (broadcastInDim S8x4x4x2048x1 ![] bcast_S_S8x4x4x2048x1 : (⟨S_, .f32⟩ : BufTy).Contents (Elt F) → (⟨S8x4x4x2048x1, .f32⟩ : BufTy).Contents (Elt F)),
    binary main_v158 main_v159 main_v160 (cmpf .olt : (⟨S8x4x4x2048x1, .f32⟩ : BufTy).Contents (Elt F) → (⟨S8x4x4x2048x1, .f32⟩ : BufTy).Contents (Elt F) → (⟨S8x4x4x2048x1, .i1⟩ : BufTy).Contents (Elt F)),
    nullary main_cst_35 (constant S_ .f32 0x00000000#32),
    TRef.unary (TRef.of (T := ⟨S_, .f32⟩) main_cst_35) (TRef.of (T := ⟨S_, .f32⟩) main_call6_v0) id,
    TRef.unary (TRef.of (T := ⟨S_, .f32⟩) main_call6_v0) (TRef.of (T := ⟨S8x4x4x2048x1, .f32⟩) main_call6_v1) (broadcastInDim S8x4x4x2048x1 ![] bcast_S_S8x4x4x2048x1),
    TRef.ternary (TRef.of (T := ⟨S8x4x4x2048x1, .i1⟩) main_v160) (TRef.of (T := ⟨S8x4x4x2048x1, .f32⟩) main_v157) (TRef.of (T := ⟨S8x4x4x2048x1, .f32⟩) main_call6_v1) (TRef.of (T := ⟨S8x4x4x2048x1, .f32⟩) main_v161) select,
    unary main_v161 main_v162 (broadcastInDim S8x4x4x2048x1024 ![0, 1, 2, 3, 4] bcast_S8x4x4x2048x1_S8x4x4x2048x1024_0_1_2_3_4 : (⟨S8x4x4x2048x1, .f32⟩ : BufTy).Contents (Elt F) → (⟨S8x4x4x2048x1024, .f32⟩ : BufTy).Contents (Elt F)),
    binary main_v155 main_v162 main_v163 (subf : (⟨S8x4x4x2048x1024, .f32⟩ : BufTy).Contents (Elt F) → (⟨S8x4x4x2048x1024, .f32⟩ : BufTy).Contents (Elt F) → (⟨S8x4x4x2048x1024, .f32⟩ : BufTy).Contents (Elt F)),
    unary main_v163 main_v164 (Host.exp : (⟨S8x4x4x2048x1024, .f32⟩ : BufTy).Contents (Elt F) → (⟨S8x4x4x2048x1024, .f32⟩ : BufTy).Contents (Elt F)),
    nullary main_cst_36 (constant S_ .f32 0x00000000#32),
    TRef.unary (TRef.of (T := ⟨S_, .f32⟩) main_cst_36) (TRef.of (T := ⟨S_, .f32⟩) main_call7_v0) id,
    TRef.unary (TRef.of (T := ⟨S8x4x1x2048x1024, .i1⟩) main_v154) (TRef.of (T := ⟨S8x4x4x2048x1024, .i1⟩) main_call7_v1) (broadcastInDim S8x4x4x2048x1024 ![0, 1, 2, 3, 4] bcast_S8x4x1x2048x1024_S8x4x4x2048x1024_0_1_2_3_4),
    TRef.unary (TRef.of (T := ⟨S_, .f32⟩) main_call7_v0) (TRef.of (T := ⟨S8x4x4x2048x1024, .f32⟩) main_call7_v2) (broadcastInDim S8x4x4x2048x1024 ![] bcast_S_S8x4x4x2048x1024),
    TRef.ternary (TRef.of (T := ⟨S8x4x4x2048x1024, .i1⟩) main_call7_v1) (TRef.of (T := ⟨S8x4x4x2048x1024, .f32⟩) main_v164) (TRef.of (T := ⟨S8x4x4x2048x1024, .f32⟩) main_call7_v2) (TRef.of (T := ⟨S8x4x4x2048x1024, .f32⟩) main_v165) select,
    nullary main_cst_37 (constant S_ .f32 0x00000000#32),
    binary main_v165 main_cst_37 main_v166 ((fun x v => Host.reduceAdd x v reducesTo_S8x4x4x2048x1024_S8x4x4x2048_d4 h_S_) : (⟨S8x4x4x2048x1024, .f32⟩ : BufTy).Contents (Elt F) → (⟨S_, .f32⟩ : BufTy).Contents (Elt F) → (⟨S8x4x4x2048, .f32⟩ : BufTy).Contents (Elt F)),
    unary main_v166 main_v167 (broadcastInDim S8x4x4x2048x1 ![0, 1, 2, 3] bcast_S8x4x4x2048_S8x4x4x2048x1_0_1_2_3 : (⟨S8x4x4x2048, .f32⟩ : BufTy).Contents (Elt F) → (⟨S8x4x4x2048x1, .f32⟩ : BufTy).Contents (Elt F)),
    nullary main_cst_38 (constant S_ .f32 0x0DA24260#32),
    unary main_cst_38 main_v168 (broadcastInDim S8x4x4x2048x1 ![] bcast_S_S8x4x4x2048x1 : (⟨S_, .f32⟩ : BufTy).Contents (Elt F) → (⟨S8x4x4x2048x1, .f32⟩ : BufTy).Contents (Elt F)),
    binary main_v167 main_v168 main_v169 (maximumf : (⟨S8x4x4x2048x1, .f32⟩ : BufTy).Contents (Elt F) → (⟨S8x4x4x2048x1, .f32⟩ : BufTy).Contents (Elt F) → (⟨S8x4x4x2048x1, .f32⟩ : BufTy).Contents (Elt F)),
    unary main_v169 main_v170 (broadcastInDim S8x4x4x2048x1024 ![0, 1, 2, 3, 4] bcast_S8x4x4x2048x1_S8x4x4x2048x1024_0_1_2_3_4 : (⟨S8x4x4x2048x1, .f32⟩ : BufTy).Contents (Elt F) → (⟨S8x4x4x2048x1024, .f32⟩ : BufTy).Contents (Elt F)),
    binary main_v165 main_v170 main_v171 (Host.divf : (⟨S8x4x4x2048x1024, .f32⟩ : BufTy).Contents (Elt F) → (⟨S8x4x4x2048x1024, .f32⟩ : BufTy).Contents (Elt F) → (⟨S8x4x4x2048x1024, .f32⟩ : BufTy).Contents (Elt F)) ]

abbrev segN : List (HloOp τ sig (Elt F)) :=
  [ binary main_v171 main_v139 main_v172 ((fun l r => Host.dotGeneral dot_S8x4x4x2048x1024_S8x4x2048x1024x64_S8x2048x4x4x64_4_3_2_4_031_021 none l r) : (⟨S8x4x4x2048x1024, .f32⟩ : BufTy).Contents (Elt F) → (⟨S8x4x2048x1024x64, .f32⟩ : BufTy).Contents (Elt F) → (⟨S8x2048x4x4x64, .f32⟩ : BufTy).Contents (Elt F)) ]

abbrev segO : List (HloOp τ sig (Elt F)) :=
  [ binary main_v5 main_v0 main_v173 ((fun l r => Host.dotGeneral dot_S8x4x2048x64_S8x2048x4x4x64_S8x4x2048x2048x4_3_4_2_13_01_02 none l r) : (⟨S8x4x2048x64, .f32⟩ : BufTy).Contents (Elt F) → (⟨S8x2048x4x4x64, .f32⟩ : BufTy).Contents (Elt F) → (⟨S8x4x2048x2048x4, .f32⟩ : BufTy).Contents (Elt F)),
    unary main_v173 main_v174 ((transpose S8x4x4x2048x2048 [0, 1, 4, 3, 2] · transposes_S8x4x2048x2048x4_S8x4x4x2048x2048_0_1_4_3_2) : (⟨S8x4x2048x2048x4, .f32⟩ : BufTy).Contents (Elt F) → (⟨S8x4x4x2048x2048, .f32⟩ : BufTy).Contents (Elt F)),
    unary main_v7 main_v175 (broadcastInDim S1x2048 ![1] bcast_S2048_S1x2048_1 : (⟨S2048, .i32⟩ : BufTy).Contents (Elt F) → (⟨S1x2048, .i32⟩ : BufTy).Contents (Elt F)),
    unary main_v7 main_v176 (broadcastInDim S2048x1 ![0] bcast_S2048_S2048x1_0 : (⟨S2048, .i32⟩ : BufTy).Contents (Elt F) → (⟨S2048x1, .i32⟩ : BufTy).Contents (Elt F)),
    unary main_v175 main_v177 (broadcastInDim S2048x2048 ![0, 1] bcast_S1x2048_S2048x2048_0_1 : (⟨S1x2048, .i32⟩ : BufTy).Contents (Elt F) → (⟨S2048x2048, .i32⟩ : BufTy).Contents (Elt F)),
    unary main_v176 main_v178 (broadcastInDim S2048x2048 ![0, 1] bcast_S2048x1_S2048x2048_0_1 : (⟨S2048x1, .i32⟩ : BufTy).Contents (Elt F) → (⟨S2048x2048, .i32⟩ : BufTy).Contents (Elt F)),
    binary main_v177 main_v178 main_v179 (cmpi .sle : (⟨S2048x2048, .i32⟩ : BufTy).Contents (Elt F) → (⟨S2048x2048, .i32⟩ : BufTy).Contents (Elt F) → (⟨S2048x2048, .i1⟩ : BufTy).Contents (Elt F)),
    unary main_v7 main_v180 (broadcastInDim S1x2048 ![1] bcast_S2048_S1x2048_1 : (⟨S2048, .i32⟩ : BufTy).Contents (Elt F) → (⟨S1x2048, .i32⟩ : BufTy).Contents (Elt F)),
    unary main_v7 main_v181 (broadcastInDim S2048x1 ![0] bcast_S2048_S2048x1_0 : (⟨S2048, .i32⟩ : BufTy).Contents (Elt F) → (⟨S2048x1, .i32⟩ : BufTy).Contents (Elt F)),
    nullary main_c_39 (constantI S_ 32 512#32),
    unary main_c_39 main_v182 (broadcastInDim S2048x1 ![] bcast_S_S2048x1 : (⟨S_, .i32⟩ : BufTy).Contents (Elt F) → (⟨S2048x1, .i32⟩ : BufTy).Contents (Elt F)),
    binary main_v181 main_v182 main_v183 (subi : (⟨S2048x1, .i32⟩ : BufTy).Contents (Elt F) → (⟨S2048x1, .i32⟩ : BufTy).Contents (Elt F) → (⟨S2048x1, .i32⟩ : BufTy).Contents (Elt F)),
    unary main_v180 main_v184 (broadcastInDim S2048x2048 ![0, 1] bcast_S1x2048_S2048x2048_0_1 : (⟨S1x2048, .i32⟩ : BufTy).Contents (Elt F) → (⟨S2048x2048, .i32⟩ : BufTy).Contents (Elt F)),
    unary main_v183 main_v185 (broadcastInDim S2048x2048 ![0, 1] bcast_S2048x1_S2048x2048_0_1 : (⟨S2048x1, .i32⟩ : BufTy).Contents (Elt F) → (⟨S2048x2048, .i32⟩ : BufTy).Contents (Elt F)),
    binary main_v184 main_v185 main_v186 (cmpi .sgt : (⟨S2048x2048, .i32⟩ : BufTy).Contents (Elt F) → (⟨S2048x2048, .i32⟩ : BufTy).Contents (Elt F) → (⟨S2048x2048, .i1⟩ : BufTy).Contents (Elt F)),
    binary main_v179 main_v186 main_v187 (andi : (⟨S2048x2048, .i1⟩ : BufTy).Contents (Elt F) → (⟨S2048x2048, .i1⟩ : BufTy).Contents (Elt F) → (⟨S2048x2048, .i1⟩ : BufTy).Contents (Elt F)),
    nullary main_cst_40 (constant S_ .f32 0xFF800000#32),
    TRef.unary (TRef.of (T := ⟨S_, .f32⟩) main_cst_40) (TRef.of (T := ⟨S_, .f32⟩) main_call8_v0) id,
    TRef.unary (TRef.of (T := ⟨S2048x2048, .i1⟩) main_v187) (TRef.of (T := ⟨S8x4x4x2048x2048, .i1⟩) main_call8_v1) (broadcastInDim S8x4x4x2048x2048 ![3, 4] bcast_S2048x2048_S8x4x4x2048x2048_3_4),
    TRef.unary (TRef.of (T := ⟨S_, .f32⟩) main_call8_v0) (TRef.of (T := ⟨S8x4x4x2048x2048, .f32⟩) main_call8_v2) (broadcastInDim S8x4x4x2048x2048 ![] bcast_S_S8x4x4x2048x2048),
    TRef.ternary (TRef.of (T := ⟨S8x4x4x2048x2048, .i1⟩) main_call8_v1) (TRef.of (T := ⟨S8x4x4x2048x2048, .f32⟩) main_v174) (TRef.of (T := ⟨S8x4x4x2048x2048, .f32⟩) main_call8_v2) (TRef.of (T := ⟨S8x4x4x2048x2048, .f32⟩) main_v188) select ]

abbrev segP : List (HloOp τ sig (Elt F)) :=
  [ nullary main_cst_41 (constant S_ .f32 0xFF800000#32),
    binary main_v188 main_cst_41 main_v189 ((fun x v => Host.reduce FloatOps.maximumf x v reducesTo_S8x4x4x2048x2048_S8x4x4x2048_d4 h_S_) : (⟨S8x4x4x2048x2048, .f32⟩ : BufTy).Contents (Elt F) → (⟨S_, .f32⟩ : BufTy).Contents (Elt F) → (⟨S8x4x4x2048, .f32⟩ : BufTy).Contents (Elt F)),
    unary main_v189 main_v190 (broadcastInDim S8x4x4x2048x1 ![0, 1, 2, 3] bcast_S8x4x4x2048_S8x4x4x2048x1_0_1_2_3 : (⟨S8x4x4x2048, .f32⟩ : BufTy).Contents (Elt F) → (⟨S8x4x4x2048x1, .f32⟩ : BufTy).Contents (Elt F)),
    unary main_v190 main_v191 (Host.absf : (⟨S8x4x4x2048x1, .f32⟩ : BufTy).Contents (Elt F) → (⟨S8x4x4x2048x1, .f32⟩ : BufTy).Contents (Elt F)),
    nullary main_cst_42 (constant S_ .f32 0x7F800000#32),
    unary main_cst_42 main_v192 (broadcastInDim S8x4x4x2048x1 ![] bcast_S_S8x4x4x2048x1 : (⟨S_, .f32⟩ : BufTy).Contents (Elt F) → (⟨S8x4x4x2048x1, .f32⟩ : BufTy).Contents (Elt F)) ]

abbrev segQ : List (HloOp τ sig (Elt F)) :=
  [ binary main_v191 main_v192 main_v193 (cmpf .olt : (⟨S8x4x4x2048x1, .f32⟩ : BufTy).Contents (Elt F) → (⟨S8x4x4x2048x1, .f32⟩ : BufTy).Contents (Elt F) → (⟨S8x4x4x2048x1, .i1⟩ : BufTy).Contents (Elt F)),
    nullary main_cst_43 (constant S_ .f32 0x00000000#32),
    TRef.unary (TRef.of (T := ⟨S_, .f32⟩) main_cst_43) (TRef.of (T := ⟨S_, .f32⟩) main_call9_v0) id,
    TRef.unary (TRef.of (T := ⟨S_, .f32⟩) main_call9_v0) (TRef.of (T := ⟨S8x4x4x2048x1, .f32⟩) main_call9_v1) (broadcastInDim S8x4x4x2048x1 ![] bcast_S_S8x4x4x2048x1),
    TRef.ternary (TRef.of (T := ⟨S8x4x4x2048x1, .i1⟩) main_v193) (TRef.of (T := ⟨S8x4x4x2048x1, .f32⟩) main_v190) (TRef.of (T := ⟨S8x4x4x2048x1, .f32⟩) main_call9_v1) (TRef.of (T := ⟨S8x4x4x2048x1, .f32⟩) main_v194) select,
    unary main_v194 main_v195 (broadcastInDim S8x4x4x2048x2048 ![0, 1, 2, 3, 4] bcast_S8x4x4x2048x1_S8x4x4x2048x2048_0_1_2_3_4 : (⟨S8x4x4x2048x1, .f32⟩ : BufTy).Contents (Elt F) → (⟨S8x4x4x2048x2048, .f32⟩ : BufTy).Contents (Elt F)),
    binary main_v188 main_v195 main_v196 (subf : (⟨S8x4x4x2048x2048, .f32⟩ : BufTy).Contents (Elt F) → (⟨S8x4x4x2048x2048, .f32⟩ : BufTy).Contents (Elt F) → (⟨S8x4x4x2048x2048, .f32⟩ : BufTy).Contents (Elt F)),
    unary main_v196 main_v197 (Host.exp : (⟨S8x4x4x2048x2048, .f32⟩ : BufTy).Contents (Elt F) → (⟨S8x4x4x2048x2048, .f32⟩ : BufTy).Contents (Elt F)),
    nullary main_cst_44 (constant S_ .f32 0x00000000#32),
    TRef.unary (TRef.of (T := ⟨S_, .f32⟩) main_cst_44) (TRef.of (T := ⟨S_, .f32⟩) main_call10_v0) id,
    TRef.unary (TRef.of (T := ⟨S2048x2048, .i1⟩) main_v187) (TRef.of (T := ⟨S8x4x4x2048x2048, .i1⟩) main_call10_v1) (broadcastInDim S8x4x4x2048x2048 ![3, 4] bcast_S2048x2048_S8x4x4x2048x2048_3_4),
    TRef.unary (TRef.of (T := ⟨S_, .f32⟩) main_call10_v0) (TRef.of (T := ⟨S8x4x4x2048x2048, .f32⟩) main_call10_v2) (broadcastInDim S8x4x4x2048x2048 ![] bcast_S_S8x4x4x2048x2048),
    TRef.ternary (TRef.of (T := ⟨S8x4x4x2048x2048, .i1⟩) main_call10_v1) (TRef.of (T := ⟨S8x4x4x2048x2048, .f32⟩) main_v197) (TRef.of (T := ⟨S8x4x4x2048x2048, .f32⟩) main_call10_v2) (TRef.of (T := ⟨S8x4x4x2048x2048, .f32⟩) main_v198) select,
    nullary main_cst_45 (constant S_ .f32 0x00000000#32),
    binary main_v198 main_cst_45 main_v199 ((fun x v => Host.reduceAdd x v reducesTo_S8x4x4x2048x2048_S8x4x4x2048_d4 h_S_) : (⟨S8x4x4x2048x2048, .f32⟩ : BufTy).Contents (Elt F) → (⟨S_, .f32⟩ : BufTy).Contents (Elt F) → (⟨S8x4x4x2048, .f32⟩ : BufTy).Contents (Elt F)),
    unary main_v199 main_v200 (broadcastInDim S8x4x4x2048x1 ![0, 1, 2, 3] bcast_S8x4x4x2048_S8x4x4x2048x1_0_1_2_3 : (⟨S8x4x4x2048, .f32⟩ : BufTy).Contents (Elt F) → (⟨S8x4x4x2048x1, .f32⟩ : BufTy).Contents (Elt F)),
    nullary main_cst_46 (constant S_ .f32 0x0DA24260#32),
    unary main_cst_46 main_v201 (broadcastInDim S8x4x4x2048x1 ![] bcast_S_S8x4x4x2048x1 : (⟨S_, .f32⟩ : BufTy).Contents (Elt F) → (⟨S8x4x4x2048x1, .f32⟩ : BufTy).Contents (Elt F)),
    binary main_v200 main_v201 main_v202 (maximumf : (⟨S8x4x4x2048x1, .f32⟩ : BufTy).Contents (Elt F) → (⟨S8x4x4x2048x1, .f32⟩ : BufTy).Contents (Elt F) → (⟨S8x4x4x2048x1, .f32⟩ : BufTy).Contents (Elt F)),
    unary main_v202 main_v203 (broadcastInDim S8x4x4x2048x2048 ![0, 1, 2, 3, 4] bcast_S8x4x4x2048x1_S8x4x4x2048x2048_0_1_2_3_4 : (⟨S8x4x4x2048x1, .f32⟩ : BufTy).Contents (Elt F) → (⟨S8x4x4x2048x2048, .f32⟩ : BufTy).Contents (Elt F)),
    binary main_v198 main_v203 main_v204 (Host.divf : (⟨S8x4x4x2048x2048, .f32⟩ : BufTy).Contents (Elt F) → (⟨S8x4x4x2048x2048, .f32⟩ : BufTy).Contents (Elt F) → (⟨S8x4x4x2048x2048, .f32⟩ : BufTy).Contents (Elt F)) ]

abbrev segR : List (HloOp τ sig (Elt F)) :=
  [ binary main_v6 main_v204 main_v205 ((fun l r => Host.dotGeneral dot_S8x4x2048x64_S8x4x4x2048x2048_S8x4x64x4x2048_2_4_3_23_01_01 none l r) : (⟨S8x4x2048x64, .f32⟩ : BufTy).Contents (Elt F) → (⟨S8x4x4x2048x2048, .f32⟩ : BufTy).Contents (Elt F) → (⟨S8x4x64x4x2048, .f32⟩ : BufTy).Contents (Elt F)),
    unary main_v205 main_v206 ((transpose S8x2048x4x4x64 [0, 4, 1, 3, 2] · transposes_S8x4x64x4x2048_S8x2048x4x4x64_0_4_1_3_2) : (⟨S8x4x64x4x2048, .f32⟩ : BufTy).Contents (Elt F) → (⟨S8x2048x4x4x64, .f32⟩ : BufTy).Contents (Elt F)),
    unary main_arg7 main_v207 ((extractStridedSlice S16384x48 ![0, 0] · slices_S16384x128_S16384x48_0_0) : (⟨S16384x128, .f32⟩ : BufTy).Contents (Elt F) → (⟨S16384x48, .f32⟩ : BufTy).Contents (Elt F)),
    reshape main_v207 main_v208 (rfl : (.f32 : EltTy) = .f32) shapeCasts_S16384x48_S8x2048x4x4x3,
    unary main_v208 main_v209 ((extractStridedSlice S8x2048x4x4x1 ![0, 0, 0, 0, 0] · slices_S8x2048x4x4x3_S8x2048x4x4x1_0_0_0_0_0) : (⟨S8x2048x4x4x3, .f32⟩ : BufTy).Contents (Elt F) → (⟨S8x2048x4x4x1, .f32⟩ : BufTy).Contents (Elt F)),
    unary main_v209 main_v210 (broadcastInDim S8x2048x4x4x64 ![0, 1, 2, 3, 4] bcast_S8x2048x4x4x1_S8x2048x4x4x64_0_1_2_3_4 : (⟨S8x2048x4x4x1, .f32⟩ : BufTy).Contents (Elt F) → (⟨S8x2048x4x4x64, .f32⟩ : BufTy).Contents (Elt F)),
    binary main_v210 main_v38 main_v211 (mulf : (⟨S8x2048x4x4x64, .f32⟩ : BufTy).Contents (Elt F) → (⟨S8x2048x4x4x64, .f32⟩ : BufTy).Contents (Elt F) → (⟨S8x2048x4x4x64, .f32⟩ : BufTy).Contents (Elt F)),
    unary main_v208 main_v212 ((extractStridedSlice S8x2048x4x4x1 ![0, 0, 0, 0, 1] · slices_S8x2048x4x4x3_S8x2048x4x4x1_0_0_0_0_1) : (⟨S8x2048x4x4x3, .f32⟩ : BufTy).Contents (Elt F) → (⟨S8x2048x4x4x1, .f32⟩ : BufTy).Contents (Elt F)),
    unary main_v212 main_v213 (broadcastInDim S8x2048x4x4x64 ![0, 1, 2, 3, 4] bcast_S8x2048x4x4x1_S8x2048x4x4x64_0_1_2_3_4 : (⟨S8x2048x4x4x1, .f32⟩ : BufTy).Contents (Elt F) → (⟨S8x2048x4x4x64, .f32⟩ : BufTy).Contents (Elt F)),
    binary main_v213 main_v172 main_v214 (mulf : (⟨S8x2048x4x4x64, .f32⟩ : BufTy).Contents (Elt F) → (⟨S8x2048x4x4x64, .f32⟩ : BufTy).Contents (Elt F) → (⟨S8x2048x4x4x64, .f32⟩ : BufTy).Contents (Elt F)),
    binary main_v211 main_v214 main_v215 (addf : (⟨S8x2048x4x4x64, .f32⟩ : BufTy).Contents (Elt F) → (⟨S8x2048x4x4x64, .f32⟩ : BufTy).Contents (Elt F) → (⟨S8x2048x4x4x64, .f32⟩ : BufTy).Contents (Elt F)),
    unary main_v208 main_v216 ((extractStridedSlice S8x2048x4x4x1 ![0, 0, 0, 0, 2] · slices_S8x2048x4x4x3_S8x2048x4x4x1_0_0_0_0_2) : (⟨S8x2048x4x4x3, .f32⟩ : BufTy).Contents (Elt F) → (⟨S8x2048x4x4x1, .f32⟩ : BufTy).Contents (Elt F)),
    unary main_v216 main_v217 (broadcastInDim S8x2048x4x4x64 ![0, 1, 2, 3, 4] bcast_S8x2048x4x4x1_S8x2048x4x4x64_0_1_2_3_4 : (⟨S8x2048x4x4x1, .f32⟩ : BufTy).Contents (Elt F) → (⟨S8x2048x4x4x64, .f32⟩ : BufTy).Contents (Elt F)),
    binary main_v217 main_v206 main_v218 (mulf : (⟨S8x2048x4x4x64, .f32⟩ : BufTy).Contents (Elt F) → (⟨S8x2048x4x4x64, .f32⟩ : BufTy).Contents (Elt F) → (⟨S8x2048x4x4x64, .f32⟩ : BufTy).Contents (Elt F)),
    binary main_v215 main_v218 main_v219 (addf : (⟨S8x2048x4x4x64, .f32⟩ : BufTy).Contents (Elt F) → (⟨S8x2048x4x4x64, .f32⟩ : BufTy).Contents (Elt F) → (⟨S8x2048x4x4x64, .f32⟩ : BufTy).Contents (Elt F)),
    reshape main_v219 main_v220 (rfl : (.f32 : EltTy) = .f32) shapeCasts_S8x2048x4x4x64_S16384x1024 ]

/-- The operations of part 0 of the program. -/
def part0 : List (HloOp τ sig (Elt F)) := segA ++ (segB ++ (segC ++ (segD)))

/-- The operations of part 1 of the program. -/
def part1 : List (HloOp τ sig (Elt F)) := segE ++ (segF ++ (segG ++ (segH)))

/-- The operations of part 2 of the program. -/
def part2 : List (HloOp τ sig (Elt F)) := segX ++ (segI ++ (segY ++ (segJ ++ (segK))))

/-- The operations of part 3 of the program. -/
def part3 : List (HloOp τ sig (Elt F)) := segL ++ (segM ++ (segN ++ (segO ++ (segP))))

/-- The operations of part 4 of the program. -/
def part4 : List (HloOp τ sig (Elt F)) := segQ ++ (segR)

/-- All the operations, in order. -/
abbrev ops : List (HloOp τ sig (Elt F)) := part0 ++ (part1 ++ (part2 ++ (part3 ++ (part4))))

theorem main_part0_eq (c : Dev nD) : main_part0 (F := F) c = seq part0 := by
  obtain ⟨k1, k2, k3, h0, h1, h2, h3⟩ : ∃ k1 k2 k3, main_part0 (F := F) c = seqK segA k1 ∧ k1 = seqK segB k2 ∧ k2 = seqK segC k3 ∧ k3 = seq segD := ⟨_, _, _, rfl, rfl, rfl, rfl⟩
  rw [h0, h1, h2, h3]
  simp only [← seq_bind_seqK, ← seq_append]
  rfl

theorem main_part1_eq (c : Dev nD) : main_part1 (F := F) c = seq part1 := by
  obtain ⟨k1, k2, k3, h0, h1, h2, h3⟩ : ∃ k1 k2 k3, main_part1 (F := F) c = seqK segE k1 ∧ k1 = seqK segF k2 ∧ k2 = seqK segG k3 ∧ k3 = seq segH := ⟨_, _, _, rfl, rfl, rfl, rfl⟩
  rw [h0, h1, h2, h3]
  simp only [← seq_bind_seqK, ← seq_append]
  rfl

set_option maxHeartbeats 4000000 in
theorem main_part2_eq (c : Dev nD) : main_part2 (F := F) c = seq part2 := rfl

theorem main_part3_eq (c : Dev nD) : main_part3 (F := F) c = seq part3 := by
  obtain ⟨k1, k2, k3, k4, h0, h1, h2, h3, h4⟩ : ∃ k1 k2 k3 k4, main_part3 (F := F) c = seqK segL k1 ∧ k1 = seqK segM k2 ∧ k2 = seqK segN k3 ∧ k3 = seqK segO k4 ∧ k4 = seq segP := ⟨_, _, _, _, rfl, rfl, rfl, rfl, rfl⟩
  rw [h0, h1, h2, h3, h4]
  simp only [← seq_bind_seqK, ← seq_append]
  rfl

set_option maxHeartbeats 4000000 in
theorem main_part4_eq (c : Dev nD) : main_part4 (F := F) c = seq part4 := rfl

theorem main_eq (c : Dev nD) : main (F := F) c = seq ops := by
  simp only [ops, seq_append, ← main_part0_eq c, ← main_part1_eq c, ← main_part2_eq c, ← main_part3_eq c, ← main_part4_eq c]
  rfl

theorem no_refs : (Finset.univ.filter fun b : Ref sig .tc => b.isScoped) = ∅ := by decide

theorem no_sems : (Finset.univ.filter fun sm : SemLoc sig => sm.isScoped .tc) = ∅ := by decide

theorem segA_sub : (segA : List (HloOp τ sig (Elt F))).Forall fun op => op.bufs ⊆ tcRefs τ sig :=
  ⟨reshape_bufs_sub .., unary_bufs_sub .., unary_bufs_sub .., unary_bufs_sub .., unary_bufs_sub .., unary_bufs_sub .., unary_bufs_sub .., nullary_bufs_sub .., nullary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., unary_bufs_sub .., binary_bufs_sub .., nullary_bufs_sub .., unary_bufs_sub .., unary_bufs_sub .., unary_bufs_sub .., ternary_bufs_sub ..⟩

theorem segA_fresh : (segA : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl⟩

theorem segB_sub : (segB : List (HloOp τ sig (Elt F))).Forall fun op => op.bufs ⊆ tcRefs τ sig :=
  ⟨nullary_bufs_sub .., binary_bufs_sub .., unary_bufs_sub .., unary_bufs_sub .., nullary_bufs_sub .., unary_bufs_sub .., binary_bufs_sub .., nullary_bufs_sub .., unary_bufs_sub .., unary_bufs_sub .., ternary_bufs_sub .., unary_bufs_sub .., binary_bufs_sub .., unary_bufs_sub .., nullary_bufs_sub .., unary_bufs_sub .., unary_bufs_sub .., unary_bufs_sub .., ternary_bufs_sub .., nullary_bufs_sub .., binary_bufs_sub .., unary_bufs_sub .., nullary_bufs_sub .., unary_bufs_sub .., binary_bufs_sub .., unary_bufs_sub .., binary_bufs_sub ..⟩

theorem segB_fresh : (segB : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl⟩

theorem segC_sub : (segC : List (HloOp τ sig (Elt F))).Forall fun op => op.bufs ⊆ tcRefs τ sig :=
  ⟨binary_bufs_sub .., unary_bufs_sub ..⟩

theorem segC_fresh : (segC : List (HloOp τ sig (Elt F))).Forall fun op => op.fresh = ∅ := ⟨rfl, rfl⟩

theorem segD_sub : (segD : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., nullary_bufs_sub .., unary_bufs_sub .., binary_bufs_sub .., nullary_bufs_sub .., unary_bufs_sub ..⟩

theorem segD_fresh : (segD : List (HloOp τ sig (Elt F))).Forall fun op => op.fresh = ∅ := ⟨rfl, rfl, rfl, rfl, rfl, rfl, rfl, rfl, rfl, rfl, rfl, rfl⟩

theorem segE_sub : (segE : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., binary_bufs_sub .., binary_bufs_sub ..⟩

theorem segE_fresh : (segE : List (HloOp τ sig (Elt F))).Forall fun op => op.fresh = ∅ := ⟨rfl, rfl, rfl, rfl, rfl, rfl, rfl, rfl, rfl, rfl, rfl, rfl, rfl, rfl, rfl, rfl, rfl, rfl, rfl, rfl, rfl⟩

theorem segF_sub : (segF : List (HloOp τ sig (Elt F))).Forall fun op => op.bufs ⊆ tcRefs τ sig :=
  ⟨nullary_bufs_sub .., unary_bufs_sub .., nullary_bufs_sub .., unary_bufs_sub .., binary_bufs_sub .., unary_bufs_sub .., nullary_bufs_sub .., unary_bufs_sub .., binary_bufs_sub .., unary_bufs_sub .., unary_bufs_sub .., binary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., unary_bufs_sub .., unary_bufs_sub .., ternary_bufs_sub .., nullary_bufs_sub .., unary_bufs_sub .., unary_bufs_sub .., unary_bufs_sub .., ternary_bufs_sub ..⟩

theorem segF_fresh : (segF : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem segG_sub : (segG : List (HloOp τ sig (Elt F))).Forall fun op => op.bufs ⊆ tcRefs τ sig :=
  ⟨unary_bufs_sub .., unary_bufs_sub ..⟩

theorem segG_fresh : (segG : List (HloOp τ sig (Elt F))).Forall fun op => op.fresh = ∅ := ⟨rfl, rfl⟩

theorem segH_sub : (segH : List (HloOp τ sig (Elt F))).Forall fun op => op.bufs ⊆ tcRefs τ sig :=
  ⟨reshape_bufs_sub .., reshape_bufs_sub .., nullary_bufs_sub .., unary_bufs_sub .., nullary_bufs_sub .., unary_bufs_sub .., nullary_bufs_sub .., unary_bufs_sub .., binary_bufs_sub ..⟩

theorem segH_fresh : (segH : List (HloOp τ sig (Elt F))).Forall fun op => op.fresh = ∅ := ⟨rfl, rfl, rfl, rfl, rfl, rfl, rfl, rfl, rfl⟩

theorem segX_sub : (segX : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub ..⟩

theorem segX_fresh : (segX : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl⟩

theorem segI_sub : (segI : List (HloOp τ sig (Elt F))).Forall fun op => op.bufs ⊆ tcRefs τ sig :=
  ⟨nary_bufs_sub .., binary_bufs_sub .., reshape_bufs_sub ..⟩

theorem segI_fresh : (segI : List (HloOp τ sig (Elt F))).Forall fun op => op.fresh = ∅ := ⟨rfl, rfl, rfl⟩

theorem segY_sub : (segY : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub ..⟩

theorem segY_fresh : (segY : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl⟩

theorem segJ_sub : (segJ : List (HloOp τ sig (Elt F))).Forall fun op => op.bufs ⊆ tcRefs τ sig :=
  ⟨nary_bufs_sub .., binary_bufs_sub .., reshape_bufs_sub ..⟩

theorem segJ_fresh : (segJ : List (HloOp τ sig (Elt F))).Forall fun op => op.fresh = ∅ := ⟨rfl, rfl, rfl⟩

theorem segK_sub : (segK : List (HloOp τ sig (Elt F))).Forall fun op => op.bufs ⊆ tcRefs τ sig :=
  ⟨unary_bufs_sub .., nullary_bufs_sub .., unary_bufs_sub .., binary_bufs_sub .., nullary_bufs_sub ..⟩

theorem segK_fresh : (segK : List (HloOp τ sig (Elt F))).Forall fun op => op.fresh = ∅ := ⟨rfl, rfl, rfl, rfl, rfl⟩

theorem segL_sub : (segL : List (HloOp τ sig (Elt F))).Forall fun op => op.bufs ⊆ tcRefs τ sig :=
  ⟨unary_bufs_sub .., unary_bufs_sub .., unary_bufs_sub .., binary_bufs_sub .., reshape_bufs_sub .., binary_bufs_sub .., unary_bufs_sub .., unary_bufs_sub .., unary_bufs_sub .., binary_bufs_sub .., unary_bufs_sub .., nullary_bufs_sub .., unary_bufs_sub .., unary_bufs_sub .., unary_bufs_sub .., ternary_bufs_sub ..⟩

theorem segL_fresh : (segL : List (HloOp τ sig (Elt F))).Forall fun op => op.fresh = ∅ := ⟨rfl, rfl, rfl, rfl, rfl, rfl, rfl, rfl, rfl, rfl, rfl, rfl, rfl, rfl, rfl, rfl⟩

theorem segM_sub : (segM : List (HloOp τ sig (Elt F))).Forall fun op => op.bufs ⊆ tcRefs τ sig :=
  ⟨nullary_bufs_sub .., binary_bufs_sub .., unary_bufs_sub .., unary_bufs_sub .., nullary_bufs_sub .., unary_bufs_sub .., binary_bufs_sub .., nullary_bufs_sub .., unary_bufs_sub .., unary_bufs_sub .., ternary_bufs_sub .., unary_bufs_sub .., binary_bufs_sub .., unary_bufs_sub .., nullary_bufs_sub .., unary_bufs_sub .., unary_bufs_sub .., unary_bufs_sub .., ternary_bufs_sub .., nullary_bufs_sub .., binary_bufs_sub .., unary_bufs_sub .., nullary_bufs_sub .., unary_bufs_sub .., binary_bufs_sub .., unary_bufs_sub .., binary_bufs_sub ..⟩

theorem segM_fresh : (segM : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl⟩

theorem segN_sub : (segN : List (HloOp τ sig (Elt F))).Forall fun op => op.bufs ⊆ tcRefs τ sig :=
  binary_bufs_sub ..

theorem segN_fresh : (segN : List (HloOp τ sig (Elt F))).Forall fun op => op.fresh = ∅ := rfl

theorem segO_sub : (segO : List (HloOp τ sig (Elt F))).Forall fun op => op.bufs ⊆ tcRefs τ sig :=
  ⟨binary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., unary_bufs_sub .., unary_bufs_sub .., binary_bufs_sub .., binary_bufs_sub .., nullary_bufs_sub .., unary_bufs_sub .., unary_bufs_sub .., unary_bufs_sub .., ternary_bufs_sub ..⟩

theorem segO_fresh : (segO : List (HloOp τ sig (Elt F))).Forall fun op => op.fresh = ∅ := ⟨rfl, rfl, rfl, rfl, rfl, rfl, rfl, rfl, rfl, rfl, rfl, rfl, rfl, rfl, rfl, rfl, rfl, rfl, rfl, rfl, rfl⟩

theorem segP_sub : (segP : List (HloOp τ sig (Elt F))).Forall fun op => op.bufs ⊆ tcRefs τ sig :=
  ⟨nullary_bufs_sub .., binary_bufs_sub .., unary_bufs_sub .., unary_bufs_sub .., nullary_bufs_sub .., unary_bufs_sub ..⟩

theorem segP_fresh : (segP : List (HloOp τ sig (Elt F))).Forall fun op => op.fresh = ∅ := ⟨rfl, rfl, rfl, rfl, rfl, rfl⟩

theorem segQ_sub : (segQ : List (HloOp τ sig (Elt F))).Forall fun op => op.bufs ⊆ tcRefs τ sig :=
  ⟨binary_bufs_sub .., nullary_bufs_sub .., unary_bufs_sub .., unary_bufs_sub .., ternary_bufs_sub .., unary_bufs_sub .., binary_bufs_sub .., unary_bufs_sub .., nullary_bufs_sub .., unary_bufs_sub .., unary_bufs_sub .., unary_bufs_sub .., ternary_bufs_sub .., nullary_bufs_sub .., binary_bufs_sub .., unary_bufs_sub .., nullary_bufs_sub .., unary_bufs_sub .., binary_bufs_sub .., unary_bufs_sub .., binary_bufs_sub ..⟩

theorem segQ_fresh : (segQ : List (HloOp τ sig (Elt F))).Forall fun op => op.fresh = ∅ := ⟨rfl, rfl, rfl, rfl, rfl, rfl, rfl, rfl, rfl, rfl, rfl, rfl, rfl, rfl, rfl, rfl, rfl, rfl, rfl, rfl, rfl⟩

theorem segR_sub : (segR : List (HloOp τ sig (Elt F))).Forall fun op => op.bufs ⊆ tcRefs τ sig :=
  ⟨binary_bufs_sub .., unary_bufs_sub .., unary_bufs_sub .., reshape_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., reshape_bufs_sub ..⟩

theorem segR_fresh : (segR : List (HloOp τ sig (Elt F))).Forall fun op => op.fresh = ∅ := ⟨rfl, rfl, rfl, rfl, rfl, rfl, rfl, rfl, rfl, rfl, rfl, rfl, rfl, rfl, rfl, rfl⟩

theorem ops_sub : (ops : List (HloOp τ sig (Elt F))).Forall fun op => op.bufs ⊆ tcRefs τ sig := by
  simp only [ops, part0, part1, part2, part3, part4, List.forall_append]
  exact ⟨⟨segA_sub, ⟨segB_sub, ⟨segC_sub, segD_sub⟩⟩⟩, ⟨⟨segE_sub, ⟨segF_sub, ⟨segG_sub, segH_sub⟩⟩⟩, ⟨⟨segX_sub, ⟨segI_sub, ⟨segY_sub, ⟨segJ_sub, segK_sub⟩⟩⟩⟩, ⟨⟨segL_sub, ⟨segM_sub, ⟨segN_sub, ⟨segO_sub, segP_sub⟩⟩⟩⟩, ⟨segQ_sub, segR_sub⟩⟩⟩⟩⟩

theorem ops_fresh : (ops : List (HloOp τ sig (Elt F))).Forall fun op => op.fresh = ∅ := by
  simp only [ops, part0, part1, part2, part3, part4, List.forall_append]
  exact ⟨⟨segA_fresh, ⟨segB_fresh, ⟨segC_fresh, segD_fresh⟩⟩⟩, ⟨⟨segE_fresh, ⟨segF_fresh, ⟨segG_fresh, segH_fresh⟩⟩⟩, ⟨⟨segX_fresh, ⟨segI_fresh, ⟨segY_fresh, ⟨segJ_fresh, segK_fresh⟩⟩⟩⟩, ⟨⟨segL_fresh, ⟨segM_fresh, ⟨segN_fresh, ⟨segO_fresh, segP_fresh⟩⟩⟩⟩, ⟨segQ_fresh, segR_fresh⟩⟩⟩⟩⟩

/-- Every weakly fair execution ends with each buffer at what the operations leave there. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq no_refs no_sems defs main (fun _ => ops) main_eq (fun _ => ops_sub) m ρ fun _ => List.forall_iff_forall_mem.1 ops_fresh

end Cert.AttnRefIdeal.Line

end
-- ==== Proof.AttnRefSoft.lean ====
/-
  The reference's softmax over its three kinds of keys, read at an index.
-/
module

public import proofs.«01_k».proof.Proof.Gen.AttnRefIdeal
public import proofs.«01_k».proof.Proof.AttnModel
public import proofs.«01_k».proof.Proof.Finite
public import Idealize.ShloMosaic.Lib.Pipeline.ValueKit
public import Idealize.ShloMosaic.Lib.Claim

@[expose] public section

set_option maxRecDepth 16384

noncomputable section

open Idealize.ShloMosaic Idealize.ShloMosaic.TcCoe
open scoped BigOperators

namespace Cert.AttnRefIdeal.Fn

open Cert.AttnRefIdeal Cert.AttnRefIdeal.Gen

/-! ## The guarded maximum -/

/-- The largest score, and zero where it is not finite. -/
def guard (m : FVec Ideal S8x4x4x2048x1 .f32) : FVec Ideal S8x4x4x2048x1 .f32 :=
  select (cmpf .olt (Host.absf m) (broadcastInDim S8x4x4x2048x1 ![] bcast_S_S8x4x4x2048x1 (constant S_ .f32 0x7F800000#32))) m
    (broadcastInDim S8x4x4x2048x1 ![] bcast_S_S8x4x4x2048x1 (constant S_ .f32 0x00000000#32))

theorem guard_apply (m : FVec Ideal S8x4x4x2048x1 .f32) (b : Fin 8) (h g : Fin 4) (s : Fin 2048) (v : ℝ) (hv : @Eq EReal (m (ix5 b h g s 0)) (v : EReal)) :
    @Eq EReal (guard m (ix5 b h g s 0)) (v : EReal) := by
  have ha : max (v : EReal) (-(v : EReal)) < ⊤ := max_lt (EReal.coe_lt_top v) (EReal.coe_lt_top (-v))
  have hlt : (FloatOps.absf (F := Ideal) (φ := .f32) (v : EReal) : EReal) < ⊤ := ha
  pointwise [guard]
  rw [hv, Finite.bits_inf, if_pos hlt]

/-! ## 127 keys -/

def peak127 (s : FVec Ideal S8x4x4x2048x127 .f32) : FVec Ideal S8x4x4x2048x1 .f32 :=
  broadcastInDim S8x4x4x2048x1 ![0, 1, 2, 3] bcast_S8x4x4x2048_S8x4x4x2048x1_0_1_2_3
    (Host.reduce FloatOps.maximumf s (constant S_ .f32 0xFF800000#32) reducesTo_S8x4x4x2048x127_S8x4x4x2048_d4 h_S_)

theorem peak127_apply (s : FVec Ideal S8x4x4x2048x127 .f32) (b : Fin 8) (h g : Fin 4) (t : Fin 2048) :
    peak127 s (ix5 b h g t 0) = Finset.fold max (⊥ : EReal) (fun c => s (ix5 b h g t c)) Finset.univ := by
  pointwise [peak127]
  rw [Attn.bits_ninf]

def masked127 (M : IVec S2048x127 1) (s : FVec Ideal S8x4x4x2048x127 .f32) : FVec Ideal S8x4x4x2048x127 .f32 :=
  select (broadcastInDim S8x4x4x2048x127 ![3, 4] bcast_S2048x127_S8x4x4x2048x127_3_4 M) s (broadcastInDim S8x4x4x2048x127 ![] bcast_S_S8x4x4x2048x127 (constant S_ .f32 0xFF800000#32))

theorem masked127_apply (M : IVec S2048x127 1) (s : FVec Ideal S8x4x4x2048x127 .f32) (b : Fin 8) (h g : Fin 4) (t : Fin 2048) (c : Fin 127) :
    masked127 M s (ix5 b h g t c) = Attn.shown (fun c => M (ix2 t c)) (fun c => s (ix5 b h g t c)) c := by
  unfold Attn.shown
  pointwise [masked127]
  rw [Attn.bits_ninf]

def wts127 (M : IVec S2048x127 1) (s : FVec Ideal S8x4x4x2048x127 .f32) (p : FVec Ideal S8x4x4x2048x1 .f32) : FVec Ideal S8x4x4x2048x127 .f32 :=
  select (broadcastInDim S8x4x4x2048x127 ![3, 4] bcast_S2048x127_S8x4x4x2048x127_3_4 M) (Host.exp (subf s (broadcastInDim S8x4x4x2048x127 ![0, 1, 2, 3, 4] bcast_S8x4x4x2048x1_S8x4x4x2048x127_0_1_2_3_4 p)))
    (broadcastInDim S8x4x4x2048x127 ![] bcast_S_S8x4x4x2048x127 (constant S_ .f32 0x00000000#32))

def norm127 (w : FVec Ideal S8x4x4x2048x127 .f32) : FVec Ideal S8x4x4x2048x127 .f32 :=
  Host.divf w (broadcastInDim S8x4x4x2048x127 ![0, 1, 2, 3, 4] bcast_S8x4x4x2048x1_S8x4x4x2048x127_0_1_2_3_4
    (maximumf (broadcastInDim S8x4x4x2048x1 ![0, 1, 2, 3] bcast_S8x4x4x2048_S8x4x4x2048x1_0_1_2_3
        (Host.reduceAdd w (constant S_ .f32 0x00000000#32) reducesTo_S8x4x4x2048x127_S8x4x4x2048_d4 h_S_))
      (broadcastInDim S8x4x4x2048x1 ![] bcast_S_S8x4x4x2048x1 (constant S_ .f32 0x0DA24260#32))))

/-- The reference's softmax of masked scores. -/
def soft127 (M : IVec S2048x127 1) (s : FVec Ideal S8x4x4x2048x127 .f32) : FVec Ideal S8x4x4x2048x127 .f32 := norm127 (wts127 M s (guard (peak127 s)))

theorem soft127_apply (M : IVec S2048x127 1) (s : FVec Ideal S8x4x4x2048x127 .f32) (b : Fin 8) (h g : Fin 4) (t : Fin 2048)
    (hs : ∀ c, (M (ix2 t c)) = 1#1 → ∃ v : ℝ, @Eq EReal (s (ix5 b h g t c)) (v : EReal)) (c : Fin 127) :
    soft127 M (masked127 M s) (ix5 b h g t c) = Attn.soft (fun c => M (ix2 t c)) (fun c => s (ix5 b h g t c)) c := by
  have hp : peak127 (masked127 M s) (ix5 b h g t 0) = Attn.peak (fun c => M (ix2 t c)) (fun c => s (ix5 b h g t c)) := by
    rw [peak127_apply]
    unfold Attn.peak
    simp only [masked127_apply]
  have hw : ∀ c, wts127 M (masked127 M s) (guard (peak127 (masked127 M s))) (ix5 b h g t c)
      = Attn.wtAt (fun c => M (ix2 t c)) (fun c => s (ix5 b h g t c)) (guard (peak127 (masked127 M s)) (ix5 b h g t 0)) c := by
    intro c
    unfold Attn.wtAt
    rw [← masked127_apply M s b h g t c]
    generalize guard (peak127 (masked127 M s)) = p
    generalize masked127 M s = z
    pointwise [wts127]
  rw [← Attn.softAt_guard _ _ hs (guard (peak127 (masked127 M s)) (ix5 b h g t 0)) (fun v hv => guard_apply _ b h g t v (hp.trans hv)) c]
  unfold Attn.softAt soft127 Attn.floor
  simp only [← hw]
  generalize wts127 M (masked127 M s) (guard (peak127 (masked127 M s))) = w
  pointwise [norm127]

/-! ## 1024 keys -/

def peak1024 (s : FVec Ideal S8x4x4x2048x1024 .f32) : FVec Ideal S8x4x4x2048x1 .f32 :=
  broadcastInDim S8x4x4x2048x1 ![0, 1, 2, 3] bcast_S8x4x4x2048_S8x4x4x2048x1_0_1_2_3
    (Host.reduce FloatOps.maximumf s (constant S_ .f32 0xFF800000#32) reducesTo_S8x4x4x2048x1024_S8x4x4x2048_d4 h_S_)

theorem peak1024_apply (s : FVec Ideal S8x4x4x2048x1024 .f32) (b : Fin 8) (h g : Fin 4) (t : Fin 2048) :
    peak1024 s (ix5 b h g t 0) = Finset.fold max (⊥ : EReal) (fun c => s (ix5 b h g t c)) Finset.univ := by
  pointwise [peak1024]
  rw [Attn.bits_ninf]

def masked1024 (M : IVec S8x4x1x2048x1024 1) (s : FVec Ideal S8x4x4x2048x1024 .f32) : FVec Ideal S8x4x4x2048x1024 .f32 :=
  select (broadcastInDim S8x4x4x2048x1024 ![0, 1, 2, 3, 4] bcast_S8x4x1x2048x1024_S8x4x4x2048x1024_0_1_2_3_4 M) s (broadcastInDim S8x4x4x2048x1024 ![] bcast_S_S8x4x4x2048x1024 (constant S_ .f32 0xFF800000#32))

theorem masked1024_apply (M : IVec S8x4x1x2048x1024 1) (s : FVec Ideal S8x4x4x2048x1024 .f32) (b : Fin 8) (h g : Fin 4) (t : Fin 2048) (c : Fin 1024) :
    masked1024 M s (ix5 b h g t c) = Attn.shown (fun c => M (ix5 b h 0 t c)) (fun c => s (ix5 b h g t c)) c := by
  unfold Attn.shown
  pointwise [masked1024]
  rw [Attn.bits_ninf]

def wts1024 (M : IVec S8x4x1x2048x1024 1) (s : FVec Ideal S8x4x4x2048x1024 .f32) (p : FVec Ideal S8x4x4x2048x1 .f32) : FVec Ideal S8x4x4x2048x1024 .f32 :=
  select (broadcastInDim S8x4x4x2048x1024 ![0, 1, 2, 3, 4] bcast_S8x4x1x2048x1024_S8x4x4x2048x1024_0_1_2_3_4 M) (Host.exp (subf s (broadcastInDim S8x4x4x2048x1024 ![0, 1, 2, 3, 4] bcast_S8x4x4x2048x1_S8x4x4x2048x1024_0_1_2_3_4 p)))
    (broadcastInDim S8x4x4x2048x1024 ![] bcast_S_S8x4x4x2048x1024 (constant S_ .f32 0x00000000#32))

def norm1024 (w : FVec Ideal S8x4x4x2048x1024 .f32) : FVec Ideal S8x4x4x2048x1024 .f32 :=
  Host.divf w (broadcastInDim S8x4x4x2048x1024 ![0, 1, 2, 3, 4] bcast_S8x4x4x2048x1_S8x4x4x2048x1024_0_1_2_3_4
    (maximumf (broadcastInDim S8x4x4x2048x1 ![0, 1, 2, 3] bcast_S8x4x4x2048_S8x4x4x2048x1_0_1_2_3
        (Host.reduceAdd w (constant S_ .f32 0x00000000#32) reducesTo_S8x4x4x2048x1024_S8x4x4x2048_d4 h_S_))
      (broadcastInDim S8x4x4x2048x1 ![] bcast_S_S8x4x4x2048x1 (constant S_ .f32 0x0DA24260#32))))

/-- The reference's softmax of masked scores. -/
def soft1024 (M : IVec S8x4x1x2048x1024 1) (s : FVec Ideal S8x4x4x2048x1024 .f32) : FVec Ideal S8x4x4x2048x1024 .f32 := norm1024 (wts1024 M s (guard (peak1024 s)))

theorem soft1024_apply (M : IVec S8x4x1x2048x1024 1) (s : FVec Ideal S8x4x4x2048x1024 .f32) (b : Fin 8) (h g : Fin 4) (t : Fin 2048)
    (hs : ∀ c, (M (ix5 b h 0 t c)) = 1#1 → ∃ v : ℝ, @Eq EReal (s (ix5 b h g t c)) (v : EReal)) (c : Fin 1024) :
    soft1024 M (masked1024 M s) (ix5 b h g t c) = Attn.soft (fun c => M (ix5 b h 0 t c)) (fun c => s (ix5 b h g t c)) c := by
  have hp : peak1024 (masked1024 M s) (ix5 b h g t 0) = Attn.peak (fun c => M (ix5 b h 0 t c)) (fun c => s (ix5 b h g t c)) := by
    rw [peak1024_apply]
    unfold Attn.peak
    simp only [masked1024_apply]
  have hw : ∀ c, wts1024 M (masked1024 M s) (guard (peak1024 (masked1024 M s))) (ix5 b h g t c)
      = Attn.wtAt (fun c => M (ix5 b h 0 t c)) (fun c => s (ix5 b h g t c)) (guard (peak1024 (masked1024 M s)) (ix5 b h g t 0)) c := by
    intro c
    unfold Attn.wtAt
    rw [← masked1024_apply M s b h g t c]
    generalize guard (peak1024 (masked1024 M s)) = p
    generalize masked1024 M s = z
    pointwise [wts1024]
  rw [← Attn.softAt_guard _ _ hs (guard (peak1024 (masked1024 M s)) (ix5 b h g t 0)) (fun v hv => guard_apply _ b h g t v (hp.trans hv)) c]
  unfold Attn.softAt soft1024 Attn.floor
  simp only [← hw]
  generalize wts1024 M (masked1024 M s) (guard (peak1024 (masked1024 M s))) = w
  pointwise [norm1024]

/-! ## 2048 keys -/

def peak2048 (s : FVec Ideal S8x4x4x2048x2048 .f32) : FVec Ideal S8x4x4x2048x1 .f32 :=
  broadcastInDim S8x4x4x2048x1 ![0, 1, 2, 3] bcast_S8x4x4x2048_S8x4x4x2048x1_0_1_2_3
    (Host.reduce FloatOps.maximumf s (constant S_ .f32 0xFF800000#32) reducesTo_S8x4x4x2048x2048_S8x4x4x2048_d4 h_S_)

theorem peak2048_apply (s : FVec Ideal S8x4x4x2048x2048 .f32) (b : Fin 8) (h g : Fin 4) (t : Fin 2048) :
    peak2048 s (ix5 b h g t 0) = Finset.fold max (⊥ : EReal) (fun c => s (ix5 b h g t c)) Finset.univ := by
  pointwise [peak2048]
  rw [Attn.bits_ninf]

def masked2048 (M : IVec S2048x2048 1) (s : FVec Ideal S8x4x4x2048x2048 .f32) : FVec Ideal S8x4x4x2048x2048 .f32 :=
  select (broadcastInDim S8x4x4x2048x2048 ![3, 4] bcast_S2048x2048_S8x4x4x2048x2048_3_4 M) s (broadcastInDim S8x4x4x2048x2048 ![] bcast_S_S8x4x4x2048x2048 (constant S_ .f32 0xFF800000#32))

theorem masked2048_apply (M : IVec S2048x2048 1) (s : FVec Ideal S8x4x4x2048x2048 .f32) (b : Fin 8) (h g : Fin 4) (t : Fin 2048) (c : Fin 2048) :
    masked2048 M s (ix5 b h g t c) = Attn.shown (fun c => M (ix2 t c)) (fun c => s (ix5 b h g t c)) c := by
  unfold Attn.shown
  pointwise [masked2048]
  rw [Attn.bits_ninf]

def wts2048 (M : IVec S2048x2048 1) (s : FVec Ideal S8x4x4x2048x2048 .f32) (p : FVec Ideal S8x4x4x2048x1 .f32) : FVec Ideal S8x4x4x2048x2048 .f32 :=
  select (broadcastInDim S8x4x4x2048x2048 ![3, 4] bcast_S2048x2048_S8x4x4x2048x2048_3_4 M) (Host.exp (subf s (broadcastInDim S8x4x4x2048x2048 ![0, 1, 2, 3, 4] bcast_S8x4x4x2048x1_S8x4x4x2048x2048_0_1_2_3_4 p)))
    (broadcastInDim S8x4x4x2048x2048 ![] bcast_S_S8x4x4x2048x2048 (constant S_ .f32 0x00000000#32))

def norm2048 (w : FVec Ideal S8x4x4x2048x2048 .f32) : FVec Ideal S8x4x4x2048x2048 .f32 :=
  Host.divf w (broadcastInDim S8x4x4x2048x2048 ![0, 1, 2, 3, 4] bcast_S8x4x4x2048x1_S8x4x4x2048x2048_0_1_2_3_4
    (maximumf (broadcastInDim S8x4x4x2048x1 ![0, 1, 2, 3] bcast_S8x4x4x2048_S8x4x4x2048x1_0_1_2_3
        (Host.reduceAdd w (constant S_ .f32 0x00000000#32) reducesTo_S8x4x4x2048x2048_S8x4x4x2048_d4 h_S_))
      (broadcastInDim S8x4x4x2048x1 ![] bcast_S_S8x4x4x2048x1 (constant S_ .f32 0x0DA24260#32))))

/-- The reference's softmax of masked scores. -/
def soft2048 (M : IVec S2048x2048 1) (s : FVec Ideal S8x4x4x2048x2048 .f32) : FVec Ideal S8x4x4x2048x2048 .f32 := norm2048 (wts2048 M s (guard (peak2048 s)))

theorem soft2048_apply (M : IVec S2048x2048 1) (s : FVec Ideal S8x4x4x2048x2048 .f32) (b : Fin 8) (h g : Fin 4) (t : Fin 2048)
    (hs : ∀ c, (M (ix2 t c)) = 1#1 → ∃ v : ℝ, @Eq EReal (s (ix5 b h g t c)) (v : EReal)) (c : Fin 2048) :
    soft2048 M (masked2048 M s) (ix5 b h g t c) = Attn.soft (fun c => M (ix2 t c)) (fun c => s (ix5 b h g t c)) c := by
  have hp : peak2048 (masked2048 M s) (ix5 b h g t 0) = Attn.peak (fun c => M (ix2 t c)) (fun c => s (ix5 b h g t c)) := by
    rw [peak2048_apply]
    unfold Attn.peak
    simp only [masked2048_apply]
  have hw : ∀ c, wts2048 M (masked2048 M s) (guard (peak2048 (masked2048 M s))) (ix5 b h g t c)
      = Attn.wtAt (fun c => M (ix2 t c)) (fun c => s (ix5 b h g t c)) (guard (peak2048 (masked2048 M s)) (ix5 b h g t 0)) c := by
    intro c
    unfold Attn.wtAt
    rw [← masked2048_apply M s b h g t c]
    generalize guard (peak2048 (masked2048 M s)) = p
    generalize masked2048 M s = z
    pointwise [wts2048]
  rw [← Attn.softAt_guard _ _ hs (guard (peak2048 (masked2048 M s)) (ix5 b h g t 0)) (fun v hv => guard_apply _ b h g t v (hp.trans hv)) c]
  unfold Attn.softAt soft2048 Attn.floor
  simp only [← hw]
  generalize wts2048 M (masked2048 M s) (guard (peak2048 (masked2048 M s))) = w
  pointwise [norm2048]

end Cert.AttnRefIdeal.Fn

end
-- ==== Proof.AttnRefStages.lean ====
/-
  What each stage of the attention reference's operations leaves, as the stage's function of what it found.
-/
module

public import proofs.«01_k».proof.Proof.AttnRefOps
public import proofs.«01_k».proof.Proof.AttnRefSoft

@[expose] public section

set_option maxRecDepth 8192
set_option Elab.async false

noncomputable section

namespace Cert.AttnRefIdeal.Line

open Cert.AttnRefIdeal Cert.AttnRefIdeal.Gen Idealize.ShloMosaic Idealize.ShloMosaic.TcCoe Idealize.SL.Sem Idealize.ShloMosaic.StableHlo

/-- The batch column of the addresses. -/
def Fn.col0 : IVec S8x4x2048x16x1 32 :=
  broadcastInDim S8x4x2048x16x1 ![0, 1, 2, 3] bcast_S8x4x2048x16_S8x4x2048x16x1_0_1_2_3 (broadcastInDim S8x4x2048x16 ![0, 1, 2, 3] bcast_S8x1x1x1_S8x4x2048x16_0_1_2_3 Fn.batchOf)

/-- The head column of the addresses. -/
def Fn.col1 : IVec S8x4x2048x16x1 32 :=
  broadcastInDim S8x4x2048x16x1 ![0, 1, 2, 3] bcast_S8x4x2048x16_S8x4x2048x16x1_0_1_2_3 (broadcastInDim S8x4x2048x16 ![0, 1, 2, 3] bcast_S1x4x1x1_S8x4x2048x16_0_1_2_3 Fn.headOf)

/-- The block column of the addresses. -/
def Fn.col2 (i : IVec S8x4x2048x16 32) : IVec S8x4x2048x16x1 32 :=
  broadcastInDim S8x4x2048x16x1 ![0, 1, 2, 3] bcast_S8x4x2048x16_S8x4x2048x16x1_0_1_2_3 (select (cmpi .slt i (broadcastInDim S8x4x2048x16 ![] bcast_S_S8x4x2048x16 (constantI S_ 32 0#32))) (addi i (broadcastInDim S8x4x2048x16 ![] bcast_S_S8x4x2048x16 (constantI S_ 32 32#32))) i)

theorem Fn.addr_eq (i : IVec S8x4x2048x16 32) : Fn.join Fn.col0 Fn.col1 (Fn.col2 i) = Fn.addr i := rfl

theorem joinI_at (V : Valuation τ sig (Elt Ideal)) : (joinI (F := Ideal)).result V (Proc.devRef .tc main_v114)
    = Fn.join (V (Proc.devRef .tc main_v111)) (V (Proc.devRef .tc main_v112)) (V (Proc.devRef .tc main_v113)) := by
  rw [joinI_eq]
  exact nary_result ..

theorem joinI_off (V : Valuation τ sig (Elt Ideal)) : (joinI (F := Ideal)).result V (Proc.devRef .tc main_v88) = V (Proc.devRef .tc main_v88) := by
  rw [joinI_eq]
  exact nary_result_ne _ _ _ _ _ _ (by decide)

theorem joinJ_at (V : Valuation τ sig (Elt Ideal)) : (joinJ (F := Ideal)).result V (Proc.devRef .tc main_v137)
    = Fn.join (V (Proc.devRef .tc main_v134)) (V (Proc.devRef .tc main_v135)) (V (Proc.devRef .tc main_v136)) := by
  rw [joinJ_eq]
  exact nary_result ..

theorem joinJ_off (V : Valuation τ sig (Elt Ideal)) : (joinJ (F := Ideal)).result V (Proc.devRef .tc main_v89) = V (Proc.devRef .tc main_v89) := by
  rw [joinJ_eq]
  exact nary_result_ne _ _ _ _ _ _ (by decide)

/-- The buffers stage A writes. -/
abbrev writesA : List (Ref sig .tc) := [main_v0, main_v1, main_v2, main_v3, main_v4, main_v5, main_v6, main_v7, main_v8, main_c, main_v9, main_v10, main_c_0, main_v11, main_v12, main_v13, main_v14, main_v15, main_v16, main_v17, main_v18, main_v19, main_cst, main_call0_v0, main_call0_v1, main_call0_v2, main_v20]

theorem keepA (V : Valuation τ sig (Elt Ideal)) (r : Ref sig .tc) (h : r ∉ writesA) : after segA V (Proc.devRef .tc r) = V (Proc.devRef .tc r) := by
  refine after_of_writes_sub segA _ (W := writesA) ?_ h
  simp only [segA, List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterA_v0 (V : Valuation τ sig (Elt Ideal)) : after segA V (Proc.devRef .tc main_v0) = Fn.q5 (V (Proc.devRef .tc main_arg0)) := by
  simp only [segA, TRef.ternary, TRef.unary, TRef.toBuf, TRef.ofBuf, cast_eq]
  after_results_simp
  rfl

set_option maxHeartbeats 2000000 in
theorem afterA_v1 (V : Valuation τ sig (Elt Ideal)) : after segA V (Proc.devRef .tc main_v1) = Fn.cut (V (Proc.devRef .tc main_arg1)) := by
  simp only [segA, TRef.ternary, TRef.unary, TRef.toBuf, TRef.ofBuf, cast_eq]
  after_results_simp
  rfl

set_option maxHeartbeats 2000000 in
theorem afterA_v2 (V : Valuation τ sig (Elt Ideal)) : after segA V (Proc.devRef .tc main_v2) = Fn.cut (V (Proc.devRef .tc main_arg2)) := by
  simp only [segA, TRef.ternary, TRef.unary, TRef.toBuf, TRef.ofBuf, cast_eq]
  after_results_simp
  rfl

set_option maxHeartbeats 2000000 in
theorem afterA_v3 (V : Valuation τ sig (Elt Ideal)) : after segA V (Proc.devRef .tc main_v3) = Fn.wide (V (Proc.devRef .tc main_arg3)) := by
  simp only [segA, TRef.ternary, TRef.unary, TRef.toBuf, TRef.ofBuf, cast_eq]
  after_results_simp
  rfl

set_option maxHeartbeats 2000000 in
theorem afterA_v4 (V : Valuation τ sig (Elt Ideal)) : after segA V (Proc.devRef .tc main_v4) = Fn.wide (V (Proc.devRef .tc main_arg4)) := by
  simp only [segA, TRef.ternary, TRef.unary, TRef.toBuf, TRef.ofBuf, cast_eq]
  after_results_simp
  rfl

set_option maxHeartbeats 2000000 in
theorem afterA_v5 (V : Valuation τ sig (Elt Ideal)) : after segA V (Proc.devRef .tc main_v5) = Fn.wide (V (Proc.devRef .tc main_arg5)) := by
  simp only [segA, TRef.ternary, TRef.unary, TRef.toBuf, TRef.ofBuf, cast_eq]
  after_results_simp
  rfl

set_option maxHeartbeats 2000000 in
theorem afterA_v6 (V : Valuation τ sig (Elt Ideal)) : after segA V (Proc.devRef .tc main_v6) = Fn.wide (V (Proc.devRef .tc main_arg6)) := by
  simp only [segA, TRef.ternary, TRef.unary, TRef.toBuf, TRef.ofBuf, cast_eq]
  after_results_simp
  rfl

set_option maxHeartbeats 2000000 in
theorem afterA_v7 (V : Valuation τ sig (Elt Ideal)) : after segA V (Proc.devRef .tc main_v7) = Fn.pos := by
  simp only [segA, TRef.ternary, TRef.unary, TRef.toBuf, TRef.ofBuf, cast_eq]
  after_results_simp
  rfl

set_option maxHeartbeats 2000000 in
theorem afterA_v19 (V : Valuation τ sig (Elt Ideal)) : after segA V (Proc.devRef .tc main_v19) = Fn.seen127 := by
  simp only [segA, TRef.ternary, TRef.unary, TRef.toBuf, TRef.ofBuf, cast_eq]
  after_results_simp
  rfl

set_option maxHeartbeats 2000000 in
theorem afterA_v20 (V : Valuation τ sig (Elt Ideal)) : after segA V (Proc.devRef .tc main_v20) = Fn.masked127 Fn.seen127 (Fn.scores127 (Fn.cut (V (Proc.devRef .tc main_arg1))) (Fn.q5 (V (Proc.devRef .tc main_arg0)))) := by
  simp only [segA, TRef.ternary, TRef.unary, TRef.toBuf, TRef.ofBuf, cast_eq]
  after_results_simp
  rfl

/-- The buffers stage B writes. -/
abbrev writesB : List (Ref sig .tc) := [main_cst_1, main_v21, main_v22, main_v23, main_cst_2, main_v24, main_v25, main_cst_3, main_call1_v0, main_call1_v1, main_v26, main_v27, main_v28, main_v29, main_cst_4, main_call2_v0, main_call2_v1, main_call2_v2, main_v30, main_cst_5, main_v31, main_v32, main_cst_6, main_v33, main_v34, main_v35, main_v36]

theorem keepB (V : Valuation τ sig (Elt Ideal)) (r : Ref sig .tc) (h : r ∉ writesB) : after segB V (Proc.devRef .tc r) = V (Proc.devRef .tc r) := by
  refine after_of_writes_sub segB _ (W := writesB) ?_ h
  simp only [segB, List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterB_v36 (V : Valuation τ sig (Elt Ideal)) : after segB V (Proc.devRef .tc main_v36) = Fn.soft127 (V (Proc.devRef .tc main_v19)) (V (Proc.devRef .tc main_v20)) := by
  simp only [segB, TRef.ternary, TRef.unary, TRef.toBuf, TRef.ofBuf, cast_eq]
  after_results_simp
  rfl

/-- The buffers stage C writes. -/
abbrev writesC : List (Ref sig .tc) := [main_v37, main_v38]

theorem keepC (V : Valuation τ sig (Elt Ideal)) (r : Ref sig .tc) (h : r ∉ writesC) : after segC V (Proc.devRef .tc r) = V (Proc.devRef .tc r) := by
  refine after_of_writes_sub segC _ (W := writesC) ?_ h
  simp only [segC, List.Forall]
  refine ⟨?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterC_v38 (V : Valuation τ sig (Elt Ideal)) : after segC V (Proc.devRef .tc main_v38) = Fn.mix127 (V (Proc.devRef .tc main_v2)) (V (Proc.devRef .tc main_v36)) := by
  simp only [segC, TRef.ternary, TRef.unary, TRef.toBuf, TRef.ofBuf, cast_eq]
  after_results_simp
  rfl

/-- The buffers stage D writes. -/
abbrev writesD : List (Ref sig .tc) := [main_v39, main_v40, main_c_7, main_v41, main_v42, main_v43, main_v44, main_c_8, main_v45, main_v46, main_c_9, main_v47]

theorem keepD (V : Valuation τ sig (Elt Ideal)) (r : Ref sig .tc) (h : r ∉ writesD) : after segD V (Proc.devRef .tc r) = V (Proc.devRef .tc r) := by
  refine after_of_writes_sub segD _ (W := writesD) ?_ h
  simp only [segD, List.Forall]
  refine ⟨?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterD_v42 (V : Valuation τ sig (Elt Ideal)) : after segD V (Proc.devRef .tc main_v42) = Fn.left := by
  simp only [segD, TRef.ternary, TRef.unary, TRef.toBuf, TRef.ofBuf, cast_eq]
  after_results_simp
  rfl

set_option maxHeartbeats 2000000 in
theorem afterD_v46 (V : Valuation τ sig (Elt Ideal)) : after segD V (Proc.devRef .tc main_v46) = Fn.start := by
  simp only [segD, TRef.ternary, TRef.unary, TRef.toBuf, TRef.ofBuf, cast_eq]
  after_results_simp
  rfl

set_option maxHeartbeats 2000000 in
theorem afterD_v47 (V : Valuation τ sig (Elt Ideal)) : after segD V (Proc.devRef .tc main_v47) = (broadcastInDim S127x1 ![] bcast_S_S127x1 (constantI S_ 32 32#32) : IVec S127x1 32) := by
  simp only [segD, TRef.ternary, TRef.unary, TRef.toBuf, TRef.ofBuf, cast_eq]
  after_results_simp

/-- The buffers stage E writes. -/
abbrev writesE : List (Ref sig .tc) := [main_v48, main_c_10, main_v49, main_v50, main_v51, main_v52, main_v53, main_v54, main_v55, main_v56, main_v57, main_c_11, main_v58, main_v59, main_v60, main_cst_12, main_v61, main_v62, main_cst_13, main_v63, main_v64]

theorem keepE (V : Valuation τ sig (Elt Ideal)) (r : Ref sig .tc) (h : r ∉ writesE) : after segE V (Proc.devRef .tc r) = V (Proc.devRef .tc r) := by
  refine after_of_writes_sub segE _ (W := writesE) ?_ h
  simp only [segE, List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterE_v64 (V : Valuation τ sig (Elt Ideal))
    (hv42 : V (Proc.devRef .tc main_v42) = Fn.left)
    (hv46 : V (Proc.devRef .tc main_v46) = Fn.start)
    (hv47 : V (Proc.devRef .tc main_v47) = (broadcastInDim S127x1 ![] bcast_S_S127x1 (constantI S_ 32 32#32) : IVec S127x1 32)) : after segE V (Proc.devRef .tc main_v64) = Fn.blockImp (V (Proc.devRef .tc main_v36)) Fn.ovl := by
  simp only [segE, TRef.ternary, TRef.unary, TRef.toBuf, TRef.ofBuf, cast_eq]
  after_results_simp
  simp only [hv42, hv46, hv47]
  rfl

/-- The buffers stage F writes. -/
abbrev writesF : List (Ref sig .tc) := [main_v65, main_v66, main_c_14, main_v67, main_v68, main_v69, main_c_15, main_v70, main_v71, main_v72, main_v73, main_v74, main_v75, main_v76, main_c_16, main_v77, main_v78, main_v79, main_v80, main_v81, main_v82, main_v83, main_v84, main_v85, main_cst_17, main_call3_v0, main_call3_v1, main_call3_v2, main_v86, main_cst_18, main_call4_v0, main_call4_v1, main_call4_v2, main_v87]

theorem keepF (V : Valuation τ sig (Elt Ideal)) (r : Ref sig .tc) (h : r ∉ writesF) : after segF V (Proc.devRef .tc r) = V (Proc.devRef .tc r) := by
  refine after_of_writes_sub segF _ (W := writesF) ?_ h
  simp only [segF, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterF_v87 (V : Valuation τ sig (Elt Ideal))
    (hv7 : V (Proc.devRef .tc main_v7) = Fn.pos) : after segF V (Proc.devRef .tc main_v87) = Fn.place (V (Proc.devRef .tc main_v64)) := by
  simp only [segF, TRef.ternary, TRef.unary, TRef.toBuf, TRef.ofBuf, cast_eq]
  after_results_simp
  simp only [hv7]
  rfl

/-- The buffers stage G writes. -/
abbrev writesG : List (Ref sig .tc) := [main_values, main_indices]

theorem keepG (V : Valuation τ sig (Elt Ideal)) (r : Ref sig .tc) (h : r ∉ writesG) : after segG V (Proc.devRef .tc r) = V (Proc.devRef .tc r) := by
  refine after_of_writes_sub segG _ (W := writesG) ?_ h
  simp only [segG, List.Forall]
  refine ⟨?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterG_indices (V : Valuation τ sig (Elt Ideal)) : after segG V (Proc.devRef .tc main_indices) = Fn.picked (V (Proc.devRef .tc main_v87)) := by
  simp only [segG, TRef.ternary, TRef.unary, TRef.toBuf, TRef.ofBuf, cast_eq]
  after_results_simp
  rfl

/-- The buffers stage H writes. -/
abbrev writesH : List (Ref sig .tc) := [main_v88, main_v89, main_v90, main_v91, main_v92, main_v93, main_c_19, main_v94, main_v95]

theorem keepH (V : Valuation τ sig (Elt Ideal)) (r : Ref sig .tc) (h : r ∉ writesH) : after segH V (Proc.devRef .tc r) = V (Proc.devRef .tc r) := by
  refine after_of_writes_sub segH _ (W := writesH) ?_ h
  simp only [segH, List.Forall]
  refine ⟨?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterH_v88 (V : Valuation τ sig (Elt Ideal)) : after segH V (Proc.devRef .tc main_v88) = Fn.blocks (V (Proc.devRef .tc main_v3)) := by
  simp only [segH, TRef.ternary, TRef.unary, TRef.toBuf, TRef.ofBuf, cast_eq]
  after_results_simp
  rfl

set_option maxHeartbeats 2000000 in
theorem afterH_v89 (V : Valuation τ sig (Elt Ideal)) : after segH V (Proc.devRef .tc main_v89) = Fn.blocks (V (Proc.devRef .tc main_v4)) := by
  simp only [segH, TRef.ternary, TRef.unary, TRef.toBuf, TRef.ofBuf, cast_eq]
  after_results_simp
  rfl

set_option maxHeartbeats 2000000 in
theorem afterH_v91 (V : Valuation τ sig (Elt Ideal)) : after segH V (Proc.devRef .tc main_v91) = (broadcastInDim S8x1x1x1 ![0] bcast_S8_S8x1x1x1_0 (iotaInDim S8 32 0) : IVec S8x1x1x1 32) := by
  simp only [segH, TRef.ternary, TRef.unary, TRef.toBuf, TRef.ofBuf, cast_eq]
  after_results_simp

set_option maxHeartbeats 2000000 in
theorem afterH_v93 (V : Valuation τ sig (Elt Ideal)) : after segH V (Proc.devRef .tc main_v93) = (broadcastInDim S1x4x1x1 ![1] bcast_S4_S1x4x1x1_1 (iotaInDim S4 32 0) : IVec S1x4x1x1 32) := by
  simp only [segH, TRef.ternary, TRef.unary, TRef.toBuf, TRef.ofBuf, cast_eq]
  after_results_simp

set_option maxHeartbeats 2000000 in
theorem afterH_v95 (V : Valuation τ sig (Elt Ideal)) : after segH V (Proc.devRef .tc main_v95) = (cmpi .slt (broadcastInDim S8x1x1x1 ![0] bcast_S8_S8x1x1x1_0 (iotaInDim S8 32 0)) (broadcastInDim S8x1x1x1 ![] bcast_S_S8x1x1x1 (constantI S_ 32 0#32)) : IVec S8x1x1x1 1) := by
  simp only [segH, TRef.ternary, TRef.unary, TRef.toBuf, TRef.ofBuf, cast_eq]
  after_results_simp

/-- The buffers stage X writes. -/
abbrev writesX : List (Ref sig .tc) := [main_c_20, main_v96, main_v97, main_v98, main_c_21, main_v99, main_v100, main_c_22, main_v101, main_v102, main_v103, main_c_23, main_v104, main_v105, main_c_24, main_v106, main_v107, main_v108, main_v109, main_v110, main_v111, main_v112, main_v113]

theorem keepX (V : Valuation τ sig (Elt Ideal)) (r : Ref sig .tc) (h : r ∉ writesX) : after segX V (Proc.devRef .tc r) = V (Proc.devRef .tc r) := by
  refine after_of_writes_sub segX _ (W := writesX) ?_ h
  simp only [segX, List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterX_v111 (V : Valuation τ sig (Elt Ideal))
    (hv91 : V (Proc.devRef .tc main_v91) = (broadcastInDim S8x1x1x1 ![0] bcast_S8_S8x1x1x1_0 (iotaInDim S8 32 0) : IVec S8x1x1x1 32))
    (hv93 : V (Proc.devRef .tc main_v93) = (broadcastInDim S1x4x1x1 ![1] bcast_S4_S1x4x1x1_1 (iotaInDim S4 32 0) : IVec S1x4x1x1 32))
    (hv95 : V (Proc.devRef .tc main_v95) = (cmpi .slt (broadcastInDim S8x1x1x1 ![0] bcast_S8_S8x1x1x1_0 (iotaInDim S8 32 0)) (broadcastInDim S8x1x1x1 ![] bcast_S_S8x1x1x1 (constantI S_ 32 0#32)) : IVec S8x1x1x1 1)) : after segX V (Proc.devRef .tc main_v111) = Fn.col0 := by
  simp only [segX, TRef.ternary, TRef.unary, TRef.toBuf, TRef.ofBuf, cast_eq]
  after_results_simp
  simp only [hv91, hv93, hv95]
  rfl

set_option maxHeartbeats 2000000 in
theorem afterX_v112 (V : Valuation τ sig (Elt Ideal))
    (hv91 : V (Proc.devRef .tc main_v91) = (broadcastInDim S8x1x1x1 ![0] bcast_S8_S8x1x1x1_0 (iotaInDim S8 32 0) : IVec S8x1x1x1 32))
    (hv93 : V (Proc.devRef .tc main_v93) = (broadcastInDim S1x4x1x1 ![1] bcast_S4_S1x4x1x1_1 (iotaInDim S4 32 0) : IVec S1x4x1x1 32))
    (hv95 : V (Proc.devRef .tc main_v95) = (cmpi .slt (broadcastInDim S8x1x1x1 ![0] bcast_S8_S8x1x1x1_0 (iotaInDim S8 32 0)) (broadcastInDim S8x1x1x1 ![] bcast_S_S8x1x1x1 (constantI S_ 32 0#32)) : IVec S8x1x1x1 1)) : after segX V (Proc.devRef .tc main_v112) = Fn.col1 := by
  simp only [segX, TRef.ternary, TRef.unary, TRef.toBuf, TRef.ofBuf, cast_eq]
  after_results_simp
  simp only [hv91, hv93, hv95]
  rfl

set_option maxHeartbeats 2000000 in
theorem afterX_v113 (V : Valuation τ sig (Elt Ideal)) : after segX V (Proc.devRef .tc main_v113) = Fn.col2 (V (Proc.devRef .tc main_indices)) := by
  simp only [segX, TRef.ternary, TRef.unary, TRef.toBuf, TRef.ofBuf, cast_eq]
  after_results_simp
  rfl

/-- The buffers stage I writes. -/
abbrev writesI : List (Ref sig .tc) := [main_v114, main_v115, main_v116]

theorem keepI (V : Valuation τ sig (Elt Ideal)) (r : Ref sig .tc) (h : r ∉ writesI) : after segI V (Proc.devRef .tc r) = V (Proc.devRef .tc r) := by
  refine after_of_writes_sub segI _ (W := writesI) ?_ h
  simp only [segI, List.Forall, joinI]
  refine ⟨?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterI_v116 (V : Valuation τ sig (Elt Ideal)) : after segI V (Proc.devRef .tc main_v116) = Fn.taken (V (Proc.devRef .tc main_v88)) (Fn.join (V (Proc.devRef .tc main_v111)) (V (Proc.devRef .tc main_v112)) (V (Proc.devRef .tc main_v113))) := by
  simp only [segI, after_cons, after_nil]
  rw [reshape_result, binary_result, joinI_at, joinI_off]
  rfl

/-- The buffers stage Y writes. -/
abbrev writesY : List (Ref sig .tc) := [main_c_25, main_v117, main_v118, main_c_26, main_v119, main_v120, main_v121, main_c_27, main_v122, main_v123, main_c_28, main_v124, main_v125, main_v126, main_c_29, main_v127, main_v128, main_c_30, main_v129, main_v130, main_v131, main_v132, main_v133, main_v134, main_v135, main_v136]

theorem keepY (V : Valuation τ sig (Elt Ideal)) (r : Ref sig .tc) (h : r ∉ writesY) : after segY V (Proc.devRef .tc r) = V (Proc.devRef .tc r) := by
  refine after_of_writes_sub segY _ (W := writesY) ?_ h
  simp only [segY, List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterY_v134 (V : Valuation τ sig (Elt Ideal))
    (hv91 : V (Proc.devRef .tc main_v91) = (broadcastInDim S8x1x1x1 ![0] bcast_S8_S8x1x1x1_0 (iotaInDim S8 32 0) : IVec S8x1x1x1 32))
    (hv93 : V (Proc.devRef .tc main_v93) = (broadcastInDim S1x4x1x1 ![1] bcast_S4_S1x4x1x1_1 (iotaInDim S4 32 0) : IVec S1x4x1x1 32)) : after segY V (Proc.devRef .tc main_v134) = Fn.col0 := by
  simp only [segY, TRef.ternary, TRef.unary, TRef.toBuf, TRef.ofBuf, cast_eq]
  after_results_simp
  simp only [hv91, hv93]
  rfl

set_option maxHeartbeats 2000000 in
theorem afterY_v135 (V : Valuation τ sig (Elt Ideal))
    (hv91 : V (Proc.devRef .tc main_v91) = (broadcastInDim S8x1x1x1 ![0] bcast_S8_S8x1x1x1_0 (iotaInDim S8 32 0) : IVec S8x1x1x1 32))
    (hv93 : V (Proc.devRef .tc main_v93) = (broadcastInDim S1x4x1x1 ![1] bcast_S4_S1x4x1x1_1 (iotaInDim S4 32 0) : IVec S1x4x1x1 32)) : after segY V (Proc.devRef .tc main_v135) = Fn.col1 := by
  simp only [segY, TRef.ternary, TRef.unary, TRef.toBuf, TRef.ofBuf, cast_eq]
  after_results_simp
  simp only [hv91, hv93]
  rfl

set_option maxHeartbeats 2000000 in
theorem afterY_v136 (V : Valuation τ sig (Elt Ideal)) : after segY V (Proc.devRef .tc main_v136) = Fn.col2 (V (Proc.devRef .tc main_indices)) := by
  simp only [segY, TRef.ternary, TRef.unary, TRef.toBuf, TRef.ofBuf, cast_eq]
  after_results_simp
  rfl

/-- The buffers stage J writes. -/
abbrev writesJ : List (Ref sig .tc) := [main_v137, main_v138, main_v139]

theorem keepJ (V : Valuation τ sig (Elt Ideal)) (r : Ref sig .tc) (h : r ∉ writesJ) : after segJ V (Proc.devRef .tc r) = V (Proc.devRef .tc r) := by
  refine after_of_writes_sub segJ _ (W := writesJ) ?_ h
  simp only [segJ, List.Forall, joinJ]
  refine ⟨?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterJ_v139 (V : Valuation τ sig (Elt Ideal)) : after segJ V (Proc.devRef .tc main_v139) = Fn.taken (V (Proc.devRef .tc main_v89)) (Fn.join (V (Proc.devRef .tc main_v134)) (V (Proc.devRef .tc main_v135)) (V (Proc.devRef .tc main_v136))) := by
  simp only [segJ, after_cons, after_nil]
  rw [reshape_result, binary_result, joinJ_at, joinJ_off]
  rfl

/-- The buffers stage K writes. -/
abbrev writesK : List (Ref sig .tc) := [main_v140, main_c_31, main_v141, main_v142, main_v143]

theorem keepK (V : Valuation τ sig (Elt Ideal)) (r : Ref sig .tc) (h : r ∉ writesK) : after segK V (Proc.devRef .tc r) = V (Proc.devRef .tc r) := by
  refine after_of_writes_sub segK _ (W := writesK) ?_ h
  simp only [segK, List.Forall]
  refine ⟨?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterK_v142 (V : Valuation τ sig (Elt Ideal)) : after segK V (Proc.devRef .tc main_v142) = (muli (broadcastInDim S8x4x2048x16x1 ![0, 1, 2, 3] bcast_S8x4x2048x16_S8x4x2048x16x1_0_1_2_3 (V (Proc.devRef .tc main_indices))) (broadcastInDim S8x4x2048x16x1 ![] bcast_S_S8x4x2048x16x1 (constantI S_ 32 64#32)) : IVec S8x4x2048x16x1 32) := by
  simp only [segK, TRef.ternary, TRef.unary, TRef.toBuf, TRef.ofBuf, cast_eq]
  after_results_simp

set_option maxHeartbeats 2000000 in
theorem afterK_v143 (V : Valuation τ sig (Elt Ideal)) : after segK V (Proc.devRef .tc main_v143) = (iotaInDim S64 32 0 : IVec S64 32) := by
  simp only [segK, TRef.ternary, TRef.unary, TRef.toBuf, TRef.ofBuf, cast_eq]
  after_results_simp

/-- The buffers stage L writes. -/
abbrev writesL : List (Ref sig .tc) := [main_v144, main_v145, main_v146, main_v147, main_v148, main_v149, main_v150, main_v151, main_v152, main_v153, main_v154, main_cst_32, main_call5_v0, main_call5_v1, main_call5_v2, main_v155]

theorem keepL (V : Valuation τ sig (Elt Ideal)) (r : Ref sig .tc) (h : r ∉ writesL) : after segL V (Proc.devRef .tc r) = V (Proc.devRef .tc r) := by
  refine after_of_writes_sub segL _ (W := writesL) ?_ h
  simp only [segL, List.Forall]
  refine ⟨?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterL_v154 (V : Valuation τ sig (Elt Ideal)) (i : IVec S8x4x2048x16 32)
    (hv7 : V (Proc.devRef .tc main_v7) = Fn.pos)
    (hv142 : V (Proc.devRef .tc main_v142) = (muli (broadcastInDim S8x4x2048x16x1 ![0, 1, 2, 3] bcast_S8x4x2048x16_S8x4x2048x16x1_0_1_2_3 i) (broadcastInDim S8x4x2048x16x1 ![] bcast_S_S8x4x2048x16x1 (constantI S_ 32 64#32)) : IVec S8x4x2048x16x1 32))
    (hv143 : V (Proc.devRef .tc main_v143) = (iotaInDim S64 32 0 : IVec S64 32)) : after segL V (Proc.devRef .tc main_v154) = Fn.seen1024 (Fn.keyPos i) := by
  simp only [segL, TRef.ternary, TRef.unary, TRef.toBuf, TRef.ofBuf, cast_eq]
  after_results_simp
  simp only [hv7, hv142, hv143]
  rfl

set_option maxHeartbeats 2000000 in
theorem afterL_v155 (V : Valuation τ sig (Elt Ideal)) (i : IVec S8x4x2048x16 32)
    (hv7 : V (Proc.devRef .tc main_v7) = Fn.pos)
    (hv142 : V (Proc.devRef .tc main_v142) = (muli (broadcastInDim S8x4x2048x16x1 ![0, 1, 2, 3] bcast_S8x4x2048x16_S8x4x2048x16x1_0_1_2_3 i) (broadcastInDim S8x4x2048x16x1 ![] bcast_S_S8x4x2048x16x1 (constantI S_ 32 64#32)) : IVec S8x4x2048x16x1 32))
    (hv143 : V (Proc.devRef .tc main_v143) = (iotaInDim S64 32 0 : IVec S64 32)) : after segL V (Proc.devRef .tc main_v155) = Fn.masked1024 (Fn.seen1024 (Fn.keyPos i)) (Fn.scores1024 (V (Proc.devRef .tc main_v116)) (V (Proc.devRef .tc main_v0))) := by
  simp only [segL, TRef.ternary, TRef.unary, TRef.toBuf, TRef.ofBuf, cast_eq]
  after_results_simp
  simp only [hv7, hv142, hv143]
  rfl

/-- The buffers stage M writes. -/
abbrev writesM : List (Ref sig .tc) := [main_cst_33, main_v156, main_v157, main_v158, main_cst_34, main_v159, main_v160, main_cst_35, main_call6_v0, main_call6_v1, main_v161, main_v162, main_v163, main_v164, main_cst_36, main_call7_v0, main_call7_v1, main_call7_v2, main_v165, main_cst_37, main_v166, main_v167, main_cst_38, main_v168, main_v169, main_v170, main_v171]

theorem keepM (V : Valuation τ sig (Elt Ideal)) (r : Ref sig .tc) (h : r ∉ writesM) : after segM V (Proc.devRef .tc r) = V (Proc.devRef .tc r) := by
  refine after_of_writes_sub segM _ (W := writesM) ?_ h
  simp only [segM, List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterM_v171 (V : Valuation τ sig (Elt Ideal)) : after segM V (Proc.devRef .tc main_v171) = Fn.soft1024 (V (Proc.devRef .tc main_v154)) (V (Proc.devRef .tc main_v155)) := by
  simp only [segM, TRef.ternary, TRef.unary, TRef.toBuf, TRef.ofBuf, cast_eq]
  after_results_simp
  rfl

/-- The buffers stage N writes. -/
abbrev writesN : List (Ref sig .tc) := [main_v172]

theorem keepN (V : Valuation τ sig (Elt Ideal)) (r : Ref sig .tc) (h : r ∉ writesN) : after segN V (Proc.devRef .tc r) = V (Proc.devRef .tc r) := by
  refine after_of_writes_sub segN _ (W := writesN) ?_ h
  simp only [segN, List.Forall]
  refine ?_ <;>
    (simp only [nullary_writes, unary_writes, binary_writes, ternary_writes, reshape_writes, nary_writes, Finset.singleton_subset_iff, List.mem_toFinset]
     exact List.mem_map_of_mem (by decide))

set_option maxHeartbeats 2000000 in
theorem afterN_v172 (V : Valuation τ sig (Elt Ideal)) : after segN V (Proc.devRef .tc main_v172) = Fn.mix1024 (V (Proc.devRef .tc main_v171)) (V (Proc.devRef .tc main_v139)) := by
  simp only [segN, TRef.ternary, TRef.unary, TRef.toBuf, TRef.ofBuf, cast_eq]
  after_results_simp
  rfl

/-- The buffers stage O writes. -/
abbrev writesO : List (Ref sig .tc) := [main_v173, main_v174, main_v175, main_v176, main_v177, main_v178, main_v179, main_v180, main_v181, main_c_39, main_v182, main_v183, main_v184, main_v185, main_v186, main_v187, main_cst_40, main_call8_v0, main_call8_v1, main_call8_v2, main_v188]

theorem keepO (V : Valuation τ sig (Elt Ideal)) (r : Ref sig .tc) (h : r ∉ writesO) : after segO V (Proc.devRef .tc r) = V (Proc.devRef .tc r) := by
  refine after_of_writes_sub segO _ (W := writesO) ?_ h
  simp only [segO, List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterO_v187 (V : Valuation τ sig (Elt Ideal))
    (hv7 : V (Proc.devRef .tc main_v7) = Fn.pos) : after segO V (Proc.devRef .tc main_v187) = Fn.seen2048 := by
  simp only [segO, TRef.ternary, TRef.unary, TRef.toBuf, TRef.ofBuf, cast_eq]
  after_results_simp
  simp only [hv7]
  rfl

set_option maxHeartbeats 2000000 in
theorem afterO_v188 (V : Valuation τ sig (Elt Ideal))
    (hv7 : V (Proc.devRef .tc main_v7) = Fn.pos) : after segO V (Proc.devRef .tc main_v188) = Fn.masked2048 Fn.seen2048 (Fn.scores2048 (V (Proc.devRef .tc main_v5)) (V (Proc.devRef .tc main_v0))) := by
  simp only [segO, TRef.ternary, TRef.unary, TRef.toBuf, TRef.ofBuf, cast_eq]
  after_results_simp
  simp only [hv7]
  rfl

/-- The buffers stage P writes. -/
abbrev writesP : List (Ref sig .tc) := [main_cst_41, main_v189, main_v190, main_v191, main_cst_42, main_v192]

theorem keepP (V : Valuation τ sig (Elt Ideal)) (r : Ref sig .tc) (h : r ∉ writesP) : after segP V (Proc.devRef .tc r) = V (Proc.devRef .tc r) := by
  refine after_of_writes_sub segP _ (W := writesP) ?_ h
  simp only [segP, List.Forall]
  refine ⟨?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterP_v190 (V : Valuation τ sig (Elt Ideal)) : after segP V (Proc.devRef .tc main_v190) = Fn.peak2048 (V (Proc.devRef .tc main_v188)) := by
  simp only [segP, TRef.ternary, TRef.unary, TRef.toBuf, TRef.ofBuf, cast_eq]
  after_results_simp
  rfl

set_option maxHeartbeats 2000000 in
theorem afterP_v191 (V : Valuation τ sig (Elt Ideal)) : after segP V (Proc.devRef .tc main_v191) = Host.absf (Fn.peak2048 (V (Proc.devRef .tc main_v188))) := by
  simp only [segP, TRef.ternary, TRef.unary, TRef.toBuf, TRef.ofBuf, cast_eq]
  after_results_simp
  rfl

set_option maxHeartbeats 2000000 in
theorem afterP_v192 (V : Valuation τ sig (Elt Ideal)) : after segP V (Proc.devRef .tc main_v192) = (broadcastInDim S8x4x4x2048x1 ![] bcast_S_S8x4x4x2048x1 (constant S_ .f32 0x7F800000#32) : FVec Ideal S8x4x4x2048x1 .f32) := by
  simp only [segP, TRef.ternary, TRef.unary, TRef.toBuf, TRef.ofBuf, cast_eq]
  after_results_simp

/-- The buffers stage Q writes. -/
abbrev writesQ : List (Ref sig .tc) := [main_v193, main_cst_43, main_call9_v0, main_call9_v1, main_v194, main_v195, main_v196, main_v197, main_cst_44, main_call10_v0, main_call10_v1, main_call10_v2, main_v198, main_cst_45, main_v199, main_v200, main_cst_46, main_v201, main_v202, main_v203, main_v204]

theorem keepQ (V : Valuation τ sig (Elt Ideal)) (r : Ref sig .tc) (h : r ∉ writesQ) : after segQ V (Proc.devRef .tc r) = V (Proc.devRef .tc r) := by
  refine after_of_writes_sub segQ _ (W := writesQ) ?_ h
  simp only [segQ, List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterQ_v204 (V : Valuation τ sig (Elt Ideal))
    (hv190 : V (Proc.devRef .tc main_v190) = Fn.peak2048 (V (Proc.devRef .tc main_v188)))
    (hv191 : V (Proc.devRef .tc main_v191) = Host.absf (Fn.peak2048 (V (Proc.devRef .tc main_v188))))
    (hv192 : V (Proc.devRef .tc main_v192) = (broadcastInDim S8x4x4x2048x1 ![] bcast_S_S8x4x4x2048x1 (constant S_ .f32 0x7F800000#32) : FVec Ideal S8x4x4x2048x1 .f32)) : after segQ V (Proc.devRef .tc main_v204) = Fn.soft2048 (V (Proc.devRef .tc main_v187)) (V (Proc.devRef .tc main_v188)) := by
  simp only [segQ, TRef.ternary, TRef.unary, TRef.toBuf, TRef.ofBuf, cast_eq]
  after_results_simp
  simp only [hv190, hv191, hv192]
  rfl

/-- The buffers stage R writes. -/
abbrev writesR : List (Ref sig .tc) := [main_v205, main_v206, main_v207, main_v208, main_v209, main_v210, main_v211, main_v212, main_v213, main_v214, main_v215, main_v216, main_v217, main_v218, main_v219, main_v220]

theorem keepR (V : Valuation τ sig (Elt Ideal)) (r : Ref sig .tc) (h : r ∉ writesR) : after segR V (Proc.devRef .tc r) = V (Proc.devRef .tc r) := by
  refine after_of_writes_sub segR _ (W := writesR) ?_ h
  simp only [segR, List.Forall]
  refine ⟨?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

set_option maxHeartbeats 2000000 in
theorem afterR_v220 (V : Valuation τ sig (Elt Ideal)) : after segR V (Proc.devRef .tc main_v220) = Fn.rows (Fn.gated (Fn.gates (V (Proc.devRef .tc main_arg7))) (V (Proc.devRef .tc main_v38)) (V (Proc.devRef .tc main_v172)) (Fn.mix2048 (V (Proc.devRef .tc main_v6)) (V (Proc.devRef .tc main_v204)))) := by
  simp only [segR, TRef.ternary, TRef.unary, TRef.toBuf, TRef.ofBuf, cast_eq]
  after_results_simp
  rfl

end Cert.AttnRefIdeal.Line

end
-- ==== Proof.AttnRefMath.lean ====
/-
  The attention reference's value, read at one element: the three gated branches of `Attn.arr`.
-/
module

public import proofs.«01_k».proof.Proof.AttnRefFns
public import proofs.«01_k».proof.Proof.AttnRefSoft
public import proofs.«01_k».proof.Proof.AttnArray

@[expose] public section

noncomputable section

namespace Cert.AttnRefIdeal.Fn

open Cert.AttnRefIdeal Idealize.ShloMosaic Idealize.ShloMosaic.StableHlo

/-- The compressed branch's weights. -/
def p127 (q : FVec Ideal S16384x1024 .f32) (kc : FVec Ideal S8x4x128x64 .f32) : FVec Ideal S8x4x4x2048x127 .f32 :=
  soft127 seen127 (masked127 seen127 (scores127 (cut kc) (q5 q)))

/-- The blocks the queries pick. -/
def idx (q : FVec Ideal S16384x1024 .f32) (kc : FVec Ideal S8x4x128x64 .f32) : IVec S8x4x2048x16 32 :=
  picked (place (blockImp (p127 q kc) ovl))

/-- The selected branch's weights. -/
def p1024 (q : FVec Ideal S16384x1024 .f32) (ks : FVec Ideal S8x4x2048x64 .bf16) (i : IVec S8x4x2048x16 32) : FVec Ideal S8x4x4x2048x1024 .f32 :=
  soft1024 (seen1024 (keyPos i)) (masked1024 (seen1024 (keyPos i)) (scores1024 (taken (blocks (wide ks)) (addr i)) (q5 q)))

/-- The window branch's weights. -/
def p2048 (q : FVec Ideal S16384x1024 .f32) (kw : FVec Ideal S8x4x2048x64 .bf16) : FVec Ideal S8x4x4x2048x2048 .f32 :=
  soft2048 seen2048 (masked2048 seen2048 (scores2048 (wide kw) (q5 q)))

/-- The whole result. -/
def whole (q : FVec Ideal S16384x1024 .f32) (kc vc : FVec Ideal S8x4x128x64 .f32) (ks vs kw vw : FVec Ideal S8x4x2048x64 .bf16) (gt : FVec Ideal S16384x128 .f32) :
    FVec Ideal S16384x1024 .f32 :=
  rows (gated (gates gt) (mix127 (cut vc) (p127 q kc))
    (mix1024 (p1024 q ks (idx q kc)) (taken (blocks (wide vs)) (addr (idx q kc)))) (mix2048 (wide vw) (p2048 q kw)))

section

variable (q : FVec Ideal S16384x1024 .f32) (kc vc : FVec Ideal S8x4x128x64 .f32) (ks vs kw vw : FVec Ideal S8x4x2048x64 .bf16) (gt : FVec Ideal S16384x128 .f32)
variable (b : Fin 8) (h : Fin 4) (t : Fin 2048)

/-- A position's queries. -/
def qAt (g : Fin 4) (x : Fin 64) : EReal := q (ix2 ⟨b.val * 2048 + t.val, by omega⟩ ⟨h.val * 256 + g.val * 64 + x.val, by omega⟩)

/-- A head's compressed rows. -/
def cAt (k : FVec Ideal S8x4x128x64 .f32) (c : Fin 128) (x : Fin 64) : EReal := k (ix4 b h c x)

/-- A head's rows. -/
def kAt (k : FVec Ideal S8x4x2048x64 .bf16) (c : Fin 2048) (x : Fin 64) : EReal := k (ix4 b h c x)

theorem dot_comm' (a c : Fin 64 → EReal) : ∑ x, c x * a x = Attn.dot a c :=
  Finset.sum_congr rfl fun x _ => mul_comm _ _

theorem score127 (g : Fin 4) (c : Fin 127) :
    @Eq EReal (scores127 (cut kc) (q5 q) (ix5 b h g t c)) (Attn.dot (qAt q b h t g) (cAt b h kc c.castSucc)) := by
  rw [scores127_apply, ← dot_comm']
  refine Finset.sum_congr rfl fun x _ => ?_
  rw [cut_apply, q5_apply]; rfl

/-- The last compressed row is never seen. -/
theorem last_unseen (c : Fin 128) (hc : Attn.cmask t.val c = 1#1) : ∃ i : Fin 127, i.castSucc = c := by
  have := (Attn.bit_one _).1 hc
  exact ⟨⟨c.val, by omega⟩, rfl⟩

theorem covers127 (g : Fin 4) :
    Attn.Covers (fun c : Fin 127 => c.castSucc) (Attn.cmask t.val) (fun c => Attn.dot (qAt q b h t g) (cAt b h kc c)) (fun c => seen127 (ix2 t c))
      (fun c => scores127 (cut kc) (q5 q) (ix5 b h g t c)) where
  inj := Fin.castSucc_injective _
  hit := fun c hc => last_unseen t c hc
  same := fun c => seen127_apply t c
  score := fun c _ => score127 q kc b h t g c

section

variable (hq : ∀ r k, ∃ v : ℝ, @Eq EReal (q (ix2 r k)) (v : EReal)) (hkc : ∀ b h k x, ∃ v : ℝ, @Eq EReal (kc (ix4 b h k x)) (v : EReal))
variable (hks : ∀ b h k x, ∃ v : ℝ, @Eq EReal (ks (ix4 b h k x)) (v : EReal)) (hkw : ∀ b h k x, ∃ v : ℝ, @Eq EReal (kw (ix4 b h k x)) (v : EReal))

include hq hkc in
theorem p127_eq (g : Fin 4) (c : Fin 127) :
    @Eq EReal (p127 q kc (ix5 b h g t c)) (Attn.soft (fun c => seen127 (ix2 t c)) (fun c => scores127 (cut kc) (q5 q) (ix5 b h g t c)) c) := by
  refine soft127_apply _ _ b h g t (fun c _ => ?_) c
  rw [score127]
  exact Attn.dot_real _ _ (fun x => hq _ _) fun x => hkc _ _ _ _

include hq hkc in
theorem p127_apply (g : Fin 4) (c : Fin 127) :
    @Eq EReal (p127 q kc (ix5 b h g t c)) (Attn.pcmp (qAt q b h t) (cAt b h kc) t.val g c.castSucc) := by
  rw [p127_eq q kc b h t hq hkc]
  exact (covers127 q kc b h t g).soft_eq c

include hq hkc in
theorem blockImp_eq (n : Fin 32) : @Eq EReal (blockImp (p127 q kc) ovl (ix4 b h t n)) (Attn.imp (qAt q b h t) (cAt b h kc) t.val n) := by
  rw [blockImp_apply]
  unfold Attn.imp
  rw [Fin.sum_univ_castSucc (n := 127)]
  have hlast : ∀ g, Attn.pcmp (qAt q b h t) (cAt b h kc) t.val g (Fin.last 127) = 0 := fun g => by
    refine Attn.soft_off _ _ _ fun hc => ?_
    obtain ⟨i, hi⟩ := last_unseen t _ hc
    exact absurd hi (Fin.castSucc_lt_last i).ne
  simp only [hlast, Finset.sum_const_zero, zero_mul, add_zero]
  refine Finset.sum_congr rfl fun c _ => ?_
  rw [ovl_apply]
  refine congrArg (· * _) (Finset.sum_congr rfl fun g _ => ?_)
  exact p127_apply q kc b h t hq hkc g c

/-- The block picked in a place. -/
def sel (v : Fin 32 → EReal) (j : Fin 16) : Fin 32 := sortedFrom (Attn.gtB v) ⟨j.val, by omega⟩

include hq hkc in
theorem idx_apply (j : Fin 16) :
    idx q kc (ix4 b h t j) = BitVec.ofNat 32 (sel (Attn.score (qAt q b h t) (cAt b h kc) t.val) j).val := by
  have hv : (fun n => place (blockImp (p127 q kc) ovl) (ix4 b h t n)) = Attn.score (qAt q b h t) (cAt b h kc) t.val := by
    funext n
    rw [place_apply, blockImp_eq q kc b h t hq hkc]
    rfl
  unfold idx
  rw [picked_apply, hv]
  rfl

/-- The key at a place of the picked blocks. -/
def key (v : Fin 32 → EReal) (c : Fin 1024) : Fin 2048 := ⟨(sel v ⟨c.val / 64, by omega⟩).val * 64 + c.val % 64, by omega⟩

theorem key_injective (v : Fin 32 → EReal) : Function.Injective (key v) := by
  intro c d hcd
  have h1 : (sel v ⟨c.val / 64, by omega⟩).val * 64 + c.val % 64 = (sel v ⟨d.val / 64, by omega⟩).val * 64 + d.val % 64 := congrArg Fin.val hcd
  have h2 : sel v ⟨c.val / 64, by omega⟩ = sel v ⟨d.val / 64, by omega⟩ := Fin.ext (by omega)
  have h3 : c.val / 64 = d.val / 64 := congrArg Fin.val (sortedFrom_injective _ h2)
  exact Fin.ext (by omega)

/-- Every key of a block among the first sixteen has a place. -/
theorem key_hit (v : Fin 32 → EReal) (k : Fin 2048) (hk : Attn.rank v ⟨k.val / 64, by omega⟩ < 16) : ∃ c, key v c = k := by
  obtain ⟨p, hp⟩ := sortedFrom_surjective (Attn.gtB v) ⟨k.val / 64, by omega⟩
  rw [← hp, Attn.rank_sorted] at hk
  refine ⟨⟨p.val * 64 + k.val % 64, by omega⟩, Fin.ext ?_⟩
  have h1 : sel v ⟨(p.val * 64 + k.val % 64) / 64, by omega⟩ = ⟨k.val / 64, by omega⟩ := by
    rw [← hp]
    unfold sel
    refine congrArg _ (Fin.ext ?_)
    show (p.val * 64 + k.val % 64) / 64 = p.val
    omega
  show (sel v ⟨(p.val * 64 + k.val % 64) / 64, by omega⟩).val * 64 + (p.val * 64 + k.val % 64) % 64 = k.val
  rw [h1]
  show k.val / 64 * 64 + _ = _
  omega

theorem key_rank (v : Fin 32 → EReal) (c : Fin 1024) : Attn.rank v ⟨(key v c).val / 64, by omega⟩ < 16 := by
  have h1 : (⟨(key v c).val / 64, by omega⟩ : Fin 32) = sel v ⟨c.val / 64, by omega⟩ := Fin.ext (by
    show ((sel v ⟨c.val / 64, by omega⟩).val * 64 + c.val % 64) / 64 = _
    omega)
  rw [h1]
  unfold sel
  rw [Attn.rank_sorted]
  show c.val / 64 < 16
  omega

/-- The key places of a position. -/
abbrev keyAt (c : Fin 1024) : Fin 2048 := key (Attn.score (qAt q b h t) (cAt b h kc) t.val) c

include hq hkc in
theorem seen1024_eq (c : Fin 1024) :
    seen1024 (keyPos (idx q kc)) (ix5 b h 0 t c) = Attn.smask (qAt q b h t) (cAt b h kc) t.val (keyAt q kc b h t c) := by
  rw [seen1024_apply, keyPos_apply, idx_apply q kc b h t hq hkc, Attn.w_mul, Attn.w_add, Attn.w_sle _ _ (by omega) (by omega)]
  unfold Attn.smask
  refine congrArg BitVec.ofBool (decide_eq_decide.2 ⟨fun hle => ⟨key_rank _ c, hle⟩, fun hle => hle.2⟩)

include hq hkc in
theorem taken_eq (k : FVec Ideal S8x4x2048x64 .bf16) (c : Fin 1024) (x : Fin 64) :
    @Eq EReal (taken (blocks (wide k)) (addr (idx q kc)) (ix5 b h t c x)) (kAt b h k (keyAt q kc b h t c) x) := by
  rw [taken_apply _ _ b h t c x _ (idx_apply q kc b h t hq hkc _), blocks_apply, wide_apply]
  rfl

include hq hkc in
theorem score1024 (g : Fin 4) (c : Fin 1024) :
    @Eq EReal (scores1024 (taken (blocks (wide ks)) (addr (idx q kc))) (q5 q) (ix5 b h g t c)) (Attn.dot (qAt q b h t g) (kAt b h ks (keyAt q kc b h t c))) := by
  rw [scores1024_apply, ← dot_comm']
  refine Finset.sum_congr rfl fun x _ => ?_
  rw [taken_eq q kc b h t hq hkc, q5_apply]; rfl

include hq hkc in
theorem covers1024 (g : Fin 4) :
    Attn.Covers (keyAt q kc b h t) (Attn.smask (qAt q b h t) (cAt b h kc) t.val) (fun k => Attn.dot (qAt q b h t g) (kAt b h ks k))
      (fun c => seen1024 (keyPos (idx q kc)) (ix5 b h 0 t c))
      (fun c => scores1024 (taken (blocks (wide ks)) (addr (idx q kc))) (q5 q) (ix5 b h g t c)) where
  inj := key_injective _
  hit := fun k hk => key_hit _ k ((Attn.bit_one _).1 hk).1
  same := fun c => seen1024_eq q kc b h t hq hkc c
  score := fun c _ => score1024 q kc ks b h t hq hkc g c

include hq hkc hks in
theorem p1024_eq (g : Fin 4) (c : Fin 1024) :
    @Eq EReal (p1024 q ks (idx q kc) (ix5 b h g t c)) (Attn.soft (fun c => seen1024 (keyPos (idx q kc)) (ix5 b h 0 t c))
      (fun c => scores1024 (taken (blocks (wide ks)) (addr (idx q kc))) (q5 q) (ix5 b h g t c)) c) := by
  refine soft1024_apply _ _ b h g t (fun c _ => ?_) c
  rw [score1024 q kc ks b h t hq hkc]
  exact Attn.dot_real _ _ (fun x => hq _ _) fun x => hks _ _ _ _

theorem score2048 (g : Fin 4) (c : Fin 2048) :
    @Eq EReal (scores2048 (wide kw) (q5 q) (ix5 b h g t c)) (Attn.dot (qAt q b h t g) (kAt b h kw c)) := by
  rw [scores2048_apply, ← dot_comm']
  refine Finset.sum_congr rfl fun x _ => ?_
  rw [wide_apply, q5_apply]; rfl

include hq hkw in
theorem p2048_eq (g : Fin 4) (c : Fin 2048) :
    @Eq EReal (p2048 q kw (ix5 b h g t c)) (Attn.soft (Attn.wmask t.val) (fun k => Attn.dot (qAt q b h t g) (kAt b h kw k)) c) := by
  refine (soft2048_apply _ _ b h g t (fun c _ => ?_) c).trans ?_
  · rw [score2048]
    exact Attn.dot_real _ _ (fun x => hq _ _) fun x => hkw _ _ _ _
  · simp only [seen2048_apply, score2048]

include hq hkc in
theorem branch127 (g : Fin 4) (d : Fin 64) :
    @Eq EReal (mix127 (cut vc) (p127 q kc) (ix5 b t h g d))
      (Attn.mix (Attn.cmask t.val) (fun c => Attn.dot (qAt q b h t g) (cAt b h kc c)) (fun c => cAt b h vc c d)) := by
  rw [mix127_apply, ← (covers127 q kc b h t g).mix_eq (fun c => cAt b h vc c d) (fun c => cut vc (ix4 b h c d)) (fun c _ => cut_apply vc b h c d)]
  refine Finset.sum_congr rfl fun c _ => ?_
  rw [p127_eq q kc b h t hq hkc]
  exact mul_comm _ _

include hq hkc hks in
theorem branch1024 (g : Fin 4) (d : Fin 64) :
    @Eq EReal (mix1024 (p1024 q ks (idx q kc)) (taken (blocks (wide vs)) (addr (idx q kc))) (ix5 b t h g d))
      (Attn.mix (Attn.smask (qAt q b h t) (cAt b h kc) t.val) (fun k => Attn.dot (qAt q b h t g) (kAt b h ks k)) (fun k => kAt b h vs k d)) := by
  rw [mix1024_apply, ← (covers1024 q kc ks b h t hq hkc g).mix_eq (fun k => kAt b h vs k d)
    (fun c => taken (blocks (wide vs)) (addr (idx q kc)) (ix5 b h t c d)) (fun c _ => taken_eq q kc b h t hq hkc vs c d)]
  refine Finset.sum_congr rfl fun c _ => ?_
  rw [p1024_eq q kc ks b h t hq hkc hks]

include hq hkw in
theorem branch2048 (g : Fin 4) (d : Fin 64) :
    @Eq EReal (mix2048 (wide vw) (p2048 q kw) (ix5 b t h g d))
      (Attn.mix (Attn.wmask t.val) (fun k => Attn.dot (qAt q b h t g) (kAt b h kw k)) (fun k => kAt b h vw k d)) := by
  rw [mix2048_apply]
  refine Finset.sum_congr rfl fun c _ => ?_
  rw [p2048_eq q kw b h t hq hkw, wide_apply]
  exact mul_comm _ _

end

end

/-- The reference's value at one element. -/
theorem whole_apply (q : FVec Ideal S16384x1024 .f32) (kc vc : FVec Ideal S8x4x128x64 .f32) (ks vs kw vw : FVec Ideal S8x4x2048x64 .bf16) (gt : FVec Ideal S16384x128 .f32)
    (hq : ∀ r k, ∃ v : ℝ, @Eq EReal (q (ix2 r k)) (v : EReal)) (hkc : ∀ b h k x, ∃ v : ℝ, @Eq EReal (kc (ix4 b h k x)) (v : EReal))
    (hks : ∀ b h k x, ∃ v : ℝ, @Eq EReal (ks (ix4 b h k x)) (v : EReal)) (hkw : ∀ b h k x, ∃ v : ℝ, @Eq EReal (kw (ix4 b h k x)) (v : EReal))
    (r : Fin 16384) (k : Fin 1024) :
    @Eq EReal (whole q kc vc ks vs kw vw gt (ix2 r k))
      (Attn.arr q kc vc ks vs kw vw gt ⟨r.val / 2048, by omega⟩ ⟨k.val / 256, by omega⟩ ⟨r.val % 2048, by omega⟩ ⟨k.val / 64 % 4, by omega⟩ ⟨k.val % 64, by omega⟩) := by
  unfold whole
  rw [rows_apply, gated_apply, branch127 q kc vc _ _ _ hq hkc, branch1024 q kc ks vs _ _ _ hq hkc hks, branch2048 q kw vw _ _ _ hq hkw]
  rw [gates_apply, gates_apply, gates_apply]
  rfl

end Cert.AttnRefIdeal.Fn

end
-- ==== Proof.AttnRefValue.lean ====
/-
  The attention reference's run: what its operations leave in the output, and the arguments kept.
-/
module

public import proofs.«01_k».proof.Proof.AttnRefStages
public import proofs.«01_k».proof.Proof.AttnRefMath

@[expose] public section

set_option maxRecDepth 8192
set_option Elab.async false

noncomputable section

namespace Cert.AttnRefIdeal.Line

open Cert.AttnRefIdeal Cert.AttnRefIdeal.Gen Idealize.ShloMosaic Idealize.ShloMosaic.TcCoe Idealize.SL.Sem Idealize.ShloMosaic.StableHlo

variable (V : Valuation τ sig (Elt Ideal))

/-- The buffers before any stage. -/
def at0 : Valuation τ sig (Elt Ideal) := V

/-- The buffers after stage A. -/
def atA : Valuation τ sig (Elt Ideal) := after segA (at0 V)

/-- The buffers after stage B. -/
def atB : Valuation τ sig (Elt Ideal) := after segB (atA V)

/-- The buffers after stage C. -/
def atC : Valuation τ sig (Elt Ideal) := after segC (atB V)

/-- The buffers after stage D. -/
def atD : Valuation τ sig (Elt Ideal) := after segD (atC V)

/-- The buffers after stage E. -/
def atE : Valuation τ sig (Elt Ideal) := after segE (atD V)

/-- The buffers after stage F. -/
def atF : Valuation τ sig (Elt Ideal) := after segF (atE V)

/-- The buffers after stage G. -/
def atG : Valuation τ sig (Elt Ideal) := after segG (atF V)

/-- The buffers after stage H. -/
def atH : Valuation τ sig (Elt Ideal) := after segH (atG V)

/-- The buffers after stage X. -/
def atX : Valuation τ sig (Elt Ideal) := after segX (atH V)

/-- The buffers after stage I. -/
def atI : Valuation τ sig (Elt Ideal) := after segI (atX V)

/-- The buffers after stage Y. -/
def atY : Valuation τ sig (Elt Ideal) := after segY (atI V)

/-- The buffers after stage J. -/
def atJ : Valuation τ sig (Elt Ideal) := after segJ (atY V)

/-- The buffers after stage K. -/
def atK : Valuation τ sig (Elt Ideal) := after segK (atJ V)

/-- The buffers after stage L. -/
def atL : Valuation τ sig (Elt Ideal) := after segL (atK V)

/-- The buffers after stage M. -/
def atM : Valuation τ sig (Elt Ideal) := after segM (atL V)

/-- The buffers after stage N. -/
def atN : Valuation τ sig (Elt Ideal) := after segN (atM V)

/-- The buffers after stage O. -/
def atO : Valuation τ sig (Elt Ideal) := after segO (atN V)

/-- The buffers after stage P. -/
def atP : Valuation τ sig (Elt Ideal) := after segP (atO V)

/-- The buffers after stage Q. -/
def atQ : Valuation τ sig (Elt Ideal) := after segQ (atP V)

/-- The buffers after stage R. -/
def atR : Valuation τ sig (Elt Ideal) := after segR (atQ V)

theorem at0_arg0 : at0 V (Proc.devRef .tc main_arg0) = V (Proc.devRef .tc main_arg0) := rfl

theorem at0_arg1 : at0 V (Proc.devRef .tc main_arg1) = V (Proc.devRef .tc main_arg1) := rfl

theorem at0_arg2 : at0 V (Proc.devRef .tc main_arg2) = V (Proc.devRef .tc main_arg2) := rfl

theorem at0_arg3 : at0 V (Proc.devRef .tc main_arg3) = V (Proc.devRef .tc main_arg3) := rfl

theorem at0_arg4 : at0 V (Proc.devRef .tc main_arg4) = V (Proc.devRef .tc main_arg4) := rfl

theorem at0_arg5 : at0 V (Proc.devRef .tc main_arg5) = V (Proc.devRef .tc main_arg5) := rfl

theorem at0_arg6 : at0 V (Proc.devRef .tc main_arg6) = V (Proc.devRef .tc main_arg6) := rfl

theorem at0_arg7 : at0 V (Proc.devRef .tc main_arg7) = V (Proc.devRef .tc main_arg7) := rfl

theorem atA_arg0 : atA V (Proc.devRef .tc main_arg0) = V (Proc.devRef .tc main_arg0) := (keepA (at0 V) main_arg0 (by decide)).trans (at0_arg0 V)

theorem atA_arg1 : atA V (Proc.devRef .tc main_arg1) = V (Proc.devRef .tc main_arg1) := (keepA (at0 V) main_arg1 (by decide)).trans (at0_arg1 V)

theorem atA_arg2 : atA V (Proc.devRef .tc main_arg2) = V (Proc.devRef .tc main_arg2) := (keepA (at0 V) main_arg2 (by decide)).trans (at0_arg2 V)

theorem atA_arg3 : atA V (Proc.devRef .tc main_arg3) = V (Proc.devRef .tc main_arg3) := (keepA (at0 V) main_arg3 (by decide)).trans (at0_arg3 V)

theorem atA_arg4 : atA V (Proc.devRef .tc main_arg4) = V (Proc.devRef .tc main_arg4) := (keepA (at0 V) main_arg4 (by decide)).trans (at0_arg4 V)

theorem atA_arg5 : atA V (Proc.devRef .tc main_arg5) = V (Proc.devRef .tc main_arg5) := (keepA (at0 V) main_arg5 (by decide)).trans (at0_arg5 V)

theorem atA_arg6 : atA V (Proc.devRef .tc main_arg6) = V (Proc.devRef .tc main_arg6) := (keepA (at0 V) main_arg6 (by decide)).trans (at0_arg6 V)

theorem atA_arg7 : atA V (Proc.devRef .tc main_arg7) = V (Proc.devRef .tc main_arg7) := (keepA (at0 V) main_arg7 (by decide)).trans (at0_arg7 V)

theorem atA_v0 : atA V (Proc.devRef .tc main_v0) = Fn.q5 (V (Proc.devRef .tc main_arg0)) := by
  refine (afterA_v0 (at0 V)).trans ?_
  rw [at0_arg0 V]

theorem atA_v2 : atA V (Proc.devRef .tc main_v2) = Fn.cut (V (Proc.devRef .tc main_arg2)) := by
  refine (afterA_v2 (at0 V)).trans ?_
  rw [at0_arg2 V]

theorem atA_v3 : atA V (Proc.devRef .tc main_v3) = Fn.wide (V (Proc.devRef .tc main_arg3)) := by
  refine (afterA_v3 (at0 V)).trans ?_
  rw [at0_arg3 V]

theorem atA_v4 : atA V (Proc.devRef .tc main_v4) = Fn.wide (V (Proc.devRef .tc main_arg4)) := by
  refine (afterA_v4 (at0 V)).trans ?_
  rw [at0_arg4 V]

theorem atA_v5 : atA V (Proc.devRef .tc main_v5) = Fn.wide (V (Proc.devRef .tc main_arg5)) := by
  refine (afterA_v5 (at0 V)).trans ?_
  rw [at0_arg5 V]

theorem atA_v6 : atA V (Proc.devRef .tc main_v6) = Fn.wide (V (Proc.devRef .tc main_arg6)) := by
  refine (afterA_v6 (at0 V)).trans ?_
  rw [at0_arg6 V]

theorem atA_v7 : atA V (Proc.devRef .tc main_v7) = Fn.pos := by
  refine (afterA_v7 (at0 V)).trans ?_
  rfl

theorem atA_v19 : atA V (Proc.devRef .tc main_v19) = Fn.seen127 := by
  refine (afterA_v19 (at0 V)).trans ?_
  rfl

theorem atA_v20 : atA V (Proc.devRef .tc main_v20) = Fn.masked127 Fn.seen127 (Fn.scores127 (Fn.cut (V (Proc.devRef .tc main_arg1))) (Fn.q5 (V (Proc.devRef .tc main_arg0)))) := by
  refine (afterA_v20 (at0 V)).trans ?_
  rw [at0_arg0 V, at0_arg1 V]

theorem atB_arg0 : atB V (Proc.devRef .tc main_arg0) = V (Proc.devRef .tc main_arg0) := (keepB (atA V) main_arg0 (by decide)).trans (atA_arg0 V)

theorem atB_arg1 : atB V (Proc.devRef .tc main_arg1) = V (Proc.devRef .tc main_arg1) := (keepB (atA V) main_arg1 (by decide)).trans (atA_arg1 V)

theorem atB_arg2 : atB V (Proc.devRef .tc main_arg2) = V (Proc.devRef .tc main_arg2) := (keepB (atA V) main_arg2 (by decide)).trans (atA_arg2 V)

theorem atB_arg3 : atB V (Proc.devRef .tc main_arg3) = V (Proc.devRef .tc main_arg3) := (keepB (atA V) main_arg3 (by decide)).trans (atA_arg3 V)

theorem atB_arg4 : atB V (Proc.devRef .tc main_arg4) = V (Proc.devRef .tc main_arg4) := (keepB (atA V) main_arg4 (by decide)).trans (atA_arg4 V)

theorem atB_arg5 : atB V (Proc.devRef .tc main_arg5) = V (Proc.devRef .tc main_arg5) := (keepB (atA V) main_arg5 (by decide)).trans (atA_arg5 V)

theorem atB_arg6 : atB V (Proc.devRef .tc main_arg6) = V (Proc.devRef .tc main_arg6) := (keepB (atA V) main_arg6 (by decide)).trans (atA_arg6 V)

theorem atB_arg7 : atB V (Proc.devRef .tc main_arg7) = V (Proc.devRef .tc main_arg7) := (keepB (atA V) main_arg7 (by decide)).trans (atA_arg7 V)

theorem atB_v0 : atB V (Proc.devRef .tc main_v0) = Fn.q5 (V (Proc.devRef .tc main_arg0)) := (keepB (atA V) main_v0 (by decide)).trans (atA_v0 V)

theorem atB_v2 : atB V (Proc.devRef .tc main_v2) = Fn.cut (V (Proc.devRef .tc main_arg2)) := (keepB (atA V) main_v2 (by decide)).trans (atA_v2 V)

theorem atB_v3 : atB V (Proc.devRef .tc main_v3) = Fn.wide (V (Proc.devRef .tc main_arg3)) := (keepB (atA V) main_v3 (by decide)).trans (atA_v3 V)

theorem atB_v4 : atB V (Proc.devRef .tc main_v4) = Fn.wide (V (Proc.devRef .tc main_arg4)) := (keepB (atA V) main_v4 (by decide)).trans (atA_v4 V)

theorem atB_v5 : atB V (Proc.devRef .tc main_v5) = Fn.wide (V (Proc.devRef .tc main_arg5)) := (keepB (atA V) main_v5 (by decide)).trans (atA_v5 V)

theorem atB_v6 : atB V (Proc.devRef .tc main_v6) = Fn.wide (V (Proc.devRef .tc main_arg6)) := (keepB (atA V) main_v6 (by decide)).trans (atA_v6 V)

theorem atB_v7 : atB V (Proc.devRef .tc main_v7) = Fn.pos := (keepB (atA V) main_v7 (by decide)).trans (atA_v7 V)

theorem atB_v36 : atB V (Proc.devRef .tc main_v36) = Fn.p127 (V (Proc.devRef .tc main_arg0)) (V (Proc.devRef .tc main_arg1)) := by
  refine (afterB_v36 (atA V)).trans ?_
  rw [atA_v19 V, atA_v20 V]
  rfl

theorem atC_arg0 : atC V (Proc.devRef .tc main_arg0) = V (Proc.devRef .tc main_arg0) := (keepC (atB V) main_arg0 (by decide)).trans (atB_arg0 V)

theorem atC_arg1 : atC V (Proc.devRef .tc main_arg1) = V (Proc.devRef .tc main_arg1) := (keepC (atB V) main_arg1 (by decide)).trans (atB_arg1 V)

theorem atC_arg2 : atC V (Proc.devRef .tc main_arg2) = V (Proc.devRef .tc main_arg2) := (keepC (atB V) main_arg2 (by decide)).trans (atB_arg2 V)

theorem atC_arg3 : atC V (Proc.devRef .tc main_arg3) = V (Proc.devRef .tc main_arg3) := (keepC (atB V) main_arg3 (by decide)).trans (atB_arg3 V)

theorem atC_arg4 : atC V (Proc.devRef .tc main_arg4) = V (Proc.devRef .tc main_arg4) := (keepC (atB V) main_arg4 (by decide)).trans (atB_arg4 V)

theorem atC_arg5 : atC V (Proc.devRef .tc main_arg5) = V (Proc.devRef .tc main_arg5) := (keepC (atB V) main_arg5 (by decide)).trans (atB_arg5 V)

theorem atC_arg6 : atC V (Proc.devRef .tc main_arg6) = V (Proc.devRef .tc main_arg6) := (keepC (atB V) main_arg6 (by decide)).trans (atB_arg6 V)

theorem atC_arg7 : atC V (Proc.devRef .tc main_arg7) = V (Proc.devRef .tc main_arg7) := (keepC (atB V) main_arg7 (by decide)).trans (atB_arg7 V)

theorem atC_v0 : atC V (Proc.devRef .tc main_v0) = Fn.q5 (V (Proc.devRef .tc main_arg0)) := (keepC (atB V) main_v0 (by decide)).trans (atB_v0 V)

theorem atC_v3 : atC V (Proc.devRef .tc main_v3) = Fn.wide (V (Proc.devRef .tc main_arg3)) := (keepC (atB V) main_v3 (by decide)).trans (atB_v3 V)

theorem atC_v4 : atC V (Proc.devRef .tc main_v4) = Fn.wide (V (Proc.devRef .tc main_arg4)) := (keepC (atB V) main_v4 (by decide)).trans (atB_v4 V)

theorem atC_v5 : atC V (Proc.devRef .tc main_v5) = Fn.wide (V (Proc.devRef .tc main_arg5)) := (keepC (atB V) main_v5 (by decide)).trans (atB_v5 V)

theorem atC_v6 : atC V (Proc.devRef .tc main_v6) = Fn.wide (V (Proc.devRef .tc main_arg6)) := (keepC (atB V) main_v6 (by decide)).trans (atB_v6 V)

theorem atC_v7 : atC V (Proc.devRef .tc main_v7) = Fn.pos := (keepC (atB V) main_v7 (by decide)).trans (atB_v7 V)

theorem atC_v36 : atC V (Proc.devRef .tc main_v36) = Fn.p127 (V (Proc.devRef .tc main_arg0)) (V (Proc.devRef .tc main_arg1)) := (keepC (atB V) main_v36 (by decide)).trans (atB_v36 V)

theorem atC_v38 : atC V (Proc.devRef .tc main_v38) = Fn.mix127 (Fn.cut (V (Proc.devRef .tc main_arg2))) (Fn.p127 (V (Proc.devRef .tc main_arg0)) (V (Proc.devRef .tc main_arg1))) := by
  refine (afterC_v38 (atB V)).trans ?_
  rw [atB_v2 V, atB_v36 V]

theorem atD_arg0 : atD V (Proc.devRef .tc main_arg0) = V (Proc.devRef .tc main_arg0) := (keepD (atC V) main_arg0 (by decide)).trans (atC_arg0 V)

theorem atD_arg1 : atD V (Proc.devRef .tc main_arg1) = V (Proc.devRef .tc main_arg1) := (keepD (atC V) main_arg1 (by decide)).trans (atC_arg1 V)

theorem atD_arg2 : atD V (Proc.devRef .tc main_arg2) = V (Proc.devRef .tc main_arg2) := (keepD (atC V) main_arg2 (by decide)).trans (atC_arg2 V)

theorem atD_arg3 : atD V (Proc.devRef .tc main_arg3) = V (Proc.devRef .tc main_arg3) := (keepD (atC V) main_arg3 (by decide)).trans (atC_arg3 V)

theorem atD_arg4 : atD V (Proc.devRef .tc main_arg4) = V (Proc.devRef .tc main_arg4) := (keepD (atC V) main_arg4 (by decide)).trans (atC_arg4 V)

theorem atD_arg5 : atD V (Proc.devRef .tc main_arg5) = V (Proc.devRef .tc main_arg5) := (keepD (atC V) main_arg5 (by decide)).trans (atC_arg5 V)

theorem atD_arg6 : atD V (Proc.devRef .tc main_arg6) = V (Proc.devRef .tc main_arg6) := (keepD (atC V) main_arg6 (by decide)).trans (atC_arg6 V)

theorem atD_arg7 : atD V (Proc.devRef .tc main_arg7) = V (Proc.devRef .tc main_arg7) := (keepD (atC V) main_arg7 (by decide)).trans (atC_arg7 V)

theorem atD_v0 : atD V (Proc.devRef .tc main_v0) = Fn.q5 (V (Proc.devRef .tc main_arg0)) := (keepD (atC V) main_v0 (by decide)).trans (atC_v0 V)

theorem atD_v3 : atD V (Proc.devRef .tc main_v3) = Fn.wide (V (Proc.devRef .tc main_arg3)) := (keepD (atC V) main_v3 (by decide)).trans (atC_v3 V)

theorem atD_v4 : atD V (Proc.devRef .tc main_v4) = Fn.wide (V (Proc.devRef .tc main_arg4)) := (keepD (atC V) main_v4 (by decide)).trans (atC_v4 V)

theorem atD_v5 : atD V (Proc.devRef .tc main_v5) = Fn.wide (V (Proc.devRef .tc main_arg5)) := (keepD (atC V) main_v5 (by decide)).trans (atC_v5 V)

theorem atD_v6 : atD V (Proc.devRef .tc main_v6) = Fn.wide (V (Proc.devRef .tc main_arg6)) := (keepD (atC V) main_v6 (by decide)).trans (atC_v6 V)

theorem atD_v7 : atD V (Proc.devRef .tc main_v7) = Fn.pos := (keepD (atC V) main_v7 (by decide)).trans (atC_v7 V)

theorem atD_v36 : atD V (Proc.devRef .tc main_v36) = Fn.p127 (V (Proc.devRef .tc main_arg0)) (V (Proc.devRef .tc main_arg1)) := (keepD (atC V) main_v36 (by decide)).trans (atC_v36 V)

theorem atD_v38 : atD V (Proc.devRef .tc main_v38) = Fn.mix127 (Fn.cut (V (Proc.devRef .tc main_arg2))) (Fn.p127 (V (Proc.devRef .tc main_arg0)) (V (Proc.devRef .tc main_arg1))) := (keepD (atC V) main_v38 (by decide)).trans (atC_v38 V)

theorem atD_v42 : atD V (Proc.devRef .tc main_v42) = Fn.left := by
  refine (afterD_v42 (atC V)).trans ?_
  rfl

theorem atD_v46 : atD V (Proc.devRef .tc main_v46) = Fn.start := by
  refine (afterD_v46 (atC V)).trans ?_
  rfl

theorem atD_v47 : atD V (Proc.devRef .tc main_v47) = (broadcastInDim S127x1 ![] bcast_S_S127x1 (constantI S_ 32 32#32) : IVec S127x1 32) := by
  refine (afterD_v47 (atC V)).trans ?_
  rfl

theorem atE_arg0 : atE V (Proc.devRef .tc main_arg0) = V (Proc.devRef .tc main_arg0) := (keepE (atD V) main_arg0 (by decide)).trans (atD_arg0 V)

theorem atE_arg1 : atE V (Proc.devRef .tc main_arg1) = V (Proc.devRef .tc main_arg1) := (keepE (atD V) main_arg1 (by decide)).trans (atD_arg1 V)

theorem atE_arg2 : atE V (Proc.devRef .tc main_arg2) = V (Proc.devRef .tc main_arg2) := (keepE (atD V) main_arg2 (by decide)).trans (atD_arg2 V)

theorem atE_arg3 : atE V (Proc.devRef .tc main_arg3) = V (Proc.devRef .tc main_arg3) := (keepE (atD V) main_arg3 (by decide)).trans (atD_arg3 V)

theorem atE_arg4 : atE V (Proc.devRef .tc main_arg4) = V (Proc.devRef .tc main_arg4) := (keepE (atD V) main_arg4 (by decide)).trans (atD_arg4 V)

theorem atE_arg5 : atE V (Proc.devRef .tc main_arg5) = V (Proc.devRef .tc main_arg5) := (keepE (atD V) main_arg5 (by decide)).trans (atD_arg5 V)

theorem atE_arg6 : atE V (Proc.devRef .tc main_arg6) = V (Proc.devRef .tc main_arg6) := (keepE (atD V) main_arg6 (by decide)).trans (atD_arg6 V)

theorem atE_arg7 : atE V (Proc.devRef .tc main_arg7) = V (Proc.devRef .tc main_arg7) := (keepE (atD V) main_arg7 (by decide)).trans (atD_arg7 V)

theorem atE_v0 : atE V (Proc.devRef .tc main_v0) = Fn.q5 (V (Proc.devRef .tc main_arg0)) := (keepE (atD V) main_v0 (by decide)).trans (atD_v0 V)

theorem atE_v3 : atE V (Proc.devRef .tc main_v3) = Fn.wide (V (Proc.devRef .tc main_arg3)) := (keepE (atD V) main_v3 (by decide)).trans (atD_v3 V)

theorem atE_v4 : atE V (Proc.devRef .tc main_v4) = Fn.wide (V (Proc.devRef .tc main_arg4)) := (keepE (atD V) main_v4 (by decide)).trans (atD_v4 V)

theorem atE_v5 : atE V (Proc.devRef .tc main_v5) = Fn.wide (V (Proc.devRef .tc main_arg5)) := (keepE (atD V) main_v5 (by decide)).trans (atD_v5 V)

theorem atE_v6 : atE V (Proc.devRef .tc main_v6) = Fn.wide (V (Proc.devRef .tc main_arg6)) := (keepE (atD V) main_v6 (by decide)).trans (atD_v6 V)

theorem atE_v7 : atE V (Proc.devRef .tc main_v7) = Fn.pos := (keepE (atD V) main_v7 (by decide)).trans (atD_v7 V)

theorem atE_v38 : atE V (Proc.devRef .tc main_v38) = Fn.mix127 (Fn.cut (V (Proc.devRef .tc main_arg2))) (Fn.p127 (V (Proc.devRef .tc main_arg0)) (V (Proc.devRef .tc main_arg1))) := (keepE (atD V) main_v38 (by decide)).trans (atD_v38 V)

theorem atE_v64 : atE V (Proc.devRef .tc main_v64) = Fn.blockImp (Fn.p127 (V (Proc.devRef .tc main_arg0)) (V (Proc.devRef .tc main_arg1))) Fn.ovl := by
  refine (afterE_v64 (atD V) (atD_v42 V) (atD_v46 V) (atD_v47 V)).trans ?_
  rw [atD_v36 V]

theorem atF_arg0 : atF V (Proc.devRef .tc main_arg0) = V (Proc.devRef .tc main_arg0) := (keepF (atE V) main_arg0 (by decide)).trans (atE_arg0 V)

theorem atF_arg1 : atF V (Proc.devRef .tc main_arg1) = V (Proc.devRef .tc main_arg1) := (keepF (atE V) main_arg1 (by decide)).trans (atE_arg1 V)

theorem atF_arg2 : atF V (Proc.devRef .tc main_arg2) = V (Proc.devRef .tc main_arg2) := (keepF (atE V) main_arg2 (by decide)).trans (atE_arg2 V)

theorem atF_arg3 : atF V (Proc.devRef .tc main_arg3) = V (Proc.devRef .tc main_arg3) := (keepF (atE V) main_arg3 (by decide)).trans (atE_arg3 V)

theorem atF_arg4 : atF V (Proc.devRef .tc main_arg4) = V (Proc.devRef .tc main_arg4) := (keepF (atE V) main_arg4 (by decide)).trans (atE_arg4 V)

theorem atF_arg5 : atF V (Proc.devRef .tc main_arg5) = V (Proc.devRef .tc main_arg5) := (keepF (atE V) main_arg5 (by decide)).trans (atE_arg5 V)

theorem atF_arg6 : atF V (Proc.devRef .tc main_arg6) = V (Proc.devRef .tc main_arg6) := (keepF (atE V) main_arg6 (by decide)).trans (atE_arg6 V)

theorem atF_arg7 : atF V (Proc.devRef .tc main_arg7) = V (Proc.devRef .tc main_arg7) := (keepF (atE V) main_arg7 (by decide)).trans (atE_arg7 V)

theorem atF_v0 : atF V (Proc.devRef .tc main_v0) = Fn.q5 (V (Proc.devRef .tc main_arg0)) := (keepF (atE V) main_v0 (by decide)).trans (atE_v0 V)

theorem atF_v3 : atF V (Proc.devRef .tc main_v3) = Fn.wide (V (Proc.devRef .tc main_arg3)) := (keepF (atE V) main_v3 (by decide)).trans (atE_v3 V)

theorem atF_v4 : atF V (Proc.devRef .tc main_v4) = Fn.wide (V (Proc.devRef .tc main_arg4)) := (keepF (atE V) main_v4 (by decide)).trans (atE_v4 V)

theorem atF_v5 : atF V (Proc.devRef .tc main_v5) = Fn.wide (V (Proc.devRef .tc main_arg5)) := (keepF (atE V) main_v5 (by decide)).trans (atE_v5 V)

theorem atF_v6 : atF V (Proc.devRef .tc main_v6) = Fn.wide (V (Proc.devRef .tc main_arg6)) := (keepF (atE V) main_v6 (by decide)).trans (atE_v6 V)

theorem atF_v7 : atF V (Proc.devRef .tc main_v7) = Fn.pos := (keepF (atE V) main_v7 (by decide)).trans (atE_v7 V)

theorem atF_v38 : atF V (Proc.devRef .tc main_v38) = Fn.mix127 (Fn.cut (V (Proc.devRef .tc main_arg2))) (Fn.p127 (V (Proc.devRef .tc main_arg0)) (V (Proc.devRef .tc main_arg1))) := (keepF (atE V) main_v38 (by decide)).trans (atE_v38 V)

theorem atF_v87 : atF V (Proc.devRef .tc main_v87) = Fn.place (Fn.blockImp (Fn.p127 (V (Proc.devRef .tc main_arg0)) (V (Proc.devRef .tc main_arg1))) Fn.ovl) := by
  refine (afterF_v87 (atE V) (atE_v7 V)).trans ?_
  rw [atE_v64 V]

theorem atG_arg0 : atG V (Proc.devRef .tc main_arg0) = V (Proc.devRef .tc main_arg0) := (keepG (atF V) main_arg0 (by decide)).trans (atF_arg0 V)

theorem atG_arg1 : atG V (Proc.devRef .tc main_arg1) = V (Proc.devRef .tc main_arg1) := (keepG (atF V) main_arg1 (by decide)).trans (atF_arg1 V)

theorem atG_arg2 : atG V (Proc.devRef .tc main_arg2) = V (Proc.devRef .tc main_arg2) := (keepG (atF V) main_arg2 (by decide)).trans (atF_arg2 V)

theorem atG_arg3 : atG V (Proc.devRef .tc main_arg3) = V (Proc.devRef .tc main_arg3) := (keepG (atF V) main_arg3 (by decide)).trans (atF_arg3 V)

theorem atG_arg4 : atG V (Proc.devRef .tc main_arg4) = V (Proc.devRef .tc main_arg4) := (keepG (atF V) main_arg4 (by decide)).trans (atF_arg4 V)

theorem atG_arg5 : atG V (Proc.devRef .tc main_arg5) = V (Proc.devRef .tc main_arg5) := (keepG (atF V) main_arg5 (by decide)).trans (atF_arg5 V)

theorem atG_arg6 : atG V (Proc.devRef .tc main_arg6) = V (Proc.devRef .tc main_arg6) := (keepG (atF V) main_arg6 (by decide)).trans (atF_arg6 V)

theorem atG_arg7 : atG V (Proc.devRef .tc main_arg7) = V (Proc.devRef .tc main_arg7) := (keepG (atF V) main_arg7 (by decide)).trans (atF_arg7 V)

theorem atG_v0 : atG V (Proc.devRef .tc main_v0) = Fn.q5 (V (Proc.devRef .tc main_arg0)) := (keepG (atF V) main_v0 (by decide)).trans (atF_v0 V)

theorem atG_v3 : atG V (Proc.devRef .tc main_v3) = Fn.wide (V (Proc.devRef .tc main_arg3)) := (keepG (atF V) main_v3 (by decide)).trans (atF_v3 V)

theorem atG_v4 : atG V (Proc.devRef .tc main_v4) = Fn.wide (V (Proc.devRef .tc main_arg4)) := (keepG (atF V) main_v4 (by decide)).trans (atF_v4 V)

theorem atG_v5 : atG V (Proc.devRef .tc main_v5) = Fn.wide (V (Proc.devRef .tc main_arg5)) := (keepG (atF V) main_v5 (by decide)).trans (atF_v5 V)

theorem atG_v6 : atG V (Proc.devRef .tc main_v6) = Fn.wide (V (Proc.devRef .tc main_arg6)) := (keepG (atF V) main_v6 (by decide)).trans (atF_v6 V)

theorem atG_v7 : atG V (Proc.devRef .tc main_v7) = Fn.pos := (keepG (atF V) main_v7 (by decide)).trans (atF_v7 V)

theorem atG_v38 : atG V (Proc.devRef .tc main_v38) = Fn.mix127 (Fn.cut (V (Proc.devRef .tc main_arg2))) (Fn.p127 (V (Proc.devRef .tc main_arg0)) (V (Proc.devRef .tc main_arg1))) := (keepG (atF V) main_v38 (by decide)).trans (atF_v38 V)

theorem atG_indices : atG V (Proc.devRef .tc main_indices) = Fn.idx (V (Proc.devRef .tc main_arg0)) (V (Proc.devRef .tc main_arg1)) := by
  refine (afterG_indices (atF V)).trans ?_
  rw [atF_v87 V]
  rfl

theorem atH_arg0 : atH V (Proc.devRef .tc main_arg0) = V (Proc.devRef .tc main_arg0) := (keepH (atG V) main_arg0 (by decide)).trans (atG_arg0 V)

theorem atH_arg1 : atH V (Proc.devRef .tc main_arg1) = V (Proc.devRef .tc main_arg1) := (keepH (atG V) main_arg1 (by decide)).trans (atG_arg1 V)

theorem atH_arg2 : atH V (Proc.devRef .tc main_arg2) = V (Proc.devRef .tc main_arg2) := (keepH (atG V) main_arg2 (by decide)).trans (atG_arg2 V)

theorem atH_arg3 : atH V (Proc.devRef .tc main_arg3) = V (Proc.devRef .tc main_arg3) := (keepH (atG V) main_arg3 (by decide)).trans (atG_arg3 V)

theorem atH_arg4 : atH V (Proc.devRef .tc main_arg4) = V (Proc.devRef .tc main_arg4) := (keepH (atG V) main_arg4 (by decide)).trans (atG_arg4 V)

theorem atH_arg5 : atH V (Proc.devRef .tc main_arg5) = V (Proc.devRef .tc main_arg5) := (keepH (atG V) main_arg5 (by decide)).trans (atG_arg5 V)

theorem atH_arg6 : atH V (Proc.devRef .tc main_arg6) = V (Proc.devRef .tc main_arg6) := (keepH (atG V) main_arg6 (by decide)).trans (atG_arg6 V)

theorem atH_arg7 : atH V (Proc.devRef .tc main_arg7) = V (Proc.devRef .tc main_arg7) := (keepH (atG V) main_arg7 (by decide)).trans (atG_arg7 V)

theorem atH_v0 : atH V (Proc.devRef .tc main_v0) = Fn.q5 (V (Proc.devRef .tc main_arg0)) := (keepH (atG V) main_v0 (by decide)).trans (atG_v0 V)

theorem atH_v5 : atH V (Proc.devRef .tc main_v5) = Fn.wide (V (Proc.devRef .tc main_arg5)) := (keepH (atG V) main_v5 (by decide)).trans (atG_v5 V)

theorem atH_v6 : atH V (Proc.devRef .tc main_v6) = Fn.wide (V (Proc.devRef .tc main_arg6)) := (keepH (atG V) main_v6 (by decide)).trans (atG_v6 V)

theorem atH_v7 : atH V (Proc.devRef .tc main_v7) = Fn.pos := (keepH (atG V) main_v7 (by decide)).trans (atG_v7 V)

theorem atH_v38 : atH V (Proc.devRef .tc main_v38) = Fn.mix127 (Fn.cut (V (Proc.devRef .tc main_arg2))) (Fn.p127 (V (Proc.devRef .tc main_arg0)) (V (Proc.devRef .tc main_arg1))) := (keepH (atG V) main_v38 (by decide)).trans (atG_v38 V)

theorem atH_indices : atH V (Proc.devRef .tc main_indices) = Fn.idx (V (Proc.devRef .tc main_arg0)) (V (Proc.devRef .tc main_arg1)) := (keepH (atG V) main_indices (by decide)).trans (atG_indices V)

theorem atH_v88 : atH V (Proc.devRef .tc main_v88) = Fn.blocks (Fn.wide (V (Proc.devRef .tc main_arg3))) := by
  refine (afterH_v88 (atG V)).trans ?_
  rw [atG_v3 V]

theorem atH_v89 : atH V (Proc.devRef .tc main_v89) = Fn.blocks (Fn.wide (V (Proc.devRef .tc main_arg4))) := by
  refine (afterH_v89 (atG V)).trans ?_
  rw [atG_v4 V]

theorem atH_v91 : atH V (Proc.devRef .tc main_v91) = (broadcastInDim S8x1x1x1 ![0] bcast_S8_S8x1x1x1_0 (iotaInDim S8 32 0) : IVec S8x1x1x1 32) := by
  refine (afterH_v91 (atG V)).trans ?_
  rfl

theorem atH_v93 : atH V (Proc.devRef .tc main_v93) = (broadcastInDim S1x4x1x1 ![1] bcast_S4_S1x4x1x1_1 (iotaInDim S4 32 0) : IVec S1x4x1x1 32) := by
  refine (afterH_v93 (atG V)).trans ?_
  rfl

theorem atH_v95 : atH V (Proc.devRef .tc main_v95) = (cmpi .slt (broadcastInDim S8x1x1x1 ![0] bcast_S8_S8x1x1x1_0 (iotaInDim S8 32 0)) (broadcastInDim S8x1x1x1 ![] bcast_S_S8x1x1x1 (constantI S_ 32 0#32)) : IVec S8x1x1x1 1) := by
  refine (afterH_v95 (atG V)).trans ?_
  rfl

theorem atX_arg0 : atX V (Proc.devRef .tc main_arg0) = V (Proc.devRef .tc main_arg0) := (keepX (atH V) main_arg0 (by decide)).trans (atH_arg0 V)

theorem atX_arg1 : atX V (Proc.devRef .tc main_arg1) = V (Proc.devRef .tc main_arg1) := (keepX (atH V) main_arg1 (by decide)).trans (atH_arg1 V)

theorem atX_arg2 : atX V (Proc.devRef .tc main_arg2) = V (Proc.devRef .tc main_arg2) := (keepX (atH V) main_arg2 (by decide)).trans (atH_arg2 V)

theorem atX_arg3 : atX V (Proc.devRef .tc main_arg3) = V (Proc.devRef .tc main_arg3) := (keepX (atH V) main_arg3 (by decide)).trans (atH_arg3 V)

theorem atX_arg4 : atX V (Proc.devRef .tc main_arg4) = V (Proc.devRef .tc main_arg4) := (keepX (atH V) main_arg4 (by decide)).trans (atH_arg4 V)

theorem atX_arg5 : atX V (Proc.devRef .tc main_arg5) = V (Proc.devRef .tc main_arg5) := (keepX (atH V) main_arg5 (by decide)).trans (atH_arg5 V)

theorem atX_arg6 : atX V (Proc.devRef .tc main_arg6) = V (Proc.devRef .tc main_arg6) := (keepX (atH V) main_arg6 (by decide)).trans (atH_arg6 V)

theorem atX_arg7 : atX V (Proc.devRef .tc main_arg7) = V (Proc.devRef .tc main_arg7) := (keepX (atH V) main_arg7 (by decide)).trans (atH_arg7 V)

theorem atX_v0 : atX V (Proc.devRef .tc main_v0) = Fn.q5 (V (Proc.devRef .tc main_arg0)) := (keepX (atH V) main_v0 (by decide)).trans (atH_v0 V)

theorem atX_v5 : atX V (Proc.devRef .tc main_v5) = Fn.wide (V (Proc.devRef .tc main_arg5)) := (keepX (atH V) main_v5 (by decide)).trans (atH_v5 V)

theorem atX_v6 : atX V (Proc.devRef .tc main_v6) = Fn.wide (V (Proc.devRef .tc main_arg6)) := (keepX (atH V) main_v6 (by decide)).trans (atH_v6 V)

theorem atX_v7 : atX V (Proc.devRef .tc main_v7) = Fn.pos := (keepX (atH V) main_v7 (by decide)).trans (atH_v7 V)

theorem atX_v38 : atX V (Proc.devRef .tc main_v38) = Fn.mix127 (Fn.cut (V (Proc.devRef .tc main_arg2))) (Fn.p127 (V (Proc.devRef .tc main_arg0)) (V (Proc.devRef .tc main_arg1))) := (keepX (atH V) main_v38 (by decide)).trans (atH_v38 V)

theorem atX_indices : atX V (Proc.devRef .tc main_indices) = Fn.idx (V (Proc.devRef .tc main_arg0)) (V (Proc.devRef .tc main_arg1)) := (keepX (atH V) main_indices (by decide)).trans (atH_indices V)

theorem atX_v88 : atX V (Proc.devRef .tc main_v88) = Fn.blocks (Fn.wide (V (Proc.devRef .tc main_arg3))) := (keepX (atH V) main_v88 (by decide)).trans (atH_v88 V)

theorem atX_v89 : atX V (Proc.devRef .tc main_v89) = Fn.blocks (Fn.wide (V (Proc.devRef .tc main_arg4))) := (keepX (atH V) main_v89 (by decide)).trans (atH_v89 V)

theorem atX_v91 : atX V (Proc.devRef .tc main_v91) = (broadcastInDim S8x1x1x1 ![0] bcast_S8_S8x1x1x1_0 (iotaInDim S8 32 0) : IVec S8x1x1x1 32) := (keepX (atH V) main_v91 (by decide)).trans (atH_v91 V)

theorem atX_v93 : atX V (Proc.devRef .tc main_v93) = (broadcastInDim S1x4x1x1 ![1] bcast_S4_S1x4x1x1_1 (iotaInDim S4 32 0) : IVec S1x4x1x1 32) := (keepX (atH V) main_v93 (by decide)).trans (atH_v93 V)

theorem atX_v111 : atX V (Proc.devRef .tc main_v111) = Fn.col0 := by
  refine (afterX_v111 (atH V) (atH_v91 V) (atH_v93 V) (atH_v95 V)).trans ?_
  rfl

theorem atX_v112 : atX V (Proc.devRef .tc main_v112) = Fn.col1 := by
  refine (afterX_v112 (atH V) (atH_v91 V) (atH_v93 V) (atH_v95 V)).trans ?_
  rfl

theorem atX_v113 : atX V (Proc.devRef .tc main_v113) = Fn.col2 (Fn.idx (V (Proc.devRef .tc main_arg0)) (V (Proc.devRef .tc main_arg1))) := by
  refine (afterX_v113 (atH V)).trans ?_
  rw [atH_indices V]

theorem atI_arg0 : atI V (Proc.devRef .tc main_arg0) = V (Proc.devRef .tc main_arg0) := (keepI (atX V) main_arg0 (by decide)).trans (atX_arg0 V)

theorem atI_arg1 : atI V (Proc.devRef .tc main_arg1) = V (Proc.devRef .tc main_arg1) := (keepI (atX V) main_arg1 (by decide)).trans (atX_arg1 V)

theorem atI_arg2 : atI V (Proc.devRef .tc main_arg2) = V (Proc.devRef .tc main_arg2) := (keepI (atX V) main_arg2 (by decide)).trans (atX_arg2 V)

theorem atI_arg3 : atI V (Proc.devRef .tc main_arg3) = V (Proc.devRef .tc main_arg3) := (keepI (atX V) main_arg3 (by decide)).trans (atX_arg3 V)

theorem atI_arg4 : atI V (Proc.devRef .tc main_arg4) = V (Proc.devRef .tc main_arg4) := (keepI (atX V) main_arg4 (by decide)).trans (atX_arg4 V)

theorem atI_arg5 : atI V (Proc.devRef .tc main_arg5) = V (Proc.devRef .tc main_arg5) := (keepI (atX V) main_arg5 (by decide)).trans (atX_arg5 V)

theorem atI_arg6 : atI V (Proc.devRef .tc main_arg6) = V (Proc.devRef .tc main_arg6) := (keepI (atX V) main_arg6 (by decide)).trans (atX_arg6 V)

theorem atI_arg7 : atI V (Proc.devRef .tc main_arg7) = V (Proc.devRef .tc main_arg7) := (keepI (atX V) main_arg7 (by decide)).trans (atX_arg7 V)

theorem atI_v0 : atI V (Proc.devRef .tc main_v0) = Fn.q5 (V (Proc.devRef .tc main_arg0)) := (keepI (atX V) main_v0 (by decide)).trans (atX_v0 V)

theorem atI_v5 : atI V (Proc.devRef .tc main_v5) = Fn.wide (V (Proc.devRef .tc main_arg5)) := (keepI (atX V) main_v5 (by decide)).trans (atX_v5 V)

theorem atI_v6 : atI V (Proc.devRef .tc main_v6) = Fn.wide (V (Proc.devRef .tc main_arg6)) := (keepI (atX V) main_v6 (by decide)).trans (atX_v6 V)

theorem atI_v7 : atI V (Proc.devRef .tc main_v7) = Fn.pos := (keepI (atX V) main_v7 (by decide)).trans (atX_v7 V)

theorem atI_v38 : atI V (Proc.devRef .tc main_v38) = Fn.mix127 (Fn.cut (V (Proc.devRef .tc main_arg2))) (Fn.p127 (V (Proc.devRef .tc main_arg0)) (V (Proc.devRef .tc main_arg1))) := (keepI (atX V) main_v38 (by decide)).trans (atX_v38 V)

theorem atI_indices : atI V (Proc.devRef .tc main_indices) = Fn.idx (V (Proc.devRef .tc main_arg0)) (V (Proc.devRef .tc main_arg1)) := (keepI (atX V) main_indices (by decide)).trans (atX_indices V)

theorem atI_v89 : atI V (Proc.devRef .tc main_v89) = Fn.blocks (Fn.wide (V (Proc.devRef .tc main_arg4))) := (keepI (atX V) main_v89 (by decide)).trans (atX_v89 V)

theorem atI_v91 : atI V (Proc.devRef .tc main_v91) = (broadcastInDim S8x1x1x1 ![0] bcast_S8_S8x1x1x1_0 (iotaInDim S8 32 0) : IVec S8x1x1x1 32) := (keepI (atX V) main_v91 (by decide)).trans (atX_v91 V)

theorem atI_v93 : atI V (Proc.devRef .tc main_v93) = (broadcastInDim S1x4x1x1 ![1] bcast_S4_S1x4x1x1_1 (iotaInDim S4 32 0) : IVec S1x4x1x1 32) := (keepI (atX V) main_v93 (by decide)).trans (atX_v93 V)

theorem atI_v116 : atI V (Proc.devRef .tc main_v116) = Fn.taken (Fn.blocks (Fn.wide (V (Proc.devRef .tc main_arg3)))) (Fn.addr (Fn.idx (V (Proc.devRef .tc main_arg0)) (V (Proc.devRef .tc main_arg1)))) := by
  refine (afterI_v116 (atX V)).trans ?_
  rw [atX_v111 V, atX_v112 V, atX_v113 V, atX_v88 V]
  rfl

theorem atY_arg0 : atY V (Proc.devRef .tc main_arg0) = V (Proc.devRef .tc main_arg0) := (keepY (atI V) main_arg0 (by decide)).trans (atI_arg0 V)

theorem atY_arg1 : atY V (Proc.devRef .tc main_arg1) = V (Proc.devRef .tc main_arg1) := (keepY (atI V) main_arg1 (by decide)).trans (atI_arg1 V)

theorem atY_arg2 : atY V (Proc.devRef .tc main_arg2) = V (Proc.devRef .tc main_arg2) := (keepY (atI V) main_arg2 (by decide)).trans (atI_arg2 V)

theorem atY_arg3 : atY V (Proc.devRef .tc main_arg3) = V (Proc.devRef .tc main_arg3) := (keepY (atI V) main_arg3 (by decide)).trans (atI_arg3 V)

theorem atY_arg4 : atY V (Proc.devRef .tc main_arg4) = V (Proc.devRef .tc main_arg4) := (keepY (atI V) main_arg4 (by decide)).trans (atI_arg4 V)

theorem atY_arg5 : atY V (Proc.devRef .tc main_arg5) = V (Proc.devRef .tc main_arg5) := (keepY (atI V) main_arg5 (by decide)).trans (atI_arg5 V)

theorem atY_arg6 : atY V (Proc.devRef .tc main_arg6) = V (Proc.devRef .tc main_arg6) := (keepY (atI V) main_arg6 (by decide)).trans (atI_arg6 V)

theorem atY_arg7 : atY V (Proc.devRef .tc main_arg7) = V (Proc.devRef .tc main_arg7) := (keepY (atI V) main_arg7 (by decide)).trans (atI_arg7 V)

theorem atY_v0 : atY V (Proc.devRef .tc main_v0) = Fn.q5 (V (Proc.devRef .tc main_arg0)) := (keepY (atI V) main_v0 (by decide)).trans (atI_v0 V)

theorem atY_v5 : atY V (Proc.devRef .tc main_v5) = Fn.wide (V (Proc.devRef .tc main_arg5)) := (keepY (atI V) main_v5 (by decide)).trans (atI_v5 V)

theorem atY_v6 : atY V (Proc.devRef .tc main_v6) = Fn.wide (V (Proc.devRef .tc main_arg6)) := (keepY (atI V) main_v6 (by decide)).trans (atI_v6 V)

theorem atY_v7 : atY V (Proc.devRef .tc main_v7) = Fn.pos := (keepY (atI V) main_v7 (by decide)).trans (atI_v7 V)

theorem atY_v38 : atY V (Proc.devRef .tc main_v38) = Fn.mix127 (Fn.cut (V (Proc.devRef .tc main_arg2))) (Fn.p127 (V (Proc.devRef .tc main_arg0)) (V (Proc.devRef .tc main_arg1))) := (keepY (atI V) main_v38 (by decide)).trans (atI_v38 V)

theorem atY_indices : atY V (Proc.devRef .tc main_indices) = Fn.idx (V (Proc.devRef .tc main_arg0)) (V (Proc.devRef .tc main_arg1)) := (keepY (atI V) main_indices (by decide)).trans (atI_indices V)

theorem atY_v89 : atY V (Proc.devRef .tc main_v89) = Fn.blocks (Fn.wide (V (Proc.devRef .tc main_arg4))) := (keepY (atI V) main_v89 (by decide)).trans (atI_v89 V)

theorem atY_v116 : atY V (Proc.devRef .tc main_v116) = Fn.taken (Fn.blocks (Fn.wide (V (Proc.devRef .tc main_arg3)))) (Fn.addr (Fn.idx (V (Proc.devRef .tc main_arg0)) (V (Proc.devRef .tc main_arg1)))) := (keepY (atI V) main_v116 (by decide)).trans (atI_v116 V)

theorem atY_v134 : atY V (Proc.devRef .tc main_v134) = Fn.col0 := by
  refine (afterY_v134 (atI V) (atI_v91 V) (atI_v93 V)).trans ?_
  rfl

theorem atY_v135 : atY V (Proc.devRef .tc main_v135) = Fn.col1 := by
  refine (afterY_v135 (atI V) (atI_v91 V) (atI_v93 V)).trans ?_
  rfl

theorem atY_v136 : atY V (Proc.devRef .tc main_v136) = Fn.col2 (Fn.idx (V (Proc.devRef .tc main_arg0)) (V (Proc.devRef .tc main_arg1))) := by
  refine (afterY_v136 (atI V)).trans ?_
  rw [atI_indices V]

theorem atJ_arg0 : atJ V (Proc.devRef .tc main_arg0) = V (Proc.devRef .tc main_arg0) := (keepJ (atY V) main_arg0 (by decide)).trans (atY_arg0 V)

theorem atJ_arg1 : atJ V (Proc.devRef .tc main_arg1) = V (Proc.devRef .tc main_arg1) := (keepJ (atY V) main_arg1 (by decide)).trans (atY_arg1 V)

theorem atJ_arg2 : atJ V (Proc.devRef .tc main_arg2) = V (Proc.devRef .tc main_arg2) := (keepJ (atY V) main_arg2 (by decide)).trans (atY_arg2 V)

theorem atJ_arg3 : atJ V (Proc.devRef .tc main_arg3) = V (Proc.devRef .tc main_arg3) := (keepJ (atY V) main_arg3 (by decide)).trans (atY_arg3 V)

theorem atJ_arg4 : atJ V (Proc.devRef .tc main_arg4) = V (Proc.devRef .tc main_arg4) := (keepJ (atY V) main_arg4 (by decide)).trans (atY_arg4 V)

theorem atJ_arg5 : atJ V (Proc.devRef .tc main_arg5) = V (Proc.devRef .tc main_arg5) := (keepJ (atY V) main_arg5 (by decide)).trans (atY_arg5 V)

theorem atJ_arg6 : atJ V (Proc.devRef .tc main_arg6) = V (Proc.devRef .tc main_arg6) := (keepJ (atY V) main_arg6 (by decide)).trans (atY_arg6 V)

theorem atJ_arg7 : atJ V (Proc.devRef .tc main_arg7) = V (Proc.devRef .tc main_arg7) := (keepJ (atY V) main_arg7 (by decide)).trans (atY_arg7 V)

theorem atJ_v0 : atJ V (Proc.devRef .tc main_v0) = Fn.q5 (V (Proc.devRef .tc main_arg0)) := (keepJ (atY V) main_v0 (by decide)).trans (atY_v0 V)

theorem atJ_v5 : atJ V (Proc.devRef .tc main_v5) = Fn.wide (V (Proc.devRef .tc main_arg5)) := (keepJ (atY V) main_v5 (by decide)).trans (atY_v5 V)

theorem atJ_v6 : atJ V (Proc.devRef .tc main_v6) = Fn.wide (V (Proc.devRef .tc main_arg6)) := (keepJ (atY V) main_v6 (by decide)).trans (atY_v6 V)

theorem atJ_v7 : atJ V (Proc.devRef .tc main_v7) = Fn.pos := (keepJ (atY V) main_v7 (by decide)).trans (atY_v7 V)

theorem atJ_v38 : atJ V (Proc.devRef .tc main_v38) = Fn.mix127 (Fn.cut (V (Proc.devRef .tc main_arg2))) (Fn.p127 (V (Proc.devRef .tc main_arg0)) (V (Proc.devRef .tc main_arg1))) := (keepJ (atY V) main_v38 (by decide)).trans (atY_v38 V)

theorem atJ_indices : atJ V (Proc.devRef .tc main_indices) = Fn.idx (V (Proc.devRef .tc main_arg0)) (V (Proc.devRef .tc main_arg1)) := (keepJ (atY V) main_indices (by decide)).trans (atY_indices V)

theorem atJ_v116 : atJ V (Proc.devRef .tc main_v116) = Fn.taken (Fn.blocks (Fn.wide (V (Proc.devRef .tc main_arg3)))) (Fn.addr (Fn.idx (V (Proc.devRef .tc main_arg0)) (V (Proc.devRef .tc main_arg1)))) := (keepJ (atY V) main_v116 (by decide)).trans (atY_v116 V)

theorem atJ_v139 : atJ V (Proc.devRef .tc main_v139) = Fn.taken (Fn.blocks (Fn.wide (V (Proc.devRef .tc main_arg4)))) (Fn.addr (Fn.idx (V (Proc.devRef .tc main_arg0)) (V (Proc.devRef .tc main_arg1)))) := by
  refine (afterJ_v139 (atY V)).trans ?_
  rw [atY_v134 V, atY_v135 V, atY_v136 V, atY_v89 V]
  rfl

theorem atK_arg0 : atK V (Proc.devRef .tc main_arg0) = V (Proc.devRef .tc main_arg0) := (keepK (atJ V) main_arg0 (by decide)).trans (atJ_arg0 V)

theorem atK_arg1 : atK V (Proc.devRef .tc main_arg1) = V (Proc.devRef .tc main_arg1) := (keepK (atJ V) main_arg1 (by decide)).trans (atJ_arg1 V)

theorem atK_arg2 : atK V (Proc.devRef .tc main_arg2) = V (Proc.devRef .tc main_arg2) := (keepK (atJ V) main_arg2 (by decide)).trans (atJ_arg2 V)

theorem atK_arg3 : atK V (Proc.devRef .tc main_arg3) = V (Proc.devRef .tc main_arg3) := (keepK (atJ V) main_arg3 (by decide)).trans (atJ_arg3 V)

theorem atK_arg4 : atK V (Proc.devRef .tc main_arg4) = V (Proc.devRef .tc main_arg4) := (keepK (atJ V) main_arg4 (by decide)).trans (atJ_arg4 V)

theorem atK_arg5 : atK V (Proc.devRef .tc main_arg5) = V (Proc.devRef .tc main_arg5) := (keepK (atJ V) main_arg5 (by decide)).trans (atJ_arg5 V)

theorem atK_arg6 : atK V (Proc.devRef .tc main_arg6) = V (Proc.devRef .tc main_arg6) := (keepK (atJ V) main_arg6 (by decide)).trans (atJ_arg6 V)

theorem atK_arg7 : atK V (Proc.devRef .tc main_arg7) = V (Proc.devRef .tc main_arg7) := (keepK (atJ V) main_arg7 (by decide)).trans (atJ_arg7 V)

theorem atK_v0 : atK V (Proc.devRef .tc main_v0) = Fn.q5 (V (Proc.devRef .tc main_arg0)) := (keepK (atJ V) main_v0 (by decide)).trans (atJ_v0 V)

theorem atK_v5 : atK V (Proc.devRef .tc main_v5) = Fn.wide (V (Proc.devRef .tc main_arg5)) := (keepK (atJ V) main_v5 (by decide)).trans (atJ_v5 V)

theorem atK_v6 : atK V (Proc.devRef .tc main_v6) = Fn.wide (V (Proc.devRef .tc main_arg6)) := (keepK (atJ V) main_v6 (by decide)).trans (atJ_v6 V)

theorem atK_v7 : atK V (Proc.devRef .tc main_v7) = Fn.pos := (keepK (atJ V) main_v7 (by decide)).trans (atJ_v7 V)

theorem atK_v38 : atK V (Proc.devRef .tc main_v38) = Fn.mix127 (Fn.cut (V (Proc.devRef .tc main_arg2))) (Fn.p127 (V (Proc.devRef .tc main_arg0)) (V (Proc.devRef .tc main_arg1))) := (keepK (atJ V) main_v38 (by decide)).trans (atJ_v38 V)

theorem atK_v116 : atK V (Proc.devRef .tc main_v116) = Fn.taken (Fn.blocks (Fn.wide (V (Proc.devRef .tc main_arg3)))) (Fn.addr (Fn.idx (V (Proc.devRef .tc main_arg0)) (V (Proc.devRef .tc main_arg1)))) := (keepK (atJ V) main_v116 (by decide)).trans (atJ_v116 V)

theorem atK_v139 : atK V (Proc.devRef .tc main_v139) = Fn.taken (Fn.blocks (Fn.wide (V (Proc.devRef .tc main_arg4)))) (Fn.addr (Fn.idx (V (Proc.devRef .tc main_arg0)) (V (Proc.devRef .tc main_arg1)))) := (keepK (atJ V) main_v139 (by decide)).trans (atJ_v139 V)

theorem atK_v142 : atK V (Proc.devRef .tc main_v142) = (muli (broadcastInDim S8x4x2048x16x1 ![0, 1, 2, 3] bcast_S8x4x2048x16_S8x4x2048x16x1_0_1_2_3 (Fn.idx (V (Proc.devRef .tc main_arg0)) (V (Proc.devRef .tc main_arg1)))) (broadcastInDim S8x4x2048x16x1 ![] bcast_S_S8x4x2048x16x1 (constantI S_ 32 64#32)) : IVec S8x4x2048x16x1 32) := by
  refine (afterK_v142 (atJ V)).trans ?_
  rw [atJ_indices V]

theorem atK_v143 : atK V (Proc.devRef .tc main_v143) = (iotaInDim S64 32 0 : IVec S64 32) := by
  refine (afterK_v143 (atJ V)).trans ?_
  rfl

theorem atL_arg0 : atL V (Proc.devRef .tc main_arg0) = V (Proc.devRef .tc main_arg0) := (keepL (atK V) main_arg0 (by decide)).trans (atK_arg0 V)

theorem atL_arg1 : atL V (Proc.devRef .tc main_arg1) = V (Proc.devRef .tc main_arg1) := (keepL (atK V) main_arg1 (by decide)).trans (atK_arg1 V)

theorem atL_arg2 : atL V (Proc.devRef .tc main_arg2) = V (Proc.devRef .tc main_arg2) := (keepL (atK V) main_arg2 (by decide)).trans (atK_arg2 V)

theorem atL_arg3 : atL V (Proc.devRef .tc main_arg3) = V (Proc.devRef .tc main_arg3) := (keepL (atK V) main_arg3 (by decide)).trans (atK_arg3 V)

theorem atL_arg4 : atL V (Proc.devRef .tc main_arg4) = V (Proc.devRef .tc main_arg4) := (keepL (atK V) main_arg4 (by decide)).trans (atK_arg4 V)

theorem atL_arg5 : atL V (Proc.devRef .tc main_arg5) = V (Proc.devRef .tc main_arg5) := (keepL (atK V) main_arg5 (by decide)).trans (atK_arg5 V)

theorem atL_arg6 : atL V (Proc.devRef .tc main_arg6) = V (Proc.devRef .tc main_arg6) := (keepL (atK V) main_arg6 (by decide)).trans (atK_arg6 V)

theorem atL_arg7 : atL V (Proc.devRef .tc main_arg7) = V (Proc.devRef .tc main_arg7) := (keepL (atK V) main_arg7 (by decide)).trans (atK_arg7 V)

theorem atL_v0 : atL V (Proc.devRef .tc main_v0) = Fn.q5 (V (Proc.devRef .tc main_arg0)) := (keepL (atK V) main_v0 (by decide)).trans (atK_v0 V)

theorem atL_v5 : atL V (Proc.devRef .tc main_v5) = Fn.wide (V (Proc.devRef .tc main_arg5)) := (keepL (atK V) main_v5 (by decide)).trans (atK_v5 V)

theorem atL_v6 : atL V (Proc.devRef .tc main_v6) = Fn.wide (V (Proc.devRef .tc main_arg6)) := (keepL (atK V) main_v6 (by decide)).trans (atK_v6 V)

theorem atL_v7 : atL V (Proc.devRef .tc main_v7) = Fn.pos := (keepL (atK V) main_v7 (by decide)).trans (atK_v7 V)

theorem atL_v38 : atL V (Proc.devRef .tc main_v38) = Fn.mix127 (Fn.cut (V (Proc.devRef .tc main_arg2))) (Fn.p127 (V (Proc.devRef .tc main_arg0)) (V (Proc.devRef .tc main_arg1))) := (keepL (atK V) main_v38 (by decide)).trans (atK_v38 V)

theorem atL_v139 : atL V (Proc.devRef .tc main_v139) = Fn.taken (Fn.blocks (Fn.wide (V (Proc.devRef .tc main_arg4)))) (Fn.addr (Fn.idx (V (Proc.devRef .tc main_arg0)) (V (Proc.devRef .tc main_arg1)))) := (keepL (atK V) main_v139 (by decide)).trans (atK_v139 V)

theorem atL_v154 : atL V (Proc.devRef .tc main_v154) = Fn.seen1024 (Fn.keyPos (Fn.idx (V (Proc.devRef .tc main_arg0)) (V (Proc.devRef .tc main_arg1)))) := by
  refine (afterL_v154 (atK V) (Fn.idx (V (Proc.devRef .tc main_arg0)) (V (Proc.devRef .tc main_arg1))) (atK_v7 V) (atK_v142 V) (atK_v143 V)).trans ?_
  rfl

theorem atL_v155 : atL V (Proc.devRef .tc main_v155) = Fn.masked1024 (Fn.seen1024 (Fn.keyPos (Fn.idx (V (Proc.devRef .tc main_arg0)) (V (Proc.devRef .tc main_arg1))))) (Fn.scores1024 (Fn.taken (Fn.blocks (Fn.wide (V (Proc.devRef .tc main_arg3)))) (Fn.addr (Fn.idx (V (Proc.devRef .tc main_arg0)) (V (Proc.devRef .tc main_arg1))))) (Fn.q5 (V (Proc.devRef .tc main_arg0)))) := by
  refine (afterL_v155 (atK V) (Fn.idx (V (Proc.devRef .tc main_arg0)) (V (Proc.devRef .tc main_arg1))) (atK_v7 V) (atK_v142 V) (atK_v143 V)).trans ?_
  rw [atK_v0 V, atK_v116 V]

theorem atM_arg0 : atM V (Proc.devRef .tc main_arg0) = V (Proc.devRef .tc main_arg0) := (keepM (atL V) main_arg0 (by decide)).trans (atL_arg0 V)

theorem atM_arg1 : atM V (Proc.devRef .tc main_arg1) = V (Proc.devRef .tc main_arg1) := (keepM (atL V) main_arg1 (by decide)).trans (atL_arg1 V)

theorem atM_arg2 : atM V (Proc.devRef .tc main_arg2) = V (Proc.devRef .tc main_arg2) := (keepM (atL V) main_arg2 (by decide)).trans (atL_arg2 V)

theorem atM_arg3 : atM V (Proc.devRef .tc main_arg3) = V (Proc.devRef .tc main_arg3) := (keepM (atL V) main_arg3 (by decide)).trans (atL_arg3 V)

theorem atM_arg4 : atM V (Proc.devRef .tc main_arg4) = V (Proc.devRef .tc main_arg4) := (keepM (atL V) main_arg4 (by decide)).trans (atL_arg4 V)

theorem atM_arg5 : atM V (Proc.devRef .tc main_arg5) = V (Proc.devRef .tc main_arg5) := (keepM (atL V) main_arg5 (by decide)).trans (atL_arg5 V)

theorem atM_arg6 : atM V (Proc.devRef .tc main_arg6) = V (Proc.devRef .tc main_arg6) := (keepM (atL V) main_arg6 (by decide)).trans (atL_arg6 V)

theorem atM_arg7 : atM V (Proc.devRef .tc main_arg7) = V (Proc.devRef .tc main_arg7) := (keepM (atL V) main_arg7 (by decide)).trans (atL_arg7 V)

theorem atM_v0 : atM V (Proc.devRef .tc main_v0) = Fn.q5 (V (Proc.devRef .tc main_arg0)) := (keepM (atL V) main_v0 (by decide)).trans (atL_v0 V)

theorem atM_v5 : atM V (Proc.devRef .tc main_v5) = Fn.wide (V (Proc.devRef .tc main_arg5)) := (keepM (atL V) main_v5 (by decide)).trans (atL_v5 V)

theorem atM_v6 : atM V (Proc.devRef .tc main_v6) = Fn.wide (V (Proc.devRef .tc main_arg6)) := (keepM (atL V) main_v6 (by decide)).trans (atL_v6 V)

theorem atM_v7 : atM V (Proc.devRef .tc main_v7) = Fn.pos := (keepM (atL V) main_v7 (by decide)).trans (atL_v7 V)

theorem atM_v38 : atM V (Proc.devRef .tc main_v38) = Fn.mix127 (Fn.cut (V (Proc.devRef .tc main_arg2))) (Fn.p127 (V (Proc.devRef .tc main_arg0)) (V (Proc.devRef .tc main_arg1))) := (keepM (atL V) main_v38 (by decide)).trans (atL_v38 V)

theorem atM_v139 : atM V (Proc.devRef .tc main_v139) = Fn.taken (Fn.blocks (Fn.wide (V (Proc.devRef .tc main_arg4)))) (Fn.addr (Fn.idx (V (Proc.devRef .tc main_arg0)) (V (Proc.devRef .tc main_arg1)))) := (keepM (atL V) main_v139 (by decide)).trans (atL_v139 V)

theorem atM_v171 : atM V (Proc.devRef .tc main_v171) = Fn.p1024 (V (Proc.devRef .tc main_arg0)) (V (Proc.devRef .tc main_arg3)) (Fn.idx (V (Proc.devRef .tc main_arg0)) (V (Proc.devRef .tc main_arg1))) := by
  refine (afterM_v171 (atL V)).trans ?_
  rw [atL_v154 V, atL_v155 V]
  rfl

theorem atN_arg0 : atN V (Proc.devRef .tc main_arg0) = V (Proc.devRef .tc main_arg0) := (keepN (atM V) main_arg0 (by decide)).trans (atM_arg0 V)

theorem atN_arg1 : atN V (Proc.devRef .tc main_arg1) = V (Proc.devRef .tc main_arg1) := (keepN (atM V) main_arg1 (by decide)).trans (atM_arg1 V)

theorem atN_arg2 : atN V (Proc.devRef .tc main_arg2) = V (Proc.devRef .tc main_arg2) := (keepN (atM V) main_arg2 (by decide)).trans (atM_arg2 V)

theorem atN_arg3 : atN V (Proc.devRef .tc main_arg3) = V (Proc.devRef .tc main_arg3) := (keepN (atM V) main_arg3 (by decide)).trans (atM_arg3 V)

theorem atN_arg4 : atN V (Proc.devRef .tc main_arg4) = V (Proc.devRef .tc main_arg4) := (keepN (atM V) main_arg4 (by decide)).trans (atM_arg4 V)

theorem atN_arg5 : atN V (Proc.devRef .tc main_arg5) = V (Proc.devRef .tc main_arg5) := (keepN (atM V) main_arg5 (by decide)).trans (atM_arg5 V)

theorem atN_arg6 : atN V (Proc.devRef .tc main_arg6) = V (Proc.devRef .tc main_arg6) := (keepN (atM V) main_arg6 (by decide)).trans (atM_arg6 V)

theorem atN_arg7 : atN V (Proc.devRef .tc main_arg7) = V (Proc.devRef .tc main_arg7) := (keepN (atM V) main_arg7 (by decide)).trans (atM_arg7 V)

theorem atN_v0 : atN V (Proc.devRef .tc main_v0) = Fn.q5 (V (Proc.devRef .tc main_arg0)) := (keepN (atM V) main_v0 (by decide)).trans (atM_v0 V)

theorem atN_v5 : atN V (Proc.devRef .tc main_v5) = Fn.wide (V (Proc.devRef .tc main_arg5)) := (keepN (atM V) main_v5 (by decide)).trans (atM_v5 V)

theorem atN_v6 : atN V (Proc.devRef .tc main_v6) = Fn.wide (V (Proc.devRef .tc main_arg6)) := (keepN (atM V) main_v6 (by decide)).trans (atM_v6 V)

theorem atN_v7 : atN V (Proc.devRef .tc main_v7) = Fn.pos := (keepN (atM V) main_v7 (by decide)).trans (atM_v7 V)

theorem atN_v38 : atN V (Proc.devRef .tc main_v38) = Fn.mix127 (Fn.cut (V (Proc.devRef .tc main_arg2))) (Fn.p127 (V (Proc.devRef .tc main_arg0)) (V (Proc.devRef .tc main_arg1))) := (keepN (atM V) main_v38 (by decide)).trans (atM_v38 V)

theorem atN_v172 : atN V (Proc.devRef .tc main_v172) = Fn.mix1024 (Fn.p1024 (V (Proc.devRef .tc main_arg0)) (V (Proc.devRef .tc main_arg3)) (Fn.idx (V (Proc.devRef .tc main_arg0)) (V (Proc.devRef .tc main_arg1)))) (Fn.taken (Fn.blocks (Fn.wide (V (Proc.devRef .tc main_arg4)))) (Fn.addr (Fn.idx (V (Proc.devRef .tc main_arg0)) (V (Proc.devRef .tc main_arg1))))) := by
  refine (afterN_v172 (atM V)).trans ?_
  rw [atM_v139 V, atM_v171 V]

theorem atO_arg0 : atO V (Proc.devRef .tc main_arg0) = V (Proc.devRef .tc main_arg0) := (keepO (atN V) main_arg0 (by decide)).trans (atN_arg0 V)

theorem atO_arg1 : atO V (Proc.devRef .tc main_arg1) = V (Proc.devRef .tc main_arg1) := (keepO (atN V) main_arg1 (by decide)).trans (atN_arg1 V)

theorem atO_arg2 : atO V (Proc.devRef .tc main_arg2) = V (Proc.devRef .tc main_arg2) := (keepO (atN V) main_arg2 (by decide)).trans (atN_arg2 V)

theorem atO_arg3 : atO V (Proc.devRef .tc main_arg3) = V (Proc.devRef .tc main_arg3) := (keepO (atN V) main_arg3 (by decide)).trans (atN_arg3 V)

theorem atO_arg4 : atO V (Proc.devRef .tc main_arg4) = V (Proc.devRef .tc main_arg4) := (keepO (atN V) main_arg4 (by decide)).trans (atN_arg4 V)

theorem atO_arg5 : atO V (Proc.devRef .tc main_arg5) = V (Proc.devRef .tc main_arg5) := (keepO (atN V) main_arg5 (by decide)).trans (atN_arg5 V)

theorem atO_arg6 : atO V (Proc.devRef .tc main_arg6) = V (Proc.devRef .tc main_arg6) := (keepO (atN V) main_arg6 (by decide)).trans (atN_arg6 V)

theorem atO_arg7 : atO V (Proc.devRef .tc main_arg7) = V (Proc.devRef .tc main_arg7) := (keepO (atN V) main_arg7 (by decide)).trans (atN_arg7 V)

theorem atO_v6 : atO V (Proc.devRef .tc main_v6) = Fn.wide (V (Proc.devRef .tc main_arg6)) := (keepO (atN V) main_v6 (by decide)).trans (atN_v6 V)

theorem atO_v38 : atO V (Proc.devRef .tc main_v38) = Fn.mix127 (Fn.cut (V (Proc.devRef .tc main_arg2))) (Fn.p127 (V (Proc.devRef .tc main_arg0)) (V (Proc.devRef .tc main_arg1))) := (keepO (atN V) main_v38 (by decide)).trans (atN_v38 V)

theorem atO_v172 : atO V (Proc.devRef .tc main_v172) = Fn.mix1024 (Fn.p1024 (V (Proc.devRef .tc main_arg0)) (V (Proc.devRef .tc main_arg3)) (Fn.idx (V (Proc.devRef .tc main_arg0)) (V (Proc.devRef .tc main_arg1)))) (Fn.taken (Fn.blocks (Fn.wide (V (Proc.devRef .tc main_arg4)))) (Fn.addr (Fn.idx (V (Proc.devRef .tc main_arg0)) (V (Proc.devRef .tc main_arg1))))) := (keepO (atN V) main_v172 (by decide)).trans (atN_v172 V)

theorem atO_v187 : atO V (Proc.devRef .tc main_v187) = Fn.seen2048 := by
  refine (afterO_v187 (atN V) (atN_v7 V)).trans ?_
  rfl

theorem atO_v188 : atO V (Proc.devRef .tc main_v188) = Fn.masked2048 Fn.seen2048 (Fn.scores2048 (Fn.wide (V (Proc.devRef .tc main_arg5))) (Fn.q5 (V (Proc.devRef .tc main_arg0)))) := by
  refine (afterO_v188 (atN V) (atN_v7 V)).trans ?_
  rw [atN_v0 V, atN_v5 V]

theorem atP_arg0 : atP V (Proc.devRef .tc main_arg0) = V (Proc.devRef .tc main_arg0) := (keepP (atO V) main_arg0 (by decide)).trans (atO_arg0 V)

theorem atP_arg1 : atP V (Proc.devRef .tc main_arg1) = V (Proc.devRef .tc main_arg1) := (keepP (atO V) main_arg1 (by decide)).trans (atO_arg1 V)

theorem atP_arg2 : atP V (Proc.devRef .tc main_arg2) = V (Proc.devRef .tc main_arg2) := (keepP (atO V) main_arg2 (by decide)).trans (atO_arg2 V)

theorem atP_arg3 : atP V (Proc.devRef .tc main_arg3) = V (Proc.devRef .tc main_arg3) := (keepP (atO V) main_arg3 (by decide)).trans (atO_arg3 V)

theorem atP_arg4 : atP V (Proc.devRef .tc main_arg4) = V (Proc.devRef .tc main_arg4) := (keepP (atO V) main_arg4 (by decide)).trans (atO_arg4 V)

theorem atP_arg5 : atP V (Proc.devRef .tc main_arg5) = V (Proc.devRef .tc main_arg5) := (keepP (atO V) main_arg5 (by decide)).trans (atO_arg5 V)

theorem atP_arg6 : atP V (Proc.devRef .tc main_arg6) = V (Proc.devRef .tc main_arg6) := (keepP (atO V) main_arg6 (by decide)).trans (atO_arg6 V)

theorem atP_arg7 : atP V (Proc.devRef .tc main_arg7) = V (Proc.devRef .tc main_arg7) := (keepP (atO V) main_arg7 (by decide)).trans (atO_arg7 V)

theorem atP_v6 : atP V (Proc.devRef .tc main_v6) = Fn.wide (V (Proc.devRef .tc main_arg6)) := (keepP (atO V) main_v6 (by decide)).trans (atO_v6 V)

theorem atP_v38 : atP V (Proc.devRef .tc main_v38) = Fn.mix127 (Fn.cut (V (Proc.devRef .tc main_arg2))) (Fn.p127 (V (Proc.devRef .tc main_arg0)) (V (Proc.devRef .tc main_arg1))) := (keepP (atO V) main_v38 (by decide)).trans (atO_v38 V)

theorem atP_v172 : atP V (Proc.devRef .tc main_v172) = Fn.mix1024 (Fn.p1024 (V (Proc.devRef .tc main_arg0)) (V (Proc.devRef .tc main_arg3)) (Fn.idx (V (Proc.devRef .tc main_arg0)) (V (Proc.devRef .tc main_arg1)))) (Fn.taken (Fn.blocks (Fn.wide (V (Proc.devRef .tc main_arg4)))) (Fn.addr (Fn.idx (V (Proc.devRef .tc main_arg0)) (V (Proc.devRef .tc main_arg1))))) := (keepP (atO V) main_v172 (by decide)).trans (atO_v172 V)

theorem atP_v187 : atP V (Proc.devRef .tc main_v187) = Fn.seen2048 := (keepP (atO V) main_v187 (by decide)).trans (atO_v187 V)

theorem atP_v188 : atP V (Proc.devRef .tc main_v188) = Fn.masked2048 Fn.seen2048 (Fn.scores2048 (Fn.wide (V (Proc.devRef .tc main_arg5))) (Fn.q5 (V (Proc.devRef .tc main_arg0)))) := (keepP (atO V) main_v188 (by decide)).trans (atO_v188 V)

theorem atP_v190 : atP V (Proc.devRef .tc main_v190) = Fn.peak2048 (Fn.masked2048 Fn.seen2048 (Fn.scores2048 (Fn.wide (V (Proc.devRef .tc main_arg5))) (Fn.q5 (V (Proc.devRef .tc main_arg0))))) := by
  refine (afterP_v190 (atO V)).trans ?_
  rw [atO_v188 V]

theorem atP_v191 : atP V (Proc.devRef .tc main_v191) = Host.absf (Fn.peak2048 (Fn.masked2048 Fn.seen2048 (Fn.scores2048 (Fn.wide (V (Proc.devRef .tc main_arg5))) (Fn.q5 (V (Proc.devRef .tc main_arg0)))))) := by
  refine (afterP_v191 (atO V)).trans ?_
  rw [atO_v188 V]

theorem atP_v192 : atP V (Proc.devRef .tc main_v192) = (broadcastInDim S8x4x4x2048x1 ![] bcast_S_S8x4x4x2048x1 (constant S_ .f32 0x7F800000#32) : FVec Ideal S8x4x4x2048x1 .f32) := by
  refine (afterP_v192 (atO V)).trans ?_
  rfl

theorem atQ_arg0 : atQ V (Proc.devRef .tc main_arg0) = V (Proc.devRef .tc main_arg0) := (keepQ (atP V) main_arg0 (by decide)).trans (atP_arg0 V)

theorem atQ_arg1 : atQ V (Proc.devRef .tc main_arg1) = V (Proc.devRef .tc main_arg1) := (keepQ (atP V) main_arg1 (by decide)).trans (atP_arg1 V)

theorem atQ_arg2 : atQ V (Proc.devRef .tc main_arg2) = V (Proc.devRef .tc main_arg2) := (keepQ (atP V) main_arg2 (by decide)).trans (atP_arg2 V)

theorem atQ_arg3 : atQ V (Proc.devRef .tc main_arg3) = V (Proc.devRef .tc main_arg3) := (keepQ (atP V) main_arg3 (by decide)).trans (atP_arg3 V)

theorem atQ_arg4 : atQ V (Proc.devRef .tc main_arg4) = V (Proc.devRef .tc main_arg4) := (keepQ (atP V) main_arg4 (by decide)).trans (atP_arg4 V)

theorem atQ_arg5 : atQ V (Proc.devRef .tc main_arg5) = V (Proc.devRef .tc main_arg5) := (keepQ (atP V) main_arg5 (by decide)).trans (atP_arg5 V)

theorem atQ_arg6 : atQ V (Proc.devRef .tc main_arg6) = V (Proc.devRef .tc main_arg6) := (keepQ (atP V) main_arg6 (by decide)).trans (atP_arg6 V)

theorem atQ_arg7 : atQ V (Proc.devRef .tc main_arg7) = V (Proc.devRef .tc main_arg7) := (keepQ (atP V) main_arg7 (by decide)).trans (atP_arg7 V)

theorem atQ_v6 : atQ V (Proc.devRef .tc main_v6) = Fn.wide (V (Proc.devRef .tc main_arg6)) := (keepQ (atP V) main_v6 (by decide)).trans (atP_v6 V)

theorem atQ_v38 : atQ V (Proc.devRef .tc main_v38) = Fn.mix127 (Fn.cut (V (Proc.devRef .tc main_arg2))) (Fn.p127 (V (Proc.devRef .tc main_arg0)) (V (Proc.devRef .tc main_arg1))) := (keepQ (atP V) main_v38 (by decide)).trans (atP_v38 V)

theorem atQ_v172 : atQ V (Proc.devRef .tc main_v172) = Fn.mix1024 (Fn.p1024 (V (Proc.devRef .tc main_arg0)) (V (Proc.devRef .tc main_arg3)) (Fn.idx (V (Proc.devRef .tc main_arg0)) (V (Proc.devRef .tc main_arg1)))) (Fn.taken (Fn.blocks (Fn.wide (V (Proc.devRef .tc main_arg4)))) (Fn.addr (Fn.idx (V (Proc.devRef .tc main_arg0)) (V (Proc.devRef .tc main_arg1))))) := (keepQ (atP V) main_v172 (by decide)).trans (atP_v172 V)

theorem atQ_v204 : atQ V (Proc.devRef .tc main_v204) = Fn.p2048 (V (Proc.devRef .tc main_arg0)) (V (Proc.devRef .tc main_arg5)) := by
  refine (afterQ_v204 (atP V) (by rw [atP_v190 V, atP_v188 V]) (by rw [atP_v191 V, atP_v188 V]) (atP_v192 V)).trans ?_
  rw [atP_v187 V, atP_v188 V]
  rfl

theorem atR_arg0 : atR V (Proc.devRef .tc main_arg0) = V (Proc.devRef .tc main_arg0) := (keepR (atQ V) main_arg0 (by decide)).trans (atQ_arg0 V)

theorem atR_arg1 : atR V (Proc.devRef .tc main_arg1) = V (Proc.devRef .tc main_arg1) := (keepR (atQ V) main_arg1 (by decide)).trans (atQ_arg1 V)

theorem atR_arg2 : atR V (Proc.devRef .tc main_arg2) = V (Proc.devRef .tc main_arg2) := (keepR (atQ V) main_arg2 (by decide)).trans (atQ_arg2 V)

theorem atR_arg3 : atR V (Proc.devRef .tc main_arg3) = V (Proc.devRef .tc main_arg3) := (keepR (atQ V) main_arg3 (by decide)).trans (atQ_arg3 V)

theorem atR_arg4 : atR V (Proc.devRef .tc main_arg4) = V (Proc.devRef .tc main_arg4) := (keepR (atQ V) main_arg4 (by decide)).trans (atQ_arg4 V)

theorem atR_arg5 : atR V (Proc.devRef .tc main_arg5) = V (Proc.devRef .tc main_arg5) := (keepR (atQ V) main_arg5 (by decide)).trans (atQ_arg5 V)

theorem atR_arg6 : atR V (Proc.devRef .tc main_arg6) = V (Proc.devRef .tc main_arg6) := (keepR (atQ V) main_arg6 (by decide)).trans (atQ_arg6 V)

theorem atR_arg7 : atR V (Proc.devRef .tc main_arg7) = V (Proc.devRef .tc main_arg7) := (keepR (atQ V) main_arg7 (by decide)).trans (atQ_arg7 V)

theorem atR_v220 : atR V (Proc.devRef .tc main_v220) = Fn.whole (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (afterR_v220 (atQ V)).trans ?_
  rw [atQ_arg7 V, atQ_v172 V, atQ_v204 V, atQ_v38 V, atQ_v6 V]
  rfl

/-- All operations leave what the last stage leaves. -/
theorem after_ops : after ops V = atR V := by
  simp only [ops, part0, part1, part2, part3, part4, after_append, at0, atA, atB, atC, atD, atE, atF, atG, atH, atX, atI, atY, atJ, atK, atL, atM, atN, atO, atP, atQ, atR]

/-- The output. -/
theorem result : after ops V (Proc.devRef .tc main_v220) = Fn.whole (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops]; exact atR_v220 V

theorem kept0 : after ops V (Proc.devRef .tc main_arg0) = V (Proc.devRef .tc main_arg0) := by rw [after_ops]; exact atR_arg0 V

theorem kept1 : after ops V (Proc.devRef .tc main_arg1) = V (Proc.devRef .tc main_arg1) := by rw [after_ops]; exact atR_arg1 V

theorem kept2 : after ops V (Proc.devRef .tc main_arg2) = V (Proc.devRef .tc main_arg2) := by rw [after_ops]; exact atR_arg2 V

theorem kept3 : after ops V (Proc.devRef .tc main_arg3) = V (Proc.devRef .tc main_arg3) := by rw [after_ops]; exact atR_arg3 V

theorem kept4 : after ops V (Proc.devRef .tc main_arg4) = V (Proc.devRef .tc main_arg4) := by rw [after_ops]; exact atR_arg4 V

theorem kept5 : after ops V (Proc.devRef .tc main_arg5) = V (Proc.devRef .tc main_arg5) := by rw [after_ops]; exact atR_arg5 V

theorem kept6 : after ops V (Proc.devRef .tc main_arg6) = V (Proc.devRef .tc main_arg6) := by rw [after_ops]; exact atR_arg6 V

theorem kept7 : after ops V (Proc.devRef .tc main_arg7) = V (Proc.devRef .tc main_arg7) := by rw [after_ops]; exact atR_arg7 V

end Cert.AttnRefIdeal.Line

end
-- ==== Proof.AttnClaim.lean ====
/-
  The attention: its precondition read, and the claims.
-/
module

public import proofs.«01_k».proof.Defs
public import proofs.«01_k».proof.Proof.AttnFinal
public import proofs.«01_k».proof.Proof.AttnRefValue
public import proofs.«01_k».proof.Proof.Gen.Pre_finite_scores
public import proofs.«01_k».proof.Proof.Finite
public import Idealize.ShloMosaic.Lib.Quiescent

@[expose] public section

set_option maxRecDepth 16384

noncomputable section

open Idealize.ShloMosaic Idealize.ShloMosaic.TcCoe Idealize.SL.Sem

namespace Attn

section Run

open Cert.AttnRefIdeal Cert.AttnRefIdeal.Gen

/-- The reference's run: its output and its arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v220) = Fn.whole (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v220).trans (Line.result _), (h c main_arg0).trans (Line.kept0 _), (h c main_arg1).trans (Line.kept1 _),
    (h c main_arg2).trans (Line.kept2 _), (h c main_arg3).trans (Line.kept3 _), (h c main_arg4).trans (Line.kept4 _), (h c main_arg5).trans (Line.kept5 _),
    (h c main_arg6).trans (Line.kept6 _), (h c main_arg7).trans (Line.kept7 _)⟩) (Line.run (F := Ideal) m ρ)

end Run

/-- The reference leaves its arguments and, having no semaphore, every counter at zero. -/
theorem ref_frame : Cert.quiescent_AttnRefIdeal := fun m ρ _ =>
  (θ_run Cert.AttnRefIdeal.defs _ _).mono (fun r h => ⟨fun c => (h c).2, sem_eq_zero_of_no_sems (by decide) r.2⟩) (ref_run m ρ)

section Pre

open Cert.AttnIdeal Cert.AttnIdeal.Array

variable (m : (ℓ : Loc nD τ sig) → Buf (Elt Ideal) ℓ) (h : Cert.Pre_AttnIdeal_finite_scores m) (c : Dev nD)

include h

theorem q_real (r : Fin 16384) (k : Fin 1024) : ∃ v : ℝ, @Eq EReal (Q m c (ix2 r k)) (v : EReal) :=
  Finite.real _ (Finite.of_bit _ (congrFun (h c).1 (ix2 r k)))

theorem kc_real (b : Fin 8) (e : Fin 4) (k : Fin 128) (x : Fin 64) : ∃ v : ℝ, @Eq EReal (KC m c (ix4 b e k x)) (v : EReal) :=
  Finite.real _ (Finite.of_bit _ (congrFun (h c).2.1 (ix4 b e k x)))

theorem ks_real (b : Fin 8) (e : Fin 4) (k : Fin 2048) (x : Fin 64) : ∃ v : ℝ, @Eq EReal (KS m c (ix4 b e k x)) (v : EReal) :=
  Finite.real _ (Finite.of_bit _ (congrFun (h c).2.2.1 (ix4 b e k x)))

theorem kw_real (b : Fin 8) (e : Fin 4) (k : Fin 2048) (x : Fin 64) : ∃ v : ℝ, @Eq EReal (KW m c (ix4 b e k x)) (v : EReal) :=
  Finite.real _ (Finite.of_bit _ (congrFun (h c).2.2.2 (ix4 b e k x)))

end Pre

/-- From equal arguments, queries and keys finite, both programs end with the attention's array. -/
theorem algebraic : Cert.algebraic_AttnIdeal_AttnRefIdeal_pre_finite_scores := by
  pair_intro
  · run_from Cert.AttnIdeal.Value.run_blocks m g
  · run_from ref_run m' g'
    rw [Cert.AttnIdeal.Array.array m c (q_real m hpre c) (kc_real m hpre c)]
    funext i
    idx_vars i
    exact Cert.AttnRefIdeal.Fn.whole_apply _ _ _ _ _ _ _ _ (q_real m hpre c) (kc_real m hpre c) (ks_real m hpre c) (kw_real m hpre c) _ _

/-- The twelve constants of the masks name minus infinity. -/
theorem preserves : Cert.preserves_Attn_AttnIdeal :=
  IdealRules.named_const.statement Cert.AttnIdeal.κ "mask" .f32 0xF149F2CA#32 ⊥ rfl

end Attn

end
-- ==== Proof.FfnBlock.lean ====
/-
  The feed-forward kernel, one grid point at a time: what each of its three cases leaves in the two buffers it carries
  between points (the normalised rows and the running sum) and in its output block, as the kernel's own payloads.
-/
module

public import proofs.«01_k».proof.Proof.Gen.FfnIdeal.Value
public import Idealize.ShloMosaic.Lib.Tactic

@[expose] public section

noncomputable section

open Idealize.ShloMosaic Idealize.ShloMosaic.TcCoe Idealize.SL.Sem

namespace Cert.FfnIdeal.Block

open Cert.FfnIdeal Cert.FfnIdeal.Gen

variable {F : FTy → Type} [FloatOps F]

theorem off0 : (![0, 0] : Fin 2 → Nat) = fun _ => 0 := funext fun a => by fin_cases a <;> rfl

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole)
  (x0 : Vec F S512x2048 .f32) (x1 : Vec F S1x2048 .f32) (x2 : Vec F S2048x512 .bf16) (x3 : Vec F S2048x512 .bf16) (x4 : Vec F S512x2048 .bf16) (xs0 : Vec F S512x2048 .bf16) (xs1 : Vec F S512x2048 .f32)

/-- The first point of a row tile leaves the normalised rows in the first carried buffer. -/
theorem norm_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4
      = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero (S := S512x2048) off0]
  simp only [View.readAt_eq_ld, harg2.read_unread, harg3.read_unread, View.ld_unit_zero (S := S512x2048) off0, View.ld_unit_zero (S := S1x2048) off0]

/-- The first point of a row tile leaves, in the second carried buffer, its own contribution onto zero. -/
theorem sum_A (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4
      = k0_pay3 (k0_pay1 x0 x1) x2 x3 k0_pay2 x4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x2048) off0]
  simp only [View.readCov_unit_zero (S := S512x2048) _ off0, View.readAt_eq_ld, harg2.read_unread, harg3.read_unread, harg4.read_unread, harg5.read_unread, harg6.read_unread, View.ld_unit_zero (S := S512x2048) off0, View.ld_unit_zero (S := S2048x512) off0, View.ld_unit_zero (S := S1x2048) off0]

/-- A middle point adds its contribution to the running sum. -/
theorem sum_B (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 x4 xs0 xs1
      = k0_pay3 xs0 x2 x3 xs1 x4 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S512x2048) off0]
  simp only [View.readAt_eq_ld, harg8.read_unread, harg9.read_unread, harg4.read_unread, harg5.read_unread, harg6.read_unread, View.ld_unit_zero (S := S512x2048) off0, View.ld_unit_zero (S := S2048x512) off0]

/-- The last point of a row tile adds its contribution too. -/
theorem sum_C (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 x4 xs0 xs1
      = k0_pay3 xs0 x2 x3 xs1 x4 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S512x2048) off0]
  simp only [View.readAt_eq_ld, harg8.read_unread, harg9.read_unread, harg4.read_unread, harg5.read_unread, harg6.read_unread, View.ld_unit_zero (S := S512x2048) off0, View.ld_unit_zero (S := S2048x512) off0]

/-- The last point of a row tile leaves, in the output block, the rows plus half of the finished sum. -/
theorem out_C (hc0 : ¬cond0_0 i) (hc1 : cond0_1 i) :
    out0_C_5 c i arg2 harg2 arg3 harg3 arg4 harg4 arg5 harg5 arg6 harg6 arg7 harg7 arg8 harg8 arg9 harg9 hc0 hc1 x0 x1 x2 x3 x4 xs0 xs1
      = k0_pay4 x0 (k0_pay3 xs0 x2 x3 xs1 x4) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S512x2048) off0]
  simp only [View.readCov_unit_zero (S := S512x2048) _ off0, View.readAt_eq_ld, harg2.read_unread, harg8.read_unread, harg9.read_unread, harg4.read_unread, harg5.read_unread, harg6.read_unread, View.ld_unit_zero (S := S512x2048) off0, View.ld_unit_zero (S := S2048x512) off0]

end Cert.FfnIdeal.Block

end
-- ==== Proof.FfnSpec.lean ====
/-
  The feed-forward half-step, element by element over the extended reals: the normalised row, the two projections, the
  gated activation and the projection back.
-/
module

public import Idealize.ShloMosaic.Lib.Pointwise
public import Idealize.ShloMosaic.Lib.Tactic

@[expose] public section

noncomputable section

open Idealize.ShloMosaic
open scoped BigOperators

namespace Ffn

abbrev X : Shape := ⟨2, ![16384, 2048]⟩
abbrev N : Shape := ⟨1, ![2048]⟩
abbrev W : Shape := ⟨2, ![2048, 5632]⟩
abbrev D : Shape := ⟨2, ![5632, 2048]⟩

variable (x : X.Idx → EReal) (nw : N.Idx → EReal) (wg wu : W.Idx → EReal) (wd : D.Idx → EReal)

/-- Entry `k` of row `r`, divided by the row's root mean square and scaled. -/
def normed (r : Fin 16384) (k : Fin 2048) : EReal :=
  x (ix2 r k) * Ideal.rsqrt (Ideal.div (∑ l : Fin 2048, x (ix2 r l) * x (ix2 r l)) (Ideal.ofBits .f32 0x45000000#32) + Ideal.ofBits .f32 0x358637BD#32) * nw (ix1 k)

/-- A projection of the normalised row. -/
def proj (w : W.Idx → EReal) (r : Fin 16384) (p : Fin 5632) : EReal := ∑ k : Fin 2048, normed x nw r k * w (ix2 k p)

/-- The gated activation. -/
def act (r : Fin 16384) (p : Fin 5632) : EReal :=
  proj x nw wg r p * Ideal.div 1 (1 + Ideal.exp (-proj x nw wg r p)) * proj x nw wu r p

/-- The half-step's result. -/
def out (r : Fin 16384) (n : Fin 2048) : EReal :=
  x (ix2 r n) + Ideal.ofBits .f32 0x3F000000#32 * ∑ p : Fin 5632, act x nw wg wu r p * wd (ix2 p n)

end Ffn

end
-- ==== Proof.FfnStep.lean ====
/-
  The feed-forward kernel's payloads read at an index: the normalised rows of a tile, one column tile's contribution to
  the running sum, the final rows.
-/
module

public import proofs.«01_k».proof.Proof.FfnBlock
public import proofs.«01_k».proof.Proof.FfnSpec

@[expose] public section

set_option maxRecDepth 16384

noncomputable section

open Idealize.ShloMosaic Idealize.ShloMosaic.TcCoe
open scoped BigOperators

namespace Cert.FfnIdeal.Step

open Cert.FfnIdeal Cert.FfnIdeal.Gen

theorem norm_apply (x : FVec Ideal S512x2048 .f32) (w : FVec Ideal S1x2048 .f32) (r : Fin 512) (k : Fin 2048) :
    (show EReal from k0_pay1 (F := Ideal) x w (ix2 r k)) = x (ix2 r k) * Ideal.rsqrt (Ideal.div (∑ l : Fin 2048, x (ix2 r l) * x (ix2 r l)) (Ideal.ofBits .f32 0x45000000#32) + Ideal.ofBits .f32 0x358637BD#32) * w (ix2 0 k) := by
  pointwise [k0_pay1]

theorem zero_apply (r : Fin 512) (k : Fin 2048) : k0_pay2 (F := Ideal) (ix2 r k) = 0 := by
  pointwise [k0_pay2]

theorem add_apply (h : FVec Ideal S512x2048 .bf16) (wg wu : FVec Ideal S2048x512 .bf16) (acc : FVec Ideal S512x2048 .f32) (wd : FVec Ideal S512x2048 .bf16) (r : Fin 512) (n : Fin 2048) :
    k0_pay3 h wg wu acc wd (ix2 r n) = acc (ix2 r n) + ∑ p : Fin 512,
      (∑ k : Fin 2048, h (ix2 r k) * wg (ix2 k p)) * Ideal.div 1 (1 + Ideal.exp (-∑ k : Fin 2048, h (ix2 r k) * wg (ix2 k p)))
        * (∑ k : Fin 2048, h (ix2 r k) * wu (ix2 k p)) * wd (ix2 p n) := by
  pointwise [k0_pay3]
  simp only [zero_sub]

theorem last_apply (x acc : FVec Ideal S512x2048 .f32) (r : Fin 512) (n : Fin 2048) :
    k0_pay4 x acc (ix2 r n) = x (ix2 r n) + Ideal.ofBits .f32 0x3F000000#32 * acc (ix2 r n) := by
  pointwise [k0_pay4]

end Cert.FfnIdeal.Step

end
-- ==== Proof.FfnBlocks.lean ====
/-
  The feed-forward kernel's input blocks at a grid point, read off the launch arrays: point `t` works on row tile
  `t / 11` and on column tile `t % 11`.
-/
module

public import proofs.«01_k».proof.Proof.FfnStep
public import Idealize.ShloMosaic.Lib.Pipeline.ValueKit
public import Idealize.ShloMosaic.Lib.Claim

@[expose] public section

set_option maxRecDepth 16384

noncomputable section

open Idealize.ShloMosaic Idealize.ShloMosaic.TcCoe

namespace Cert.FfnIdeal.Blocks

open Cert.FfnIdeal Cert.FfnIdeal.Gen

variable (m : (ℓ : Loc nD τ sig) → Buf (Elt Ideal) ℓ)

theorem index_eq : ∀ t : Fin grid0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, 0] := by
  decide +kernel

abbrev X (c : Dev nD) : FVec Ideal S16384x2048 .f32 := m ((c : Thread nD τ).loc main_arg0)
abbrev NW (c : Dev nD) : FVec Ideal S2048 .f32 := m ((c : Thread nD τ).loc main_arg1)
abbrev WG (c : Dev nD) : FVec Ideal S2048x5632 .f32 := m ((c : Thread nD τ).loc main_arg2)
abbrev WU (c : Dev nD) : FVec Ideal S2048x5632 .f32 := m ((c : Thread nD τ).loc main_arg3)
abbrev WD (c : Dev nD) : FVec Ideal S5632x2048 .f32 := m ((c : Thread nD τ).loc main_arg4)

variable (c : Dev nD) (t : Fin cfg0.N)

theorem pt_lt : t.val < 352 := lt_of_lt_of_eq t.isLt N_0

/-- Row `r` of point `t`'s row tile, in the whole array. -/
def row (r : Fin 512) : Fin 16384 := ⟨512 * (t.val / 11) + r.val, by have := pt_lt t; omega⟩
/-- Column `p` of point `t`'s column tile, in the whole array. -/
def col (p : Fin 512) : Fin 5632 := ⟨512 * (t.val % 11) + p.val, by have := pt_lt t; omega⟩

theorem x_blk (r : Fin 512) (k : Fin 2048) : iblk m c 0 t (ix2 r k) = X m c (ix2 (row t r) k) := by
  have h := index_eq t
  unfold row
  blk_ext [iblk, V_main_arg0, h.1]

theorem nw_blk (k : Fin 2048) : iblk m c 1 t (ix2 0 k) = NW m c (ix1 k) := by
  have h := index_eq t
  blk_ext! [iblk, V, h.2.1]

theorem wg_blk (k : Fin 2048) (p : Fin 512) : iblk m c 2 t (ix2 k p) = WG m c (ix2 k (col t p)) := by
  have h := index_eq t
  unfold col
  blk_ext! [iblk, V, h.2.2.1]

theorem wu_blk (k : Fin 2048) (p : Fin 512) : iblk m c 3 t (ix2 k p) = WU m c (ix2 k (col t p)) := by
  have h := index_eq t
  unfold col
  blk_ext! [iblk, V, h.2.2.2.1]

theorem wd_blk (p : Fin 512) (n : Fin 2048) : iblk m c 4 t (ix2 p n) = WD m c (ix2 (col t p) n) := by
  have h := index_eq t
  unfold col
  blk_ext! [iblk, V, h.2.2.2.2.1]

end Cert.FfnIdeal.Blocks

end
-- ==== Proof.FfnFold.lean ====
/-
  What the feed-forward kernel carries from point to point: the normalised rows of the row tile, and the sum over the
  hidden columns of the column tiles met so far. The output array then holds the half-step's result.
-/
module

public import proofs.«01_k».proof.Proof.FfnBlocks

@[expose] public section

set_option maxRecDepth 16384

noncomputable section

open Idealize.ShloMosaic Idealize.ShloMosaic.TcCoe
open scoped BigOperators

namespace Cert.FfnIdeal.Fold

open Cert.FfnIdeal Cert.FfnIdeal.Gen Cert.FfnIdeal.Blocks Cert.FfnIdeal.Block Cert.FfnIdeal.Step

variable (m : (ℓ : Loc nD τ sig) → Buf (Elt Ideal) ℓ) (c : Dev nD)

/-- The `p`-th hidden column's share of entry `(r, n)`; nothing beyond the last column. -/
def share (r : Fin 16384) (n : Fin 2048) (p : ℕ) : EReal :=
  if h : p < 5632 then Ffn.act (X m c) (NW m c) (WG m c) (WU m c) r ⟨p, h⟩ * WD m c (ix2 ⟨p, h⟩ n) else 0

/-- The normalised rows of a tile. -/
theorem norm_row (t : Fin cfg0.N) (r : Fin 512) (k : Fin 2048) :
    (show EReal from k0_pay1 (F := Ideal) (iblk m c 0 t) (iblk m c 1 t) (ix2 r k)) = Ffn.normed (X m c) (NW m c) (row t r) k := by
  refine (norm_apply _ _ r k).trans ?_
  have h : ∀ l : Fin 2048, (iblk m c 0 t : FVec Ideal S512x2048 .f32) (ix2 r l) = X m c (ix2 (row t r) l) := fun l => x_blk m c t r l
  have h1 : (iblk m c 1 t : FVec Ideal S1x2048 .f32) (ix2 0 k) = NW m c (ix1 k) := nw_blk m c t k
  simp only [h, h1, Ffn.normed]

/-- One column tile's contribution, over carried rows `hs` that are the tile's normalised rows. -/
theorem add_row (t : Fin cfg0.N) (hs : FVec Ideal S512x2048 .bf16) (acc : FVec Ideal S512x2048 .f32)
    (hh : ∀ r k, hs (ix2 r k) = Ffn.normed (X m c) (NW m c) (row t r) k) (r : Fin 512) (n : Fin 2048) :
    k0_pay3 (F := Ideal) hs (iblk m c 2 t) (iblk m c 3 t) acc (iblk m c 4 t) (ix2 r n)
      = acc (ix2 r n) + ∑ p ∈ Finset.range 512, share m c (row t r) n (512 * (t.val % 11) + p) := by
  refine (add_apply _ _ _ _ _ r n).trans ?_
  have h2 : ∀ k p, (iblk m c 2 t : FVec Ideal S2048x512 .bf16) (ix2 k p) = WG m c (ix2 k (col t p)) := fun k p => wg_blk m c t k p
  have h3 : ∀ k p, (iblk m c 3 t : FVec Ideal S2048x512 .bf16) (ix2 k p) = WU m c (ix2 k (col t p)) := fun k p => wu_blk m c t k p
  have h4 : ∀ p, (iblk m c 4 t : FVec Ideal S512x2048 .bf16) (ix2 p n) = WD m c (ix2 (col t p) n) := fun p => wd_blk m c t p n
  simp only [h2, h3, h4, hh]
  rw [Finset.sum_range (fun p => share m c (row t r) n (512 * (t.val % 11) + p))]
  congr 1
  refine Finset.sum_congr rfl fun p _ => ?_
  have hp : 512 * (t.val % 11) + p.val < 5632 := by omega
  unfold share
  rw [dif_pos hp]
  rfl

/-- What the two carried buffers hold after point `n`. -/
theorem carried : ∀ (n : ℕ) (h : n < cfg0.N),
    (∀ (r : Fin 512) (k : Fin 2048), (show EReal from (outsAt0 m c n h).2.1 (ix2 r k)) = Ffn.normed (X m c) (NW m c) (row ⟨n, h⟩ r) k)
    ∧ ∀ (r : Fin 512) (k : Fin 2048), (show EReal from (outsAt0 m c n h).2.2 (ix2 r k))
      = ∑ p ∈ Finset.range (512 * (n % 11 + 1)), share m c (row ⟨n, h⟩ r) k p := by
  intro n
  induction n with
  | zero =>
    intro h
    rw [outsAt0_A m c ⟨0, h⟩ rfl (by dsimp only; omega)]
    dsimp only
    rw [norm_A, sum_A]
    refine ⟨fun r k => norm_row m c ⟨0, h⟩ r k, fun r k => ?_⟩
    refine (add_row m c ⟨0, h⟩ _ _ (fun r k => norm_row m c ⟨0, h⟩ r k) r k).trans ?_
    rw [Step.zero_apply, zero_add]
    simp
  | succ n ih =>
    intro h
    have hN : n + 1 < 352 := lt_of_lt_of_eq h N_0
    by_cases h0 : (n + 1) % 11 = 0
    · rw [outsAt0_A m c ⟨n + 1, h⟩ h0 (by dsimp only; omega)]
      dsimp only
      rw [norm_A, sum_A]
      refine ⟨fun r k => norm_row m c ⟨n + 1, h⟩ r k, fun r k => ?_⟩
      refine (add_row m c ⟨n + 1, h⟩ _ _ (fun r k => norm_row m c ⟨n + 1, h⟩ r k) r k).trans ?_
      rw [Step.zero_apply, zero_add]
      simp [h0]
    · obtain ⟨i1, i2⟩ := ih (Nat.lt_of_succ_lt h)
      have hrow : ∀ r, row ⟨n, Nat.lt_of_succ_lt h⟩ r = row ⟨n + 1, h⟩ r := fun r => by
        unfold row; apply Fin.ext; dsimp only; omega
      have hs : ∀ r k, (outsAt0 m c n (Nat.lt_of_succ_lt h)).2.1 (ix2 r k) = Ffn.normed (X m c) (NW m c) (row ⟨n + 1, h⟩ r) k :=
        fun r k => (i1 r k).trans (by rw [hrow])
      have ht : ∀ r k, k0_pay3 (F := Ideal) (outsAt0 m c n (Nat.lt_of_succ_lt h)).2.1 (iblk m c 2 ⟨n + 1, h⟩) (iblk m c 3 ⟨n + 1, h⟩)
          (outsAt0 m c n (Nat.lt_of_succ_lt h)).2.2 (iblk m c 4 ⟨n + 1, h⟩) (ix2 r k)
          = ∑ p ∈ Finset.range (512 * ((n + 1) % 11 + 1)), share m c (row ⟨n + 1, h⟩ r) k p := fun r k => by
        refine (add_row m c ⟨n + 1, h⟩ _ _ hs r k).trans ?_
        rw [show (outsAt0 m c n (Nat.lt_of_succ_lt h)).2.2 (ix2 r k) = _ from i2 r k, hrow]
        have e : n % 11 + 1 = (n + 1) % 11 := by omega
        dsimp only
        rw [e, Nat.mul_succ, Finset.sum_range_add]
      by_cases h1 : (n + 1) % 11 = 10
      · rw [outsAt0_C m c ⟨n + 1, h⟩ h0 h1]
        dsimp only
        refine ⟨hs, ?_⟩
        rw [sum_C]
        exact ht
      · rw [outsAt0_B m c ⟨n + 1, h⟩ h0 h1]
        dsimp only
        refine ⟨hs, ?_⟩
        rw [sum_B]
        exact ht

/-- What the output block holds after the last point of a row tile. -/
theorem out_row (t : Fin cfg0.N) (ht : t.val % 11 = 10) (r : Fin 512) (n : Fin 2048) :
    (show EReal from (outsAt0 m c t.val t.isLt).1 (ix2 r n)) = Ffn.out (X m c) (NW m c) (WG m c) (WU m c) (WD m c) (row t r) n := by
  have hc := (carried m c t.val t.isLt).2 r n
  rw [outsAt0_C m c t (by omega) ht] at hc ⊢
  dsimp only at hc ⊢
  rw [sum_C] at hc
  rw [out_C]
  refine (last_apply _ _ r n).trans ?_
  rw [show k0_pay3 (F := Ideal) _ _ _ _ _ (ix2 r n) = _ from hc, show (iblk m c 0 t : FVec Ideal S512x2048 .f32) (ix2 r n) = _ from x_blk m c t r n]
  unfold Ffn.out
  congr 2
  rw [ht, Finset.sum_range]
  refine Finset.sum_congr rfl fun p _ => ?_
  unfold share
  rw [dif_pos p.isLt]

/-- The output array after the run. -/
theorem array : (dats m 0 c).arrAt 5 cfg0.N
    = fun i : S16384x2048.Idx => Ffn.out (X m c) (NW m c) (WG m c) (WU m c) (WD m c) (i 0) (i 1) := by
  refine (dats m 0 c).arrAt_eq_of_covers 5 _ (by decide +kernel) fun t hf y => ?_
  have ht : t.val % 11 = 10 := (flush0_5 t).mp hf
  have hi := (index_eq t).2.2.2.2.2
  blk_simp
  rw [after0_5]
  idx_vars y
  refine (out_row m c t ht _ _).trans ?_
  congr 1
  · apply Fin.ext; blk_simp [hi, row]; dsimp only; omega
  · apply Fin.ext; blk_simp [hi]

end Cert.FfnIdeal.Fold

end
-- ==== Proof.FfnRead.lean ====
/-
  What the feed-forward reference computes, read at an index.
-/
module

public import proofs.«01_k».proof.Proof.Gen.FfnRefIdeal.Run
public import proofs.«01_k».proof.Proof.FfnSpec

@[expose] public section

set_option maxRecDepth 16384

noncomputable section

open Idealize.ShloMosaic Idealize.ShloMosaic.TcCoe

namespace Cert.FfnRefIdeal.Read

open Cert.FfnRefIdeal Cert.FfnRefIdeal.Gen

/-- The reference's composed term. -/
def term (x : FVec Ideal S16384x2048 .f32) (nw : FVec Ideal S2048 .f32) (wg wu : FVec Ideal S2048x5632 .f32) (wd : FVec Ideal S5632x2048 .f32) :
    FVec Ideal S16384x2048 .f32 :=
  addf x (mulf (broadcastInDim S16384x2048 ![] bcast_S_S16384x2048 (constant S_ .f32 0x3F000000#32)) (Host.dotGeneral dot_S16384x5632_S5632x2048_S16384x2048_1_0_0_1_n_n none (mulf (mulf (Host.dotGeneral dot_S16384x2048_S2048x5632_S16384x5632_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 nw))) wg) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (Host.dotGeneral dot_S16384x2048_S2048x5632_S16384x5632_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 nw))) wg)))))) (Host.dotGeneral dot_S16384x2048_S2048x5632_S16384x5632_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 nw))) wu)) wd))

/-- The reference's term is the half-step's result at every index. -/
theorem term_apply (x : FVec Ideal S16384x2048 .f32) (nw : FVec Ideal S2048 .f32) (wg wu : FVec Ideal S2048x5632 .f32) (wd : FVec Ideal S5632x2048 .f32)
    (r : Fin 16384) (n : Fin 2048) : term x nw wg wu wd (ix2 r n) = Ffn.out x nw wg wu wd r n := by
  pointwise [term, Ffn.out, Ffn.act, Ffn.proj, Ffn.normed]

end Cert.FfnRefIdeal.Read

end
-- ==== Proof.FfnClaim.lean ====
/-
  The feed-forward half-step: the kernel's result and the reference's are one array.
-/
module

public import proofs.«01_k».proof.Defs
public import proofs.«01_k».proof.Proof.FfnFold
public import proofs.«01_k».proof.Proof.FfnRead
public import Idealize.ShloMosaic.Lib.Quiescent

@[expose] public section

set_option maxRecDepth 16384

noncomputable section

open Idealize.ShloMosaic Idealize.ShloMosaic.TcCoe Idealize.SL.Sem

namespace Ffn

/-- The reference leaves its arguments and, having no semaphore, every counter at zero. -/
theorem ref_frame : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- From equal arguments both programs end with the half-step's array. -/
theorem algebraic : Cert.algebraic_FfnIdeal_FfnRefIdeal := by
  pair_intro
  · run_from Cert.FfnIdeal.Value.run_blocks m g
  · run_from Cert.FfnRefIdeal.Value.run m' g'
    rw [Cert.FfnIdeal.Fold.array m c]
    funext i
    idx_vars i
    exact Cert.FfnRefIdeal.Read.term_apply _ _ _ _ _ _ _

end Ffn

end
-- ==== Proof.ProjSpec.lean ====
/-
  The input projection, element by element: a normalised row against one column of weights, the columns of the combined
  weight matrix between `lo` and `lo + n` followed by zero columns.
-/
module

public import proofs.«01_k».proof.Proof.FfnSpec

@[expose] public section

noncomputable section

open Idealize.ShloMosaic
open scoped BigOperators

namespace Proj

abbrev W : Shape := ⟨2, ![2048, 10064]⟩

/-- Column `p` of the part of the weights that starts at column `lo` and has `n` columns; zero from there on. -/
def col (w : W.Idx → EReal) (lo n p : Nat) (h : lo + n ≤ 10064) (k : Fin 2048) : EReal :=
  if hp : p < n then w (ix2 k ⟨lo + p, by omega⟩) else 0

/-- A normalised row against a column. -/
def out (x : Ffn.X.Idx → EReal) (nw : Ffn.N.Idx → EReal) (w : W.Idx → EReal) (lo n p : Nat) (h : lo + n ≤ 10064) (r : Fin 16384) : EReal :=
  ∑ k : Fin 2048, Ffn.normed x nw r k * col w lo n p h k

/-- Against a zero column. -/
theorem out_pad (x : Ffn.X.Idx → EReal) (nw : Ffn.N.Idx → EReal) (w : W.Idx → EReal) (lo n p : Nat) (h : lo + n ≤ 10064) (r : Fin 16384) (hp : ¬p < n) :
    out x nw w lo n p h r = 0 :=
  Finset.sum_eq_zero fun k _ => by rw [col, dif_neg hp, mul_zero]

end Proj

end
-- ==== Proof.ProjRwkvArray.lean ====
/-
  The kernel that projects the normalised rows onto the RWKV columns, widened by zero columns to 3456: its payload at an index, its blocks, and the
  array it leaves.
-/
module

public import proofs.«01_k».proof.Proof.Gen.ProjRwkvIdeal.Value
public import proofs.«01_k».proof.Proof.ProjSpec
public import Idealize.ShloMosaic.Lib.Pipeline.ValueKit
public import Idealize.ShloMosaic.Lib.Claim

@[expose] public section

set_option maxRecDepth 16384

noncomputable section

open Idealize.ShloMosaic Idealize.ShloMosaic.TcCoe
open scoped BigOperators

namespace Cert.ProjRwkvIdeal.Array

open Cert.ProjRwkvIdeal Cert.ProjRwkvIdeal.Gen

theorem pay_apply (x : FVec Ideal S256x2048 .f32) (g : FVec Ideal S1x2048 .f32) (w : FVec Ideal S2048x3456 .bf16) (r : Fin 256) (n : Fin 3456) :
    k0_pay1 x g w (ix2 r n) = ∑ k : Fin 2048, x (ix2 r k) * Ideal.rsqrt (Ideal.div (∑ l : Fin 2048, x (ix2 r l) * x (ix2 r l)) (Ideal.ofBits .f32 0x45000000#32) + Ideal.ofBits .f32 0x358637BD#32) * g (ix2 0 k) * w (ix2 k n) := by
  pointwise [k0_pay1]

variable (m : (ℓ : Loc nD τ sig) → Buf (Elt Ideal) ℓ)

theorem index_eq : ∀ t : Fin grid0.N, win0_0.index t = ![t.val, 0] ∧ win0_1.index t = ![0, 0] ∧ win0_2.index t = ![0, 0] ∧ win0_3.index t = ![t.val, 0] := by
  decide +kernel

abbrev X (c : Dev nD) : FVec Ideal S16384x2048 .f32 := m ((c : Thread nD τ).loc main_arg0)
abbrev NW (c : Dev nD) : FVec Ideal S2048 .f32 := m ((c : Thread nD τ).loc main_arg1)
abbrev WI (c : Dev nD) : FVec Ideal S2048x10064 .f32 := m ((c : Thread nD τ).loc main_arg2)

variable (c : Dev nD) (t : Fin cfg0.N)

theorem pt_lt : t.val < 64 := lt_of_lt_of_eq t.isLt N_0

/-- Row `r` of point `t`'s row tile, in the whole array. -/
def row (r : Fin 256) : Fin 16384 := ⟨256 * t.val + r.val, by have := pt_lt t; omega⟩

theorem x_blk (r : Fin 256) (k : Fin 2048) : iblk m c 0 t (ix2 r k) = X m c (ix2 (row t r) k) := by
  have h := index_eq t
  unfold row
  blk_ext [iblk, V_main_arg0, h.1]

theorem nw_blk (k : Fin 2048) : iblk m c 1 t (ix2 0 k) = NW m c (ix1 k) := by
  have h := index_eq t
  refine (show iblk m c 1 t (ix2 0 k) = (shapeCast S1x2048 (NW m c) shapeCasts_S2048_S1x2048 : FVec Ideal S1x2048 .f32) (ix2 0 k) from by blk_ext! [iblk, V, h.2.1]).trans ?_
  pointwise []

/-- The weight block is the whole widened weight array. -/
theorem w_blk (k : Fin 2048) (n : Fin 3456) : @Eq EReal (iblk m c 2 t (ix2 k n)) (Proj.col (WI m c) 0 3360 n.val (by decide) k) := by
  have h := index_eq t
  have e : (iblk m c 2 t : FVec Ideal S2048x3456 .bf16) (ix2 k n)
      = (truncf .bf16 (pad S2048x3456 ![0, 0] ![0, 96] ![0, 0] (extractStridedSlice S2048x3360 ![0, 0] (WI m c) slices_S2048x10064_S2048x3360_0_0) (sitofp .f32 (constantI S_ 32 0#32)) pads_S2048x3360_S2048x3456_000_0960 h_S_) bitsLt_bf16_f32 : FVec Ideal S2048x3456 .bf16) (ix2 k n) := by
    blk_ext! [iblk, V, h.2.2.1]
  refine e.trans ?_
  unfold Proj.col
  have z : (FloatOps.sitofp .f32 0#32 : Ideal .f32) = (0 : EReal) := by simp [FloatOps.sitofp]
  pointwise [z]

/-- What a point leaves in its output block. -/
theorem out_row (r : Fin 256) (n : Fin 3456) :
    out0_3 (iblk m c 0 t) (iblk m c 1 t) (iblk m c 2 t) (ix2 r n) = Proj.out (X m c) (NW m c) (WI m c) 0 3360 n.val (by decide) (row t r) := by
  refine (show out0_3 (iblk m c 0 t) (iblk m c 1 t) (iblk m c 2 t) (ix2 r n) = k0_pay1 (iblk m c 0 t) (iblk m c 1 t) (iblk m c 2 t) (ix2 r n) from ?_).trans ?_
  · frame_out
  refine (pay_apply _ _ _ r n).trans ?_
  unfold Proj.out Ffn.normed
  refine Finset.sum_congr rfl fun k _ => ?_
  rw [w_blk m c t k n, nw_blk m c t k]
  simp only [x_blk m c t r]

/-- The output array after the run. -/
theorem array : (dats m 0 c).arrAt 3 cfg0.N
    = fun i : S16384x3456.Idx => Proj.out (X m c) (NW m c) (WI m c) 0 3360 (i 1).val (by decide) (i 0) := by
  refine (dats m 0 c).arrAt_eq_of_covers 3 _ (by decide +kernel) fun t hf y => ?_
  have hi := (index_eq t).2.2.2
  blk_simp
  rw [after0_3]
  idx_vars y
  refine (out_row m c t _ _).trans ?_
  congr 1
  · blk_simp [hi]
  · apply Fin.ext; blk_simp [hi, row]; dsimp only; omega

end Cert.ProjRwkvIdeal.Array

end
-- ==== Proof.ProjRwkvClaim.lean ====
/-
  The projection onto the RWKV columns, widened by zero columns to 3456: the reference read at an index, and the claims.
-/
module

public import proofs.«01_k».proof.Defs
public import proofs.«01_k».proof.Proof.ProjRwkvArray
public import proofs.«01_k».proof.Proof.Gen.ProjRwkvRefIdeal.Run
public import Idealize.ShloMosaic.Lib.Quiescent

@[expose] public section

set_option maxRecDepth 16384

noncomputable section

open Idealize.ShloMosaic Idealize.ShloMosaic.TcCoe Idealize.SL.Sem

namespace ProjRwkv

section Read

open Cert.ProjRwkvRefIdeal Cert.ProjRwkvRefIdeal.Gen

/-- The reference's composed term. -/
def term (x : FVec Ideal S16384x2048 .f32) (nw : FVec Ideal S2048 .f32) (w : FVec Ideal S2048x10064 .f32) : FVec Ideal S16384x3456 .f32 :=
  pad S16384x3456 ![0, 0] ![0, 96] ![0, 0] (Host.dotGeneral dot_S16384x2048_S2048x3360_S16384x3360_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 nw))) (extractStridedSlice S2048x3360 ![0, 0] w slices_S2048x10064_S2048x3360_0_0)) (sitofp .f32 (constantI S_ 32 0#32)) pads_S16384x3360_S16384x3456_000_0960 h_S_

/-- The reference's term is the projection at every index. -/
theorem term_apply (x : FVec Ideal S16384x2048 .f32) (nw : FVec Ideal S2048 .f32) (w : FVec Ideal S2048x10064 .f32) (r : Fin 16384) (n : Fin 3456) :
    term x nw w (ix2 r n) = Proj.out x nw w 0 3360 n.val (by decide) r := by
  by_cases hn : n.val < 3360
  · unfold Proj.out Proj.col Ffn.normed
    simp only [dif_pos hn]
    pointwise [term, hn]
  · rw [Proj.out_pad _ _ _ _ _ _ _ _ hn]
    pointwise [term, hn]
    simp [FloatOps.sitofp]

end Read

/-- The reference leaves its arguments and, having no semaphore, every counter at zero. -/
theorem ref_frame : Cert.quiescent_ProjRwkvRefIdeal := fun m ρ _ =>
  (θ_run Cert.ProjRwkvRefIdeal.defs _ _).mono (fun r h => ⟨fun c => (h c).2, sem_eq_zero_of_no_sems (by decide) r.2⟩)
    (Cert.ProjRwkvRefIdeal.Value.run (F := Ideal) m ρ)

/-- From equal arguments both programs end with the projection's array. -/
theorem algebraic : Cert.algebraic_ProjRwkvIdeal_ProjRwkvRefIdeal := by
  pair_intro
  · run_from Cert.ProjRwkvIdeal.Value.run_blocks m g
  · run_from Cert.ProjRwkvRefIdeal.Value.run m' g'
    rw [Cert.ProjRwkvIdeal.Array.array m c]
    funext i
    idx_vars i
    exact term_apply _ _ _ _ _

end ProjRwkv

end
-- ==== Proof.ProjNsaArray.lean ====
/-
  The kernel that projects the normalised rows onto the attention columns, widened by zero columns to 2688: its payload at an index, its blocks, and the
  array it leaves.
-/
module

public import proofs.«01_k».proof.Proof.Gen.ProjNsaIdeal.Value
public import proofs.«01_k».proof.Proof.ProjSpec
public import Idealize.ShloMosaic.Lib.Pipeline.ValueKit
public import Idealize.ShloMosaic.Lib.Claim

@[expose] public section

set_option maxRecDepth 16384

noncomputable section

open Idealize.ShloMosaic Idealize.ShloMosaic.TcCoe
open scoped BigOperators

namespace Cert.ProjNsaIdeal.Array

open Cert.ProjNsaIdeal Cert.ProjNsaIdeal.Gen

theorem pay_apply (x : FVec Ideal S256x2048 .f32) (g : FVec Ideal S1x2048 .f32) (w : FVec Ideal S2048x2688 .bf16) (r : Fin 256) (n : Fin 2688) :
    k0_pay1 x g w (ix2 r n) = ∑ k : Fin 2048, x (ix2 r k) * Ideal.rsqrt (Ideal.div (∑ l : Fin 2048, x (ix2 r l) * x (ix2 r l)) (Ideal.ofBits .f32 0x45000000#32) + Ideal.ofBits .f32 0x358637BD#32) * g (ix2 0 k) * w (ix2 k n) := by
  pointwise [k0_pay1]

variable (m : (ℓ : Loc nD τ sig) → Buf (Elt Ideal) ℓ)

theorem index_eq : ∀ t : Fin grid0.N, win0_0.index t = ![t.val, 0] ∧ win0_1.index t = ![0, 0] ∧ win0_2.index t = ![0, 0] ∧ win0_3.index t = ![t.val, 0] := by
  decide +kernel

abbrev X (c : Dev nD) : FVec Ideal S16384x2048 .f32 := m ((c : Thread nD τ).loc main_arg0)
abbrev NW (c : Dev nD) : FVec Ideal S2048 .f32 := m ((c : Thread nD τ).loc main_arg1)
abbrev WI (c : Dev nD) : FVec Ideal S2048x10064 .f32 := m ((c : Thread nD τ).loc main_arg2)

variable (c : Dev nD) (t : Fin cfg0.N)

theorem pt_lt : t.val < 64 := lt_of_lt_of_eq t.isLt N_0

/-- Row `r` of point `t`'s row tile, in the whole array. -/
def row (r : Fin 256) : Fin 16384 := ⟨256 * t.val + r.val, by have := pt_lt t; omega⟩

theorem x_blk (r : Fin 256) (k : Fin 2048) : iblk m c 0 t (ix2 r k) = X m c (ix2 (row t r) k) := by
  have h := index_eq t
  unfold row
  blk_ext [iblk, V_main_arg0, h.1]

theorem nw_blk (k : Fin 2048) : iblk m c 1 t (ix2 0 k) = NW m c (ix1 k) := by
  have h := index_eq t
  refine (show iblk m c 1 t (ix2 0 k) = (shapeCast S1x2048 (NW m c) shapeCasts_S2048_S1x2048 : FVec Ideal S1x2048 .f32) (ix2 0 k) from by blk_ext! [iblk, V, h.2.1]).trans ?_
  pointwise []

/-- The weight block is the whole widened weight array. -/
theorem w_blk (k : Fin 2048) (n : Fin 2688) : @Eq EReal (iblk m c 2 t (ix2 k n)) (Proj.col (WI m c) 3360 2608 n.val (by decide) k) := by
  have h := index_eq t
  have e : (iblk m c 2 t : FVec Ideal S2048x2688 .bf16) (ix2 k n)
      = (truncf .bf16 (pad S2048x2688 ![0, 0] ![0, 80] ![0, 0] (extractStridedSlice S2048x2608 ![0, 3360] (WI m c) slices_S2048x10064_S2048x2608_0_3360) (sitofp .f32 (constantI S_ 32 0#32)) pads_S2048x2608_S2048x2688_000_0800 h_S_) bitsLt_bf16_f32 : FVec Ideal S2048x2688 .bf16) (ix2 k n) := by
    blk_ext! [iblk, V, h.2.2.1]
  refine e.trans ?_
  unfold Proj.col
  have z : (FloatOps.sitofp .f32 0#32 : Ideal .f32) = (0 : EReal) := by simp [FloatOps.sitofp]
  pointwise [z]

/-- What a point leaves in its output block. -/
theorem out_row (r : Fin 256) (n : Fin 2688) :
    out0_3 (iblk m c 0 t) (iblk m c 1 t) (iblk m c 2 t) (ix2 r n) = Proj.out (X m c) (NW m c) (WI m c) 3360 2608 n.val (by decide) (row t r) := by
  refine (show out0_3 (iblk m c 0 t) (iblk m c 1 t) (iblk m c 2 t) (ix2 r n) = k0_pay1 (iblk m c 0 t) (iblk m c 1 t) (iblk m c 2 t) (ix2 r n) from ?_).trans ?_
  · frame_out
  refine (pay_apply _ _ _ r n).trans ?_
  unfold Proj.out Ffn.normed
  refine Finset.sum_congr rfl fun k _ => ?_
  rw [w_blk m c t k n, nw_blk m c t k]
  simp only [x_blk m c t r]

/-- The output array after the run. -/
theorem array : (dats m 0 c).arrAt 3 cfg0.N
    = fun i : S16384x2688.Idx => Proj.out (X m c) (NW m c) (WI m c) 3360 2608 (i 1).val (by decide) (i 0) := by
  refine (dats m 0 c).arrAt_eq_of_covers 3 _ (by decide +kernel) fun t hf y => ?_
  have hi := (index_eq t).2.2.2
  blk_simp
  rw [after0_3]
  idx_vars y
  refine (out_row m c t _ _).trans ?_
  congr 1
  · blk_simp [hi]
  · apply Fin.ext; blk_simp [hi, row]; dsimp only; omega

end Cert.ProjNsaIdeal.Array

end
-- ==== Proof.ProjNsaClaim.lean ====
/-
  The projection onto the attention columns, widened by zero columns to 2688: the reference read at an index, and the claims.
-/
module

public import proofs.«01_k».proof.Defs
public import proofs.«01_k».proof.Proof.ProjNsaArray
public import proofs.«01_k».proof.Proof.Gen.ProjNsaRefIdeal.Run
public import Idealize.ShloMosaic.Lib.Quiescent

@[expose] public section

set_option maxRecDepth 16384

noncomputable section

open Idealize.ShloMosaic Idealize.ShloMosaic.TcCoe Idealize.SL.Sem

namespace ProjNsa

section Read

open Cert.ProjNsaRefIdeal Cert.ProjNsaRefIdeal.Gen

/-- The reference's composed term. -/
def term (x : FVec Ideal S16384x2048 .f32) (nw : FVec Ideal S2048 .f32) (w : FVec Ideal S2048x10064 .f32) : FVec Ideal S16384x2688 .f32 :=
  pad S16384x2688 ![0, 0] ![0, 80] ![0, 0] (Host.dotGeneral dot_S16384x2048_S2048x2608_S16384x2608_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 nw))) (extractStridedSlice S2048x2608 ![0, 3360] w slices_S2048x10064_S2048x2608_0_3360)) (sitofp .f32 (constantI S_ 32 0#32)) pads_S16384x2608_S16384x2688_000_0800 h_S_

/-- The reference's term is the projection at every index. -/
theorem term_apply (x : FVec Ideal S16384x2048 .f32) (nw : FVec Ideal S2048 .f32) (w : FVec Ideal S2048x10064 .f32) (r : Fin 16384) (n : Fin 2688) :
    term x nw w (ix2 r n) = Proj.out x nw w 3360 2608 n.val (by decide) r := by
  by_cases hn : n.val < 2608
  · unfold Proj.out Proj.col Ffn.normed
    simp only [dif_pos hn]
    pointwise [term, hn]
  · rw [Proj.out_pad _ _ _ _ _ _ _ _ hn]
    pointwise [term, hn]
    simp [FloatOps.sitofp]

end Read

/-- The reference leaves its arguments and, having no semaphore, every counter at zero. -/
theorem ref_frame : Cert.quiescent_ProjNsaRefIdeal := fun m ρ _ =>
  (θ_run Cert.ProjNsaRefIdeal.defs _ _).mono (fun r h => ⟨fun c => (h c).2, sem_eq_zero_of_no_sems (by decide) r.2⟩)
    (Cert.ProjNsaRefIdeal.Value.run (F := Ideal) m ρ)

/-- From equal arguments both programs end with the projection's array. -/
theorem algebraic : Cert.algebraic_ProjNsaIdeal_ProjNsaRefIdeal := by
  pair_intro
  · run_from Cert.ProjNsaIdeal.Value.run_blocks m g
  · run_from Cert.ProjNsaRefIdeal.Value.run m' g'
    rw [Cert.ProjNsaIdeal.Array.array m c]
    funext i
    idx_vars i
    exact term_apply _ _ _ _ _

end ProjNsa

end
-- ==== Proof.ProjGateArray.lean ====
/-
  The kernel that projects the normalised rows onto the merge gate columns: its payload at an index, its blocks, and the
  array it leaves.
-/
module

public import proofs.«01_k».proof.Proof.Gen.ProjGateIdeal.Value
public import proofs.«01_k».proof.Proof.ProjSpec
public import Idealize.ShloMosaic.Lib.Pipeline.ValueKit
public import Idealize.ShloMosaic.Lib.Claim

@[expose] public section

set_option maxRecDepth 16384

noncomputable section

open Idealize.ShloMosaic Idealize.ShloMosaic.TcCoe
open scoped BigOperators

namespace Cert.ProjGateIdeal.Array

open Cert.ProjGateIdeal Cert.ProjGateIdeal.Gen

theorem pay_apply (x : FVec Ideal S256x2048 .f32) (g : FVec Ideal S1x2048 .f32) (w : FVec Ideal S2048x4096 .bf16) (r : Fin 256) (n : Fin 4096) :
    k0_pay1 x g w (ix2 r n) = ∑ k : Fin 2048, x (ix2 r k) * Ideal.rsqrt (Ideal.div (∑ l : Fin 2048, x (ix2 r l) * x (ix2 r l)) (Ideal.ofBits .f32 0x45000000#32) + Ideal.ofBits .f32 0x358637BD#32) * g (ix2 0 k) * w (ix2 k n) := by
  pointwise [k0_pay1]

variable (m : (ℓ : Loc nD τ sig) → Buf (Elt Ideal) ℓ)

theorem index_eq : ∀ t : Fin grid0.N, win0_0.index t = ![t.val, 0] ∧ win0_1.index t = ![0, 0] ∧ win0_2.index t = ![0, 0] ∧ win0_3.index t = ![t.val, 0] := by
  decide +kernel

abbrev X (c : Dev nD) : FVec Ideal S16384x2048 .f32 := m ((c : Thread nD τ).loc main_arg0)
abbrev NW (c : Dev nD) : FVec Ideal S2048 .f32 := m ((c : Thread nD τ).loc main_arg1)
abbrev WI (c : Dev nD) : FVec Ideal S2048x10064 .f32 := m ((c : Thread nD τ).loc main_arg2)

variable (c : Dev nD) (t : Fin cfg0.N)

theorem pt_lt : t.val < 64 := lt_of_lt_of_eq t.isLt N_0

/-- Row `r` of point `t`'s row tile, in the whole array. -/
def row (r : Fin 256) : Fin 16384 := ⟨256 * t.val + r.val, by have := pt_lt t; omega⟩

theorem x_blk (r : Fin 256) (k : Fin 2048) : iblk m c 0 t (ix2 r k) = X m c (ix2 (row t r) k) := by
  have h := index_eq t
  unfold row
  blk_ext [iblk, V_main_arg0, h.1]

theorem nw_blk (k : Fin 2048) : iblk m c 1 t (ix2 0 k) = NW m c (ix1 k) := by
  have h := index_eq t
  refine (show iblk m c 1 t (ix2 0 k) = (shapeCast S1x2048 (NW m c) shapeCasts_S2048_S1x2048 : FVec Ideal S1x2048 .f32) (ix2 0 k) from by blk_ext! [iblk, V, h.2.1]).trans ?_
  pointwise []

/-- The weight block is the whole weight array. -/
theorem w_blk (k : Fin 2048) (n : Fin 4096) : @Eq EReal (iblk m c 2 t (ix2 k n)) (Proj.col (WI m c) 5968 4096 n.val (by decide) k) := by
  have h := index_eq t
  unfold Proj.col
  rw [dif_pos n.isLt]
  blk_ext! [iblk, V, h.2.2.1]

/-- What a point leaves in its output block. -/
theorem out_row (r : Fin 256) (n : Fin 4096) :
    out0_3 (iblk m c 0 t) (iblk m c 1 t) (iblk m c 2 t) (ix2 r n) = Proj.out (X m c) (NW m c) (WI m c) 5968 4096 n.val (by decide) (row t r) := by
  refine (show out0_3 (iblk m c 0 t) (iblk m c 1 t) (iblk m c 2 t) (ix2 r n) = k0_pay1 (iblk m c 0 t) (iblk m c 1 t) (iblk m c 2 t) (ix2 r n) from ?_).trans ?_
  · frame_out
  refine (pay_apply _ _ _ r n).trans ?_
  unfold Proj.out Ffn.normed
  refine Finset.sum_congr rfl fun k _ => ?_
  rw [w_blk m c t k n, nw_blk m c t k]
  simp only [x_blk m c t r]

/-- The output array after the run. -/
theorem array : (dats m 0 c).arrAt 3 cfg0.N
    = fun i : S16384x4096.Idx => Proj.out (X m c) (NW m c) (WI m c) 5968 4096 (i 1).val (by decide) (i 0) := by
  refine (dats m 0 c).arrAt_eq_of_covers 3 _ (by decide +kernel) fun t hf y => ?_
  have hi := (index_eq t).2.2.2
  blk_simp
  rw [after0_3]
  idx_vars y
  refine (out_row m c t _ _).trans ?_
  congr 1
  · blk_simp [hi]
  · apply Fin.ext; blk_simp [hi, row]; dsimp only; omega

end Cert.ProjGateIdeal.Array

end
-- ==== Proof.ProjGateClaim.lean ====
/-
  The projection onto the merge gate columns: the reference read at an index, and the claims.
-/
module

public import proofs.«01_k».proof.Defs
public import proofs.«01_k».proof.Proof.ProjGateArray
public import proofs.«01_k».proof.Proof.Gen.ProjGateRefIdeal.Run
public import Idealize.ShloMosaic.Lib.Quiescent

@[expose] public section

set_option maxRecDepth 16384

noncomputable section

open Idealize.ShloMosaic Idealize.ShloMosaic.TcCoe Idealize.SL.Sem

namespace ProjGate

section Read

open Cert.ProjGateRefIdeal Cert.ProjGateRefIdeal.Gen

/-- The reference's composed term. -/
def term (x : FVec Ideal S16384x2048 .f32) (nw : FVec Ideal S2048 .f32) (w : FVec Ideal S2048x10064 .f32) : FVec Ideal S16384x4096 .f32 :=
  Host.dotGeneral dot_S16384x2048_S2048x4096_S16384x4096_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 nw))) (extractStridedSlice S2048x4096 ![0, 5968] w slices_S2048x10064_S2048x4096_0_5968)

/-- The reference's term is the projection at every index. -/
theorem term_apply (x : FVec Ideal S16384x2048 .f32) (nw : FVec Ideal S2048 .f32) (w : FVec Ideal S2048x10064 .f32) (r : Fin 16384) (n : Fin 4096) :
    term x nw w (ix2 r n) = Proj.out x nw w 5968 4096 n.val (by decide) r := by
  unfold Proj.out Proj.col Ffn.normed
  simp only [dif_pos n.isLt]
  pointwise [term]

end Read

/-- The reference leaves its arguments and, having no semaphore, every counter at zero. -/
theorem ref_frame : Cert.quiescent_ProjGateRefIdeal := fun m ρ _ =>
  (θ_run Cert.ProjGateRefIdeal.defs _ _).mono (fun r h => ⟨fun c => (h c).2, sem_eq_zero_of_no_sems (by decide) r.2⟩)
    (Cert.ProjGateRefIdeal.Value.run (F := Ideal) m ρ)

/-- From equal arguments both programs end with the projection's array. -/
theorem algebraic : Cert.algebraic_ProjGateIdeal_ProjGateRefIdeal := by
  pair_intro
  · run_from Cert.ProjGateIdeal.Value.run_blocks m g
  · run_from Cert.ProjGateRefIdeal.Value.run m' g'
    rw [Cert.ProjGateIdeal.Array.array m c]
    funext i
    idx_vars i
    exact term_apply _ _ _ _ _

end ProjGate

end
-- ==== Proof.MergeSpec.lean ====
/-
  The merge of the two mixers, element by element over the extended reals: the per-head normalisation of the recurrence's
  output, the bonus and the output gate, the two gated projections, and the projection added to the stream. And why the
  kernel's way to a head's sum (a product with a zero-one matrix, the operand taken apart into three parts) is that sum.
-/
module

public import Idealize.ShloMosaic.Lib.Pointwise
public import Idealize.ShloMosaic.Lib.Tactic

@[expose] public section

noncomputable section

open Idealize.ShloMosaic
open scoped BigOperators

namespace Merge

abbrev X : Shape := ⟨2, ![16384, 2048]⟩
abbrev O : Shape := ⟨2, ![16384, 1024]⟩
abbrev G : Shape := ⟨2, ![16384, 4096]⟩
abbrev H : Shape := ⟨2, ![16, 64]⟩
abbrev U : Shape := ⟨2, ![1024, 2048]⟩
abbrev D : Shape := ⟨2, ![2048, 2048]⟩

/-- Lane `l` of the head that column `n` lies in. -/
def lane (n : Fin 1024) (l : Fin 64) : Fin 1024 := ⟨64 * (n.val / 64) + l.val, by omega⟩

/-- The mean over the 64 lanes of column `n`'s head. -/
def mean (o : Fin 1024 → EReal) (n : Fin 1024) : EReal := Ideal.div (∑ l : Fin 64, o (lane n l)) (Ideal.ofBits .f32 0x42800000#32)

/-- The entry less its head's mean. -/
def dev (o : Fin 1024 → EReal) (n : Fin 1024) : EReal := o n - mean o n

/-- The entry normalised over its head. -/
def unit (o : Fin 1024 → EReal) (n : Fin 1024) : EReal :=
  dev o n * Ideal.rsqrt (mean (fun k => dev o k * dev o k) n + Ideal.ofBits .f32 0x3A27C5AC#32)

/-- A scale or an offset of the normalisation at column `n`. -/
def head (w : H.Idx → EReal) (n : Fin 1024) : EReal := w (ix2 ⟨n.val / 64, by omega⟩ ⟨n.val % 64, by omega⟩)

variable (x : X.Idx → EReal) (o bo ga yb : O.Idx → EReal) (pg : G.Idx → EReal) (gw gb : H.Idx → EReal) (ua ub : U.Idx → EReal) (wo : D.Idx → EReal)

/-- The recurrence's branch before its projection. -/
def ya (r : Fin 16384) (n : Fin 1024) : EReal :=
  (unit (fun k => o (ix2 r k)) n * head gw n + head gb n + bo (ix2 r n)) * ga (ix2 r n)

/-- A merge gate. -/
def gate (p : EReal) : EReal := Ideal.div 1 (1 + Ideal.exp (-p))

/-- The two projections, each under its gate. -/
def merged (r : Fin 16384) (p : Fin 2048) : EReal :=
  gate (pg (ix2 r ⟨p.val, by omega⟩)) * (∑ k : Fin 1024, ya o bo ga gw gb r k * ua (ix2 k p))
    + gate (pg (ix2 r ⟨2048 + p.val, by omega⟩)) * ∑ k : Fin 1024, yb (ix2 r k) * ub (ix2 k p)

/-- The result. -/
def out (r : Fin 16384) (n : Fin 2048) : EReal :=
  x (ix2 r n) + ∑ p : Fin 2048, merged o bo ga yb pg gw gb ua ub r p * wo (ix2 p n)

/-! ## A head's sum as the kernel forms it -/

/-- The zero-one matrix of equal heads. -/
def same (k n : Fin 1024) : EReal := if k.val / 64 = n.val / 64 then 1 else 0

/-- The kernel's mean: three products with the matrix, and a sixty-fourth. -/
def kmean (o : Fin 1024 → EReal) (n : Fin 1024) : EReal :=
  ((∑ k : Fin 1024, o k * same k n) + ((∑ k : Fin 1024, (o k - o k) * same k n) + ∑ k : Fin 1024, (o k - o k - (o k - o k)) * same k n))
    * Ideal.ofBits .f32 0x3C800000#32

/-- A product with the matrix is the head's sum. -/
theorem sum_same (o : Fin 1024 → EReal) (n : Fin 1024) : ∑ k : Fin 1024, o k * same k n = ∑ l : Fin 64, o (lane n l) := by
  simp only [same, mul_ite, mul_one, mul_zero]
  rw [← Finset.sum_filter]
  refine (Finset.sum_nbij (fun l => lane n l) ?_ ?_ ?_ fun _ _ => rfl).symm
  · intro l _; simp only [Finset.mem_filter, Finset.mem_univ, true_and, lane]; omega
  · intro a _ b _ h; have := congrArg Fin.val h; simp only [lane] at this; exact Fin.ext (by omega)
  · intro k hk
    simp only [Finset.coe_filter, Finset.mem_univ, true_and, Set.mem_setOf_eq] at hk
    refine ⟨⟨k.val % 64, by omega⟩, by simp, Fin.ext ?_⟩
    simp only [lane]; omega

theorem bits_64 : Ideal.ofBits .f32 0x42800000#32 = ((64 : ℝ) : EReal) := by
  simp [Ideal.ofBits, Ideal.ieee]
  rw [← EReal.coe_mul]; norm_num

theorem bits_64th : Ideal.ofBits .f32 0x3C800000#32 = ((1 / 64 : ℝ) : EReal) := by
  simp [Ideal.ofBits, Ideal.ieee]
  rw [← EReal.coe_mul]; norm_num

theorem div_64 (y : EReal) : Ideal.div y (Ideal.ofBits .f32 0x42800000#32) = y * Ideal.ofBits .f32 0x3C800000#32 := by
  rw [bits_64, bits_64th, Ideal.div, if_neg (by simp), ← EReal.coe_inv]; norm_num

/-- On real numbers the kernel's mean is the mean. -/
theorem kmean_eq (f : Fin 1024 → ℝ) (n : Fin 1024) : kmean (fun k => (f k : EReal)) n = mean (fun k => (f k : EReal)) n := by
  unfold kmean mean
  rw [div_64, sum_same]
  congr 1
  simp only [← EReal.coe_sub, sub_self, EReal.coe_zero, sub_zero, zero_mul, Finset.sum_const_zero, add_zero]

/-- The mean of real numbers is real. -/
theorem mean_real (f : Fin 1024 → ℝ) (n : Fin 1024) : mean (fun k => (f k : EReal)) n = (((∑ l : Fin 64, f (lane n l)) * (1 / 64) : ℝ) : EReal) := by
  unfold mean
  rw [div_64, bits_64th, EReal.coe_mul]
  congr 1

/-- The entry less the kernel's mean. -/
def kdev (o : Fin 1024 → EReal) (n : Fin 1024) : EReal := o n - kmean o n

/-- The entry normalised over its head, as the kernel forms it. -/
def kunit (o : Fin 1024 → EReal) (n : Fin 1024) : EReal :=
  kdev o n * Ideal.rsqrt (kmean (fun k => kdev o k * kdev o k) n + Ideal.ofBits .f32 0x3A27C5AC#32)

/-- On real numbers the kernel's normalisation is the normalisation. -/
theorem kunit_eq (f : Fin 1024 → ℝ) (n : Fin 1024) : kunit (fun k => (f k : EReal)) n = unit (fun k => (f k : EReal)) n := by
  have hd : ∀ k, kdev (fun k => (f k : EReal)) k = dev (fun k => (f k : EReal)) k := fun k => by rw [kdev, dev, kmean_eq]
  have hr : ∀ k, ∃ v : ℝ, dev (fun k => (f k : EReal)) k = (v : EReal) := fun k => ⟨_, by rw [dev, mean_real, ← EReal.coe_sub]⟩
  choose v hv using hr
  unfold kunit unit
  simp only [hd, hv, ← EReal.coe_mul, kmean_eq]

end Merge

end
-- ==== Proof.MergeArray.lean ====
/-
  The merge kernel: its payloads at an index, its blocks, and the array it leaves where the recurrence's output is finite.
-/
module

public import proofs.«01_k».proof.Proof.Gen.MergeIdeal.Value
public import proofs.«01_k».proof.Proof.MergeSpec
public import Idealize.ShloMosaic.Lib.Pipeline.ValueKit
public import Idealize.ShloMosaic.Lib.Claim

@[expose] public section

set_option maxRecDepth 16384

noncomputable section

open Idealize.ShloMosaic Idealize.ShloMosaic.TcCoe
open scoped BigOperators

namespace Cert.MergeIdeal.Array

open Cert.MergeIdeal Cert.MergeIdeal.Gen

/-! ## The payloads -/

theorem pay2_apply (o : FVec Ideal S256x1024 .f32) (s : FVec Ideal S1024x1024 .bf16) (w : FVec Ideal S1x1024 .f32) (hs : ∀ k n, @Eq EReal (s (ix2 k n)) (Merge.same k n))
    (r : Fin 256) (n : Fin 1024) : k0_pay2 (F := Ideal) s o w (ix2 r n) = Merge.kunit (fun k => o (ix2 r k)) n * w (ix2 0 n) := by
  unfold Merge.kunit Merge.kdev Merge.kmean
  simp only [← hs]
  pointwise [k0_pay2]

theorem pay3_apply (u : FVec Ideal S256x1024 .f32) (gb : FVec Ideal S1x1024 .f32) (bo ga yb : FVec Ideal S256x1024 .f32) (pa : FVec Ideal S256x2048 .f32)
    (ua : FVec Ideal S1024x2048 .bf16) (pb : FVec Ideal S256x2048 .f32) (ub : FVec Ideal S1024x2048 .bf16) (r : Fin 256) (p : Fin 2048) :
    k0_pay3 (F := Ideal) u gb bo ga yb pa ua pb ub (ix2 r p)
      = Merge.gate (pa (ix2 r p)) * (∑ k : Fin 1024, (u (ix2 r k) + gb (ix2 0 k) + bo (ix2 r k)) * ga (ix2 r k) * ua (ix2 k p))
        + Merge.gate (pb (ix2 r p)) * ∑ k : Fin 1024, yb (ix2 r k) * ub (ix2 k p) := by
  unfold Merge.gate
  simp only [← zero_sub]
  pointwise [k0_pay3]

theorem pay1_apply (y : FVec Ideal S256x2048 .f32) (x : FVec Ideal S256x2048 .f32) (w : FVec Ideal S2048x2048 .bf16) (r : Fin 256) (n : Fin 2048) :
    k0_pay1 (F := Ideal) y x w (ix2 r n) = x (ix2 r n) + ∑ p : Fin 2048, y (ix2 r p) * w (ix2 p n) := by
  pointwise [k0_pay1]

/-! ## The blocks -/

variable (m : (ℓ : Loc nD τ sig) → Buf (Elt Ideal) ℓ)

theorem index_eq : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_12.index t = ![t.val, 0] := by
  decide +kernel

theorem whole_eq : ∀ t : Fin grid0.N, win0_6.index t = ![0, 0] ∧ win0_7.index t = ![0, 0] ∧ win0_8.index t = ![0, 0] ∧ win0_9.index t = ![0, 0]
    ∧ win0_10.index t = ![0, 0] ∧ win0_11.index t = ![0, 0] := by
  decide +kernel

abbrev X (c : Dev nD) : FVec Ideal S16384x2048 .f32 := m ((c : Thread nD τ).loc main_arg0)
abbrev O (c : Dev nD) : FVec Ideal S16384x1024 .f32 := m ((c : Thread nD τ).loc main_arg1)
abbrev BO (c : Dev nD) : FVec Ideal S16384x1024 .f32 := m ((c : Thread nD τ).loc main_arg2)
abbrev GA (c : Dev nD) : FVec Ideal S16384x1024 .f32 := m ((c : Thread nD τ).loc main_arg3)
abbrev YB (c : Dev nD) : FVec Ideal S16384x1024 .f32 := m ((c : Thread nD τ).loc main_arg4)
abbrev PG (c : Dev nD) : FVec Ideal S16384x4096 .f32 := m ((c : Thread nD τ).loc main_arg5)
abbrev GW (c : Dev nD) : FVec Ideal S16x64 .f32 := m ((c : Thread nD τ).loc main_arg6)
abbrev GB (c : Dev nD) : FVec Ideal S16x64 .f32 := m ((c : Thread nD τ).loc main_arg7)
abbrev UA (c : Dev nD) : FVec Ideal S1024x2048 .f32 := m ((c : Thread nD τ).loc main_arg8)
abbrev UB (c : Dev nD) : FVec Ideal S1024x2048 .f32 := m ((c : Thread nD τ).loc main_arg9)
abbrev WO (c : Dev nD) : FVec Ideal S2048x2048 .f32 := m ((c : Thread nD τ).loc main_arg10)

variable (c : Dev nD) (t : Fin cfg0.N)

theorem pt_lt : t.val < 64 := lt_of_lt_of_eq t.isLt N_0

/-- Row `r` of point `t`'s row tile, in the whole array. -/
def row (r : Fin 256) : Fin 16384 := ⟨256 * t.val + r.val, by have := pt_lt t; omega⟩

theorem x_blk (r : Fin 256) (k : Fin 2048) : iblk m c 0 t (ix2 r k) = X m c (ix2 (row t r) k) := by
  have h := index_eq t
  unfold row
  blk_ext [iblk, V_main_arg0, h.1]

theorem o_blk (r : Fin 256) (k : Fin 1024) : iblk m c 1 t (ix2 r k) = O m c (ix2 (row t r) k) := by
  have h := index_eq t
  unfold row
  blk_ext [iblk, V_main_arg1, h.2.1]

theorem bo_blk (r : Fin 256) (k : Fin 1024) : iblk m c 2 t (ix2 r k) = BO m c (ix2 (row t r) k) := by
  have h := index_eq t
  unfold row
  blk_ext [iblk, V_main_arg2, h.2.2.1]

theorem ga_blk (r : Fin 256) (k : Fin 1024) : iblk m c 3 t (ix2 r k) = GA m c (ix2 (row t r) k) := by
  have h := index_eq t
  unfold row
  blk_ext [iblk, V_main_arg3, h.2.2.2.1]

theorem yb_blk (r : Fin 256) (k : Fin 1024) : iblk m c 4 t (ix2 r k) = YB m c (ix2 (row t r) k) := by
  have h := index_eq t
  unfold row
  blk_ext [iblk, V_main_arg4, h.2.2.2.2.1]

theorem pg_blk (r : Fin 256) (k : Fin 4096) : iblk m c 5 t (ix2 r k) = PG m c (ix2 (row t r) k) := by
  have h := index_eq t
  unfold row
  blk_ext [iblk, V_main_arg5, h.2.2.2.2.2.1]

theorem gw_blk (n : Fin 1024) : iblk m c 6 t (ix2 0 n) = Merge.head (GW m c) n := by
  have h := whole_eq t
  refine (show iblk m c 6 t (ix2 0 n) = (shapeCast S1x1024 (GW m c) shapeCasts_S16x64_S1x1024 : FVec Ideal S1x1024 .f32) (ix2 0 n) from by blk_ext! [iblk, V, h.1]).trans ?_
  pointwise [Merge.head]

theorem gb_blk (n : Fin 1024) : iblk m c 7 t (ix2 0 n) = Merge.head (GB m c) n := by
  have h := whole_eq t
  refine (show iblk m c 7 t (ix2 0 n) = (shapeCast S1x1024 (GB m c) shapeCasts_S16x64_S1x1024 : FVec Ideal S1x1024 .f32) (ix2 0 n) from by blk_ext! [iblk, V, h.2.1]).trans ?_
  pointwise [Merge.head]

/-- The heads' numbers of all columns. -/
abbrev heads : IVec S1024 32 := Host.divsi (iotaInDim S1024 32 0) (broadcastInDim S1024 ![] bcast_S_S1024 (constantI S_ 32 64#32))

/-- The host's zero-one matrix. -/
abbrev seg : FVec Ideal S1024x1024 .bf16 :=
  uitofp .bf16 (cmpi .eq (broadcastInDim S1024x1024 ![0, 1] bcast_S1024x1_S1024x1024_0_1 (broadcastInDim S1024x1 ![0] bcast_S1024_S1024x1_0 heads))
    (broadcastInDim S1024x1024 ![0, 1] bcast_S1x1024_S1024x1024_0_1 (broadcastInDim S1x1024 ![1] bcast_S1024_S1x1024_1 heads)))

/-- Division of a column number by 64. -/
theorem head_eq : ∀ k : Fin 1024, IntOp.divsi ArithUnit.host (BitVec.ofNat 32 k.val) 64#32 = BitVec.ofNat 32 (k.val / 64) := by
  decide +kernel

theorem seg_apply (k n : Fin 1024) : @Eq EReal (seg (ix2 k n)) (Merge.same k n) := by
  refine (show @Eq EReal (seg (ix2 k n)) ((FloatOps.uitofp .bf16 (IntOp.cmpi CmpIPredicate.eq (IntOp.divsi ArithUnit.host (BitVec.ofNat 32 k.val) 64#32) (IntOp.divsi ArithUnit.host (BitVec.ofNat 32 n.val) 64#32)) : Ideal .bf16) : EReal) from by pointwise [seg, heads]).trans ?_
  rw [head_eq, head_eq]
  unfold Merge.same
  by_cases h : k.val / 64 = n.val / 64
  · rw [if_pos h, h]; simp [IntOp.cmpi, FloatOps.uitofp]
  · have hne : ¬(BitVec.ofNat 32 (k.val / 64) = BitVec.ofNat 32 (n.val / 64)) := fun e => h (by
      have := congrArg BitVec.toNat e
      simp only [BitVec.toNat_ofNat] at this
      omega)
    rw [if_neg h]; simp [IntOp.cmpi, FloatOps.uitofp, hne]

theorem seg_blk (k n : Fin 1024) : @Eq EReal (iblk m c 8 t (ix2 k n)) (Merge.same k n) := by
  have h := whole_eq t
  refine (show @Eq EReal (iblk m c 8 t (ix2 k n)) (seg (ix2 k n)) from by blk_ext! [iblk, V, h.2.2.1]).trans (seg_apply k n)

theorem ua_blk (k : Fin 1024) (n : Fin 2048) : @Eq EReal (iblk m c 9 t (ix2 k n)) (UA m c (ix2 k n)) := by
  have h := whole_eq t
  blk_ext! [iblk, V, h.2.2.2.1]

theorem ub_blk (k : Fin 1024) (n : Fin 2048) : @Eq EReal (iblk m c 10 t (ix2 k n)) (UB m c (ix2 k n)) := by
  have h := whole_eq t
  blk_ext! [iblk, V, h.2.2.2.2.1]

theorem wo_blk (k n : Fin 2048) : @Eq EReal (iblk m c 11 t (ix2 k n)) (WO m c (ix2 k n)) := by
  have h := whole_eq t
  blk_ext! [iblk, V, h.2.2.2.2.2]

/-! ## The array -/

/-- The left half of the gate columns. -/
theorem left_half (v : FVec Ideal S256x4096 .f32) (r : Fin 256) (p : Fin 2048) : View.ld (Val := Elt Ideal) (e' := .f32) v r0_3 (ix2 r p) = v (ix2 r ⟨p.val, by omega⟩) :=
  View.ld_unit_apply_of (Val := Elt Ideal) (e := .f32) v _ _ _ _ _ fun a => by
    match a with
    | ⟨0, _⟩ => exact (Nat.zero_add _).symm
    | ⟨1, _⟩ => exact (Nat.zero_add _).symm

/-- The right half. -/
theorem right_half (v : FVec Ideal S256x4096 .f32) (r : Fin 256) (p : Fin 2048) : View.ld (Val := Elt Ideal) (e' := .f32) v r0_5 (ix2 r p) = v (ix2 r ⟨2048 + p.val, by omega⟩) :=
  View.ld_unit_apply_of (Val := Elt Ideal) (e := .f32) v _ _ _ _ _ fun a => by
    match a with
    | ⟨0, _⟩ => exact (Nat.zero_add _).symm
    | ⟨1, _⟩ => rfl

/-- What the body leaves in its output block, of its blocks. -/
theorem body_apply (x : FVec Ideal S256x2048 .f32) (o bo ga yb : FVec Ideal S256x1024 .f32) (pg : FVec Ideal S256x4096 .f32) (gw gb : FVec Ideal S1x1024 .f32)
    (s : FVec Ideal S1024x1024 .bf16) (ua ub : FVec Ideal S1024x2048 .bf16) (wo : FVec Ideal S2048x2048 .bf16) (hs : ∀ k n, @Eq EReal (s (ix2 k n)) (Merge.same k n))
    (r : Fin 256) (n : Fin 2048) :
    out0_12 (F := Ideal) x o bo ga yb pg gw gb s ua ub wo (ix2 r n)
      = x (ix2 r n) + ∑ p : Fin 2048, (Merge.gate (pg (ix2 r ⟨p.val, by omega⟩)) * (∑ k : Fin 1024, (Merge.kunit (fun k => o (ix2 r k)) k * gw (ix2 0 k) + gb (ix2 0 k) + bo (ix2 r k)) * ga (ix2 r k) * ua (ix2 k p))
        + Merge.gate (pg (ix2 r ⟨2048 + p.val, by omega⟩)) * ∑ k : Fin 1024, yb (ix2 r k) * ub (ix2 k p)) * wo (ix2 p n) := by
  have e : out0_12 (F := Ideal) x o bo ga yb pg gw gb s ua ub wo
      = k0_pay1 (F := Ideal) (k0_pay3 (k0_pay2 s o gw) gb bo ga yb (View.ld pg r0_3) ua (View.ld pg r0_5) ub) x wo := by
    frame_out
  rw [e, pay1_apply]
  simp only [pay3_apply, pay2_apply _ _ _ hs]
  refine congrArg (x (ix2 r n) + ·) (Finset.sum_congr rfl fun p _ => ?_)
  exact congrArg₂ (fun a b => (Merge.gate a * _ + Merge.gate b * _) * _) (left_half pg r p) (right_half pg r p)

/-- What a point leaves in its output block, where its rows of the recurrence's output are real. -/
theorem out_row (f : Fin 256 → Fin 1024 → ℝ) (hf : ∀ r k, O m c (ix2 (row t r) k) = (f r k : EReal)) (r : Fin 256) (n : Fin 2048) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = Merge.out (X m c) (O m c) (BO m c) (GA m c) (YB m c) (PG m c) (GW m c) (GB m c) (UA m c) (UB m c) (WO m c) (row t r) n := by
  refine (body_apply _ _ _ _ _ _ _ _ _ _ _ _ (seg_blk m c t) r n).trans ?_
  have ho : (fun k : Fin 1024 => @id EReal (iblk m c 1 t (ix2 r k))) = fun k => (f r k : EReal) := funext fun k => (o_blk m c t r k).trans (hf r k)
  have hu : ∀ k, Merge.kunit (fun k : Fin 1024 => iblk m c 1 t (ix2 r k)) k = Merge.unit (fun k => O m c (ix2 (row t r) k)) k := fun k => by
    refine (congrArg (fun v => Merge.kunit v k) ho).trans ((Merge.kunit_eq _ _).trans ?_)
    simp only [hf]
  unfold Merge.out Merge.merged Merge.ya
  refine congrArg₂ (· + ·) (x_blk m c t r n) (Finset.sum_congr rfl fun p _ => congrArg₂ (· * ·) (congrArg₂ (· + ·)
    (congrArg₂ (· * ·) (congrArg Merge.gate (pg_blk m c t r _)) (Finset.sum_congr rfl fun k _ => congrArg₂ (· * ·) (congrArg₂ (· * ·) (congrArg₂ (· + ·) (congrArg₂ (· + ·)
      (congrArg₂ (· * ·) (hu k) (gw_blk m c t k)) (gb_blk m c t k)) (bo_blk m c t r k)) (ga_blk m c t r k)) (ua_blk m c t k p)))
    (congrArg₂ (· * ·) (congrArg Merge.gate (pg_blk m c t r _)) (Finset.sum_congr rfl fun k _ => congrArg₂ (· * ·) (yb_blk m c t r k) (ub_blk m c t k p)))) (wo_blk m c t p n))

/-- The output array after the run. -/
theorem array (f : Fin 16384 → Fin 1024 → ℝ) (hf : ∀ r k, O m c (ix2 r k) = (f r k : EReal)) : (dats m 0 c).arrAt 12 cfg0.N
    = fun i : S16384x2048.Idx => Merge.out (X m c) (O m c) (BO m c) (GA m c) (YB m c) (PG m c) (GW m c) (GB m c) (UA m c) (UB m c) (WO m c) (i 0) (i 1) := by
  refine (dats m 0 c).arrAt_eq_of_covers 12 _ (by decide +kernel) fun t hc y => ?_
  have hi := (index_eq t).2.2.2.2.2.2
  blk_simp
  rw [after0_12]
  idx_vars y
  refine (out_row m c t (fun r k => f (row t r) k) (fun r k => hf _ k) _ _).trans ?_
  congr 1
  · apply Fin.ext; blk_simp [hi, row]; dsimp only; omega
  · apply Fin.ext; blk_simp [hi]

end Cert.MergeIdeal.Array

end
-- ==== Proof.MergeClaim.lean ====
/-
  The merge: the reference read at an index, and the claims.
-/
module

public import proofs.«01_k».proof.Defs
public import proofs.«01_k».proof.Proof.MergeArray
public import proofs.«01_k».proof.Proof.Gen.MergeRefIdeal.Run
public import proofs.«01_k».proof.Proof.Gen.Pre_finite_rows
public import proofs.«01_k».proof.Proof.Finite
public import Idealize.ShloMosaic.Lib.Quiescent

@[expose] public section

set_option maxRecDepth 16384

noncomputable section

open Idealize.ShloMosaic Idealize.ShloMosaic.TcCoe Idealize.SL.Sem

namespace Merge

section Read

open Cert.MergeRefIdeal Cert.MergeRefIdeal.Gen

/-- The recurrence's output by heads, less each head's mean. -/
def devs (o : FVec Ideal S16384x1024 .f32) : FVec Ideal S16384x16x64 .f32 :=
  subf (shapeCast _ o shapeCasts_S16384x1024_S16384x16x64) (broadcastInDim S16384x16x64 ![0, 1, 2] bcast_S16384x16x1_S16384x16x64_0_1_2 (Host.divf (broadcastInDim S16384x16x1 ![0, 1] bcast_S16384x16_S16384x16x1_0_1 (Host.reduceAdd (shapeCast _ o shapeCasts_S16384x1024_S16384x16x64) (constant S_ .f32 0x00000000#32) reducesTo_S16384x16x64_S16384x16_d2 h_S_)) (broadcastInDim S16384x16x1 ![] bcast_S_S16384x16x1 (constant S_ .f32 0x42800000#32))))

/-- The reference's composed term. -/
def term (x : FVec Ideal S16384x2048 .f32) (o : FVec Ideal S16384x1024 .f32) (bo : FVec Ideal S16384x1024 .f32) (ga : FVec Ideal S16384x1024 .f32) (yb : FVec Ideal S16384x1024 .f32) (pg : FVec Ideal S16384x4096 .f32) (gw : FVec Ideal S16x64 .f32) (gb : FVec Ideal S16x64 .f32) (ua : FVec Ideal S1024x2048 .f32) (ub : FVec Ideal S1024x2048 .f32) (wo : FVec Ideal S2048x2048 .f32) : FVec Ideal S16384x2048 .f32 :=
  addf x (Host.dotGeneral dot_S16384x2048_S2048x2048_S16384x2048_1_0_0_1_n_n none (addf (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 0] pg slices_S16384x4096_S16384x2048_0_0))))) (Host.dotGeneral dot_S16384x1024_S1024x2048_S16384x2048_1_0_0_1_n_n none (mulf (shapeCast _ (addf (addf (mulf (mulf (devs o) (broadcastInDim S16384x16x64 ![0, 1, 2] bcast_S16384x16x1_S16384x16x64_0_1_2 (Host.rsqrt (addf (Host.divf (broadcastInDim S16384x16x1 ![0, 1] bcast_S16384x16_S16384x16x1_0_1 (Host.reduceAdd (mulf (devs o) (devs o)) (constant S_ .f32 0x00000000#32) reducesTo_S16384x16x64_S16384x16_d2 h_S_)) (broadcastInDim S16384x16x1 ![] bcast_S_S16384x16x1 (constant S_ .f32 0x42800000#32))) (broadcastInDim S16384x16x1 ![] bcast_S_S16384x16x1 (constant S_ .f32 0x3A27C5AC#32)))))) (broadcastInDim S16384x16x64 ![0, 1, 2] bcast_S1x16x64_S16384x16x64_0_1_2 (broadcastInDim S1x16x64 ![1, 2] bcast_S16x64_S1x16x64_1_2 gw))) (broadcastInDim S16384x16x64 ![0, 1, 2] bcast_S1x16x64_S16384x16x64_0_1_2 (broadcastInDim S1x16x64 ![1, 2] bcast_S16x64_S1x16x64_1_2 gb))) (shapeCast _ bo shapeCasts_S16384x1024_S16384x16x64)) shapeCasts_S16384x16x64_S16384x1024) ga) ua)) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 2048] pg slices_S16384x4096_S16384x2048_0_2048))))) (Host.dotGeneral dot_S16384x1024_S1024x2048_S16384x2048_1_0_0_1_n_n none yb ub))) wo)

theorem devs_apply (o : FVec Ideal S16384x1024 .f32) (r : Fin 16384) (h : Fin 16) (l : Fin 64) :
    devs o (ix3 r h l) = dev (fun k => o (ix2 r k)) ⟨h.val * 64 + l.val, by omega⟩ := by
  have e : (h.val * 64 + l.val) / 64 = h.val := by omega
  unfold dev mean lane
  simp only [e, Nat.mul_comm 64]
  pointwise [devs]

theorem devs_lane (o : FVec Ideal S16384x1024 .f32) (r : Fin 16384) (n : Fin 1024) (l : Fin 64) :
    devs o (ix3 r ⟨n.val / 64, by omega⟩ l) = dev (fun k => o (ix2 r k)) (lane n l) :=
  (devs_apply o r _ l).trans (congrArg _ (Fin.ext (by simp only [lane]; omega)))

theorem devs_self (o : FVec Ideal S16384x1024 .f32) (r : Fin 16384) (n : Fin 1024) :
    devs o (ix3 r ⟨n.val / 64, by omega⟩ ⟨n.val % 64, by omega⟩) = dev (fun k => o (ix2 r k)) n :=
  (devs_apply o r _ _).trans (congrArg _ (Fin.ext (by dsimp only; omega)))

/-- The reference's term is the merge's result at every index. -/
theorem term_apply (x : FVec Ideal S16384x2048 .f32) (o : FVec Ideal S16384x1024 .f32) (bo : FVec Ideal S16384x1024 .f32) (ga : FVec Ideal S16384x1024 .f32) (yb : FVec Ideal S16384x1024 .f32) (pg : FVec Ideal S16384x4096 .f32) (gw : FVec Ideal S16x64 .f32) (gb : FVec Ideal S16x64 .f32) (ua : FVec Ideal S1024x2048 .f32) (ub : FVec Ideal S1024x2048 .f32) (wo : FVec Ideal S2048x2048 .f32) (r : Fin 16384) (n : Fin 2048) :
    term x o bo ga yb pg gw gb ua ub wo (ix2 r n) = out x o bo ga yb pg gw gb ua ub wo r n := by
  pointwise [term]
  simp only [devs_self]
  simp only [devs_lane]
  rfl

end Read

/-- The reference leaves its arguments and, having no semaphore, every counter at zero. -/
theorem ref_frame : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The precondition says that the recurrence's output is real. -/
theorem rows_real (m : (ℓ : Loc Cert.MergeIdeal.nD Cert.MergeIdeal.τ Cert.MergeIdeal.sig) → Buf (Elt Ideal) ℓ) (h : Cert.Pre_MergeIdeal_finite_rows m) (c : Dev Cert.MergeIdeal.nD) :
    ∃ f : Fin 16384 → Fin 1024 → ℝ, ∀ r k, Cert.MergeIdeal.Array.O m c (ix2 r k) = (f r k : EReal) := by
  have hr : ∀ (r : Fin 16384) (k : Fin 1024), ∃ v : ℝ, Cert.MergeIdeal.Array.O m c (ix2 r k) = (v : EReal) := fun r k => by
    have e := congrFun (h c) (ix2 r k)
    exact Finite.real _ (Finite.of_bit _ e)
  choose f hf using hr
  exact ⟨f, hf⟩

/-- From equal arguments, the recurrence's output finite, both programs end with the merge's array. -/
theorem algebraic : Cert.algebraic_MergeIdeal_MergeRefIdeal_pre_finite_rows := by
  pair_intro
  · run_from Cert.MergeIdeal.Value.run_blocks m g
  · run_from Cert.MergeRefIdeal.Value.run m' g'
    obtain ⟨f, hf⟩ := rows_real m hpre c
    rw [Cert.MergeIdeal.Array.array m c f hf]
    funext i
    idx_vars i
    exact term_apply _ _ _ _ _ _ _ _ _ _ _ _ _

end Merge

end
-- ==== Proof.CompressSpec.lean ====
/-
  The compressed keys and values, element by element over the extended reals: overlapping blocks of 32 tokens, 16 apart, each
  through a two-layer network, the keys normalised and rotated. And why the kernel's way there (products of operands taken
  apart into halves, the two halves of a block multiplied apart, the rotation as a product with a signed permutation) is the
  same on real numbers.
-/
module

public import Idealize.ShloMosaic.Lib.Pointwise
public import Idealize.ShloMosaic.Lib.Tactic

@[expose] public section

noncomputable section

open Idealize.ShloMosaic
open scoped BigOperators

namespace Compress

abbrev P : Shape := ⟨2, ![16384, 256]⟩
abbrev E : Shape := ⟨2, ![32, 64]⟩
abbrev W : Shape := ⟨2, ![2048, 256]⟩
abbrev U : Shape := ⟨2, ![256, 64]⟩
abbrev G : Shape := ⟨2, ![3, 64]⟩

/-- The group of 16 tokens after group `n`; after the last comes the first. -/
def nxt (n : Fin 128) : Fin 128 := ⟨(n.val + 1) % 128, by omega⟩

/-- Entry `k` of group `n`: its token `k / 64`, lane `k % 64`. -/
def grp (p : P.Idx → EReal) (b : Fin 8) (h : Fin 4) (n : Fin 128) (k : Fin 1024) : EReal :=
  p (ix2 ⟨b.val * 2048 + n.val * 16 + k.val / 64, by omega⟩ ⟨h.val * 64 + k.val % 64, by omega⟩)

/-- Entry `k` of block `n`: group `n`, then the group after it. -/
def blk (p : P.Idx → EReal) (b : Fin 8) (h : Fin 4) (n : Fin 128) (k : Fin 2048) : EReal :=
  if hk : k.val < 1024 then grp p b h n ⟨k.val, hk⟩ else grp p b h (nxt n) ⟨k.val - 1024, by omega⟩

/-- Entry `k` of the position embedding. -/
def pos (e : E.Idx → EReal) (k : Fin 2048) : EReal := e (ix2 ⟨k.val / 64, by omega⟩ ⟨k.val % 64, by omega⟩)

/-- The hidden layer before its activation. -/
def hid (p : P.Idx → EReal) (e : E.Idx → EReal) (w : W.Idx → EReal) (b : Fin 8) (h : Fin 4) (n : Fin 128) (j : Fin 256) : EReal :=
  ∑ k : Fin 2048, (blk p b h n k + pos e k) * w (ix2 k j)

/-- The activation. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The network's result: a compressed value. -/
def val (p : P.Idx → EReal) (e : E.Idx → EReal) (w : W.Idx → EReal) (u : U.Idx → EReal) (b : Fin 8) (h : Fin 4) (n : Fin 128) (d : Fin 64) : EReal :=
  ∑ j : Fin 256, gelu (hid p e w b h n j) * u (ix2 j d)

/-- The root-mean-square normalisation over the 64 lanes. -/
def norm (v g : Fin 64 → EReal) (d : Fin 64) : EReal :=
  v d * Ideal.rsqrt (Ideal.div (∑ k : Fin 64, v k * v k) (Ideal.ofBits .f32 0x42800000#32) + Ideal.ofBits .f32 0x358637BD#32) * g d

/-- The rotation of the first sixteen lanes in pairs eight apart. -/
def rope (cos sin : Fin 8 → EReal) (y : Fin 64 → EReal) (d : Fin 64) : EReal :=
  if h : d.val < 8 then y d * cos ⟨d.val, h⟩ - y ⟨d.val + 8, by omega⟩ * sin ⟨d.val, h⟩
  else if h' : d.val < 16 then y d * cos ⟨d.val - 8, by omega⟩ + y ⟨d.val - 8, by omega⟩ * sin ⟨d.val - 8, by omega⟩
  else y d

/-- The angle of lane `l` at the last token of block `n`. -/
def ang (n : Fin 128) (l : Fin 8) : EReal :=
  (FloatOps.sitofp (F := Ideal) .f32 (BitVec.ofNat 32 (n.val * 16 + 31)) : EReal)
    * Ideal.pow (Ideal.ofBits .f32 0x48F42400#32) (Ideal.div (-(FloatOps.sitofp (F := Ideal) .f32 (BitVec.ofNat 32 l.val) : EReal)) (Ideal.ofBits .f32 0x41000000#32))

/-- A compressed key. -/
def key (p : P.Idx → EReal) (e : E.Idx → EReal) (w : W.Idx → EReal) (u : U.Idx → EReal) (g : G.Idx → EReal) (b : Fin 8) (h : Fin 4) (n : Fin 128) (d : Fin 64) : EReal :=
  rope (fun l => Ideal.cos (ang n l)) (fun l => Ideal.sin (ang n l)) (norm (val p e w u b h n) fun k => g (ix2 0 k)) d

/-! ## The kernel's way -/

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A product of operands taken apart into two halves each, less the product of the second halves. -/
def dot3 {K : Nat} (a b : Fin K → EReal) : EReal := (∑ k, a k * b k) + ((∑ k, a k * (b k - b k)) + ∑ k, (a k - a k) * b k)

/-- On real numbers it is the product. -/
theorem dot3_real {K : Nat} (a b : Fin K → EReal) (ha : ∀ k, ∃ x : ℝ, a k = x) (hb : ∀ k, ∃ x : ℝ, b k = x) : dot3 a b = ∑ k, a k * b k := by
  choose f hf using ha
  choose g hg using hb
  have e1 : ∀ k, a k - a k = 0 := fun k => by rw [hf, ← EReal.coe_sub, sub_self, EReal.coe_zero]
  have e2 : ∀ k, b k - b k = 0 := fun k => by rw [hg, ← EReal.coe_sub, sub_self, EReal.coe_zero]
  simp only [dot3, e1, e2, mul_zero, zero_mul, Finset.sum_const_zero, add_zero]

/-- A finite sum of products of reals is real. -/
theorem sum_real {K : Nat} (a b : Fin K → EReal) (ha : ∀ k, ∃ x : ℝ, a k = x) (hb : ∀ k, ∃ x : ℝ, b k = x) : ∃ x : ℝ, ∑ k, a k * b k = x := by
  choose f hf using ha
  choose g hg using hb
  refine ⟨∑ k, f k * g k, ?_⟩
  simp only [hf, hg, ← EReal.coe_mul]
  exact (coe_sum _ _).symm

theorem real_ofBits (w : BitVec 32) (h : w = 0x3F000000#32 ∨ w = 0x3F4C422A#32 ∨ w = 0x3D372713#32) : ∃ x : ℝ, Ideal.ofBits .f32 w = x := by
  rcases h with h | h | h <;> subst h <;> simp [Ideal.ofBits, Ideal.ieee] <;> exact ⟨_, (EReal.coe_mul _ _).symm⟩

/-- The activation of a real number is real. -/
theorem gelu_real (x : EReal) (hx : ∃ r : ℝ, x = r) : ∃ r : ℝ, gelu x = r := by
  obtain ⟨r, rfl⟩ := hx
  obtain ⟨a, ha⟩ := real_ofBits 0x3F000000#32 (by simp)
  obtain ⟨b, hb⟩ := real_ofBits 0x3F4C422A#32 (by simp)
  obtain ⟨c, hc⟩ := real_ofBits 0x3D372713#32 (by simp)
  refine ⟨r * (a * (1 + Real.tanh (b * (r + c * (r * r * r))))), ?_⟩
  unfold gelu
  rw [ha, hb, hc]
  simp only [← EReal.coe_mul, ← EReal.coe_add]
  rw [show Ideal.tanh ((b * (r + c * (r * r * r)) : ℝ) : EReal) = ((Real.tanh (b * (r + c * (r * r * r))) : ℝ) : EReal) from rfl]
  rw [← EReal.coe_one, ← EReal.coe_add, ← EReal.coe_mul, ← EReal.coe_mul]

/-- The kernel's spelling of the activation. -/
def kgelu (x : EReal) : EReal :=
  Ideal.ofBits .f32 0x3F000000#32 * x * (1 + Ideal.tanh (Ideal.ofBits .f32 0x3F4C422A#32 * (x + Ideal.ofBits .f32 0x3D372713#32 * (x * x * x))))

theorem kgelu_eq (x : EReal) : kgelu x = gelu x := by
  unfold kgelu gelu
  rw [mul_comm (Ideal.ofBits .f32 0x3F000000#32) x, mul_assoc]

/-- The hidden layer as the kernel forms it, of the two groups and the embedding. -/
def khid (a b : Fin 1024 → EReal) (e : Fin 2048 → EReal) (w : Fin 2048 → EReal) : EReal :=
  dot3 a (fun k => w ⟨k.val, by omega⟩) + dot3 b (fun k => w ⟨1024 + k.val, by omega⟩) + dot3 e w

/-- On real numbers it is the hidden layer of the block with the embedding added. -/
theorem khid_eq (a b : Fin 1024 → EReal) (e w : Fin 2048 → EReal) (ha : ∀ k, ∃ x : ℝ, a k = x) (hb : ∀ k, ∃ x : ℝ, b k = x) (he : ∀ k, ∃ x : ℝ, e k = x)
    (hw : ∀ k, ∃ x : ℝ, w k = x) :
    khid a b e w = ∑ k : Fin 2048, ((if hk : k.val < 1024 then a ⟨k.val, hk⟩ else b ⟨k.val - 1024, by omega⟩) + e k) * w k := by
  unfold khid
  rw [dot3_real _ _ ha fun k => hw _, dot3_real _ _ hb fun k => hw _, dot3_real _ _ he hw]
  choose f hf using ha
  choose g hg using hb
  choose r hr using he
  choose v hv using hw
  obtain ⟨t, ht, ht', hblk⟩ : ∃ t : Fin 2048 → ℝ, (∀ k : Fin 1024, t ⟨k.val, by omega⟩ = f k) ∧ (∀ k : Fin 1024, t ⟨1024 + k.val, by omega⟩ = g k)
      ∧ ∀ k : Fin 2048, (if hk : k.val < 1024 then a ⟨k.val, hk⟩ else b ⟨k.val - 1024, by omega⟩) = (t k : EReal) := by
    refine ⟨fun k => if hk : k.val < 1024 then f ⟨k.val, hk⟩ else g ⟨k.val - 1024, by omega⟩, fun k => by simp, fun k => by simp, fun k => ?_⟩
    by_cases hk : k.val < 1024
    · simp only [dif_pos hk, hf]
    · simp only [dif_neg hk, hg]
  simp only [hblk]
  simp only [hf, hg, hr, hv, ← EReal.coe_mul, ← EReal.coe_add]
  rw [← coe_sum, ← coe_sum, ← coe_sum, ← coe_sum, ← EReal.coe_add, ← EReal.coe_add]
  congr 1
  simp only [add_mul, Finset.sum_add_distrib]
  congr 1
  rw [show (∑ x : Fin 2048, t x * v x) = ∑ x : Fin (1024 + 1024), t x * v x from rfl, Fin.sum_univ_add]
  congr 1
  · exact Finset.sum_congr rfl fun k _ => by rw [← ht]; rfl
  · exact Finset.sum_congr rfl fun k _ => by rw [← ht']; rfl

theorem rsqrt_pos (x : ℝ) (h : 0 < x) : Ideal.rsqrt (x : EReal) = (((Real.sqrt x)⁻¹ : ℝ) : EReal) :=
  (show Ideal.rsqrt (x : EReal) = if x < 0 then ⊥ else if x = 0 then ⊤ else (((Real.sqrt x)⁻¹ : ℝ) : EReal) from rfl).trans
    (by rw [if_neg (not_lt.mpr h.le), if_neg h.ne'])

/-- The normalisation of real numbers is real. -/
theorem norm_real (v g : Fin 64 → EReal) (hv : ∀ k, ∃ x : ℝ, v k = x) (hg : ∀ k, ∃ x : ℝ, g k = x) (d : Fin 64) : ∃ x : ℝ, norm v g d = x := by
  choose f hf using hv
  choose r hr using hg
  have h64 : Ideal.ofBits .f32 0x42800000#32 = ((64 : ℝ) : EReal) := by
    simp [Ideal.ofBits, Ideal.ieee]
    rw [← EReal.coe_mul]; norm_num
  obtain ⟨ε, hε, hpos⟩ : ∃ ε : ℝ, Ideal.ofBits .f32 0x358637BD#32 = ε ∧ 0 < ε := by
    simp [Ideal.ofBits, Ideal.ieee]
    exact ⟨_, (EReal.coe_mul _ _).symm, by positivity⟩
  unfold norm
  simp only [hf, hr, ← EReal.coe_mul]
  rw [← coe_sum, h64, hε, Ideal.div, if_neg (by simp), ← EReal.coe_inv, ← EReal.coe_mul, ← EReal.coe_add]
  have h0 : 0 < (∑ k : Fin 64, f k * f k) * (64 : ℝ)⁻¹ + ε := by
    have : 0 ≤ ∑ k : Fin 64, f k * f k := Finset.sum_nonneg fun k _ => mul_self_nonneg _
    positivity
  rw [rsqrt_pos _ h0]
  exact ⟨_, by rw [← EReal.coe_mul, ← EReal.coe_mul]⟩

/-- The signed permutation of the rotation. -/
def rot (k d : Fin 64) : EReal := if d.val < 8 ∧ k.val = d.val + 8 then -1 else if k.val < 8 ∧ d.val = k.val + 8 then 1 else 0

/-- The kernel's product with it, the operand taken apart into three parts. -/
def krot (y : Fin 64 → EReal) (d : Fin 64) : EReal :=
  (∑ k, y k * rot k d) + ((∑ k, (y k - y k) * rot k d) + ∑ k, (y k - y k - (y k - y k)) * rot k d)

theorem krot_eq (y : Fin 64 → EReal) (hy : ∀ k, ∃ x : ℝ, y k = x) (d : Fin 64) :
    krot y d = if h : d.val < 8 then -y ⟨d.val + 8, by omega⟩ else if h' : d.val < 16 then y ⟨d.val - 8, by omega⟩ else 0 := by
  choose f hf using hy
  have e1 : ∀ k, y k - y k = 0 := fun k => by rw [hf, ← EReal.coe_sub, sub_self, EReal.coe_zero]
  simp only [krot, e1, sub_zero, zero_mul, Finset.sum_const_zero, add_zero]
  split
  · next h =>
    rw [Finset.sum_eq_single ⟨d.val + 8, by omega⟩]
    · rw [rot, if_pos ⟨h, rfl⟩, mul_neg, mul_one]
    · intro k _ hk
      rw [rot, if_neg fun c => hk (Fin.ext c.2), if_neg (by omega), mul_zero]
    · simp
  · next h =>
    split
    · next h' =>
      rw [Finset.sum_eq_single ⟨d.val - 8, by omega⟩]
      · rw [rot, if_neg fun c => h c.1, if_pos (by dsimp only; omega), mul_one]
      · intro k _ hk
        rw [rot, if_neg fun c => h c.1, if_neg fun c => hk (Fin.ext (by dsimp only; omega)), mul_zero]
      · simp
    · next h' =>
      refine Finset.sum_eq_zero fun k _ => ?_
      rw [rot, if_neg fun c => h c.1, if_neg (by omega), mul_zero]

/-- The kernel's tables of cosines and sines over the 64 lanes. -/
def kcos (cos : Fin 8 → EReal) (d : Fin 64) : EReal :=
  if h : d.val < 8 then cos ⟨d.val, h⟩ else if h' : d.val < 16 then cos ⟨d.val - 8, by omega⟩ else 1

def ksin (sin : Fin 8 → EReal) (d : Fin 64) : EReal :=
  if h : d.val < 8 then sin ⟨d.val, h⟩ else if h' : d.val < 16 then sin ⟨d.val - 8, by omega⟩ else 0

/-- On real numbers the kernel's rotation is the rotation. -/
theorem krope_eq (cos sin : Fin 8 → EReal) (y : Fin 64 → EReal) (hy : ∀ k, ∃ x : ℝ, y k = x) (d : Fin 64) :
    y d * kcos cos d + krot y d * ksin sin d = rope cos sin y d := by
  rw [krot_eq y hy, kcos, ksin, rope]
  split
  · rw [EReal.neg_mul, ← sub_eq_add_neg]
  · split
    · rfl
    · rw [mul_one, zero_mul, add_zero]

/-- The network as the kernel forms it, of the groups, the embedding and the two weights. -/
def kval (a : Fin 128 → Fin 1024 → EReal) (e : Fin 2048 → EReal) (w : Fin 2048 → Fin 256 → EReal) (u : Fin 256 → Fin 64 → EReal) (n : Fin 128) (d : Fin 64) : EReal :=
  dot3 (fun j => kgelu (khid (a n) (a (nxt n)) e fun k => w k j)) fun j => u j d

theorem kval_congr {a a' : Fin 128 → Fin 1024 → EReal} {e e' : Fin 2048 → EReal} {w w' : Fin 2048 → Fin 256 → EReal} {u u' : Fin 256 → Fin 64 → EReal}
    (ha : ∀ n k, a n k = a' n k) (he : ∀ k, e k = e' k) (hw : ∀ k j, w k j = w' k j) (hu : ∀ j d, u j d = u' j d) (n : Fin 128) (d : Fin 64) :
    kval a e w u n d = kval a' e' w' u' n d := by
  obtain rfl : a = a' := funext fun n => funext (ha n)
  obtain rfl : e = e' := funext he
  obtain rfl : w = w' := funext fun k => funext (hw k)
  obtain rfl : u = u' := funext fun j => funext (hu j)
  rfl

section Real

variable (p : P.Idx → EReal) (e : E.Idx → EReal) (w : W.Idx → EReal) (u : U.Idx → EReal)
  (hp : ∀ i k, ∃ x : ℝ, p (ix2 i k) = x) (he : ∀ i k, ∃ x : ℝ, e (ix2 i k) = x) (hw : ∀ i k, ∃ x : ℝ, w (ix2 i k) = x) (hu : ∀ i k, ∃ x : ℝ, u (ix2 i k) = x)
  (b : Fin 8) (h : Fin 4) (n : Fin 128)

include hp he in
theorem in_real (k : Fin 2048) : ∃ x : ℝ, blk p b h n k + pos e k = x := by
  obtain ⟨y, hy⟩ : ∃ y : ℝ, blk p b h n k = y := by
    unfold blk
    split
    · exact hp _ _
    · exact hp _ _
  obtain ⟨z, hz⟩ : ∃ z : ℝ, pos e k = z := he _ _
  exact ⟨y + z, by rw [hy, hz, EReal.coe_add]⟩

include hp he hw in
theorem act_real (j : Fin 256) : ∃ x : ℝ, gelu (hid p e w b h n j) = x :=
  gelu_real _ (sum_real _ _ (in_real p e hp he b h n) fun k => hw k j)

include hp he hw hu in
theorem val_real (d : Fin 64) : ∃ x : ℝ, val p e w u b h n d = x :=
  sum_real _ _ (act_real p e w hp he hw b h n) fun j => hu j d

include hp he hw hu in
/-- On real arguments the kernel's network is the network. -/
theorem kval_eq (d : Fin 64) : kval (grp p b h) (pos e) (fun k j => w (ix2 k j)) (fun j d => u (ix2 j d)) n d = val p e w u b h n d := by
  have hh : ∀ j, kgelu (khid (grp p b h n) (grp p b h (nxt n)) (pos e) fun k => w (ix2 k j)) = gelu (hid p e w b h n j) := fun j =>
    (kgelu_eq _).trans (congrArg gelu (khid_eq _ _ _ _ (fun k => hp _ _) (fun k => hp _ _) (fun k => he _ _) fun k => hw k j))
  unfold kval val
  simp only [hh]
  exact dot3_real _ _ (act_real p e w hp he hw b h n) fun j => hu j d

end Real

end Compress

end
-- ==== Proof.CompressArray.lean ====
/-
  The compression kernel: its payloads at an index, its blocks, and the arrays it leaves where its arguments are finite.
-/
module

public import proofs.«01_k».proof.Proof.Gen.CompressIdeal.Value
public import proofs.«01_k».proof.Proof.CompressSpec
public import Idealize.ShloMosaic.Lib.Pipeline.ValueKit
public import Idealize.ShloMosaic.Lib.KernelVsHost
public import Idealize.ShloMosaic.Lib.Claim

@[expose] public section

set_option maxRecDepth 16384

noncomputable section

open Idealize.ShloMosaic Idealize.ShloMosaic.TcCoe
open scoped BigOperators

namespace Cert.CompressIdeal.Array

open Cert.CompressIdeal Cert.CompressIdeal.Gen

/-! ## The payloads -/

theorem pay3_apply (v : FVec Ideal S1x1x128x1024 .f32) (w : FVec Ideal S1024x256 .f32) (n : Fin 128) (j : Fin 256) :
    k0_pay3 (F := Ideal) v w (ix2 n j) = Compress.dot3 (fun k : Fin 1024 => v (ix4 0 0 n k)) (fun k => w (ix2 k j)) := by
  unfold Compress.dot3
  pointwise [k0_pay3, k0_pay2]

theorem pay4_apply (v : FVec Ideal S1x1x128x1024 .f32) (w : FVec Ideal S1024x256 .f32) (n : Fin 128) (j : Fin 256) :
    k0_pay4 (F := Ideal) v w (ix2 n j) = Compress.dot3 (fun k : Fin 1024 => v (ix4 0 0 n k)) (fun k => w (ix2 k j)) := by
  unfold Compress.dot3
  pointwise [k0_pay4, k0_pay2]

theorem pay14_apply (v : FVec Ideal S1x1x128x1024 .f32) (w : FVec Ideal S1024x256 .f32) (n : Fin 128) (j : Fin 256) :
    k0_pay14 (F := Ideal) (k0_pay12 v) w (ix2 n j) = Compress.dot3 (fun k : Fin 1024 => v (ix4 0 0 n k)) (fun k => w (ix2 k j)) := by
  unfold Compress.dot3
  pointwise [k0_pay14, k0_pay12]

theorem pay15_apply (v : FVec Ideal S1x1x128x1024 .f32) (w : FVec Ideal S1024x256 .f32) (n : Fin 128) (j : Fin 256) :
    k0_pay15 (F := Ideal) (k0_pay12 v) w (ix2 n j) = Compress.dot3 (fun k : Fin 1024 => v (ix4 0 0 n k)) (fun k => w (ix2 k j)) := by
  unfold Compress.dot3
  pointwise [k0_pay15, k0_pay12]

theorem pay16_apply (e : FVec Ideal S1x2048 .f32) (w : FVec Ideal S2048x256 .f32) (j : Fin 256) :
    k0_pay16 (F := Ideal) (k0_pay13 e) w (ix2 0 j) = Compress.dot3 (fun k : Fin 2048 => e (ix2 0 k)) (fun k => w (ix2 k j)) := by
  unfold Compress.dot3
  pointwise [k0_pay16, k0_pay13]

/-- The rotation by 127 of 128 rows takes the next row. -/
theorem rotate_apply (x : FVec Ideal S128x256 .f32) (n : Fin 128) (j : Fin 256) :
    dynamicRotate 0 127#32 none x rotates_S128x256_d0 (ix2 n j) = x (ix2 (Compress.nxt n) j) :=
  dynamicRotate_apply _ _ _ _ _ _ fun b => by
    match b with
    | ⟨0, _⟩ => exact (by omega : (n.val + 1) % 128 = (n.val + 128 - 127 % 128) % 128)
    | ⟨1, _⟩ => rfl

theorem pay1_apply (a b : FVec Ideal S128x256 .f32) (e : FVec Ideal S1x256 .f32) (u : FVec Ideal S256x64 .f32) (n : Fin 128) (d : Fin 64) :
    k0_pay1 (F := Ideal) a b e 127#32 u (ix4 0 0 n d)
      = Compress.dot3 (fun j : Fin 256 => Compress.kgelu (a (ix2 n j) + b (ix2 (Compress.nxt n) j) + e (ix2 0 j))) (fun j => u (ix2 j d)) := by
  simp only [← rotate_apply]
  unfold Compress.dot3 Compress.kgelu
  pointwise [k0_pay1]

theorem pay9_apply (a b : FVec Ideal S128x256 .f32) (e : FVec Ideal S1x2048 .f32) (w : FVec Ideal S2048x256 .f32) (u : FVec Ideal S256x64 .f32) (n : Fin 128) (d : Fin 64) :
    k0_pay9 (F := Ideal) a b w (k0_pay6 e) (k0_pay7 e) (k0_pay8 w) u (ix2 n d)
      = Compress.dot3 (fun j : Fin 256 => Compress.kgelu (a (ix2 n j) + b (ix2 (Compress.nxt n) j) + Compress.dot3 (fun k : Fin 2048 => e (ix2 0 k)) (fun k => w (ix2 k j)))) (fun j => u (ix2 j d)) := by
  simp only [← rotate_apply]
  unfold Compress.dot3 Compress.kgelu
  pointwise [k0_pay9, k0_pay8, k0_pay7, k0_pay6, k0_pay5]

theorem pay10_apply (a b : FVec Ideal S128x256 .f32) (e1 e2 : FVec Ideal S8x2048 .bf16) (w : FVec Ideal S2048x256 .f32) (w' : FVec Ideal S2048x256 .bf16) (u : FVec Ideal S256x64 .f32) (n : Fin 128) :
    k0_pay10 (F := Ideal) a b w e1 e2 w' u (ix2 n 0)
      = Ideal.div (∑ k : Fin 64, k0_pay9 (F := Ideal) a b w e1 e2 w' u (ix2 n k) * k0_pay9 (F := Ideal) a b w e1 e2 w' u (ix2 n k)) (Ideal.ofBits .f32 0x42800000#32) := by
  pointwise [k0_pay10]

theorem pay11_apply (v : FVec Ideal S128x64 .f32) (q : FVec Ideal S128x1 .f32) (g : FVec Ideal S1x64 .f32) (co : FVec Ideal S128x64 .f32) (ro : FVec Ideal S64x64 .bf16) (si : FVec Ideal S128x64 .f32)
    (hr : ∀ k d, @Eq EReal (ro (ix2 k d)) (Compress.rot k d)) (hq : ∀ n, @Eq EReal (q (ix2 n 0)) (Ideal.div (∑ k : Fin 64, v (ix2 n k) * v (ix2 n k)) (Ideal.ofBits .f32 0x42800000#32))) (n : Fin 128) (d : Fin 64) :
    k0_pay11 (F := Ideal) v q g co ro si (ix4 0 0 n d)
      = Compress.norm (fun k => v (ix2 n k)) (fun k => g (ix2 0 k)) d * co (ix2 n d)
        + Compress.krot (Compress.norm (fun k => v (ix2 n k)) (fun k => g (ix2 0 k))) d * si (ix2 n d) := by
  unfold Compress.krot Compress.norm
  simp only [← hr, ← hq]
  pointwise [k0_pay11]

/-! ## The blocks -/

variable (m : (ℓ : Loc nD τ sig) → Buf (Elt Ideal) ℓ)

theorem head_eq : ∀ t : Fin grid0.N, win0_0.index t = ![t.val / 4, t.val % 4, 0, 0] ∧ win0_1.index t = ![t.val / 4, t.val % 4, 0, 0]
    ∧ win0_12.index t = ![t.val / 4, t.val % 4, 0, 0] ∧ win0_13.index t = ![t.val / 4, t.val % 4, 0, 0] := by
  decide +kernel

theorem whole_eq : ∀ t : Fin grid0.N, win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0] := by
  decide +kernel

abbrev PK (c : Dev nD) : FVec Ideal S16384x256 .f32 := m ((c : Thread nD τ).loc main_arg0)
abbrev PV (c : Dev nD) : FVec Ideal S16384x256 .f32 := m ((c : Thread nD τ).loc main_arg1)
abbrev EK (c : Dev nD) : FVec Ideal S32x64 .f32 := m ((c : Thread nD τ).loc main_arg2)
abbrev EV (c : Dev nD) : FVec Ideal S32x64 .f32 := m ((c : Thread nD τ).loc main_arg3)
abbrev WK (c : Dev nD) : FVec Ideal S2048x256 .f32 := m ((c : Thread nD τ).loc main_arg4)
abbrev UK (c : Dev nD) : FVec Ideal S256x64 .f32 := m ((c : Thread nD τ).loc main_arg5)
abbrev WV (c : Dev nD) : FVec Ideal S2048x256 .f32 := m ((c : Thread nD τ).loc main_arg6)
abbrev UV (c : Dev nD) : FVec Ideal S256x64 .f32 := m ((c : Thread nD τ).loc main_arg7)
abbrev NG (c : Dev nD) : FVec Ideal S3x64 .f32 := m ((c : Thread nD τ).loc main_arg8)

variable (c : Dev nD) (t : Fin cfg0.N)

theorem pt_lt : t.val < 32 := lt_of_lt_of_eq t.isLt N_0

/-- A point's batch and head. -/
def bat : Fin 8 := ⟨t.val / 4, by have := pt_lt t; omega⟩
def hd : Fin 4 := ⟨t.val % 4, by omega⟩

/-- The host's grouping of the columns. -/
abbrev groups (p : FVec Ideal S16384x256 .f32) : FVec Ideal S8x4x128x1024 .f32 :=
  shapeCast S8x4x128x1024 (transpose S8x4x128x16x64 [0, 3, 1, 2, 4] (shapeCast S8x128x16x4x64 p shapeCasts_S16384x256_S8x128x16x4x64) transposes_S8x128x16x4x64_S8x4x128x16x64_0_3_1_2_4)
    shapeCasts_S8x4x128x16x64_S8x4x128x1024

theorem groups_apply (p : FVec Ideal S16384x256 .f32) (b : Fin 8) (h : Fin 4) (n : Fin 128) (k : Fin 1024) : groups p (ix4 b h n k) = Compress.grp p b h n k := by
  unfold Compress.grp
  pointwise [groups]

theorem pk_blk (n : Fin 128) (k : Fin 1024) : iblk m c 0 t (ix4 0 0 n k) = Compress.grp (PK m c) (bat t) (hd t) n k := by
  have h := head_eq t
  refine (show iblk m c 0 t (ix4 0 0 n k) = groups (PK m c) (ix4 (bat t) (hd t) n k) from by unfold bat hd; blk_ext! [iblk, V, h.1]).trans (groups_apply _ _ _ _ _)

theorem pv_blk (n : Fin 128) (k : Fin 1024) : iblk m c 1 t (ix4 0 0 n k) = Compress.grp (PV m c) (bat t) (hd t) n k := by
  have h := head_eq t
  refine (show iblk m c 1 t (ix4 0 0 n k) = groups (PV m c) (ix4 (bat t) (hd t) n k) from by unfold bat hd; blk_ext! [iblk, V, h.2.1]).trans (groups_apply _ _ _ _ _)

theorem flat_apply (e : FVec Ideal S32x64 .f32) (k : Fin 2048) : (shapeCast S1x2048 e shapeCasts_S32x64_S1x2048 : FVec Ideal S1x2048 .f32) (ix2 0 k) = Compress.pos e k := by
  unfold Compress.pos
  pointwise []

theorem ek_blk (k : Fin 2048) : iblk m c 2 t (ix2 0 k) = Compress.pos (EK m c) k := by
  have h := whole_eq t
  refine (show iblk m c 2 t (ix2 0 k) = (shapeCast S1x2048 (EK m c) shapeCasts_S32x64_S1x2048 : FVec Ideal S1x2048 .f32) (ix2 0 k) from by blk_ext! [iblk, V, h.1]).trans (flat_apply _ _)

theorem ev_blk (k : Fin 2048) : iblk m c 3 t (ix2 0 k) = Compress.pos (EV m c) k := by
  have h := whole_eq t
  refine (show iblk m c 3 t (ix2 0 k) = (shapeCast S1x2048 (EV m c) shapeCasts_S32x64_S1x2048 : FVec Ideal S1x2048 .f32) (ix2 0 k) from by blk_ext! [iblk, V, h.2.1]).trans (flat_apply _ _)

theorem wk_blk (k : Fin 2048) (j : Fin 256) : iblk m c 4 t (ix2 k j) = WK m c (ix2 k j) := by
  have h := whole_eq t
  blk_ext [iblk, V_main_arg4, h.2.2.1]

theorem uk_blk (j : Fin 256) (d : Fin 64) : iblk m c 5 t (ix2 j d) = UK m c (ix2 j d) := by
  have h := whole_eq t
  blk_ext [iblk, V_main_arg5, h.2.2.2.1]

theorem wv_blk (k : Fin 2048) (j : Fin 256) : iblk m c 6 t (ix2 k j) = WV m c (ix2 k j) := by
  have h := whole_eq t
  blk_ext [iblk, V_main_arg6, h.2.2.2.2.1]

theorem uv_blk (j : Fin 256) (d : Fin 64) : iblk m c 7 t (ix2 j d) = UV m c (ix2 j d) := by
  have h := whole_eq t
  blk_ext [iblk, V_main_arg7, h.2.2.2.2.2.1]

theorem ng_blk (r : Fin 3) (d : Fin 64) : iblk m c 8 t (ix2 r d) = NG m c (ix2 r d) := by
  have h := whole_eq t
  blk_ext [iblk, V_main_arg8, h.2.2.2.2.2.2.1]

end Cert.CompressIdeal.Array

end
-- ==== Proof.CompressTables.lean ====
/-
  The compression kernel's host tables: the cosines, the sines, and the signed permutation.
-/
module

public import proofs.«01_k».proof.Proof.CompressArray

@[expose] public section

set_option maxRecDepth 16384

noncomputable section

open Idealize.ShloMosaic Idealize.ShloMosaic.TcCoe
open scoped BigOperators

namespace Cert.CompressIdeal.Array

open Cert.CompressIdeal Cert.CompressIdeal.Gen

/-- The host's angles. -/
abbrev angles : FVec Ideal S128x8 .f32 :=
  mulf (broadcastInDim S128x8 ![0, 1] bcast_S128x1_S128x8_0_1 (broadcastInDim S128x1 ![0] bcast_S128_S128x1_0 (sitofp .f32
      (subi (addi (muli (iotaInDim S128 32 0) (broadcastInDim S128 ![] bcast_S_S128 (constantI S_ 32 16#32))) (broadcastInDim S128 ![] bcast_S_S128 (constantI S_ 32 32#32)))
        (broadcastInDim S128 ![] bcast_S_S128 (constantI S_ 32 1#32))))))
    (broadcastInDim S128x8 ![0, 1] bcast_S1x8_S128x8_0_1 (broadcastInDim S1x8 ![1] bcast_S8_S1x8_1
      (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- The last token of a block, as the host forms its number. -/
theorem end_eq : ∀ n : Fin 128, BitVec.ofNat 32 n.val * 16#32 + 32#32 - 1#32 = BitVec.ofNat 32 (n.val * 16 + 31) := by
  decide +kernel

theorem angles_apply (n : Fin 128) (l : Fin 8) : angles (ix2 n l) = Compress.ang n l := by
  unfold Compress.ang
  rw [← end_eq]
  rfl

/-- The host's zeros and ones beside the tables. -/
abbrev zeros : FVec Ideal S128x48 .f32 := broadcastInDim S128x48 ![] bcast_S_S128x48 (constant S_ .f32 0x00000000#32)
abbrev ones : FVec Ideal S128x48 .f32 := addf zeros (broadcastInDim S128x48 ![] bcast_S_S128x48 (constant S_ .f32 0x3F800000#32))
abbrev zeros8 : FVec Ideal S128x8 .f32 := broadcastInDim S128x8 ![] bcast_S_S128x8 (constant S_ .f32 0x00000000#32)

abbrev join (a b : FVec Ideal S128x8 .f32) (z : FVec Ideal S128x48 .f32) : FVec Ideal S128x64 .f32 :=
  concatenate S128x64 1 [⟨S128x8, a⟩, ⟨S128x8, b⟩, ⟨S128x48, z⟩] concatenates_S128x8_S128x8_S128x48_S128x64_d1

theorem join_apply (a b : FVec Ideal S128x8 .f32) (z : FVec Ideal S128x48 .f32) (n : Fin 128) (d : Fin 64) :
    join a b z (ix2 n d) = if h : d.val < 8 then a (ix2 n ⟨d.val, h⟩) else if h' : d.val < 16 then b (ix2 n ⟨d.val - 8, by omega⟩) else z (ix2 n ⟨d.val - 16, by omega⟩) := by
  pointwise [join]
  have h8 : (d.val - 8 < 8) ↔ d.val < 16 := by omega
  have e8 : d.val - 8 - 8 = d.val - 16 := by omega
  simp only [h8, e8]

variable (m : (ℓ : Loc nD τ sig) → Buf (Elt Ideal) ℓ) (c : Dev nD) (t : Fin cfg0.N)

set_option maxHeartbeats 4000000 in
theorem co_raw (n : Fin 128) (d : Fin 64) : iblk m c 9 t (ix2 n d) = join (Host.cos angles) (Host.cos angles) ones (ix2 n d) := by
  have h := whole_eq t
  blk_ext! [iblk, V, h.2.2.2.2.2.2.2.1]

set_option maxHeartbeats 4000000 in
theorem si_raw (n : Fin 128) (d : Fin 64) : iblk m c 10 t (ix2 n d)
    = subf (join zeros8 (Host.sin angles) zeros) (join (Host.negf (Host.sin angles)) zeros8 zeros) (ix2 n d) := by
  have h := whole_eq t
  blk_ext! [iblk, V, h.2.2.2.2.2.2.2.2.1]

/-- The host's signed permutation. -/
abbrev perm : FVec Ideal S64x64 .bf16 :=
  let r : IVec S64x1 32 := broadcastInDim S64x1 ![0] bcast_S64_S64x1_0 (iotaInDim S64 32 0)
  let d : IVec S1x64 32 := broadcastInDim S1x64 ![1] bcast_S64_S1x64_1 (iotaInDim S64 32 0)
  truncf .bf16 (select
    (andi (broadcastInDim S64x64 ![0, 1] bcast_S1x64_S64x64_0_1 (cmpi .slt d (broadcastInDim S1x64 ![] bcast_S_S1x64 (constantI S_ 32 8#32))))
      (cmpi .eq (broadcastInDim S64x64 ![0, 1] bcast_S64x1_S64x64_0_1 r) (broadcastInDim S64x64 ![0, 1] bcast_S1x64_S64x64_0_1 (addi d (broadcastInDim S1x64 ![] bcast_S_S1x64 (constantI S_ 32 8#32))))))
    (broadcastInDim S64x64 ![] bcast_S_S64x64 (constant S_ .f32 0xBF800000#32))
    (select
      (andi (broadcastInDim S64x64 ![0, 1] bcast_S64x1_S64x64_0_1 (cmpi .slt r (broadcastInDim S64x1 ![] bcast_S_S64x1 (constantI S_ 32 8#32))))
        (cmpi .eq (broadcastInDim S64x64 ![0, 1] bcast_S1x64_S64x64_0_1 d) (broadcastInDim S64x64 ![0, 1] bcast_S64x1_S64x64_0_1 (addi r (broadcastInDim S64x1 ![] bcast_S_S64x1 (constantI S_ 32 8#32))))))
      (broadcastInDim S64x64 ![] bcast_S_S64x64 (constant S_ .f32 0x3F800000#32))
      (broadcastInDim S64x64 ![] bcast_S_S64x64 (constant S_ .f32 0x00000000#32)))) bitsLt_bf16_f32

set_option maxHeartbeats 4000000 in
theorem ro_raw (k d : Fin 64) : @Eq EReal (iblk m c 11 t (ix2 k d)) (perm (ix2 k d)) := by
  have h := whole_eq t
  blk_ext! [iblk, V, h.2.2.2.2.2.2.2.2.2]

theorem ones_apply (n : Fin 128) (l : Fin 48) : @Eq EReal (ones (ix2 n l)) 1 := by
  pointwise [ones, zeros]

theorem zeros_apply (n : Fin 128) (l : Fin 48) : @Eq EReal (zeros (ix2 n l)) 0 := by
  pointwise [zeros]

theorem zeros8_apply (n : Fin 128) (l : Fin 8) : @Eq EReal (zeros8 (ix2 n l)) 0 := by
  pointwise [zeros8]

/-- The table of cosines. -/
theorem co_blk (n : Fin 128) (d : Fin 64) : @Eq EReal (iblk m c 9 t (ix2 n d)) (Compress.kcos (fun l => Ideal.cos (Compress.ang n l)) d) := by
  refine (co_raw m c t n d).trans ((join_apply _ _ _ _ _).trans ?_)
  unfold Compress.kcos
  simp only [← angles_apply, ones_apply]
  rfl

theorem sines (x : FVec Ideal S128x8 .f32) (n : Fin 128) (d : Fin 64) :
    @Eq EReal (subf (join zeros8 x zeros) (join (Host.negf x) zeros8 zeros) (ix2 n d)) (Compress.ksin (fun l => x (ix2 n l)) d) := by
  refine (show @Eq EReal _ (join zeros8 x zeros (ix2 n d) - join (Host.negf x) zeros8 zeros (ix2 n d)) from rfl).trans ?_
  rw [join_apply, join_apply]
  unfold Compress.ksin
  split
  · rw [zeros8_apply]
    exact (zero_sub _).trans (neg_neg _)
  · split
    · rw [zeros8_apply]
      exact sub_zero _
    · rw [zeros_apply]
      exact sub_zero _

/-- The table of sines. -/
theorem si_blk (n : Fin 128) (d : Fin 64) : @Eq EReal (iblk m c 10 t (ix2 n d)) (Compress.ksin (fun l => Ideal.sin (Compress.ang n l)) d) := by
  refine (si_raw m c t n d).trans ((sines _ _ _).trans ?_)
  simp only [← angles_apply]
  rfl

/-- The words of the permutation's tests. -/
theorem test_eq : ∀ k d : Fin 64, IntOp.andi (IntOp.cmpi .slt (BitVec.ofNat 32 d.val) 8#32) (IntOp.cmpi .eq (BitVec.ofNat 32 k.val) (IntOp.addi (BitVec.ofNat 32 d.val) 8#32))
    = if d.val < 8 ∧ k.val = d.val + 8 then 1#1 else 0#1 := by
  decide +kernel

theorem select_if {A : Type} (q : Prop) [Decidable q] (a b : A) : Scalar.select (if q then 1#1 else 0#1) a b = if q then a else b := by
  split
  · rfl
  · rfl

theorem minus_one : Ideal.ofBits .f32 0xBF800000#32 = -1 := by
  simp [Ideal.ofBits, Ideal.ieee]
  rw [← EReal.coe_mul]; norm_num

/-- The signed permutation. -/
theorem ro_blk (k d : Fin 64) : @Eq EReal (iblk m c 11 t (ix2 k d)) (Compress.rot k d) := by
  refine (ro_raw m c t k d).trans ?_
  unfold Compress.rot
  pointwise [perm]
  rw [test_eq k d, test_eq d k, select_if, select_if, minus_one]

end Cert.CompressIdeal.Array

end
-- ==== Proof.CompressBody.lean ====
/-
  The compression kernel's two output arrays after the run, on real arguments.
-/
module

public import proofs.«01_k».proof.Proof.CompressTables

@[expose] public section

set_option maxRecDepth 16384

noncomputable section

open Idealize.ShloMosaic Idealize.ShloMosaic.TcCoe
open scoped BigOperators

namespace Cert.CompressIdeal.Array

open Cert.CompressIdeal Cert.CompressIdeal.Gen

/-- The upper half of the first layer's weights. -/
theorem upper (w : FVec Ideal S2048x256 .f32) (k : Fin 1024) (j : Fin 256) : View.ld (Val := Elt Ideal) (e' := .f32) w r0_2 (ix2 k j) = w (ix2 ⟨k.val, by omega⟩ j) :=
  View.ld_unit_apply_of (Val := Elt Ideal) (e := .f32) w _ _ _ _ _ fun a => by
    match a with
    | ⟨0, _⟩ => exact (Nat.zero_add _).symm
    | ⟨1, _⟩ => exact (Nat.zero_add _).symm

/-- The lower half. -/
theorem lower (w : FVec Ideal S2048x256 .f32) (k : Fin 1024) (j : Fin 256) : View.ld (Val := Elt Ideal) (e' := .f32) w r0_3 (ix2 k j) = w (ix2 ⟨1024 + k.val, by omega⟩ j) :=
  View.ld_unit_apply_of (Val := Elt Ideal) (e := .f32) w _ _ _ _ _ fun a => by
    match a with
    | ⟨0, _⟩ => rfl
    | ⟨1, _⟩ => exact (Nat.zero_add _).symm

/-- The first of the three gains. -/
theorem first (g : FVec Ideal S3x64 .f32) (d : Fin 64) : View.ld (Val := Elt Ideal) (e' := .f32) g r0_6 (ix2 0 d) = g (ix2 0 d) :=
  View.ld_unit_apply_of (Val := Elt Ideal) (e := .f32) g _ _ _ _ _ fun a => by
    match a with
    | ⟨0, _⟩ => rfl
    | ⟨1, _⟩ => exact (Nat.zero_add _).symm

/-- The network of a point's blocks. -/
abbrev net (x : FVec Ideal S1x1x128x1024 .f32) (e : FVec Ideal S1x2048 .f32) (w : FVec Ideal S2048x256 .f32) (u : FVec Ideal S256x64 .f32) : Fin 128 → Fin 64 → EReal :=
  Compress.kval (fun n k => x (ix4 0 0 n k)) (fun k => e (ix2 0 k)) (fun k j => w (ix2 k j)) fun j d => u (ix2 j d)

/-- What the body leaves in its block of values. -/
theorem values_apply (x0 x1 : FVec Ideal S1x1x128x1024 .f32) (x2 x3 : FVec Ideal S1x2048 .f32) (x4 : FVec Ideal S2048x256 .f32) (x5 : FVec Ideal S256x64 .f32) (x6 : FVec Ideal S2048x256 .f32) (x7 : FVec Ideal S256x64 .f32)
    (x8 : FVec Ideal S3x64 .f32) (x9 x10 : FVec Ideal S128x64 .f32) (x11 : FVec Ideal S64x64 .bf16) (n : Fin 128) (d : Fin 64) :
    out0_13 (F := Ideal) x0 x1 x2 x3 x4 x5 x6 x7 x8 x9 x10 x11 (ix4 0 0 n d) = net x1 x3 x6 x7 n d := by
  have e : out0_13 (F := Ideal) x0 x1 x2 x3 x4 x5 x6 x7 x8 x9 x10 x11
      = k0_pay1 (F := Ideal) (k0_pay14 (k0_pay12 x1) (View.ld x6 r0_2)) (k0_pay15 (k0_pay12 x1) (View.ld x6 r0_3)) (k0_pay16 (k0_pay13 x3) x6) 127#32 x7 := by
    frame_out
    unfold k0_pay22
    frame_out
  rw [e, pay1_apply]
  simp only [pay14_apply, pay15_apply, pay16_apply]
  exact congrArg₂ Compress.dot3 (funext fun j => congrArg Compress.kgelu (congrArg₂ (· + ·) (congrArg₂ (· + ·)
    (congrArg₂ Compress.dot3 rfl (funext fun k => upper _ k j)) (congrArg₂ Compress.dot3 rfl (funext fun k => lower _ k j))) rfl)) rfl

/-- The kernel's keys before their normalisation. -/
theorem raw_apply (x : FVec Ideal S1x1x128x1024 .f32) (e : FVec Ideal S1x2048 .f32) (w : FVec Ideal S2048x256 .f32) (u : FVec Ideal S256x64 .f32) (n : Fin 128) (d : Fin 64) :
    k0_pay9 (F := Ideal) (k0_pay3 x (View.ld w r0_2)) (k0_pay4 x (View.ld w r0_3)) w (k0_pay6 e) (k0_pay7 e) (k0_pay8 w) u (ix2 n d) = net x e w u n d := by
  rw [pay9_apply]
  simp only [pay3_apply, pay4_apply]
  exact congrArg₂ Compress.dot3 (funext fun j => congrArg Compress.kgelu (congrArg₂ (· + ·) (congrArg₂ (· + ·)
    (congrArg₂ Compress.dot3 rfl (funext fun k => upper _ k j)) (congrArg₂ Compress.dot3 rfl (funext fun k => lower _ k j))) rfl)) rfl

/-- What the body leaves in its block of keys. -/
theorem keys_apply (x0 x1 : FVec Ideal S1x1x128x1024 .f32) (x2 x3 : FVec Ideal S1x2048 .f32) (x4 : FVec Ideal S2048x256 .f32) (x5 : FVec Ideal S256x64 .f32) (x6 : FVec Ideal S2048x256 .f32) (x7 : FVec Ideal S256x64 .f32)
    (x8 : FVec Ideal S3x64 .f32) (x9 x10 : FVec Ideal S128x64 .f32) (x11 : FVec Ideal S64x64 .bf16) (hr : ∀ k d, @Eq EReal (x11 (ix2 k d)) (Compress.rot k d)) (n : Fin 128) (d : Fin 64) :
    out0_12 (F := Ideal) x0 x1 x2 x3 x4 x5 x6 x7 x8 x9 x10 x11 (ix4 0 0 n d)
      = Compress.norm (net x0 x2 x4 x5 n) (fun k => x8 (ix2 0 k)) d * x9 (ix2 n d) + Compress.krot (Compress.norm (net x0 x2 x4 x5 n) (fun k => x8 (ix2 0 k))) d * x10 (ix2 n d) := by
  have e : out0_12 (F := Ideal) x0 x1 x2 x3 x4 x5 x6 x7 x8 x9 x10 x11
      = k0_pay11 (F := Ideal) (k0_pay9 (k0_pay3 x0 (View.ld x4 r0_2)) (k0_pay4 x0 (View.ld x4 r0_3)) x4 (k0_pay6 x2) (k0_pay7 x2) (k0_pay8 x4) x5)
          (k0_pay10 (k0_pay3 x0 (View.ld x4 r0_2)) (k0_pay4 x0 (View.ld x4 r0_3)) x4 (k0_pay6 x2) (k0_pay7 x2) (k0_pay8 x4) x5) (View.ld x8 r0_6) x9 x11 x10 := by
    frame_out
    unfold k0_pay17 k0_pay18 k0_pay19 k0_pay20 k0_pay21
    frame_out
  rw [e, pay11_apply _ _ _ _ _ _ hr fun n => pay10_apply _ _ _ _ _ _ _ _]
  simp only [raw_apply]
  have hg : (fun k : Fin 64 => View.ld (Val := Elt Ideal) (e' := .f32) x8 r0_6 (ix2 0 k)) = fun k => x8 (ix2 0 k) := funext (first x8)
  have hn : Compress.norm (net x0 x2 x4 x5 n) (fun k : Fin 64 => View.ld (Val := Elt Ideal) (e' := .f32) x8 r0_6 (ix2 0 k)) = Compress.norm (net x0 x2 x4 x5 n) fun k => x8 (ix2 0 k) :=
    congrArg (Compress.norm _) hg
  exact congrArg₂ (· + ·) (congrArg (· * _) (congrFun hn d)) (congrArg (fun y => Compress.krot y d * _) hn)

variable (m : (ℓ : Loc nD τ sig) → Buf (Elt Ideal) ℓ) (c : Dev nD) (t : Fin cfg0.N)

/-- Every argument that the network reads is real. -/
structure Reals : Prop where
  pk : ∀ i k, ∃ x : ℝ, PK m c (ix2 i k) = x
  pv : ∀ i k, ∃ x : ℝ, PV m c (ix2 i k) = x
  ek : ∀ i k, ∃ x : ℝ, EK m c (ix2 i k) = x
  ev : ∀ i k, ∃ x : ℝ, EV m c (ix2 i k) = x
  wk : ∀ i k, ∃ x : ℝ, WK m c (ix2 i k) = x
  uk : ∀ i k, ∃ x : ℝ, UK m c (ix2 i k) = x
  wv : ∀ i k, ∃ x : ℝ, WV m c (ix2 i k) = x
  uv : ∀ i k, ∃ x : ℝ, UV m c (ix2 i k) = x
  ng : ∀ k, ∃ x : ℝ, NG m c (ix2 0 k) = x

variable (hm : Reals m c)

include hm in
theorem net_k (n : Fin 128) (d : Fin 64) : net (iblk m c 0 t) (iblk m c 2 t) (iblk m c 4 t) (iblk m c 5 t) n d = Compress.val (PK m c) (EK m c) (WK m c) (UK m c) (bat t) (hd t) n d :=
  (Compress.kval_congr (pk_blk m c t) (ek_blk m c t) (wk_blk m c t) (uk_blk m c t) n d).trans (Compress.kval_eq _ _ _ _ hm.pk hm.ek hm.wk hm.uk _ _ n d)

include hm in
theorem net_v (n : Fin 128) (d : Fin 64) : net (iblk m c 1 t) (iblk m c 3 t) (iblk m c 6 t) (iblk m c 7 t) n d = Compress.val (PV m c) (EV m c) (WV m c) (UV m c) (bat t) (hd t) n d :=
  (Compress.kval_congr (pv_blk m c t) (ev_blk m c t) (wv_blk m c t) (uv_blk m c t) n d).trans (Compress.kval_eq _ _ _ _ hm.pv hm.ev hm.wv hm.uv _ _ n d)

include hm in
/-- What a point leaves in its block of values. -/
theorem values_row (n : Fin 128) (d : Fin 64) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix4 0 0 n d)
      = Compress.val (PV m c) (EV m c) (WV m c) (UV m c) (bat t) (hd t) n d :=
  (values_apply _ _ _ _ _ _ _ _ _ _ _ _ n d).trans (net_v m c t hm n d)

include hm in
/-- What a point leaves in its block of keys. -/
theorem keys_row (n : Fin 128) (d : Fin 64) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix4 0 0 n d)
      = Compress.key (PK m c) (EK m c) (WK m c) (UK m c) (NG m c) (bat t) (hd t) n d := by
  refine (keys_apply _ _ _ _ _ _ _ _ _ _ _ _ (ro_blk m c t) n d).trans ?_
  have hv : net (iblk m c 0 t) (iblk m c 2 t) (iblk m c 4 t) (iblk m c 5 t) n = Compress.val (PK m c) (EK m c) (WK m c) (UK m c) (bat t) (hd t) n := funext fun d => net_k m c t hm n d
  have hg : (fun k : Fin 64 => @id EReal (iblk m c 8 t (ix2 0 k))) = fun k => NG m c (ix2 0 k) := funext fun k => ng_blk m c t 0 k
  have hn : Compress.norm (net (iblk m c 0 t) (iblk m c 2 t) (iblk m c 4 t) (iblk m c 5 t) n) (fun k => iblk m c 8 t (ix2 0 k))
      = Compress.norm (Compress.val (PK m c) (EK m c) (WK m c) (UK m c) (bat t) (hd t) n) fun k => NG m c (ix2 0 k) := congrArg₂ Compress.norm hv hg
  refine (congrArg₂ (· + ·) (congrArg₂ (· * ·) (congrFun hn d) (co_blk m c t n d)) (congrArg₂ (· * ·) (congrArg (fun y => Compress.krot y d) hn) (si_blk m c t n d))).trans ?_
  exact Compress.krope_eq _ _ _ (Compress.norm_real _ _ (Compress.val_real _ _ _ _ hm.pk hm.ek hm.wk hm.uk _ _ n) hm.ng) d

include hm in
/-- The array of keys after the run. -/
theorem keys : (dats m 0 c).arrAt 12 cfg0.N = fun i : S8x4x128x64.Idx => Compress.key (PK m c) (EK m c) (WK m c) (UK m c) (NG m c) (i 0) (i 1) (i 2) (i 3) := by
  refine (dats m 0 c).arrAt_eq_of_covers 12 _ (by decide +kernel) fun t hc y => ?_
  have hi := (head_eq t).2.2.1
  blk_simp
  rw [after0_12]
  idx_vars y
  obtain rfl : y0 = 0 := Subsingleton.elim _ _
  obtain rfl : y1 = 0 := Subsingleton.elim _ _
  refine (keys_row m c t hm _ _).trans ?_
  congr 1
  · apply Fin.ext; blk_simp [hi, bat]; rfl
  · apply Fin.ext; blk_simp [hi, hd]; rfl
  · apply Fin.ext; blk_simp [hi]
  · apply Fin.ext; blk_simp [hi]

include hm in
/-- The array of values after the run. -/
theorem values : (dats m 0 c).arrAt 13 cfg0.N = fun i : S8x4x128x64.Idx => Compress.val (PV m c) (EV m c) (WV m c) (UV m c) (i 0) (i 1) (i 2) (i 3) := by
  refine (dats m 0 c).arrAt_eq_of_covers 13 _ (by decide +kernel) fun t hc y => ?_
  have hi := (head_eq t).2.2.2
  blk_simp
  rw [after0_13]
  idx_vars y
  obtain rfl : y0 = 0 := Subsingleton.elim _ _
  obtain rfl : y1 = 0 := Subsingleton.elim _ _
  refine (values_row m c t hm _ _).trans ?_
  congr 1
  · apply Fin.ext; blk_simp [hi, bat]; rfl
  · apply Fin.ext; blk_simp [hi, hd]; rfl
  · apply Fin.ext; blk_simp [hi]
  · apply Fin.ext; blk_simp [hi]

end Cert.CompressIdeal.Array

end
-- ==== Proof.CompressRead.lean ====
/-
  The compression's reference, read at an index.
-/
module

public import proofs.«01_k».proof.Proof.CompressSpec
public import proofs.«01_k».proof.Proof.Gen.CompressRefIdeal.Run
public import Idealize.ShloMosaic.Lib.Pointwise
public import Idealize.ShloMosaic.Lib.Tactic

@[expose] public section

set_option maxRecDepth 16384

noncomputable section

open Idealize.ShloMosaic Idealize.ShloMosaic.TcCoe
open scoped BigOperators

namespace Compress

open Cert.CompressRefIdeal Cert.CompressRefIdeal.Gen

/-- Equal positions hold equal entries. -/
theorem at_eq {A B : Nat} (p : FVec Ideal ⟨2, ![A, B]⟩ .f32) {i i' : Fin A} {j j' : Fin B} (hi : i.val = i'.val) (hj : j.val = j'.val) : p (ix2 i j) = p (ix2 i' j') := by
  obtain rfl := Fin.ext hi
  obtain rfl := Fin.ext hj
  rfl

/-- The tokens in groups of sixteen. -/
abbrev toks (p : FVec Ideal S16384x256 .f32) : FVec Ideal S8x128x16x4x64 .f32 := shapeCast _ p shapeCasts_S16384x256_S8x128x16x4x64

/-- Every group's successor. -/
abbrev rolled (p : FVec Ideal S16384x256 .f32) : FVec Ideal S8x128x16x4x64 .f32 :=
  concatenate S8x128x16x4x64 1 [⟨S8x127x16x4x64, (extractStridedSlice S8x127x16x4x64 ![0, 1, 0, 0, 0] (toks p) slices_S8x128x16x4x64_S8x127x16x4x64_0_1_0_0_0)⟩, ⟨S8x1x16x4x64, (extractStridedSlice S8x1x16x4x64 ![0, 0, 0, 0, 0] (toks p) slices_S8x128x16x4x64_S8x1x16x4x64_0_0_0_0_0)⟩] concatenates_S8x127x16x4x64_S8x1x16x4x64_S8x128x16x4x64_d1

theorem rolled_apply (p : FVec Ideal S16384x256 .f32) (b : Fin 8) (n : Fin 128) (i : Fin 16) (h : Fin 4) (l : Fin 64) :
    rolled p (ix5 b n i h l) = toks p (ix5 b (nxt n) i h l) := by
  unfold nxt
  pointwise [rolled, toks]
  split
  · exact at_eq p (by dsimp only; omega) rfl
  · exact at_eq p (by dsimp only; omega) rfl

/-- The blocks with the position embedding added. -/
abbrev blocks (p : FVec Ideal S16384x256 .f32) (e : FVec Ideal S32x64 .f32) : FVec Ideal S8x128x32x4x64 .f32 :=
  addf (concatenate S8x128x32x4x64 2 [⟨S8x128x16x4x64, toks p⟩, ⟨S8x128x16x4x64, rolled p⟩] concatenates_S8x128x16x4x64_S8x128x16x4x64_S8x128x32x4x64_d2)
    (broadcastInDim S8x128x32x4x64 ![0, 1, 2, 3, 4] bcast_S1x1x32x1x64_S8x128x32x4x64_0_1_2_3_4 (broadcastInDim S1x1x32x1x64 ![2, 4] bcast_S32x64_S1x1x32x1x64_2_4 e))

theorem blocks_apply (p : FVec Ideal S16384x256 .f32) (e : FVec Ideal S32x64 .f32) (b : Fin 8) (n : Fin 128) (h : Fin 4) (k : Fin 2048) :
    blocks p e (ix5 b n ⟨k.val / 64, by omega⟩ h ⟨k.val % 64, by omega⟩) = blk p b h n k + pos e k := by
  unfold blk grp pos nxt
  pointwise [blocks]
  refine congrArg (· + _) ?_
  by_cases hk : k.val < 1024
  · rw [dif_pos hk, dif_pos (by omega)]
  · rw [dif_neg hk, dif_neg (by omega)]
    split
    · exact at_eq p (by dsimp only; omega) (by dsimp only; omega)
    · exact at_eq p (by dsimp only; omega) (by dsimp only; omega)

/-- The hidden layer. -/
abbrev hidden (p : FVec Ideal S16384x256 .f32) (e : FVec Ideal S32x64 .f32) (w : FVec Ideal S2048x256 .f32) : FVec Ideal S8x128x4x256 .f32 :=
  Host.dotGeneral dot_S8x128x4x2048_S2048x256_S8x128x4x256_3_0_012_1_n_n none
    (shapeCast _ (transpose S8x128x4x32x64 [0, 1, 3, 2, 4] (blocks p e) transposes_S8x128x32x4x64_S8x128x4x32x64_0_1_3_2_4) shapeCasts_S8x128x4x32x64_S8x128x4x2048) w

theorem hidden_apply (p : FVec Ideal S16384x256 .f32) (e : FVec Ideal S32x64 .f32) (w : FVec Ideal S2048x256 .f32) (b : Fin 8) (n : Fin 128) (h : Fin 4) (j : Fin 256) :
    hidden p e w (ix4 b n h j) = hid p e w b h n j := by
  unfold hid
  simp only [← blocks_apply]
  generalize hB : blocks p e = B
  pointwise [hidden, hB]

/-- The network's result, of the hidden layer. -/
abbrev value (x : FVec Ideal S8x128x4x256 .f32) (u : FVec Ideal S256x64 .f32) : FVec Ideal S8x128x4x64 .f32 :=
  Host.dotGeneral dot_S8x128x4x256_S256x64_S8x128x4x64_3_0_012_1_n_n none (mulf x (mulf (broadcastInDim S8x128x4x256 ![] bcast_S_S8x128x4x256 (constant S_ .f32 0x3F000000#32)) (addf (broadcastInDim S8x128x4x256 ![] bcast_S_S8x128x4x256 (constant S_ .f32 0x3F800000#32)) (Host.tanh (mulf (broadcastInDim S8x128x4x256 ![] bcast_S_S8x128x4x256 (constant S_ .f32 0x3F4C422A#32)) (addf x (mulf (broadcastInDim S8x128x4x256 ![] bcast_S_S8x128x4x256 (constant S_ .f32 0x3D372713#32)) (mulf (mulf x x) x)))))))) u

theorem value_apply (x : FVec Ideal S8x128x4x256 .f32) (u : FVec Ideal S256x64 .f32) (b : Fin 8) (n : Fin 128) (h : Fin 4) (d : Fin 64) :
    value x u (ix4 b n h d) = ∑ j : Fin 256, gelu (x (ix4 b n h j)) * u (ix2 j d) := by
  unfold gelu
  pointwise [value]

/-- The normalised keys. -/
abbrev normed (v : FVec Ideal S8x128x4x64 .f32) (g : FVec Ideal S3x64 .f32) : FVec Ideal S8x128x4x64 .f32 :=
  mulf (mulf v (broadcastInDim S8x128x4x64 ![0, 1, 2, 3] bcast_S8x128x4x1_S8x128x4x64_0_1_2_3 (Host.rsqrt (addf (Host.divf (broadcastInDim S8x128x4x1 ![0, 1, 2] bcast_S8x128x4_S8x128x4x1_0_1_2 (Host.reduceAdd (mulf v v) (constant S_ .f32 0x00000000#32) reducesTo_S8x128x4x64_S8x128x4_d3 h_S_)) (broadcastInDim S8x128x4x1 ![] bcast_S_S8x128x4x1 (constant S_ .f32 0x42800000#32))) (broadcastInDim S8x128x4x1 ![] bcast_S_S8x128x4x1 (constant S_ .f32 0x358637BD#32)))))) (broadcastInDim S8x128x4x64 ![0, 1, 2, 3] bcast_S1x1x1x64_S8x128x4x64_0_1_2_3 (broadcastInDim S1x1x1x64 ![3] bcast_S64_S1x1x1x64_3 (shapeCast _ (extractStridedSlice S1x64 ![0, 0] g slices_S3x64_S1x64_0_0) shapeCasts_S1x64_S64)))

theorem normed_apply (v : FVec Ideal S8x128x4x64 .f32) (g : FVec Ideal S3x64 .f32) (b : Fin 8) (n : Fin 128) (h : Fin 4) (d : Fin 64) :
    normed v g (ix4 b n h d) = norm (fun k => v (ix4 b n h k)) (fun k => g (ix2 0 k)) d := by
  unfold norm
  pointwise [normed]

/-- The reference's angles. -/
abbrev angs : FVec Ideal S128x8 .f32 :=
  mulf (broadcastInDim S128x8 ![0, 1] bcast_S128x1_S128x8_0_1 (broadcastInDim S128x1 ![0] bcast_S128_S128x1_0 (sitofp .f32 (addi (muli (iotaInDim S128 32 0) (broadcastInDim S128 ![] bcast_S_S128 (constantI S_ 32 16#32))) (broadcastInDim S128 ![] bcast_S_S128 (constantI S_ 32 31#32)))))) (broadcastInDim S128x8 ![0, 1] bcast_S1x8_S128x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

theorem last_eq : ∀ n : Fin 128, BitVec.ofNat 32 n.val * 16#32 + 31#32 = BitVec.ofNat 32 (n.val * 16 + 31) := by
  decide +kernel

theorem angs_apply (n : Fin 128) (l : Fin 8) : angs (ix2 n l) = ang n l := by
  unfold ang
  rw [← last_eq]
  rfl

/-- A table over blocks and lanes, spread over batch and head. -/
abbrev wide (x : FVec Ideal S128x8 .f32) : FVec Ideal S8x128x4x8 .f32 :=
  broadcastInDim S8x128x4x8 ![0, 1, 2, 3] bcast_S1x128x1x8_S8x128x4x8_0_1_2_3 (broadcastInDim S1x128x1x8 ![1, 3] bcast_S128x8_S1x128x1x8_1_3 x)

/-- The rotated keys. -/
abbrev roped (co si : FVec Ideal S128x8 .f32) (y : FVec Ideal S8x128x4x64 .f32) : FVec Ideal S8x4x128x64 .f32 :=
  let a : FVec Ideal S8x128x4x8 .f32 := extractStridedSlice S8x128x4x8 ![0, 0, 0, 0] y slices_S8x128x4x64_S8x128x4x8_0_0_0_0
  let b : FVec Ideal S8x128x4x8 .f32 := extractStridedSlice S8x128x4x8 ![0, 0, 0, 8] y slices_S8x128x4x64_S8x128x4x8_0_0_0_8
  transpose S8x4x128x64 [0, 2, 1, 3] (concatenate S8x128x4x64 3 [⟨S8x128x4x8, subf (mulf a (wide co)) (mulf b (wide si))⟩, ⟨S8x128x4x8, addf (mulf b (wide co)) (mulf a (wide si))⟩,
    ⟨S8x128x4x48, extractStridedSlice S8x128x4x48 ![0, 0, 0, 16] y slices_S8x128x4x64_S8x128x4x48_0_0_0_16⟩] concatenates_S8x128x4x8_S8x128x4x8_S8x128x4x48_S8x128x4x64_d3) transposes_S8x128x4x64_S8x4x128x64_0_2_1_3

theorem roped_apply (co si : FVec Ideal S128x8 .f32) (y : FVec Ideal S8x128x4x64 .f32) (b : Fin 8) (h : Fin 4) (n : Fin 128) (d : Fin 64) :
    roped co si y (ix4 b h n d) = rope (fun l => co (ix2 n l)) (fun l => si (ix2 n l)) (fun k => y (ix4 b n h k)) d := by
  unfold rope
  pointwise [roped, wide]
  split
  · simp only [Nat.add_comm 8]
  · next h8 =>
    by_cases h16 : d.val < 16
    · rw [dif_pos h16, dif_pos (by omega)]
      exact congrArg (fun k => y (ix4 b n h k) * _ + _) (Fin.ext (by dsimp only; omega))
    · rw [dif_neg h16, dif_neg (by omega)]
      exact congrArg (fun k => y (ix4 b n h k)) (Fin.ext (by dsimp only; omega))

/-- The reference's keys. -/
theorem keys_apply (p : FVec Ideal S16384x256 .f32) (e : FVec Ideal S32x64 .f32) (w : FVec Ideal S2048x256 .f32) (u : FVec Ideal S256x64 .f32) (g : FVec Ideal S3x64 .f32) (b : Fin 8) (h : Fin 4) (n : Fin 128) (d : Fin 64) :
    roped (Host.cos angs) (Host.sin angs) (normed (value (hidden p e w) u) g) (ix4 b h n d) = key p e w u g b h n d := by
  rw [roped_apply]
  simp only [normed_apply, value_apply, hidden_apply]
  unfold key
  simp only [← angs_apply]
  rfl

/-- The reference's values. -/
theorem vals_apply (p : FVec Ideal S16384x256 .f32) (e : FVec Ideal S32x64 .f32) (w : FVec Ideal S2048x256 .f32) (u : FVec Ideal S256x64 .f32) (b : Fin 8) (h : Fin 4) (n : Fin 128) (d : Fin 64) :
    transpose S8x4x128x64 [0, 2, 1, 3] (value (hidden p e w) u) transposes_S8x128x4x64_S8x4x128x64_0_2_1_3 (ix4 b h n d) = val p e w u b h n d := by
  refine (show _ = value (hidden p e w) u (ix4 b n h d) from by pointwise []).trans ?_
  rw [value_apply]
  simp only [hidden_apply]
  rfl

end Compress

end
-- ==== Proof.CompressClaim.lean ====
/-
  The compression: the claims.
-/
module

public import proofs.«01_k».proof.Defs
public import proofs.«01_k».proof.Proof.CompressBody
public import proofs.«01_k».proof.Proof.CompressRead
public import proofs.«01_k».proof.Proof.Gen.CompressIdeal.Value
public import proofs.«01_k».proof.Proof.Gen.Pre_finite_compress
public import proofs.«01_k».proof.Proof.Finite
public import Idealize.ShloMosaic.Lib.Quiescent

@[expose] public section

set_option maxRecDepth 16384

noncomputable section

open Idealize.ShloMosaic Idealize.ShloMosaic.TcCoe Idealize.SL.Sem

namespace Compress

/-- The reference leaves its arguments and, having no semaphore, every counter at zero. -/
theorem ref_frame : Cert.quiescent_CompressRefIdeal := fun m ρ _ =>
  (θ_run Cert.CompressRefIdeal.defs _ _).mono (fun r h => ⟨fun c => (h c).2.2, sem_eq_zero_of_no_sems (by decide) r.2⟩)
    (Cert.CompressRefIdeal.Value.run (F := Ideal) m ρ)

section Run

open Cert.CompressRefIdeal Cert.CompressRefIdeal.Gen

/-- The keys and the values as terms of their arguments. -/
def keysOf (p : FVec Ideal S16384x256 .f32) (e : FVec Ideal S32x64 .f32) (w : FVec Ideal S2048x256 .f32) (u : FVec Ideal S256x64 .f32) (g : FVec Ideal S3x64 .f32) : FVec Ideal S8x4x128x64 .f32 :=
  roped (Host.cos angs) (Host.sin angs) (normed (value (hidden p e w) u) g)

def valsOf (p : FVec Ideal S16384x256 .f32) (e : FVec Ideal S32x64 .f32) (w : FVec Ideal S2048x256 .f32) (u : FVec Ideal S256x64 .f32) : FVec Ideal S8x4x128x64 .f32 :=
  transpose S8x4x128x64 [0, 2, 1, 3] (value (hidden p e w) u) transposes_S8x128x4x64_S8x4x128x64_0_2_1_3

/-- The reference's run, its two results as terms of the arguments. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v96) = keysOf (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg8))
      ∧ r.2.mem ((c.tc : Thread nD τ).loc main_v97) = valsOf (m ((c.tc : Thread nD τ).loc main_arg1)) (m ((c.tc : Thread nD τ).loc main_arg3)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans rfl, (h c).2.1.trans rfl, (h c).2.2⟩) (Cert.CompressRefIdeal.Value.run (F := Ideal) m ρ)

end Run

open Cert.CompressIdeal.Array in
/-- The precondition says that the arguments are real. -/
theorem reals (m : (ℓ : Loc Cert.CompressIdeal.nD Cert.CompressIdeal.τ Cert.CompressIdeal.sig) → Buf (Elt Ideal) ℓ) (h : Cert.Pre_CompressIdeal_finite_compress m) (c : Dev Cert.CompressIdeal.nD) :
    Reals m c := by
  obtain ⟨h0, h1, h2, h3, h4, h5, h6, h7, h8⟩ := h c
  refine ⟨fun i k => Finite.real _ (Finite.of_bit _ (congrFun h0 (ix2 i k))), fun i k => Finite.real _ (Finite.of_bit _ (congrFun h1 (ix2 i k))),
    fun i k => Finite.real _ (Finite.of_bit _ (congrFun h2 (ix2 i k))), fun i k => Finite.real _ (Finite.of_bit _ (congrFun h3 (ix2 i k))),
    fun i k => Finite.real _ (Finite.of_bit _ (congrFun h4 (ix2 i k))), fun i k => Finite.real _ (Finite.of_bit _ (congrFun h5 (ix2 i k))),
    fun i k => Finite.real _ (Finite.of_bit _ (congrFun h6 (ix2 i k))), fun i k => Finite.real _ (Finite.of_bit _ (congrFun h7 (ix2 i k))), fun k => ?_⟩
  have e : (shapeCast Cert.Pre_finite_compress.S64 (extractStridedSlice Cert.Pre_finite_compress.S1x64 ![0, 0] (NG m c) Cert.Pre_finite_compress.Facts.slices_S3x64_S1x64_0_0)
      Cert.Pre_finite_compress.Facts.shapeCasts_S1x64_S64 : FVec Ideal Cert.Pre_finite_compress.S64 .f32) (ix1 k) = NG m c (ix2 0 k) := by
    pointwise []
  rw [← e]
  exact Finite.real _ (Finite.of_bit _ (congrFun h8 (ix1 k)))

/-- From equal finite arguments both programs end with the same keys and values. -/
theorem algebraic : Cert.algebraic_CompressIdeal_CompressRefIdeal_pre_finite_compress := by
  pair_intro
  · run_from Cert.CompressIdeal.Value.run_blocks m g
  · run_from ref_run m' g'
    · rw [Cert.CompressIdeal.Array.keys m c (reals m hpre c)]
      funext i
      idx_vars i
      exact keys_apply _ _ _ _ _ _ _ _ _
    · rw [Cert.CompressIdeal.Array.values m c (reals m hpre c)]
      funext i
      idx_vars i
      exact vals_apply _ _ _ _ _ _ _ _

end Compress

end
-- ==== Proof.lean ====
/- The claims about the attention, the feed-forward half-step, the three column ranges of the input projection, the merge, and the compressed keys and values. -/
module

public import proofs.«01_k».proof.Defs
public import proofs.«01_k».proof.Proof.Gen.Attn.Frame
public import proofs.«01_k».proof.Proof.AttnClaim
public import proofs.«01_k».proof.Proof.Gen.Pre_finite_scores
public import proofs.«01_k».proof.Proof.Gen.Ffn.Frame
public import proofs.«01_k».proof.Proof.FfnClaim
public import proofs.«01_k».proof.Proof.Gen.ProjRwkv.Frame
public import proofs.«01_k».proof.Proof.ProjRwkvClaim
public import proofs.«01_k».proof.Proof.Gen.ProjNsa.Frame
public import proofs.«01_k».proof.Proof.ProjNsaClaim
public import proofs.«01_k».proof.Proof.Gen.ProjGate.Frame
public import proofs.«01_k».proof.Proof.ProjGateClaim
public import proofs.«01_k».proof.Proof.Gen.Merge.Frame
public import proofs.«01_k».proof.Proof.MergeClaim
public import proofs.«01_k».proof.Proof.Gen.Compress.Frame
public import proofs.«01_k».proof.Proof.CompressClaim
public import proofs.«01_k».proof.Proof.Gen.Pre_finite_compress
public import proofs.«01_k».proof.Proof.Gen.Pre_finite_rows

@[expose] public section

noncomputable section

namespace Cert.Proof

open Idealize.ShloMosaic

theorem claim : Cert.Claim := ⟨Cert.Attn.Gen.facts, Cert.AttnIdeal.Gen.facts, Cert.AttnRefIdeal.Gen.facts,
  Cert.Ffn.Gen.facts, Cert.FfnIdeal.Gen.facts, Cert.FfnRefIdeal.Gen.facts,
  Cert.ProjRwkv.Gen.facts, Cert.ProjRwkvIdeal.Gen.facts, Cert.ProjRwkvRefIdeal.Gen.facts,
  Cert.ProjNsa.Gen.facts, Cert.ProjNsaIdeal.Gen.facts, Cert.ProjNsaRefIdeal.Gen.facts,
  Cert.ProjGate.Gen.facts, Cert.ProjGateIdeal.Gen.facts, Cert.ProjGateRefIdeal.Gen.facts,
  Cert.Merge.Gen.facts, Cert.MergeIdeal.Gen.facts, Cert.MergeRefIdeal.Gen.facts,
  Cert.Compress.Gen.facts, Cert.CompressIdeal.Gen.facts, Cert.CompressRefIdeal.Gen.facts,
  Cert.Pre_finite_scores.Gen.facts, Cert.Pre_finite_rows.Gen.facts, Cert.Pre_finite_compress.Gen.facts,
  fun m ρ _ => Cert.Attn.Gen.frame m ρ, fun m ρ _ => Cert.AttnIdeal.Gen.frame m ρ, fun m ρ _ => Cert.AttnIdeal.Gen.frame m ρ,
  Attn.ref_frame, fun m ρ _ => Attn.ref_frame m ρ trivial,
  fun m ρ _ => Cert.Ffn.Gen.frame m ρ, fun m ρ _ => Cert.FfnIdeal.Gen.frame m ρ, Ffn.ref_frame,
  fun m ρ _ => Cert.ProjRwkv.Gen.frame m ρ, fun m ρ _ => Cert.ProjRwkvIdeal.Gen.frame m ρ, ProjRwkv.ref_frame,
  fun m ρ _ => Cert.ProjNsa.Gen.frame m ρ, fun m ρ _ => Cert.ProjNsaIdeal.Gen.frame m ρ, ProjNsa.ref_frame,
  fun m ρ _ => Cert.ProjGate.Gen.frame m ρ, fun m ρ _ => Cert.ProjGateIdeal.Gen.frame m ρ, ProjGate.ref_frame,
  fun m ρ _ => Cert.Merge.Gen.frame m ρ, fun m ρ _ => Cert.MergeIdeal.Gen.frame m ρ, fun m ρ _ => Cert.MergeIdeal.Gen.frame m ρ,
  Merge.ref_frame, fun m ρ _ => Merge.ref_frame m ρ trivial,
  fun m ρ _ => Cert.Compress.Gen.frame m ρ, fun m ρ _ => Cert.CompressIdeal.Gen.frame m ρ, fun m ρ _ => Cert.CompressIdeal.Gen.frame m ρ,
  Compress.ref_frame, fun m ρ _ => Compress.ref_frame m ρ trivial,
  Attn.preserves, Attn.algebraic,
  trivial, Ffn.algebraic,
  trivial, ProjRwkv.algebraic,
  trivial, ProjNsa.algebraic,
  trivial, ProjGate.algebraic,
  trivial, Merge.algebraic,
  trivial, Compress.algebraic⟩

end Cert.Proof

end
